-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_and_k [hPre_finite_q_and_k : Cert.Pre_finite_q_and_k.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_and_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_and_k [hPre_finite_q_and_k : Cert.Pre_finite_q_and_k.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_and_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite_gain_and_gradient [hPre_finite_gain_and_gradient : Cert.Pre_finite_gain_and_gradient.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite_gain_and_gradient.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite_gain_and_gradient [hPre_finite_gain_and_gradient : Cert.Pre_finite_gain_and_gradient.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite_gain_and_gradient.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3))) = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Kernel31Ideal_finite_q_and_k_layer1 [hPre_finite_q_and_k_layer1 : Cert.Pre_finite_q_and_k_layer1.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_finite_q_and_k_layer1.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_finite_q_and_k_layer1 [hPre_finite_q_and_k_layer1 : Cert.Pre_finite_q_and_k_layer1.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_finite_q_and_k_layer1.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3))) = (fun _ => 1#1)

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_q_and_k [hKernelIdeal : Cert.KernelIdeal.Facts] [hPre_finite_q_and_k : Cert.Pre_finite_q_and_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_and_k m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_q_and_k [hReferenceIdeal : Cert.ReferenceIdeal.Facts] [hPre_finite_q_and_k : Cert.Pre_finite_q_and_k.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_and_k m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Kernel26Ideal_pre_finite_gain_and_gradient [hKernel26Ideal : Cert.Kernel26Ideal.Facts] [hPre_finite_gain_and_gradient : Cert.Pre_finite_gain_and_gradient.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite_gain_and_gradient m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Reference26Ideal_pre_finite_gain_and_gradient [hReference26Ideal : Cert.Reference26Ideal.Facts] [hPre_finite_gain_and_gradient : Cert.Pre_finite_gain_and_gradient.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite_gain_and_gradient m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Kernel31Ideal_pre_finite_q_and_k_layer1 [hKernel31Ideal : Cert.Kernel31Ideal.Facts] [hPre_finite_q_and_k_layer1 : Cert.Pre_finite_q_and_k_layer1.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal_finite_q_and_k_layer1 m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Reference31Ideal_pre_finite_q_and_k_layer1 [hReference31Ideal : Cert.Reference31Ideal.Facts] [hPre_finite_q_and_k_layer1 : Cert.Pre_finite_q_and_k_layer1.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_finite_q_and_k_layer1 m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5))
      ∧ r.2.sem = fun _ => 0)

def preserves_Kernel_KernelIdeal : Prop :=
  True

def algebraic_KernelIdeal_ReferenceIdeal_pre_finite_q_and_k [hKernelIdeal : Cert.KernelIdeal.Facts] [hReferenceIdeal : Cert.ReferenceIdeal.Facts] [hPre_finite_q_and_k : Cert.Pre_finite_q_and_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_and_k m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v35) = v1 c
          ∧ r.2.mem ((c.tc : Thread Cert.Reference23Ideal.nD Cert.Reference23Ideal.τ).loc Cert.Reference23Ideal.main_v17) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v12) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v26) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal_pre_finite_gain_and_gradient [hKernel26Ideal : Cert.Kernel26Ideal.Facts] [hReference26Ideal : Cert.Reference26Ideal.Facts] [hPre_finite_gain_and_gradient : Cert.Pre_finite_gain_and_gradient.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite_gain_and_gradient m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v44) = v0 c
          ∧ r.2.mem ((c.tc : Thread Cert.Reference26Ideal.nD Cert.Reference26Ideal.τ).loc Cert.Reference26Ideal.main_v46) = v1 c
          ∧ r.2.mem ((c.tc : Thread Cert.Reference26Ideal.nD Cert.Reference26Ideal.τ).loc Cert.Reference26Ideal.main_v24) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v17) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v34) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  IdealRules.named_const.Statement Cert.Kernel29Ideal.κ "inv_sqrt2" .f32 0x3F3504F3#32 (((Real.sqrt 2)⁻¹ : ℝ) : EReal)

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v56) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v49) = v0 c
          ∧ r.2.mem ((c.tc : Thread Cert.Reference30Ideal.nD Cert.Reference30Ideal.τ).loc Cert.Reference30Ideal.main_v48) = v1 c
          ∧ r.2.mem ((c.tc : Thread Cert.Reference30Ideal.nD Cert.Reference30Ideal.τ).loc Cert.Reference30Ideal.main_v50) = v2 c
          ∧ r.2.mem ((c.tc : Thread Cert.Reference30Ideal.nD Cert.Reference30Ideal.τ).loc Cert.Reference30Ideal.main_v32) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal_pre_finite_q_and_k_layer1 [hKernel31Ideal : Cert.Kernel31Ideal.Facts] [hReference31Ideal : Cert.Reference31Ideal.Facts] [hPre_finite_q_and_k_layer1 : Cert.Pre_finite_q_and_k_layer1.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal_finite_q_and_k_layer1 m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v74) = v0 c
          ∧ r.2.mem ((c.tc : Thread Cert.Reference31Ideal.nD Cert.Reference31Ideal.τ).loc Cert.Reference31Ideal.main_v71) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v26) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  IdealRules.named_const.Statement Cert.Kernel33Ideal.κ "inv_sqrt2" .f32 0x3F3504F3#32 (((Real.sqrt 2)⁻¹ : ℝ) : EReal)

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)) →
    ∃ (v0 : (c : Dev Cert.Kernel33Ideal.nD) → Buf (Elt Ideal) ((c.tc : Thread Cert.Kernel33Ideal.nD Cert.Kernel33Ideal.τ).loc Cert.Kernel33Ideal.main_v0_3)) (v1 : (c : Dev Cert.Kernel33Ideal.nD) → Buf (Elt Ideal) ((c.tc : Thread Cert.Kernel33Ideal.nD Cert.Kernel33Ideal.τ).loc Cert.Kernel33Ideal.main_v0_4)) (v2 : (c : Dev Cert.Kernel33Ideal.nD) → Buf (Elt Ideal) ((c.tc : Thread Cert.Kernel33Ideal.nD Cert.Kernel33Ideal.τ).loc Cert.Kernel33Ideal.main_v0_1)) (v3 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_3) = v0 c
          ∧ r.2.mem ((c.tc : Thread Cert.Kernel33Ideal.nD Cert.Kernel33Ideal.τ).loc Cert.Kernel33Ideal.main_v0_4) = v1 c
          ∧ r.2.mem ((c.tc : Thread Cert.Kernel33Ideal.nD Cert.Kernel33Ideal.τ).loc Cert.Kernel33Ideal.main_v0_1) = v2 c
          ∧ r.2.mem ((c.tc : Thread Cert.Kernel33Ideal.nD Cert.Kernel33Ideal.τ).loc Cert.Kernel33Ideal.main_v0_2) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v77) = v0 c
          ∧ r.2.mem ((c.tc : Thread Cert.Reference33Ideal.nD Cert.Reference33Ideal.τ).loc Cert.Reference33Ideal.main_v74) = v1 c
          ∧ r.2.mem ((c.tc : Thread Cert.Reference33Ideal.nD Cert.Reference33Ideal.τ).loc Cert.Reference33Ideal.main_v71) = v2 c
          ∧ r.2.mem ((c.tc : Thread Cert.Reference33Ideal.nD Cert.Reference33Ideal.τ).loc Cert.Reference33Ideal.main_v66) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite_q_and_k : Cert.Pre_finite_q_and_k.Facts) (hPre_finite_gain_and_gradient : Cert.Pre_finite_gain_and_gradient.Facts) (hPre_finite_q_and_k_layer1 : Cert.Pre_finite_q_and_k_layer1.Facts),
    quiescent_Kernel (hKernel := hKernel)
    ∧ quiescent_KernelIdeal (hKernelIdeal := hKernelIdeal)
    ∧ quiescent_KernelIdeal_pre_finite_q_and_k (hKernelIdeal := hKernelIdeal) (hPre_finite_q_and_k := hPre_finite_q_and_k)
    ∧ quiescent_ReferenceIdeal (hReferenceIdeal := hReferenceIdeal)
    ∧ quiescent_ReferenceIdeal_pre_finite_q_and_k (hReferenceIdeal := hReferenceIdeal) (hPre_finite_q_and_k := hPre_finite_q_and_k)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_finite_gain_and_gradient (hKernel26Ideal := hKernel26Ideal) (hPre_finite_gain_and_gradient := hPre_finite_gain_and_gradient)
    ∧ quiescent_Reference26Ideal (hReference26Ideal := hReference26Ideal)
    ∧ quiescent_Reference26Ideal_pre_finite_gain_and_gradient (hReference26Ideal := hReference26Ideal) (hPre_finite_gain_and_gradient := hPre_finite_gain_and_gradient)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Kernel31Ideal_pre_finite_q_and_k_layer1 (hKernel31Ideal := hKernel31Ideal) (hPre_finite_q_and_k_layer1 := hPre_finite_q_and_k_layer1)
    ∧ quiescent_Reference31Ideal (hReference31Ideal := hReference31Ideal)
    ∧ quiescent_Reference31Ideal_pre_finite_q_and_k_layer1 (hReference31Ideal := hReference31Ideal) (hPre_finite_q_and_k_layer1 := hPre_finite_q_and_k_layer1)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_finite_q_and_k (hKernelIdeal := hKernelIdeal) (hReferenceIdeal := hReferenceIdeal) (hPre_finite_q_and_k := hPre_finite_q_and_k)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_finite_gain_and_gradient (hKernel26Ideal := hKernel26Ideal) (hReference26Ideal := hReference26Ideal) (hPre_finite_gain_and_gradient := hPre_finite_gain_and_gradient)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal_pre_finite_q_and_k_layer1 (hKernel31Ideal := hKernel31Ideal) (hReference31Ideal := hReference31Ideal) (hPre_finite_q_and_k_layer1 := hPre_finite_q_and_k_layer1)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite_gain_and_gradient.lean ====
abbrev S2048x2048 : Shape := ⟨2, ![2048, 2048]⟩
abbrev S2048x6144 : Shape := ⟨2, ![2048, 6144]⟩
abbrev S1x2048 : Shape := ⟨2, ![1, 2048]⟩
abbrev S2048x3072 : Shape := ⟨2, ![2048, 3072]⟩
abbrev S_ : Shape := ⟨0, ![]⟩

class Facts : Prop where
  slices_S2048x3072_S2048x2048_0_0 : S2048x3072.Slices ![0, 0] S2048x2048
  bitsLt_bf16_f32 : FTy.bits .bf16 < FTy.bits .f32
  bcast_S_S2048x2048 : S_.BroadcastsInDim S2048x2048 (![] : Fin 0 → Fin S2048x2048.rank)
  bcast_S_S1x2048 : S_.BroadcastsInDim S1x2048 (![] : Fin 0 → Fin S1x2048.rank)
  reducesTo_S1x2048_S_d0_1 : S1x2048.ReducesTo [0, 1] S_
  h_S_ : 0 < S_.numel
  reducesTo_S2048x2048_S_d0_1 : S2048x2048.ReducesTo [0, 1] S_

variable [Facts]

def fn {F : FTy → Type} [FloatOps F] (main_arg0 : FVec F S2048x2048 .f32) (main_arg1 : FVec F S2048x6144 .f32) (main_arg2 : FVec F S1x2048 .f32) (main_arg3 : FVec F S2048x3072 .bf16) : IVec S_ 1 :=
  let main_v0 : FVec F S2048x2048 .bf16 := (extractStridedSlice S2048x2048 ![0, 0] · slices_S2048x3072_S2048x2048_0_0) main_arg3
  let main_v1 : FVec F S2048x2048 .f32 := (extf .f32 · bitsLt_bf16_f32) main_v0
  let main_v2 : FVec F S2048x2048 .f32 := Host.absf main_v1
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_v5 : FVec F S1x2048 .f32 := Host.absf main_arg2
  let main_cst_0 : FVec F S_ .f32 := constant S_ .f32 0x7F800000#32
  let main_v6 : FVec F S1x2048 .f32 := broadcastInDim S1x2048 ![] bcast_S_S1x2048 main_cst_0
  let main_v7 : IVec S1x2048 1 := cmpf .olt main_v5 main_v6
  let main_c : IVec S_ 1 := constantI S_ 1 1#1
  let main_v8 : IVec S_ 1 := (fun x v => Host.reduce IntOp.andi x v reducesTo_S1x2048_S_d0_1 h_S_) main_v7 main_c
  let main_c_1 : IVec S_ 1 := constantI S_ 1 1#1
  let main_v9 : IVec S_ 1 := (fun x v => Host.reduce IntOp.andi x v reducesTo_S2048x2048_S_d0_1 h_S_) main_v4 main_c_1
  let main_v10 : IVec S_ 1 := andi main_v8 main_v9
  main_v10
-- ==== Pre_finite_q_and_k.lean ====
abbrev S2048x5120 : Shape := ⟨2, ![2048, 5120]⟩
abbrev S256x2048 : Shape := ⟨2, ![256, 2048]⟩
abbrev S2048x3072 : Shape := ⟨2, ![2048, 3072]⟩
abbrev S2048x1024 : Shape := ⟨2, ![2048, 1024]⟩
abbrev S_ : Shape := ⟨0, ![]⟩
abbrev S256x1024 : Shape := ⟨2, ![256, 1024]⟩

class Facts : Prop where
  slices_S2048x5120_S2048x1024_0_4096 : S2048x5120.Slices ![0, 4096] S2048x1024
  bcast_S_S2048x1024 : S_.BroadcastsInDim S2048x1024 (![] : Fin 0 → Fin S2048x1024.rank)
  slices_S256x2048_S256x1024_0_0 : S256x2048.Slices ![0, 0] S256x1024
  bitsLt_bf16_f32 : FTy.bits .bf16 < FTy.bits .f32
  bcast_S_S256x1024 : S_.BroadcastsInDim S256x1024 (![] : Fin 0 → Fin S256x1024.rank)
  reducesTo_S2048x1024_S_d0_1 : S2048x1024.ReducesTo [0, 1] S_
  h_S_ : 0 < S_.numel
  reducesTo_S256x1024_S_d0_1 : S256x1024.ReducesTo [0, 1] S_

variable [Facts]

def fn {F : FTy → Type} [FloatOps F] (main_arg0 : FVec F S2048x5120 .f32) (main_arg1 : FVec F S256x2048 .bf16) (main_arg2 : FVec F S2048x3072 .bf16) (main_arg3 : FVec F S2048x5120 .bf16) : IVec S_ 1 :=
  let main_v0 : FVec F S2048x1024 .f32 := (extractStridedSlice S2048x1024 ![0, 4096] · slices_S2048x5120_S2048x1024_0_4096) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S256x1024 .bf16 := (extractStridedSlice S256x1024 ![0, 0] · slices_S256x2048_S256x1024_0_0) main_arg1
  let main_v5 : FVec F S256x1024 .f32 := (extf .f32 · bitsLt_bf16_f32) main_v4
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c : IVec S_ 1 := constantI S_ 1 1#1
  let main_v9 : IVec S_ 1 := (fun x v => Host.reduce IntOp.andi x v reducesTo_S2048x1024_S_d0_1 h_S_) main_v3 main_c
  let main_c_1 : IVec S_ 1 := constantI S_ 1 1#1
  let main_v10 : IVec S_ 1 := (fun x v => Host.reduce IntOp.andi x v reducesTo_S256x1024_S_d0_1 h_S_) main_v8 main_c_1
  let main_v11 : IVec S_ 1 := andi main_v9 main_v10
  main_v11
-- ==== Pre_finite_q_and_k_layer1.lean ====
abbrev S2048x6144 : Shape := ⟨2, ![2048, 6144]⟩
abbrev S256x2048 : Shape := ⟨2, ![256, 2048]⟩
abbrev S2048x3072 : Shape := ⟨2, ![2048, 3072]⟩
abbrev S2048x1024 : Shape := ⟨2, ![2048, 1024]⟩
abbrev S_ : Shape := ⟨0, ![]⟩
abbrev S256x1024 : Shape := ⟨2, ![256, 1024]⟩

class Facts : Prop where
  slices_S2048x6144_S2048x1024_0_5120 : S2048x6144.Slices ![0, 5120] S2048x1024
  bcast_S_S2048x1024 : S_.BroadcastsInDim S2048x1024 (![] : Fin 0 → Fin S2048x1024.rank)
  slices_S256x2048_S256x1024_0_0 : S256x2048.Slices ![0, 0] S256x1024
  bitsLt_bf16_f32 : FTy.bits .bf16 < FTy.bits .f32
  bcast_S_S256x1024 : S_.BroadcastsInDim S256x1024 (![] : Fin 0 → Fin S256x1024.rank)
  reducesTo_S2048x1024_S_d0_1 : S2048x1024.ReducesTo [0, 1] S_
  h_S_ : 0 < S_.numel
  reducesTo_S256x1024_S_d0_1 : S256x1024.ReducesTo [0, 1] S_

variable [Facts]

def fn {F : FTy → Type} [FloatOps F] (main_arg0 : FVec F S2048x6144 .f32) (main_arg1 : FVec F S256x2048 .bf16) (main_arg2 : FVec F S2048x3072 .bf16) (main_arg3 : FVec F S2048x6144 .bf16) : IVec S_ 1 :=
  let main_v0 : FVec F S2048x1024 .f32 := (extractStridedSlice S2048x1024 ![0, 5120] · slices_S2048x6144_S2048x1024_0_5120) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S256x1024 .bf16 := (extractStridedSlice S256x1024 ![0, 0] · slices_S256x2048_S256x1024_0_0) main_arg1
  let main_v5 : FVec F S256x1024 .f32 := (extf .f32 · bitsLt_bf16_f32) main_v4
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c : IVec S_ 1 := constantI S_ 1 1#1
  let main_v9 : IVec S_ 1 := (fun x v => Host.reduce IntOp.andi x v reducesTo_S2048x1024_S_d0_1 h_S_) main_v3 main_c
  let main_c_1 : IVec S_ 1 := constantI S_ 1 1#1
  let main_v10 : IVec S_ 1 := (fun x v => Host.reduce IntOp.andi x v reducesTo_S256x1024_S_d0_1 h_S_) main_v8 main_c_1
  let main_v11 : IVec S_ 1 := andi main_v9 main_v10
  main_v11
-- ==== Kernel.lean ====
abbrev S2048x5120 : Shape := ⟨2, ![2048, 5120]⟩
abbrev S256x2048 : Shape := ⟨2, ![256, 2048]⟩
abbrev S2048x3072 : Shape := ⟨2, ![2048, 3072]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x5120, .f32⟩
  | .hbm, ⟨1, _⟩ => ⟨S256x2048, .bf16⟩
  | .hbm, ⟨2, _⟩ => ⟨S2048x3072, .bf16⟩
  | .hbm, ⟨3, _⟩ => ⟨S2048x5120, .bf16⟩
  | .hbm, ⟨4, _⟩ => ⟨S2048x5120, .bf16⟩
  | .hbm, ⟨5, _⟩ => ⟨S256x2048, .f32⟩
  | .local _ .vmem, ⟨0, _⟩ => ⟨S512x1024, .f32⟩
  | .local _ .vmem, ⟨1, _⟩ => ⟨S512x1024, .f32⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2048x5120 : Shape := ⟨2, ![2048, 5120]⟩
abbrev S256x2048 : Shape := ⟨2, ![256, 2048]⟩
abbrev S2048x3072 : Shape := ⟨2, ![2048, 3072]⟩
abbrev S2048x1024 : Shape := ⟨2, ![2048, 1024]⟩
abbrev S256x1024 : Shape := ⟨2, ![256, 1024]⟩
abbrev S256x4x256 : Shape := ⟨3, ![256, 4, 256]⟩
abbrev S2048x4x256 : Shape := ⟨3, ![2048, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩
abbrev S2048x4096 : Shape := ⟨2, ![2048, 4096]⟩

abbrev nBuf : Space → Nat
  | .hbm => 95
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S256x2048, .bf16⟩
  | .hbm, ⟨2, _⟩ => ⟨S2048x3072, .bf16⟩
  | .hbm, ⟨3, _⟩ => ⟨S2048x5120, .bf16⟩
  | .hbm, ⟨4, _⟩ => ⟨S2048x1024, .f32⟩
  | .hbm, ⟨5, _⟩ => ⟨S2048x1024, .bf16⟩
  | .hbm, ⟨6, _⟩ => ⟨S2048x1024, .f32⟩
  | .hbm, ⟨7, _⟩ => ⟨S256x2048, .f32⟩
  | .hbm, ⟨8, _⟩ => ⟨S256x1024, .f32⟩
  | .hbm, ⟨9, _⟩ => ⟨S256x4x256, .f32⟩
  | .hbm, ⟨10, _⟩ => ⟨S256x1024, .f32⟩
  | .hbm, ⟨11, _⟩ => ⟨S256x4x256, .f32⟩
  | .hbm, ⟨12, _⟩ => ⟨S2048x4x256, .f32⟩
  | .hbm, ⟨13, _⟩ => ⟨S4x2048x256, .f32⟩
  | .hbm, ⟨14, _⟩ => ⟨S_, .f32⟩
  | .hbm, ⟨15, _⟩ => ⟨S4x2048x256, .f32⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S4x2048x256, .f32⟩
  | .hbm, ⟨21, _⟩ => ⟨S4x2048x256, .i1⟩
  | .hbm, ⟨22, _⟩ => ⟨S4x2048x256, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S4x2048, .i1⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x256, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S4x2048x256, .f32⟩
  | .hbm, ⟨50, _⟩ => ⟨S4x2048x256, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S4x256x2048, .f32⟩
  | .hbm, ⟨56, _⟩ => ⟨S2048x4x256, .f32⟩
  | .hbm, ⟨57, _⟩ => ⟨S2048x1024, .f32⟩
  | .hbm, ⟨58, _⟩ => ⟨S2048x4x256, .f32⟩
  | .hbm, ⟨59, _⟩ => ⟨S4x256x2048, .f32⟩
  | .hbm, ⟨60, _⟩ => ⟨S4x2048x256, .f32⟩
  | .hbm, ⟨61, _⟩ => ⟨S4x256x256, .f32⟩
  | .hbm, ⟨62, _⟩ => ⟨S256x4x256, .f32⟩
  | .hbm, ⟨63, _⟩ => ⟨S4x2048x256, .f32⟩
  | .hbm, ⟨64, _⟩ => ⟨S4x2048x256, .f32⟩
  | .hbm, ⟨65, _⟩ => ⟨S4x2048x256, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S4x2048x1, .f32⟩
  | .hbm, ⟨70, _⟩ => ⟨S4x2048x256, .f32⟩
  | .hbm, ⟨71, _⟩ => ⟨S4x2048x256, .f32⟩
  | .hbm, ⟨72, _⟩ => ⟨S_, .f32⟩
  | .hbm, ⟨73, _⟩ => ⟨S4x2048, .f32⟩
  | .hbm, ⟨74, _⟩ => ⟨S4x2048x256, .f32⟩
  | .hbm, ⟨75, _⟩ => ⟨S4x2048x256, .f32⟩
  | .hbm, ⟨76, _⟩ => ⟨S4x2048x256, .f32⟩
  | .hbm, ⟨77, _⟩ => ⟨S_, .f32⟩
  | .hbm, ⟨78, _⟩ => ⟨S4x2048x256, .f32⟩
  | .hbm, ⟨79, _⟩ => ⟨S4x2048x256, .f32⟩
  | .hbm, ⟨80, _⟩ => ⟨S4x256x256, .f32⟩
  | .hbm, ⟨81, _⟩ => ⟨S256x4x256, .f32⟩
  | .hbm, ⟨82, _⟩ => ⟨S4x2048x256, .f32⟩
  | .hbm, ⟨83, _⟩ => ⟨S2048x4x256, .f32⟩
  | .hbm, ⟨84, _⟩ => ⟨S2048x1024, .f32⟩
  | .hbm, ⟨85, _⟩ => ⟨S256x1024, .f32⟩
  | .hbm, ⟨86, _⟩ => ⟨S_, .f32⟩
  | .hbm, ⟨87, _⟩ => ⟨S256x2048, .f32⟩
  | .hbm, ⟨88, _⟩ => ⟨S256x1024, .f32⟩
  | .hbm, ⟨89, _⟩ => ⟨S_, .f32⟩
  | .hbm, ⟨90, _⟩ => ⟨S256x2048, .f32⟩
  | .hbm, ⟨91, _⟩ => ⟨S256x2048, .f32⟩
  | .hbm, ⟨92, _⟩ => ⟨S2048x4096, .bf16⟩
  | .hbm, ⟨93, _⟩ => ⟨S2048x1024, .bf16⟩
  | .hbm, ⟨94, _⟩ => ⟨S2048x5120, .bf16⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_13 : Ref sig .tc := ⟨.hbm, 86, rfl⟩
abbrev main_v68 : Ref sig .tc := ⟨.hbm, 87, rfl⟩
abbrev main_v69 : Ref sig .tc := ⟨.hbm, 88, rfl⟩
abbrev main_cst_14 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Kernel2.lean ====
abbrev S2048x1024 : Shape := ⟨2, ![2048, 1024]⟩
abbrev S1x4096x1024 : Shape := ⟨3, ![1, 4096, 1024]⟩
abbrev S2048x4096 : Shape := ⟨2, ![2048, 4096]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1x4096x1024, .bf16⟩
  | .hbm, ⟨2, _⟩ => ⟨S2048x4096, .bf16⟩
  | .hbm, ⟨3, _⟩ => ⟨S2048x4096, .bf16⟩
  | .local _ .vmem, ⟨0, _⟩ => ⟨S2048x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x1024 : Shape := ⟨2, ![2048, 1024]⟩
abbrev S1x4096x1024 : Shape := ⟨3, ![1, 4096, 1024]⟩
abbrev S2048x4096 : Shape := ⟨2, ![2048, 4096]⟩
abbrev S4096x1024 : Shape := ⟨2, ![4096, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x4096x1024, .bf16⟩
  | .hbm, ⟨2, _⟩ => ⟨S2048x4096, .bf16⟩
  | .hbm, ⟨3, _⟩ => ⟨S4096x1024, .bf16⟩
  | .hbm, ⟨4, _⟩ => ⟨S4096x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .i1⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel3.lean ====
abbrev S2048x4096 : Shape := ⟨2, ![2048, 4096]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x4096, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x1024, .f32⟩
  | .hbm, ⟨10, _⟩ => ⟨S2048x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S2048x1024 : Shape := ⟨2, ![2048, 1024]⟩
abbrev S2048x4096 : Shape := ⟨2, ![2048, 4096]⟩
abbrev S1024x4096 : Shape := ⟨2, ![1024, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S2048x1024, .f32⟩
  | .hbm, ⟨3, _⟩ => ⟨S_, .f32⟩
  | .hbm, ⟨4, _⟩ => ⟨S1024x4096, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x4096 : Shape := ⟨2, ![2048, 4096]⟩
abbrev S1x1024x4096 : Shape := ⟨3, ![1, 1024, 4096]⟩
abbrev S2048x1024 : Shape := ⟨2, ![2048, 1024]⟩
abbrev S512x4096 : Shape := ⟨2, ![512, 4096]⟩
abbrev S512x1024 : Shape := ⟨2, ![512, 1024]⟩
abbrev S1024x4096 : Shape := ⟨2, ![1024, 4096]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S1x1024x4096, .bf16⟩
  | .hbm, ⟨2, _⟩ => ⟨S2048x1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x4096 : Shape := ⟨2, ![2048, 4096]⟩
abbrev S1x1024x4096 : Shape := ⟨3, ![1, 1024, 4096]⟩
abbrev S1024x4096 : Shape := ⟨2, ![1024, 4096]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1x1024x4096, .bf16⟩
  | .hbm, ⟨2, _⟩ => ⟨S1024x4096, .bf16⟩
  | .hbm, ⟨3, _⟩ => ⟨S1024x4096, .f32⟩
  | .hbm, ⟨4, _⟩ => ⟨S_, .f32⟩
  | .hbm, ⟨5, _⟩ => ⟨S2048x1024, .f32⟩
  | .hbm, ⟨6, _⟩ => ⟨S2048x4096, .f32⟩
  | .hbm, ⟨7, _⟩ => ⟨S2048x4096, .f32⟩
  | .hbm, ⟨8, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S1x3072x1024 : Shape := ⟨3, ![1, 3072, 1024]⟩
abbrev S2048x3072 : Shape := ⟨2, ![2048, 3072]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x3072x1024, .bf16⟩
  | .hbm, ⟨2, _⟩ => ⟨S2048x3072, .bf16⟩
  | .local _ .vmem, ⟨0, _⟩ => ⟨S2048x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S1x3072x1024 : Shape := ⟨3, ![1, 3072, 1024]⟩
abbrev S3072x1024 : Shape := ⟨2, ![3072, 1024]⟩
abbrev S_ : Shape := ⟨0, ![]⟩
abbrev S2048x3072 : Shape := ⟨2, ![2048, 3072]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x3072x1024, .bf16⟩
  | .hbm, ⟨2, _⟩ => ⟨S3072x1024, .bf16⟩
  | .hbm, ⟨3, _⟩ => ⟨S3072x1024, .f32⟩
  | .hbm, ⟨4, _⟩ => ⟨S_, .f32⟩
  | .hbm, ⟨5, _⟩ => ⟨S2048x3072, .f32⟩
  | .hbm, ⟨6, _⟩ => ⟨S2048x1024, .f32⟩
  | .hbm, ⟨7, _⟩ => ⟨S2048x1024, .f32⟩
  | .hbm, ⟨8, _⟩ => ⟨S2048x3072, .f32⟩
  | .hbm, ⟨9, _⟩ => ⟨S2048x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x3072 : Shape := ⟨2, ![2048, 3072]⟩
abbrev S2048x1024 : Shape := ⟨2, ![2048, 1024]⟩
abbrev S3072x1024 : Shape := ⟨2, ![3072, 1024]⟩
abbrev S2048x768 : Shape := ⟨2, ![2048, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S3072x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S768x1024, .bf16⟩
  | .local _ .vmem, ⟨4, _⟩ => ⟨S768x1024, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x3072 : Shape := ⟨2, ![2048, 3072]⟩
abbrev S2048x1024 : Shape := ⟨2, ![2048, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S2048x3072, .f32⟩
  | .hbm, ⟨3, _⟩ => ⟨S_, .f32⟩
  | .hbm, ⟨4, _⟩ => ⟨S3072x1024, .f32⟩
  | .hbm, ⟨5, _⟩ => ⟨S2048x1024, .f32⟩
  | .hbm, ⟨6, _⟩ => ⟨S2048x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x5120 : Shape := ⟨2, ![2048, 5120]⟩
abbrev S1x1024x5120 : Shape := ⟨3, ![1, 1024, 5120]⟩
abbrev S2048x1024 : Shape := ⟨2, ![2048, 1024]⟩
abbrev S512x5120 : Shape := ⟨2, ![512, 5120]⟩
abbrev S512x1024 : Shape := ⟨2, ![512, 1024]⟩
abbrev S1024x5120 : Shape := ⟨2, ![1024, 5120]⟩

abbrev nBuf : Space → Nat
  | .hbm => 3
  | .vmem => 5
  | .smem => 0
  | _ => 0

abbrev bufTy : (tb : Table) → Fin (tcTables nBuf tb) → BufTy
  | .hbm, ⟨0, _⟩ => ⟨S2048x5120, .bf16⟩
  | .hbm, ⟨1, _⟩ => ⟨S1x1024x5120, .bf16⟩
  | .hbm, ⟨2, _⟩ => ⟨S2048x1024, .f32⟩
  | .local _ .vmem, ⟨0, _⟩ => ⟨S512x5120, .bf16⟩
  | .local _ .vmem, ⟨1, _⟩ => ⟨S512x5120, .bf16⟩
  | .local _ .vmem, ⟨2, _⟩ => ⟨S1x1024x5120, .bf16⟩
  | .local _ .vmem, ⟨3, _⟩ => ⟨S512x1024, .f32⟩
  | .local _ .vmem, ⟨4, _⟩ => ⟨S512x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x5120 : Shape := ⟨2, ![2048, 5120]⟩
abbrev S1x1024x5120 : Shape := ⟨3, ![1, 1024, 5120]⟩
abbrev S1024x5120 : Shape := ⟨2, ![1024, 5120]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S1x1024x5120, .bf16⟩
  | .hbm, ⟨2, _⟩ => ⟨S1024x5120, .bf16⟩
  | .hbm, ⟨3, _⟩ => ⟨S1024x5120, .f32⟩
  | .hbm, ⟨4, _⟩ => ⟨S_, .f32⟩
  | .hbm, ⟨5, _⟩ => ⟨S2048x1024, .f32⟩
  | .hbm, ⟨6, _⟩ => ⟨S2048x5120, .f32⟩
  | .hbm, ⟨7, _⟩ => ⟨S2048x5120, .f32⟩
  | .hbm, ⟨8, _⟩ => ⟨S2048x1024, .f32⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S2048x1024 : Shape := ⟨2, ![2048, 1024]⟩
abbrev S2048x5120 : Shape := ⟨2, ![2048, 5120]⟩
abbrev S1024x5120 : Shape := ⟨2, ![1024, 5120]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x5120, .bf16⟩
  | .hbm, ⟨2, _⟩ => ⟨S1024x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S2048x5120 : Shape := ⟨2, ![2048, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5120, .bf16⟩
  | .hbm, ⟨2, _⟩ => ⟨S2048x1024, .f32⟩
  | .hbm, ⟨3, _⟩ => ⟨S_, .f32⟩
  | .hbm, ⟨4, _⟩ => ⟨S1024x5120, .f32⟩
  | .hbm, ⟨5, _⟩ => ⟨S2048x5120, .f32⟩
  | .hbm, ⟨6, _⟩ => ⟨S2048x5120, .f32⟩
  | .hbm, ⟨7, _⟩ => ⟨S5120x1024, .f32⟩
  | .hbm, ⟨8, _⟩ => ⟨S1024x5120, .f32⟩
  | .hbm, ⟨9, _⟩ => ⟨S1024x5120, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x6144 : Shape := ⟨2, ![2048, 6144]⟩
abbrev S6144x1024 : Shape := ⟨2, ![6144, 1024]⟩
abbrev S2048x1024 : Shape := ⟨2, ![2048, 1024]⟩
abbrev S256x6144 : Shape := ⟨2, ![256, 6144]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x6144, .bf16⟩
  | .hbm, ⟨1, _⟩ => ⟨S6144x1024, .bf16⟩
  | .hbm, ⟨2, _⟩ => ⟨S2048x1024, .f32⟩
  | .local _ .vmem, ⟨0, _⟩ => ⟨S256x6144, .bf16⟩
  | .local _ .vmem, ⟨1, _⟩ => ⟨S256x6144, .bf16⟩
  | .local _ .vmem, ⟨2, _⟩ => ⟨S6144x1024, .bf16⟩
  | .local _ .vmem, ⟨3, _⟩ => ⟨S256x1024, .f32⟩
  | .local _ .vmem, ⟨4, _⟩ => ⟨S256x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x6144 : Shape := ⟨2, ![2048, 6144]⟩
abbrev S6144x1024 : Shape := ⟨2, ![6144, 1024]⟩
abbrev S1024x6144 : Shape := ⟨2, ![1024, 6144]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S6144x1024, .bf16⟩
  | .hbm, ⟨2, _⟩ => ⟨S6144x1024, .f32⟩
  | .hbm, ⟨3, _⟩ => ⟨S1024x6144, .f32⟩
  | .hbm, ⟨4, _⟩ => ⟨S_, .f32⟩
  | .hbm, ⟨5, _⟩ => ⟨S2048x1024, .f32⟩
  | .hbm, ⟨6, _⟩ => ⟨S2048x6144, .f32⟩
  | .hbm, ⟨7, _⟩ => ⟨S2048x6144, .f32⟩
  | .hbm, ⟨8, _⟩ => ⟨S2048x1024, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S2048x6144 : Shape := ⟨2, ![2048, 6144]⟩
abbrev S2048x1024 : Shape := ⟨2, ![2048, 1024]⟩
abbrev S6144x1024 : Shape := ⟨2, ![6144, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x6144, .bf16⟩
  | .hbm, ⟨1, _⟩ => ⟨S2048x1024, .bf16⟩
  | .hbm, ⟨2, _⟩ => ⟨S6144x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x6144 : Shape := ⟨2, ![2048, 6144]⟩
abbrev S2048x1024 : Shape := ⟨2, ![2048, 1024]⟩
abbrev S_ : Shape := ⟨0, ![]⟩
abbrev S6144x1024 : Shape := ⟨2, ![6144, 1024]⟩
abbrev S1024x6144 : Shape := ⟨2, ![1024, 6144]⟩

abbrev nBuf : Space → Nat
  | .hbm => 12
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S6144x1024, .f32⟩
  | .hbm, ⟨5, _⟩ => ⟨S1024x6144, .f32⟩
  | .hbm, ⟨6, _⟩ => ⟨S2048x6144, .f32⟩
  | .hbm, ⟨7, _⟩ => ⟨S2048x6144, .f32⟩
  | .hbm, ⟨8, _⟩ => ⟨S6144x1024, .f32⟩
  | .hbm, ⟨9, _⟩ => ⟨S1024x6144, .f32⟩
  | .hbm, ⟨10, _⟩ => ⟨S6144x1024, .f32⟩
  | .hbm, ⟨11, _⟩ => ⟨S6144x1024, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S256x1024 : Shape := ⟨2, ![256, 1024]⟩
abbrev S256x2048 : Shape := ⟨2, ![256, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S1024x2048, .bf16⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S256x1024, .f32⟩
  | .hbm, ⟨3, _⟩ => ⟨S_, .f32⟩
  | .hbm, ⟨4, _⟩ => ⟨S1024x2048, .f32⟩
  | .hbm, ⟨5, _⟩ => ⟨S256x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S256x2048 : Shape := ⟨2, ![256, 2048]⟩
abbrev S1x1024x2048 : Shape := ⟨3, ![1, 1024, 2048]⟩
abbrev S256x1024 : Shape := ⟨2, ![256, 1024]⟩
abbrev S1x512x2048 : Shape := ⟨3, ![1, 512, 2048]⟩
abbrev S256x512 : Shape := ⟨2, ![256, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S1x1024x2048, .bf16⟩
  | .hbm, ⟨2, _⟩ => ⟨S256x1024, .f32⟩
  | .local _ .vmem, ⟨0, _⟩ => ⟨S256x2048, .f32⟩
  | .local _ .vmem, ⟨1, _⟩ => ⟨S1x512x2048, .bf16⟩
  | .local _ .vmem, ⟨2, _⟩ => ⟨S1x512x2048, .bf16⟩
  | .local _ .vmem, ⟨3, _⟩ => ⟨S256x512, .f32⟩
  | .local _ .vmem, ⟨4, _⟩ => ⟨S256x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S256x2048 : Shape := ⟨2, ![256, 2048]⟩
abbrev S1x1024x2048 : Shape := ⟨3, ![1, 1024, 2048]⟩
abbrev S1024x2048 : Shape := ⟨2, ![1024, 2048]⟩
abbrev S_ : Shape := ⟨0, ![]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x1024x2048, .bf16⟩
  | .hbm, ⟨2, _⟩ => ⟨S1024x2048, .bf16⟩
  | .hbm, ⟨3, _⟩ => ⟨S1024x2048, .f32⟩
  | .hbm, ⟨4, _⟩ => ⟨S_, .f32⟩
  | .hbm, ⟨5, _⟩ => ⟨S256x1024, .f32⟩
  | .hbm, ⟨6, _⟩ => ⟨S256x2048, .f32⟩
  | .hbm, ⟨7, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S2048x128 : Shape := ⟨2, ![2048, 128]⟩
abbrev S2048x1024 : Shape := ⟨2, ![2048, 1024]⟩
abbrev S128x1024 : Shape := ⟨2, ![128, 1024]⟩
abbrev S2048x512 : Shape := ⟨2, ![2048, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .bf16⟩
  | .hbm, ⟨1, _⟩ => ⟨S2048x1024, .bf16⟩
  | .hbm, ⟨2, _⟩ => ⟨S128x1024, .bf16⟩
  | .local _ .vmem, ⟨0, _⟩ => ⟨S2048x128, .bf16⟩
  | .local _ .vmem, ⟨1, _⟩ => ⟨S2048x512, .bf16⟩
  | .local _ .vmem, ⟨2, _⟩ => ⟨S2048x512, .bf16⟩
  | .local _ .vmem, ⟨3, _⟩ => ⟨S128x512, .bf16⟩
  | .local _ .vmem, ⟨4, _⟩ => ⟨S128x512, .bf16⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x128 : Shape := ⟨2, ![2048, 128]⟩
abbrev S2048x1024 : Shape := ⟨2, ![2048, 1024]⟩
abbrev S_ : Shape := ⟨0, ![]⟩
abbrev S128x1024 : Shape := ⟨2, ![128, 1024]⟩
abbrev S1024x128 : Shape := ⟨2, ![1024, 128]⟩

abbrev nBuf : Space → Nat
  | .hbm => 12
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S128x1024, .f32⟩
  | .hbm, ⟨5, _⟩ => ⟨S1024x128, .f32⟩
  | .hbm, ⟨6, _⟩ => ⟨S2048x128, .f32⟩
  | .hbm, ⟨7, _⟩ => ⟨S2048x128, .f32⟩
  | .hbm, ⟨8, _⟩ => ⟨S128x1024, .f32⟩
  | .hbm, ⟨9, _⟩ => ⟨S1024x128, .f32⟩
  | .hbm, ⟨10, _⟩ => ⟨S128x1024, .f32⟩
  | .hbm, ⟨11, _⟩ => ⟨S128x1024, .bf16⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S2048x128 : Shape := ⟨2, ![2048, 128]⟩
abbrev S128x1024 : Shape := ⟨2, ![128, 1024]⟩
abbrev S2048x1024 : Shape := ⟨2, ![2048, 1024]⟩
abbrev S1024x128 : Shape := ⟨2, ![1024, 128]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x128, .bf16⟩
  | .hbm, ⟨1, _⟩ => ⟨S128x1024, .bf16⟩
  | .hbm, ⟨2, _⟩ => ⟨S2048x1024, .f32⟩
  | .hbm, ⟨3, _⟩ => ⟨S2048x1024, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S2048x128 : Shape := ⟨2, ![2048, 128]⟩
abbrev S128x1024 : Shape := ⟨2, ![128, 1024]⟩
abbrev S2048x1024 : Shape := ⟨2, ![2048, 1024]⟩
abbrev S1024x128 : Shape := ⟨2, ![1024, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S128x1024, .bf16⟩
  | .hbm, ⟨2, _⟩ => ⟨S2048x1024, .f32⟩
  | .hbm, ⟨3, _⟩ => ⟨S128x1024, .f32⟩
  | .hbm, ⟨4, _⟩ => ⟨S1024x128, .f32⟩
  | .hbm, ⟨5, _⟩ => ⟨S_, .f32⟩
  | .hbm, ⟨6, _⟩ => ⟨S2048x1024, .f32⟩
  | .hbm, ⟨7, _⟩ => ⟨S2048x128, .f32⟩
  | .hbm, ⟨8, _⟩ => ⟨S2048x128, .f32⟩
  | .hbm, ⟨9, _⟩ => ⟨S2048x1024, .f32⟩
  | .hbm, ⟨10, _⟩ => ⟨S2048x1024, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel16.lean ====
abbrev S2048x1024 : Shape := ⟨2, ![2048, 1024]⟩
abbrev S1x1024x4096 : Shape := ⟨3, ![1, 1024, 4096]⟩
abbrev S2048x4096 : Shape := ⟨2, ![2048, 4096]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x1024x4096, .bf16⟩
  | .hbm, ⟨2, _⟩ => ⟨S2048x4096, .bf16⟩
  | .local _ .vmem, ⟨0, _⟩ => ⟨S2048x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S1x1024x4096 : Shape := ⟨3, ![1, 1024, 4096]⟩
abbrev S1024x4096 : Shape := ⟨2, ![1024, 4096]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x1024x4096, .bf16⟩
  | .hbm, ⟨2, _⟩ => ⟨S2048x1024, .f32⟩
  | .hbm, ⟨3, _⟩ => ⟨S1024x4096, .bf16⟩
  | .hbm, ⟨4, _⟩ => ⟨S1024x4096, .f32⟩
  | .hbm, ⟨5, _⟩ => ⟨S2048x4096, .f32⟩
  | .hbm, ⟨6, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel17.lean ====
abbrev S2048x4096 : Shape := ⟨2, ![2048, 4096]⟩
abbrev S1x4096x1024 : Shape := ⟨3, ![1, 4096, 1024]⟩
abbrev S2048x1024 : Shape := ⟨2, ![2048, 1024]⟩
abbrev S256x4096 : Shape := ⟨2, ![256, 4096]⟩
abbrev S256x1024 : Shape := ⟨2, ![256, 1024]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S1x4096x1024, .bf16⟩
  | .hbm, ⟨2, _⟩ => ⟨S2048x1024, .f32⟩
  | .hbm, ⟨3, _⟩ => ⟨S2048x1024, .f32⟩
  | .local _ .vmem, ⟨0, _⟩ => ⟨S256x4096, .bf16⟩
  | .local _ .vmem, ⟨1, _⟩ => ⟨S256x4096, .bf16⟩
  | .local _ .vmem, ⟨2, _⟩ => ⟨S1x4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S2048x4096 : Shape := ⟨2, ![2048, 4096]⟩
abbrev S1x4096x1024 : Shape := ⟨3, ![1, 4096, 1024]⟩
abbrev S2048x1024 : Shape := ⟨2, ![2048, 1024]⟩
abbrev S4096x1024 : Shape := ⟨2, ![4096, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1x4096x1024, .bf16⟩
  | .hbm, ⟨2, _⟩ => ⟨S2048x1024, .f32⟩
  | .hbm, ⟨3, _⟩ => ⟨S2048x4096, .f32⟩
  | .hbm, ⟨4, _⟩ => ⟨S4096x1024, .bf16⟩
  | .hbm, ⟨5, _⟩ => ⟨S4096x1024, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x1024, .f32⟩
  | .hbm, ⟨11, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel18.lean ====
abbrev S2048x3072 : Shape := ⟨2, ![2048, 3072]⟩
abbrev S1x3072x1024 : Shape := ⟨3, ![1, 3072, 1024]⟩
abbrev S2048x1024 : Shape := ⟨2, ![2048, 1024]⟩
abbrev S512x3072 : Shape := ⟨2, ![512, 3072]⟩
abbrev S512x1024 : Shape := ⟨2, ![512, 1024]⟩
abbrev S3072x1024 : Shape := ⟨2, ![3072, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S1x3072x1024, .bf16⟩
  | .hbm, ⟨2, _⟩ => ⟨S2048x1024, .f32⟩
  | .hbm, ⟨3, _⟩ => ⟨S2048x1024, .f32⟩
  | .local _ .vmem, ⟨0, _⟩ => ⟨S512x3072, .bf16⟩
  | .local _ .vmem, ⟨1, _⟩ => ⟨S512x3072, .bf16⟩
  | .local _ .vmem, ⟨2, _⟩ => ⟨S1x3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S2048x3072 : Shape := ⟨2, ![2048, 3072]⟩
abbrev S1x3072x1024 : Shape := ⟨3, ![1, 3072, 1024]⟩
abbrev S2048x1024 : Shape := ⟨2, ![2048, 1024]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1x3072x1024, .bf16⟩
  | .hbm, ⟨2, _⟩ => ⟨S2048x1024, .f32⟩
  | .hbm, ⟨3, _⟩ => ⟨S2048x3072, .f32⟩
  | .hbm, ⟨4, _⟩ => ⟨S3072x1024, .bf16⟩
  | .hbm, ⟨5, _⟩ => ⟨S3072x1024, .f32⟩
  | .hbm, ⟨6, _⟩ => ⟨S2048x1024, .f32⟩
  | .hbm, ⟨7, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S2048x1024 : Shape := ⟨2, ![2048, 1024]⟩
abbrev S1x1024x5120 : Shape := ⟨3, ![1, 1024, 5120]⟩
abbrev S2048x5120 : Shape := ⟨2, ![2048, 5120]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x1024x5120, .bf16⟩
  | .hbm, ⟨2, _⟩ => ⟨S2048x5120, .f32⟩
  | .local _ .vmem, ⟨0, _⟩ => ⟨S2048x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S2048x1024, .f32⟩
  | .local _ .vmem, ⟨4, _⟩ => ⟨S2048x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x1024 : Shape := ⟨2, ![2048, 1024]⟩
abbrev S1x1024x5120 : Shape := ⟨3, ![1, 1024, 5120]⟩
abbrev S1024x5120 : Shape := ⟨2, ![1024, 5120]⟩
abbrev S2048x5120 : Shape := ⟨2, ![2048, 5120]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x1024x5120, .bf16⟩
  | .hbm, ⟨2, _⟩ => ⟨S2048x1024, .f32⟩
  | .hbm, ⟨3, _⟩ => ⟨S1024x5120, .bf16⟩
  | .hbm, ⟨4, _⟩ => ⟨S1024x5120, .f32⟩
  | .hbm, ⟨5, _⟩ => ⟨S2048x5120, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S2048x1024 : Shape := ⟨2, ![2048, 1024]⟩
abbrev S6144x1024 : Shape := ⟨2, ![6144, 1024]⟩
abbrev S2048x6144 : Shape := ⟨2, ![2048, 6144]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S6144x1024, .bf16⟩
  | .hbm, ⟨2, _⟩ => ⟨S2048x6144, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x1024 : Shape := ⟨2, ![2048, 1024]⟩
abbrev S6144x1024 : Shape := ⟨2, ![6144, 1024]⟩
abbrev S1024x6144 : Shape := ⟨2, ![1024, 6144]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S6144x1024, .bf16⟩
  | .hbm, ⟨2, _⟩ => ⟨S2048x1024, .f32⟩
  | .hbm, ⟨3, _⟩ => ⟨S6144x1024, .f32⟩
  | .hbm, ⟨4, _⟩ => ⟨S1024x6144, .f32⟩
  | .hbm, ⟨5, _⟩ => ⟨S2048x6144, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S2048x1024 : Shape := ⟨2, ![2048, 1024]⟩
abbrev S128x1024 : Shape := ⟨2, ![128, 1024]⟩
abbrev S2048x128 : Shape := ⟨2, ![2048, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S128x1024, .bf16⟩
  | .hbm, ⟨2, _⟩ => ⟨S2048x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x1024 : Shape := ⟨2, ![2048, 1024]⟩
abbrev S128x1024 : Shape := ⟨2, ![128, 1024]⟩
abbrev S1024x128 : Shape := ⟨2, ![1024, 128]⟩
abbrev S2048x128 : Shape := ⟨2, ![2048, 128]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S128x1024, .bf16⟩
  | .hbm, ⟨2, _⟩ => ⟨S2048x1024, .f32⟩
  | .hbm, ⟨3, _⟩ => ⟨S128x1024, .f32⟩
  | .hbm, ⟨4, _⟩ => ⟨S1024x128, .f32⟩
  | .hbm, ⟨5, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S256x1024 : Shape := ⟨2, ![256, 1024]⟩
abbrev S1x1024x2048 : Shape := ⟨3, ![1, 1024, 2048]⟩
abbrev S256x2048 : Shape := ⟨2, ![256, 2048]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S1x1024x2048, .bf16⟩
  | .hbm, ⟨2, _⟩ => ⟨S256x2048, .bf16⟩
  | .local _ .vmem, ⟨0, _⟩ => ⟨S256x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S256x1024, .bf16⟩
  | .local _ .vmem, ⟨4, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  let c0_i32_2 : BitVec 32 := 0#32
  ![c0_i32_1.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S256x1024 : Shape := ⟨2, ![256, 1024]⟩
abbrev S1x1024x2048 : Shape := ⟨3, ![1, 1024, 2048]⟩
abbrev S1024x2048 : Shape := ⟨2, ![1024, 2048]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1x1024x2048, .bf16⟩
  | .hbm, ⟨2, _⟩ => ⟨S256x1024, .f32⟩
  | .hbm, ⟨3, _⟩ => ⟨S1024x2048, .bf16⟩
  | .hbm, ⟨4, _⟩ => ⟨S1024x2048, .f32⟩
  | .hbm, ⟨5, _⟩ => ⟨S256x2048, .f32⟩
  | .hbm, ⟨6, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel23.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference23Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel24.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel25.lean ====
abbrev S2048x5120 : Shape := ⟨2, ![2048, 5120]⟩
abbrev S256x2048 : Shape := ⟨2, ![256, 2048]⟩
abbrev S2048x3072 : Shape := ⟨2, ![2048, 3072]⟩
abbrev S512x1024 : Shape := ⟨2, ![512, 1024]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x5120, .f32⟩
  | .hbm, ⟨1, _⟩ => ⟨S256x2048, .bf16⟩
  | .hbm, ⟨2, _⟩ => ⟨S2048x3072, .bf16⟩
  | .hbm, ⟨3, _⟩ => ⟨S2048x3072, .bf16⟩
  | .local _ .vmem, ⟨0, _⟩ => ⟨S512x1024, .f32⟩
  | .local _ .vmem, ⟨1, _⟩ => ⟨S512x1024, .f32⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S2048x5120 : Shape := ⟨2, ![2048, 5120]⟩
abbrev S256x2048 : Shape := ⟨2, ![256, 2048]⟩
abbrev S2048x3072 : Shape := ⟨2, ![2048, 3072]⟩
abbrev S2048x1024 : Shape := ⟨2, ![2048, 1024]⟩
abbrev S256x1024 : Shape := ⟨2, ![256, 1024]⟩
abbrev S256x4x256 : Shape := ⟨3, ![256, 4, 256]⟩
abbrev S2048x4x256 : Shape := ⟨3, ![2048, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S2048x2048 : Shape := ⟨2, ![2048, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S256x2048, .bf16⟩
  | .hbm, ⟨2, _⟩ => ⟨S2048x3072, .bf16⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S256x4x256, .f32⟩
  | .hbm, ⟨7, _⟩ => ⟨S256x1024, .f32⟩
  | .hbm, ⟨8, _⟩ => ⟨S256x4x256, .f32⟩
  | .hbm, ⟨9, _⟩ => ⟨S2048x4x256, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x256, .f32⟩
  | .hbm, ⟨21, _⟩ => ⟨S4x2048x256, .f32⟩
  | .hbm, ⟨22, _⟩ => ⟨S4x2048x256, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x256, .f32⟩
  | .hbm, ⟨27, _⟩ => ⟨S4x2048x256, .f32⟩
  | .hbm, ⟨28, _⟩ => ⟨S4x256x2048, .f32⟩
  | .hbm, ⟨29, _⟩ => ⟨S2048x4x256, .f32⟩
  | .hbm, ⟨30, _⟩ => ⟨S2048x1024, .f32⟩
  | .hbm, ⟨31, _⟩ => ⟨S2048x2048, .bf16⟩
  | .hbm, ⟨32, _⟩ => ⟨S2048x1024, .bf16⟩
  | .hbm, ⟨33, _⟩ => ⟨S2048x3072, .bf16⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel26.lean ====
abbrev S2048x2048 : Shape := ⟨2, ![2048, 2048]⟩
abbrev S2048x6144 : Shape := ⟨2, ![2048, 6144]⟩
abbrev S1x2048 : Shape := ⟨2, ![1, 2048]⟩
abbrev S2048x3072 : Shape := ⟨2, ![2048, 3072]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S1x2048, .f32⟩
  | .hbm, ⟨3, _⟩ => ⟨S2048x3072, .bf16⟩
  | .hbm, ⟨4, _⟩ => ⟨S2048x2048, .f32⟩
  | .hbm, ⟨5, _⟩ => ⟨S2048x6144, .bf16⟩
  | .hbm, ⟨6, _⟩ => ⟨S1x2048, .f32⟩
  | .hbm, ⟨7, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference26Ideal.lean ====
abbrev S2048x2048 : Shape := ⟨2, ![2048, 2048]⟩
abbrev S2048x6144 : Shape := ⟨2, ![2048, 6144]⟩
abbrev S1x2048 : Shape := ⟨2, ![1, 2048]⟩
abbrev S2048x3072 : Shape := ⟨2, ![2048, 3072]⟩
abbrev S_ : Shape := ⟨0, ![]⟩
abbrev S2048x4x512 : Shape := ⟨3, ![2048, 4, 512]⟩
abbrev S2048x4 : Shape := ⟨2, ![2048, 4]⟩
abbrev S2048x4x1 : Shape := ⟨3, ![2048, 4, 1]⟩
abbrev S2048 : Shape := ⟨1, ![2048]⟩

abbrev nBuf : Space → Nat
  | .hbm => 74
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S1x2048, .f32⟩
  | .hbm, ⟨3, _⟩ => ⟨S2048x3072, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x4x512, .f32⟩
  | .hbm, ⟨20, _⟩ => ⟨S2048x4x512, .f32⟩
  | .hbm, ⟨21, _⟩ => ⟨S_, .f32⟩
  | .hbm, ⟨22, _⟩ => ⟨S2048x4, .f32⟩
  | .hbm, ⟨23, _⟩ => ⟨S2048x4x1, .f32⟩
  | .hbm, ⟨24, _⟩ => ⟨S_, .f32⟩
  | .hbm, ⟨25, _⟩ => ⟨S2048x4x1, .f32⟩
  | .hbm, ⟨26, _⟩ => ⟨S2048x4x1, .f32⟩
  | .hbm, ⟨27, _⟩ => ⟨S_, .f32⟩
  | .hbm, ⟨28, _⟩ => ⟨S2048x4x1, .f32⟩
  | .hbm, ⟨29, _⟩ => ⟨S2048x4x1, .f32⟩
  | .hbm, ⟨30, _⟩ => ⟨S2048x4x1, .f32⟩
  | .hbm, ⟨31, _⟩ => ⟨S2048x4x1, .f32⟩
  | .hbm, ⟨32, _⟩ => ⟨S_, .f32⟩
  | .hbm, ⟨33, _⟩ => ⟨S2048x4x1, .f32⟩
  | .hbm, ⟨34, _⟩ => ⟨S2048x4x1, .f32⟩
  | .hbm, ⟨35, _⟩ => ⟨S2048x4x512, .f32⟩
  | .hbm, ⟨36, _⟩ => ⟨S2048x4x512, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .bf16⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x4x512, .f32⟩
  | .hbm, ⟨49, _⟩ => ⟨S2048x4x512, .f32⟩
  | .hbm, ⟨50, _⟩ => ⟨S_, .f32⟩
  | .hbm, ⟨51, _⟩ => ⟨S2048x4, .f32⟩
  | .hbm, ⟨52, _⟩ => ⟨S2048x4x1, .f32⟩
  | .hbm, ⟨53, _⟩ => ⟨S2048x4x512, .f32⟩
  | .hbm, ⟨54, _⟩ => ⟨S2048x4x512, .f32⟩
  | .hbm, ⟨55, _⟩ => ⟨S2048x4x1, .f32⟩
  | .hbm, ⟨56, _⟩ => ⟨S_, .f32⟩
  | .hbm, ⟨57, _⟩ => ⟨S2048x4x1, .f32⟩
  | .hbm, ⟨58, _⟩ => ⟨S2048x4x1, .f32⟩
  | .hbm, ⟨59, _⟩ => ⟨S_, .f32⟩
  | .hbm, ⟨60, _⟩ => ⟨S2048x4, .f32⟩
  | .hbm, ⟨61, _⟩ => ⟨S2048x4x512, .f32⟩
  | .hbm, ⟨62, _⟩ => ⟨S2048x4x512, .f32⟩
  | .hbm, ⟨63, _⟩ => ⟨S2048x4x512, .f32⟩
  | .hbm, ⟨64, _⟩ => ⟨S2048x4x512, .f32⟩
  | .hbm, ⟨65, _⟩ => ⟨S2048x4x512, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v45 : Ref sig .tc := ⟨.hbm, 72, rfl⟩
abbrev main_v46 : Ref sig .tc := ⟨.hbm, 73, rfl⟩

abbrev nD : Nat := 1
abbrev τ : Topo := Topo.v7x

variable {F : FTy → Type} [FloatOps F]
-- ==== Kernel27.lean ====
abbrev S2048x2048 : Shape := ⟨2, ![2048, 2048]⟩
abbrev S2048x6144 : Shape := ⟨2, ![2048, 6144]⟩
abbrev S1x2048 : Shape := ⟨2, ![1, 2048]⟩
abbrev S2048x3072 : Shape := ⟨2, ![2048, 3072]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S1x2048, .f32⟩
  | .hbm, ⟨3, _⟩ => ⟨S2048x3072, .bf16⟩
  | .hbm, ⟨4, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S2048x2048 : Shape := ⟨2, ![2048, 2048]⟩
abbrev S2048x6144 : Shape := ⟨2, ![2048, 6144]⟩
abbrev S1x2048 : Shape := ⟨2, ![1, 2048]⟩
abbrev S_ : Shape := ⟨0, ![]⟩
abbrev S2048x4x512 : Shape := ⟨3, ![2048, 4, 512]⟩
abbrev S2048x4 : Shape := ⟨2, ![2048, 4]⟩
abbrev S2048x4x1 : Shape := ⟨3, ![2048, 4, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x4x512, .f32⟩
  | .hbm, ⟨15, _⟩ => ⟨S2048x4x512, .f32⟩
  | .hbm, ⟨16, _⟩ => ⟨S_, .f32⟩
  | .hbm, ⟨17, _⟩ => ⟨S2048x4, .f32⟩
  | .hbm, ⟨18, _⟩ => ⟨S2048x4x1, .f32⟩
  | .hbm, ⟨19, _⟩ => ⟨S_, .f32⟩
  | .hbm, ⟨20, _⟩ => ⟨S2048x4x1, .f32⟩
  | .hbm, ⟨21, _⟩ => ⟨S2048x4x1, .f32⟩
  | .hbm, ⟨22, _⟩ => ⟨S_, .f32⟩
  | .hbm, ⟨23, _⟩ => ⟨S2048x4x1, .f32⟩
  | .hbm, ⟨24, _⟩ => ⟨S2048x4x1, .f32⟩
  | .hbm, ⟨25, _⟩ => ⟨S2048x4x1, .f32⟩
  | .hbm, ⟨26, _⟩ => ⟨S2048x4x512, .f32⟩
  | .hbm, ⟨27, _⟩ => ⟨S2048x4x512, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Kernel28.lean ====
abbrev S2048x6144 : Shape := ⟨2, ![2048, 6144]⟩
abbrev S4x3072 : Shape := ⟨2, ![4, 3072]⟩
abbrev S1x3072 : Shape := ⟨2, ![1, 3072]⟩
abbrev S2048x3072 : Shape := ⟨2, ![2048, 3072]⟩
abbrev S2048x256 : Shape := ⟨2, ![2048, 256]⟩
abbrev S4x256 : Shape := ⟨2, ![4, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x6144, .f32⟩
  | .hbm, ⟨1, _⟩ => ⟨S4x3072, .f32⟩
  | .hbm, ⟨2, _⟩ => ⟨S1x3072, .f32⟩
  | .hbm, ⟨3, _⟩ => ⟨S2048x3072, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S2048x6144 : Shape := ⟨2, ![2048, 6144]⟩
abbrev S4x3072 : Shape := ⟨2, ![4, 3072]⟩
abbrev S1x3072 : Shape := ⟨2, ![1, 3072]⟩
abbrev S2048x3072 : Shape := ⟨2, ![2048, 3072]⟩
abbrev S_ : Shape := ⟨0, ![]⟩
abbrev S3x3072 : Shape := ⟨2, ![3, 3072]⟩
abbrev S2051x3072 : Shape := ⟨2, ![2051, 3072]⟩
abbrev S3072 : Shape := ⟨1, ![3072]⟩

abbrev nBuf : Space → Nat
  | .hbm => 48
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S4x3072, .f32⟩
  | .hbm, ⟨2, _⟩ => ⟨S1x3072, .f32⟩
  | .hbm, ⟨3, _⟩ => ⟨S2048x3072, .f32⟩
  | .hbm, ⟨4, _⟩ => ⟨S_, .f32⟩
  | .hbm, ⟨5, _⟩ => ⟨S3x3072, .f32⟩
  | .hbm, ⟨6, _⟩ => ⟨S2051x3072, .f32⟩
  | .hbm, ⟨7, _⟩ => ⟨S2048x3072, .f32⟩
  | .hbm, ⟨8, _⟩ => ⟨S1x3072, .f32⟩
  | .hbm, ⟨9, _⟩ => ⟨S3072, .f32⟩
  | .hbm, ⟨10, _⟩ => ⟨S1x3072, .f32⟩
  | .hbm, ⟨11, _⟩ => ⟨S2048x3072, .f32⟩
  | .hbm, ⟨12, _⟩ => ⟨S2048x3072, .f32⟩
  | .hbm, ⟨13, _⟩ => ⟨S_, .f32⟩
  | .hbm, ⟨14, _⟩ => ⟨S2048x3072, .f32⟩
  | .hbm, ⟨15, _⟩ => ⟨S2048x3072, .f32⟩
  | .hbm, ⟨16, _⟩ => ⟨S2048x3072, .f32⟩
  | .hbm, ⟨17, _⟩ => ⟨S1x3072, .f32⟩
  | .hbm, ⟨18, _⟩ => ⟨S3072, .f32⟩
  | .hbm, ⟨19, _⟩ => ⟨S1x3072, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S1x3072, .f32⟩
  | .hbm, ⟨32, _⟩ => ⟨S3072, .f32⟩
  | .hbm, ⟨33, _⟩ => ⟨S1x3072, .f32⟩
  | .hbm, ⟨34, _⟩ => ⟨S2048x3072, .f32⟩
  | .hbm, ⟨35, _⟩ => ⟨S2048x3072, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S2048x3072, .f32⟩
  | .hbm, ⟨40, _⟩ => ⟨S2048x3072, .f32⟩
  | .hbm, ⟨41, _⟩ => ⟨S_, .f32⟩
  | .hbm, ⟨42, _⟩ => ⟨S2048x3072, .f32⟩
  | .hbm, ⟨43, _⟩ => ⟨S2048x3072, .f32⟩
  | .hbm, ⟨44, _⟩ => ⟨S_, .f32⟩
  | .hbm, ⟨45, _⟩ => ⟨S2048x3072, .f32⟩
  | .hbm, ⟨46, _⟩ => ⟨S2048x3072, .f32⟩
  | .hbm, ⟨47, _⟩ => ⟨S2048x3072, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel29.lean ====
abbrev S2048x5120 : Shape := ⟨2, ![2048, 5120]⟩
abbrev S1x2048 : Shape := ⟨2, ![1, 2048]⟩
abbrev S8x128x128 : Shape := ⟨3, ![8, 128, 128]⟩
abbrev S8x128x1 : Shape := ⟨3, ![8, 128, 1]⟩
abbrev S2048x3072 : Shape := ⟨2, ![2048, 3072]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩
abbrev S2048x2048 : Shape := ⟨2, ![2048, 2048]⟩

abbrev nBuf : Space → Nat
  | .hbm => 7
  | .vmem => 10
  | .smem => 0
  | _ => 0

abbrev bufTy : (tb : Table) → Fin (tcTables nBuf tb) → BufTy
  | .hbm, ⟨0, _⟩ => ⟨S2048x5120, .f32⟩
  | .hbm, ⟨1, _⟩ => ⟨S1x2048, .f32⟩
  | .hbm, ⟨2, _⟩ => ⟨S1x2048, .f32⟩
  | .hbm, ⟨3, _⟩ => ⟨S8x128x128, .f32⟩
  | .hbm, ⟨4, _⟩ => ⟨S8x128x1, .f32⟩
  | .hbm, ⟨5, _⟩ => ⟨S2048x3072, .bf16⟩
  | .hbm, ⟨6, _⟩ => ⟨S2048x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S8x128x1, .f32⟩
  | .local _ .vmem, ⟨8, _⟩ => ⟨S128x2048, .bf16⟩
  | .local _ .vmem, ⟨9, _⟩ => ⟨S128x2048, .bf16⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel29Ideal.lean ====
variable {F : FTy → Type} [FloatOps F] [Named F]
def κ : String → Option EReal := fun
  | "inv_sqrt2" => some (((Real.sqrt 2)⁻¹ : ℝ) : EReal)
  | _ => none
-- ==== Reference29Ideal.lean ====
abbrev S2048x5120 : Shape := ⟨2, ![2048, 5120]⟩
abbrev S1x2048 : Shape := ⟨2, ![1, 2048]⟩
abbrev S8x128x128 : Shape := ⟨3, ![8, 128, 128]⟩
abbrev S8x128x1 : Shape := ⟨3, ![8, 128, 1]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S16x128x8x256 : Shape := ⟨4, ![16, 128, 8, 256]⟩
abbrev S128x128 : Shape := ⟨2, ![128, 128]⟩
abbrev S1x128x128 : Shape := ⟨3, ![1, 128, 128]⟩
abbrev S8x16x256x128 : Shape := ⟨4, ![8, 16, 256, 128]⟩
abbrev S8x128 : Shape := ⟨2, ![8, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 84
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S1x2048, .f32⟩
  | .hbm, ⟨2, _⟩ => ⟨S1x2048, .f32⟩
  | .hbm, ⟨3, _⟩ => ⟨S8x128x128, .f32⟩
  | .hbm, ⟨4, _⟩ => ⟨S8x128x1, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S16x128x8x256, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S_, .f32⟩
  | .hbm, ⟨70, _⟩ => ⟨S8x128x128, .f32⟩
  | .hbm, ⟨71, _⟩ => ⟨S8x128x128, .i1⟩
  | .hbm, ⟨72, _⟩ => ⟨S8x128x128, .f32⟩
  | .hbm, ⟨73, _⟩ => ⟨S8x16x256x128, .f32⟩
  | .hbm, ⟨74, _⟩ => ⟨S16x128x8x256, .f32⟩
  | .hbm, ⟨75, _⟩ => ⟨S8x128, .f32⟩
  | .hbm, ⟨76, _⟩ => ⟨S128x8, .f32⟩
  | .hbm, ⟨77, _⟩ => ⟨S128x8x1, .f32⟩
  | .hbm, ⟨78, _⟩ => ⟨S1x128x8x1, .f32⟩
  | .hbm, ⟨79, _⟩ => ⟨S16x128x8x256, .f32⟩
  | .hbm, ⟨80, _⟩ => ⟨S16x128x8x256, .f32⟩
  | .hbm, ⟨81, _⟩ => ⟨S2048x2048, .f32⟩
  | .hbm, ⟨82, _⟩ => ⟨S2048x2048, .f32⟩
  | .hbm, ⟨83, _⟩ => ⟨S2048x2048, .bf16⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_v41 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_call1_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Kernel30.lean ====
abbrev S2048x1024 : Shape := ⟨2, ![2048, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1x128, .f32⟩
  | .hbm, ⟨4, _⟩ => ⟨S2048x1024, .f32⟩
  | .hbm, ⟨5, _⟩ => ⟨S2048x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference30Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S1x128, .f32⟩
  | .hbm, ⟨69, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel31.lean ====
abbrev S2048x6144 : Shape := ⟨2, ![2048, 6144]⟩
abbrev S256x2048 : Shape := ⟨2, ![256, 2048]⟩
abbrev S2048x3072 : Shape := ⟨2, ![2048, 3072]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x6144, .f32⟩
  | .hbm, ⟨1, _⟩ => ⟨S256x2048, .bf16⟩
  | .hbm, ⟨2, _⟩ => ⟨S2048x3072, .bf16⟩
  | .hbm, ⟨3, _⟩ => ⟨S2048x6144, .bf16⟩
  | .hbm, ⟨4, _⟩ => ⟨S2048x6144, .bf16⟩
  | .hbm, ⟨5, _⟩ => ⟨S256x2048, .f32⟩
  | .local _ .vmem, ⟨0, _⟩ => ⟨S512x1024, .f32⟩
  | .local _ .vmem, ⟨1, _⟩ => ⟨S512x1024, .f32⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference31Ideal.lean ====
abbrev S2048x6144 : Shape := ⟨2, ![2048, 6144]⟩
abbrev S256x2048 : Shape := ⟨2, ![256, 2048]⟩
abbrev S2048x3072 : Shape := ⟨2, ![2048, 3072]⟩
abbrev S2048x1024 : Shape := ⟨2, ![2048, 1024]⟩
abbrev S256x1024 : Shape := ⟨2, ![256, 1024]⟩
abbrev S256x4x256 : Shape := ⟨3, ![256, 4, 256]⟩
abbrev S2048x4x256 : Shape := ⟨3, ![2048, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩
abbrev S2048x5120 : Shape := ⟨2, ![2048, 5120]⟩

abbrev nBuf : Space → Nat
  | .hbm => 95
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S256x2048, .bf16⟩
  | .hbm, ⟨2, _⟩ => ⟨S2048x3072, .bf16⟩
  | .hbm, ⟨3, _⟩ => ⟨S2048x6144, .bf16⟩
  | .hbm, ⟨4, _⟩ => ⟨S2048x1024, .f32⟩
  | .hbm, ⟨5, _⟩ => ⟨S2048x1024, .bf16⟩
  | .hbm, ⟨6, _⟩ => ⟨S2048x1024, .f32⟩
  | .hbm, ⟨7, _⟩ => ⟨S256x2048, .f32⟩
  | .hbm, ⟨8, _⟩ => ⟨S256x1024, .f32⟩
  | .hbm, ⟨9, _⟩ => ⟨S256x4x256, .f32⟩
  | .hbm, ⟨10, _⟩ => ⟨S256x1024, .f32⟩
  | .hbm, ⟨11, _⟩ => ⟨S256x4x256, .f32⟩
  | .hbm, ⟨12, _⟩ => ⟨S2048x4x256, .f32⟩
  | .hbm, ⟨13, _⟩ => ⟨S4x2048x256, .f32⟩
  | .hbm, ⟨14, _⟩ => ⟨S_, .f32⟩
  | .hbm, ⟨15, _⟩ => ⟨S4x2048x256, .f32⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S4x2048x256, .f32⟩
  | .hbm, ⟨21, _⟩ => ⟨S4x2048x256, .i1⟩
  | .hbm, ⟨22, _⟩ => ⟨S4x2048x256, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S4x2048, .i1⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x256, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S4x2048x256, .f32⟩
  | .hbm, ⟨50, _⟩ => ⟨S4x2048x256, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S4x256x2048, .f32⟩
  | .hbm, ⟨56, _⟩ => ⟨S2048x4x256, .f32⟩
  | .hbm, ⟨57, _⟩ => ⟨S2048x1024, .f32⟩
  | .hbm, ⟨58, _⟩ => ⟨S2048x4x256, .f32⟩
  | .hbm, ⟨59, _⟩ => ⟨S4x256x2048, .f32⟩
  | .hbm, ⟨60, _⟩ => ⟨S4x2048x256, .f32⟩
  | .hbm, ⟨61, _⟩ => ⟨S4x256x256, .f32⟩
  | .hbm, ⟨62, _⟩ => ⟨S256x4x256, .f32⟩
  | .hbm, ⟨63, _⟩ => ⟨S4x2048x256, .f32⟩
  | .hbm, ⟨64, _⟩ => ⟨S4x2048x256, .f32⟩
  | .hbm, ⟨65, _⟩ => ⟨S4x2048x256, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S4x2048x1, .f32⟩
  | .hbm, ⟨70, _⟩ => ⟨S4x2048x256, .f32⟩
  | .hbm, ⟨71, _⟩ => ⟨S4x2048x256, .f32⟩
  | .hbm, ⟨72, _⟩ => ⟨S_, .f32⟩
  | .hbm, ⟨73, _⟩ => ⟨S4x2048, .f32⟩
  | .hbm, ⟨74, _⟩ => ⟨S4x2048x256, .f32⟩
  | .hbm, ⟨75, _⟩ => ⟨S4x2048x256, .f32⟩
  | .hbm, ⟨76, _⟩ => ⟨S4x2048x256, .f32⟩
  | .hbm, ⟨77, _⟩ => ⟨S_, .f32⟩
  | .hbm, ⟨78, _⟩ => ⟨S4x2048x256, .f32⟩
  | .hbm, ⟨79, _⟩ => ⟨S4x2048x256, .f32⟩
  | .hbm, ⟨80, _⟩ => ⟨S4x256x256, .f32⟩
  | .hbm, ⟨81, _⟩ => ⟨S256x4x256, .f32⟩
  | .hbm, ⟨82, _⟩ => ⟨S4x2048x256, .f32⟩
  | .hbm, ⟨83, _⟩ => ⟨S2048x4x256, .f32⟩
  | .hbm, ⟨84, _⟩ => ⟨S2048x1024, .f32⟩
  | .hbm, ⟨85, _⟩ => ⟨S256x1024, .f32⟩
  | .hbm, ⟨86, _⟩ => ⟨S_, .f32⟩
  | .hbm, ⟨87, _⟩ => ⟨S256x2048, .f32⟩
  | .hbm, ⟨88, _⟩ => ⟨S256x1024, .f32⟩
  | .hbm, ⟨89, _⟩ => ⟨S_, .f32⟩
  | .hbm, ⟨90, _⟩ => ⟨S256x2048, .f32⟩
  | .hbm, ⟨91, _⟩ => ⟨S256x2048, .f32⟩
  | .hbm, ⟨92, _⟩ => ⟨S2048x5120, .bf16⟩
  | .hbm, ⟨93, _⟩ => ⟨S2048x1024, .bf16⟩
  | .hbm, ⟨94, _⟩ => ⟨S2048x6144, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_13 : Ref sig .tc := ⟨.hbm, 86, rfl⟩
abbrev main_v68 : Ref sig .tc := ⟨.hbm, 87, rfl⟩
abbrev main_v69 : Ref sig .tc := ⟨.hbm, 88, rfl⟩
abbrev main_cst_14 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Kernel32.lean ====
abbrev S2048x6144 : Shape := ⟨2, ![2048, 6144]⟩
abbrev S256x2048 : Shape := ⟨2, ![256, 2048]⟩
abbrev S2048x3072 : Shape := ⟨2, ![2048, 3072]⟩
abbrev S512x1024 : Shape := ⟨2, ![512, 1024]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x6144, .f32⟩
  | .hbm, ⟨1, _⟩ => ⟨S256x2048, .bf16⟩
  | .hbm, ⟨2, _⟩ => ⟨S2048x3072, .bf16⟩
  | .hbm, ⟨3, _⟩ => ⟨S2048x3072, .bf16⟩
  | .local _ .vmem, ⟨0, _⟩ => ⟨S512x1024, .f32⟩
  | .local _ .vmem, ⟨1, _⟩ => ⟨S512x1024, .f32⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference32Ideal.lean ====
abbrev S2048x6144 : Shape := ⟨2, ![2048, 6144]⟩
abbrev S256x2048 : Shape := ⟨2, ![256, 2048]⟩
abbrev S2048x3072 : Shape := ⟨2, ![2048, 3072]⟩
abbrev S2048x1024 : Shape := ⟨2, ![2048, 1024]⟩
abbrev S256x1024 : Shape := ⟨2, ![256, 1024]⟩
abbrev S256x4x256 : Shape := ⟨3, ![256, 4, 256]⟩
abbrev S2048x4x256 : Shape := ⟨3, ![2048, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S2048x2048 : Shape := ⟨2, ![2048, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S256x2048, .bf16⟩
  | .hbm, ⟨2, _⟩ => ⟨S2048x3072, .bf16⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S256x4x256, .f32⟩
  | .hbm, ⟨7, _⟩ => ⟨S256x1024, .f32⟩
  | .hbm, ⟨8, _⟩ => ⟨S256x4x256, .f32⟩
  | .hbm, ⟨9, _⟩ => ⟨S2048x4x256, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x256, .f32⟩
  | .hbm, ⟨21, _⟩ => ⟨S4x2048x256, .f32⟩
  | .hbm, ⟨22, _⟩ => ⟨S4x2048x256, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x256, .f32⟩
  | .hbm, ⟨27, _⟩ => ⟨S4x2048x256, .f32⟩
  | .hbm, ⟨28, _⟩ => ⟨S4x256x2048, .f32⟩
  | .hbm, ⟨29, _⟩ => ⟨S2048x4x256, .f32⟩
  | .hbm, ⟨30, _⟩ => ⟨S2048x1024, .f32⟩
  | .hbm, ⟨31, _⟩ => ⟨S2048x2048, .bf16⟩
  | .hbm, ⟨32, _⟩ => ⟨S2048x1024, .bf16⟩
  | .hbm, ⟨33, _⟩ => ⟨S2048x3072, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel33.lean ====
abbrev S2048x5120 : Shape := ⟨2, ![2048, 5120]⟩
abbrev S2048x3072 : Shape := ⟨2, ![2048, 3072]⟩
abbrev S1x2048 : Shape := ⟨2, ![1, 2048]⟩
abbrev S8x128x128 : Shape := ⟨3, ![8, 128, 128]⟩
abbrev S8x128x1 : Shape := ⟨3, ![8, 128, 1]⟩
abbrev S128x2048 : Shape := ⟨2, ![128, 2048]⟩
abbrev S128x4096 : Shape := ⟨2, ![128, 4096]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩
abbrev S2048 : Shape := ⟨1, ![2048]⟩

abbrev nBuf : Space → Nat
  | .hbm => 11
  | .vmem => 17
  | .smem => 0
  | _ => 0

abbrev bufTy : (tb : Table) → Fin (tcTables nBuf tb) → BufTy
  | .hbm, ⟨0, _⟩ => ⟨S2048x5120, .f32⟩
  | .hbm, ⟨1, _⟩ => ⟨S2048x3072, .bf16⟩
  | .hbm, ⟨2, _⟩ => ⟨S1x2048, .f32⟩
  | .hbm, ⟨3, _⟩ => ⟨S1x2048, .f32⟩
  | .hbm, ⟨4, _⟩ => ⟨S8x128x128, .f32⟩
  | .hbm, ⟨5, _⟩ => ⟨S8x128x1, .f32⟩
  | .hbm, ⟨6, _⟩ => ⟨S2048x5120, .bf16⟩
  | .hbm, ⟨7, _⟩ => ⟨S8x128x128, .f32⟩
  | .hbm, ⟨8, _⟩ => ⟨S8x128x1, .f32⟩
  | .hbm, ⟨9, _⟩ => ⟨S1x2048, .f32⟩
  | .hbm, ⟨10, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .bf16⟩
  | .local _ .vmem, ⟨5, _⟩ => ⟨S128x2048, .bf16⟩
  | .local _ .vmem, ⟨6, _⟩ => ⟨S1x2048, .f32⟩
  | .local _ .vmem, ⟨7, _⟩ => ⟨S1x2048, .f32⟩
  | .local _ .vmem, ⟨8, _⟩ => ⟨S8x128x128, .f32⟩
  | .local _ .vmem, ⟨9, _⟩ => ⟨S8x128x1, .f32⟩
  | .local _ .vmem, ⟨10, _⟩ => ⟨S128x4096, .bf16⟩
  | .local _ .vmem, ⟨11, _⟩ => ⟨S128x4096, .bf16⟩
  | .local _ .vmem, ⟨12, _⟩ => ⟨S8x128x128, .f32⟩
  | .local _ .vmem, ⟨13, _⟩ => ⟨S8x128x1, .f32⟩
  | .local _ .vmem, ⟨14, _⟩ => ⟨S1x2048, .f32⟩
  | .local _ .vmem, ⟨15, _⟩ => ⟨S1x2048, .f32⟩
  | .local _ .vmem, ⟨16, _⟩ => ⟨S128x2048, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Kernel33Ideal.lean ====
variable {F : FTy → Type} [FloatOps F] [Named F]
def κ : String → Option EReal := fun
  | "inv_sqrt2" => some (((Real.sqrt 2)⁻¹ : ℝ) : EReal)
  | _ => none
-- ==== Reference33Ideal.lean ====
abbrev S2048x5120 : Shape := ⟨2, ![2048, 5120]⟩
abbrev S2048x3072 : Shape := ⟨2, ![2048, 3072]⟩
abbrev S1x2048 : Shape := ⟨2, ![1, 2048]⟩
abbrev S8x128x128 : Shape := ⟨3, ![8, 128, 128]⟩
abbrev S8x128x1 : Shape := ⟨3, ![8, 128, 1]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S16x128x8x256 : Shape := ⟨4, ![16, 128, 8, 256]⟩
abbrev S128x128 : Shape := ⟨2, ![128, 128]⟩
abbrev S1x128x128 : Shape := ⟨3, ![1, 128, 128]⟩
abbrev S8x16x256x128 : Shape := ⟨4, ![8, 16, 256, 128]⟩
abbrev S8x128 : Shape := ⟨2, ![8, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 115
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S2048x3072, .bf16⟩
  | .hbm, ⟨2, _⟩ => ⟨S1x2048, .f32⟩
  | .hbm, ⟨3, _⟩ => ⟨S1x2048, .f32⟩
  | .hbm, ⟨4, _⟩ => ⟨S8x128x128, .f32⟩
  | .hbm, ⟨5, _⟩ => ⟨S8x128x1, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S16x128x8x256, .f32⟩
  | .hbm, ⟨58, _⟩ => ⟨S_, .i1⟩
  | .hbm, ⟨59, _⟩ => ⟨S128x128, .i1⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S_, .i1⟩
  | .hbm, ⟨67, _⟩ => ⟨S128x128, .i1⟩
  | .hbm, ⟨68, _⟩ => ⟨S128x128, .i1⟩
  | .hbm, ⟨69, _⟩ => ⟨S1x128x128, .i1⟩
  | .hbm, ⟨70, _⟩ => ⟨S_, .f32⟩
  | .hbm, ⟨71, _⟩ => ⟨S8x128x128, .f32⟩
  | .hbm, ⟨72, _⟩ => ⟨S8x128x128, .i1⟩
  | .hbm, ⟨73, _⟩ => ⟨S8x128x128, .f32⟩
  | .hbm, ⟨74, _⟩ => ⟨S_, .f32⟩
  | .hbm, ⟨75, _⟩ => ⟨S8x128x128, .f32⟩
  | .hbm, ⟨76, _⟩ => ⟨S8x16x256x128, .f32⟩
  | .hbm, ⟨77, _⟩ => ⟨S16x128x8x256, .f32⟩
  | .hbm, ⟨78, _⟩ => ⟨S8x128, .f32⟩
  | .hbm, ⟨79, _⟩ => ⟨S128x8, .f32⟩
  | .hbm, ⟨80, _⟩ => ⟨S128x8x1, .f32⟩
  | .hbm, ⟨81, _⟩ => ⟨S1x128x8x1, .f32⟩
  | .hbm, ⟨82, _⟩ => ⟨S16x128x8x256, .f32⟩
  | .hbm, ⟨83, _⟩ => ⟨S16x128x8x256, .f32⟩
  | .hbm, ⟨84, _⟩ => ⟨S2048x2048, .f32⟩
  | .hbm, ⟨85, _⟩ => ⟨S2048x2048, .f32⟩
  | .hbm, ⟨86, _⟩ => ⟨S2048x2048, .bf16⟩
  | .hbm, ⟨87, _⟩ => ⟨S2048x2048, .f32⟩
  | .hbm, ⟨88, _⟩ => ⟨S2048x2048, .f32⟩
  | .hbm, ⟨89, _⟩ => ⟨S16x128x8x256, .f32⟩
  | .hbm, ⟨90, _⟩ => ⟨S_, .f32⟩
  | .hbm, ⟨91, _⟩ => ⟨S128x8, .f32⟩
  | .hbm, ⟨92, _⟩ => ⟨S1x128x8x1, .f32⟩
  | .hbm, ⟨93, _⟩ => ⟨S_, .f32⟩
  | .hbm, ⟨94, _⟩ => ⟨S128x8, .f32⟩
  | .hbm, ⟨95, _⟩ => ⟨S128x8x1, .f32⟩
  | .hbm, ⟨96, _⟩ => ⟨S_, .f32⟩
  | .hbm, ⟨97, _⟩ => ⟨S128x8, .f32⟩
  | .hbm, ⟨98, _⟩ => ⟨S8x128, .f32⟩
  | .hbm, ⟨99, _⟩ => ⟨S8x128x1, .f32⟩
  | .hbm, ⟨100, _⟩ => ⟨S8x16x256x128, .f32⟩
  | .hbm, ⟨101, _⟩ => ⟨S8x128x128, .f32⟩
  | .hbm, ⟨102, _⟩ => ⟨S8x16x256x128, .f32⟩
  | .hbm, ⟨103, _⟩ => ⟨S16x128x8x256, .f32⟩
  | .hbm, ⟨104, _⟩ => ⟨S_, .f32⟩
  | .hbm, ⟨105, _⟩ => ⟨S8x128x128, .f32⟩
  | .hbm, ⟨106, _⟩ => ⟨S8x128x128, .f32⟩
  | .hbm, ⟨107, _⟩ => ⟨S2048x2048, .f32⟩
  | .hbm, ⟨108, _⟩ => ⟨S_, .f32⟩
  | .hbm, ⟨109, _⟩ => ⟨S2048, .f32⟩
  | .hbm, ⟨110, _⟩ => ⟨S1x2048, .f32⟩
  | .hbm, ⟨111, _⟩ => ⟨S2048x2048, .f32⟩
  | .hbm, ⟨112, _⟩ => ⟨S_, .f32⟩
  | .hbm, ⟨113, _⟩ => ⟨S2048, .f32⟩
  | .hbm, ⟨114, _⟩ => ⟨S1x2048, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_v41 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45_1 : Ref sig .tc := ⟨.hbm, 72, rfl⟩
abbrev main_v45_0 : Ref sig .tc := ⟨.hbm, 73, rfl⟩
abbrev main_call1_cst : Ref sig .tc := ⟨.hbm, 74, rfl⟩
abbrev main_v45_2 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call2_cst : Ref sig .tc := ⟨.hbm, 104, rfl⟩
abbrev main_call2_v0 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_15 : Ref sig .tc := ⟨.hbm, 112, rfl⟩
abbrev main_v76 : Ref sig .tc := ⟨.hbm, 113, rfl⟩
abbrev main_v77 : Ref sig .tc := ⟨.hbm, 114, rfl⟩

abbrev nD : Nat := 1
abbrev τ : Topo := Topo.v7x

variable {F : FTy → Type} [FloatOps F]
-- ==== Proof.Attn.Spec.lean ====
/- The mathematics of the gradient of softmax attention over a fixed memory of 256 slots, at one row of one head, as
   functions on extended reals: the score row, its softmax, and the gradient of the scores in the two forms in which it is
   written (through the probabilities, and through the quotient rule), with their equality where the scores are finite. -/
module

public import Idealize.ShloMosaic.Lib.Pointwise
public import Idealize.ShloMosaic.Init

@[expose] public section

noncomputable section

namespace Cert.Attn

open Idealize.ShloMosaic

/-! ## Finite sums of extended reals under a factor that is a nonnegative number -/

/-- A nonnegative number distributes over every finite sum of extended reals. -/
theorem mul_sum_coe {ι : Type} (u : Finset ι) {a : EReal} (h0 : 0 ≤ a) (ht : a ≠ ⊤) (f : ι → EReal) :
    a * ∑ x ∈ u, f x = ∑ x ∈ u, a * f x := by
  classical
  induction u using Finset.induction_on with
  | empty => simp
  | insert x u hx ih =>
      rw [Finset.sum_insert hx, Finset.sum_insert hx, EReal.left_distrib_of_nonneg_of_ne_top h0 ht, ih]

/-- A finite sum of finite numbers is a finite number. -/
theorem sum_coe {ι : Type} (u : Finset ι) (f : ι → EReal) (h : ∀ x, ∃ r : ℝ, f x = r) : ∃ r : ℝ, ∑ x ∈ u, f x = r := by
  choose g hg using h
  refine ⟨∑ x ∈ u, g x, ?_⟩
  simp only [hg]
  exact (map_sum (⟨⟨((↑) : ℝ → EReal), rfl⟩, fun _ _ => rfl⟩ : ℝ →+ EReal) g u).symm

/-! ## The softmax of a score row -/

/-- The factor 1/16 = 1/√256 on the scores. -/
def scale : EReal := Ideal.ofBits .f32 0x3D800000#32

theorem scale_eq : scale = ((1 / 16 : ℝ) : EReal) := by
  unfold scale; simp [Ideal.ofBits, Ideal.ieee, -EReal.coe_mul]; norm_num

/-- A query row against every key. -/
def score (q : Fin 256 → EReal) (k : Fin 256 → Fin 256 → EReal) (j : Fin 256) : EReal := (∑ d, q d * k j d) * scale

/-- The largest score of the row. -/
def top (s : Fin 256 → EReal) : EReal := Finset.univ.fold max (Ideal.ofBits .f32 0xFF800000#32) s

def num (s : Fin 256 → EReal) (j : Fin 256) : EReal := Ideal.exp (s j - top s)

def den (s : Fin 256 → EReal) : EReal := ∑ j, num s j

/-- The softmax of the row. -/
def prob (s : Fin 256 → EReal) (j : Fin 256) : EReal := Ideal.div (num s j) (den s)

/-- The gradient of the scores (before the scale) from the gradient `g` of the probabilities, through the probabilities. -/
def dscore (s g : Fin 256 → EReal) (j : Fin 256) : EReal := prob s j * (g j - ∑ x, g x * prob s x) * scale

/-- The same by the quotient rule on numerator and denominator. -/
def dscoreQ (s g : Fin 256 → EReal) (j : Fin 256) : EReal :=
  (Ideal.div (g j) (den s) + -(∑ x, g x * Ideal.div (Ideal.ofBits .f32 0x3F800000#32) (den s * den s) * num s x)) * num s j * scale

theorem ofBits_bot : Ideal.ofBits .f32 0xFF800000#32 = ⊥ := by simp [Ideal.ofBits, Ideal.ieee]

theorem ofBits_one : Ideal.ofBits .f32 0x3F800000#32 = 1 := by
  simp [Ideal.ofBits, Ideal.ieee, -EReal.coe_mul]; norm_num

theorem score_coe (q : Fin 256 → EReal) (k : Fin 256 → Fin 256 → EReal) (hq : ∀ d, ∃ r : ℝ, q d = r)
    (hk : ∀ j d, ∃ r : ℝ, k j d = r) (j : Fin 256) : ∃ r : ℝ, score q k j = r := by
  obtain ⟨u, hu⟩ := sum_coe Finset.univ (fun d => q d * k j d) fun d => by
    obtain ⟨a, ha⟩ := hq d
    obtain ⟨b, hb⟩ := hk j d
    exact ⟨a * b, by rw [ha, hb, EReal.coe_mul]⟩
  exact ⟨u * (1 / 16), by rw [score, hu, scale_eq, EReal.coe_mul]⟩

theorem max_bot_top (s : Fin 256 → EReal) : max (Ideal.ofBits .f32 0xFF800000#32) (top s) = top s := by
  rw [ofBits_bot]; exact max_eq_right bot_le

theorem top_coe (s : Fin 256 → EReal) (h : ∀ j, ∃ r : ℝ, s j = r) : ∃ r : ℝ, top s = r := by
  have ht : top s < ⊤ := by
    unfold top
    rw [Finset.fold_max_lt, ofBits_bot]
    exact ⟨bot_lt_top, fun x _ => by obtain ⟨r, hr⟩ := h x; rw [hr]; exact EReal.coe_lt_top r⟩
  have hb : ⊥ < top s := by
    unfold top
    rw [Finset.lt_fold_max]
    exact Or.inr ⟨0, Finset.mem_univ _, by obtain ⟨r, hr⟩ := h 0; rw [hr]; exact EReal.bot_lt_coe r⟩
  exact ⟨(top s).toReal, (EReal.coe_toReal ht.ne hb.ne').symm⟩

theorem num_coe (s : Fin 256 → EReal) (h : ∀ j, ∃ r : ℝ, s j = r) (j : Fin 256) : ∃ r : ℝ, 0 < r ∧ num s j = r := by
  obtain ⟨a, ha⟩ := h j
  obtain ⟨b, hb⟩ := top_coe s h
  exact ⟨Real.exp (a - b), Real.exp_pos _, by rw [num, ha, hb, ← EReal.coe_sub]; exact Ideal.exp_coe _⟩

theorem den_coe (s : Fin 256 → EReal) (h : ∀ j, ∃ r : ℝ, s j = r) : ∃ r : ℝ, 0 < r ∧ den s = r := by
  choose g hg hn using num_coe s h
  refine ⟨∑ j, g j, Finset.sum_pos (fun j _ => hg j) ⟨0, Finset.mem_univ _⟩, ?_⟩
  rw [den]
  simp only [hn]
  exact (map_sum (⟨⟨((↑) : ℝ → EReal), rfl⟩, fun _ _ => rfl⟩ : ℝ →+ EReal) g Finset.univ).symm

/-- THE TWO FORMS AGREE at finite scores, whatever the gradient coming in. -/
theorem dscoreQ_eq (s g : Fin 256 → EReal) (h : ∀ j, ∃ r : ℝ, s j = r) (j : Fin 256) : dscoreQ s g j = dscore s g j := by
  obtain ⟨D, hD, hd⟩ := den_coe s h
  have hne : D ≠ 0 := hD.ne'
  obtain ⟨a, ha⟩ : ∃ a : EReal, a = ((1 / D : ℝ) : EReal) := ⟨_, rfl⟩
  have ha0 : 0 ≤ a := by rw [ha]; exact EReal.coe_nonneg.mpr (by positivity)
  have hat : a ≠ ⊤ := by rw [ha]; exact EReal.coe_ne_top _
  have hp : ∀ x, prob s x = num s x * a := fun x => by rw [prob, hd, Ideal.div_coe hne, ha]
  have hone : Ideal.div (Ideal.ofBits .f32 0x3F800000#32) (den s * den s) = a * a := by
    rw [hd, ← EReal.coe_mul, Ideal.div_coe (mul_ne_zero hne hne), ofBits_one, one_mul, ha, ← EReal.coe_mul]
    congr 1; field_simp
  have hT : (∑ x, g x * (a * a) * num s x) = a * ∑ x, g x * (num s x * a) := by
    rw [mul_sum_coe _ ha0 hat]
    exact Finset.sum_congr rfl fun x _ => by ac_rfl
  simp only [dscoreQ, dscore, hone, hp]
  rw [hT, hd, Ideal.div_coe hne, ← ha, mul_comm (g j) a, ← mul_neg, ← EReal.left_distrib_of_nonneg_of_ne_top ha0 hat, ← sub_eq_add_neg]
  ac_rfl

end Cert.Attn

end
-- ==== Proof.Attn.Body.lean ====
/- The attention gradient's kernel body, read at an index: the values stored for one head (the heads are the same operations
   on other lane blocks), as the functions of `Attn/Spec.lean`. -/
module

public import proofs.«01_k».proof.Proof.Attn.Spec
public import proofs.«01_k».proof.Proof.Gen.KernelIdeal.Skeleton
public import Idealize.ShloMosaic.Lib.Pointwise

@[expose] public section

set_option maxRecDepth 16384

noncomputable section

namespace Cert.KernelIdeal.Attn

open Idealize.ShloMosaic Idealize.SL.Sem Cert.Attn Cert.KernelIdeal Cert.KernelIdeal.Gen

variable (q : Vec Ideal S512x256 .f32) (k w : Vec Ideal S256x256 .bf16) (o : Vec Ideal S512x256 .bf16)

/-- The scores of row `r` of a head's block. -/
def sc (r : Fin 512) : Fin 256 → EReal := score (fun d => q (ix2 r d)) fun j d => k (ix2 j d)

/-- The gradient of its probabilities. -/
def dp (r : Fin 512) (j : Fin 256) : EReal := ∑ d : Fin 256, o (ix2 r d) * w (ix2 j d)

theorem pay4_at (r : Fin 512) (j : Fin 256) : k0_pay4 (F := Ideal) q k (ix2 r j) = prob (sc q k r) j := by
  unfold k0_pay4
  pointwise; rfl

theorem pay5_at (r : Fin 512) (j : Fin 256) :
    k0_pay5 (F := Ideal) q k w o (ix2 r j) = dscore (sc q k r) (dp w o r) j := by
  unfold k0_pay5 k0_pay3
  pointwise [pay4_at]; rfl

/-- The query gradient's block. -/
theorem pay6_at (r : Fin 512) (c : Fin 256) :
    k0_pay6 (F := Ideal) q k w o (ix2 r c) = ∑ j : Fin 256, dscore (sc q k r) (dp w o r) j * k (ix2 j c) := by
  unfold k0_pay6
  pointwise [pay5_at]

/-- The key gradient's block, onto what is there. -/
theorem pay7_at (a : Vec Ideal S256x256 .f32) (j c : Fin 256) :
    k0_pay7 (F := Ideal) q (k0_pay5 (F := Ideal) q k w o) a (ix2 j c)
      = a (ix2 j c) + ∑ r : Fin 512, dscore (sc q k r) (dp w o r) j * q (ix2 r c) := by
  unfold k0_pay7
  pointwise [pay5_at]

/-- The value gradient's block, onto what is there. -/
theorem pay8_at (a : Vec Ideal S256x256 .f32) (j c : Fin 256) :
    k0_pay8 (F := Ideal) (k0_pay3 (F := Ideal) o) (k0_pay4 (F := Ideal) q k) a (ix2 j c)
      = a (ix2 j c) + ∑ r : Fin 512, prob (sc q k r) j * o (ix2 r c) := by
  unfold k0_pay8 k0_pay3
  pointwise [pay4_at]

/-! ## The other heads store the same operations -/

theorem dq1 : k0_pay14 (F := Ideal) k (k0_pay10 q k) (k0_pay11 w o) (k0_pay12 q k w o) = k0_pay6 q k w o := rfl
theorem dk1 (a : Vec Ideal S256x256 .f32) :
    k0_pay15 (F := Ideal) q (k0_pay10 q k) (k0_pay11 w o) (k0_pay12 q k w o) a = k0_pay7 q (k0_pay5 q k w o) a := rfl
theorem dv1 (a : Vec Ideal S256x256 .f32) : k0_pay16 (F := Ideal) (k0_pay9 o) (k0_pay10 q k) a = k0_pay8 (k0_pay3 o) (k0_pay4 q k) a := rfl
theorem dq2 : k0_pay21 (F := Ideal) k w (k0_pay17 o) (k0_pay18 q k) = k0_pay6 q k w o := rfl
theorem dk2 (a : Vec Ideal S256x256 .f32) :
    k0_pay22 (F := Ideal) q w (k0_pay17 o) (k0_pay18 q k) a = k0_pay7 q (k0_pay5 q k w o) a := rfl
theorem dv2 (a : Vec Ideal S256x256 .f32) : k0_pay23 (F := Ideal) (k0_pay17 o) (k0_pay18 q k) a = k0_pay8 (k0_pay3 o) (k0_pay4 q k) a := rfl
theorem dq3 : k0_pay27 (F := Ideal) q k w o = k0_pay6 q k w o := rfl
theorem dk3 (a : Vec Ideal S256x256 .f32) : k0_pay28 (F := Ideal) q k w o a = k0_pay7 q (k0_pay5 q k w o) a := rfl
theorem dv3 (a : Vec Ideal S256x256 .f32) : k0_pay1 (F := Ideal) (k0_pay24 o) (k0_pay25 q k) a = k0_pay8 (k0_pay3 o) (k0_pay4 q k) a := rfl

theorem fill_at (j : Fin 256) (c : Fin 2048) : k0_pay2 (F := Ideal) (ix2 j c) = 0 := by
  unfold k0_pay2
  pointwise

end Cert.KernelIdeal.Attn
-- ==== Proof.Attn.Point.lean ====
/- What one grid point of the attention gradient's kernel leaves in its two output blocks, at an index. -/
module

public import proofs.«01_k».proof.Proof.Attn.Body
public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelIdeal.Attn

open Idealize.ShloMosaic Idealize.SL.Sem Cert.Attn Cert.KernelIdeal Cert.KernelIdeal.Gen

/-- A load of some columns from column `o` on. -/
theorem ld_at {n w k : ℕ} {e : EltTy} (X : (⟨2, ![n, w]⟩ : Shape).Idx → Elt Ideal e) (o : ℕ) (inb) (r : Fin n) (d : Fin k) (hd : o + d < w) :
    View.ld (S := ⟨2, ![n, w]⟩) X (Rect.unit ![0, o] ![n, k] inb) (ix2 r d) = X (ix2 r ⟨o + d, hd⟩) := by
  refine View.ld_unit_apply_of X _ _ _ _ _ fun a => ?_
  match a with
  | ⟨0, _⟩ => simp
  | ⟨1, _⟩ => simp

/-- All but the first of the stores decide an index that one of them holds. -/
theorem canon_init {S : Shape} {e : EltTy} (z : View.Piece (Elt Ideal) S e) (y : S.Idx) :
    ∀ L : List (View.Piece (Elt Ideal) S e), (∃ p ∈ L, y ∈ p.1.set) → View.canon (L ++ [z]) y = View.canon L y := by
  intro L
  induction L with
  | nil => rintro ⟨p, hp, _⟩; exact absurd hp List.not_mem_nil
  | cons p L ih =>
      intro h
      by_cases hy : y ∈ p.1.set
      · rw [← Rect.map_emb_univ] at hy
        obtain ⟨x, -, rfl⟩ := Finset.mem_map.mp hy
        rw [List.cons_append, View.canon_cons_emb p.1 p.2, View.canon_cons_emb p.1 p.2]
      · rw [List.cons_append, View.canon_cons_of_not_mem p _ hy, View.canon_cons_of_not_mem p _ hy]
        refine ih ?_
        obtain ⟨p', hp', hy'⟩ := h
        rcases List.mem_cons.mp hp' with rfl | hp'
        · exact absurd hy' hy
        · exact ⟨p', hp', hy'⟩

/-! ## The two blocks at an index -/

variable (x0 : Vec Ideal S512x1024 .f32) (x1 : Vec Ideal S256x2048 .bf16) (x2 : Vec Ideal S512x1024 .bf16)

/-- The scores of row `r` in head `b`. -/
def bsc (r : Fin 512) (b : Fin 4) : Fin 256 → EReal :=
  score (fun d => x0 (ix2 r ⟨b * 256 + d, by omega⟩)) fun j d => x1 (ix2 j ⟨b * 256 + d, by omega⟩)

/-- The gradient of its probabilities. -/
def bdp (r : Fin 512) (b : Fin 4) (j : Fin 256) : EReal :=
  ∑ d : Fin 256, x2 (ix2 r ⟨b * 256 + d, by omega⟩) * x1 (ix2 j ⟨1024 + (b * 256 + d), by omega⟩)

def bdq (r : Fin 512) (b : Fin 4) (l : Fin 256) : EReal :=
  ∑ j : Fin 256, dscore (bsc x0 x1 r b) (bdp x1 x2 r b) j * x1 (ix2 j ⟨b * 256 + l, by omega⟩)

def bdk (b : Fin 4) (j l : Fin 256) : EReal :=
  ∑ r : Fin 512, dscore (bsc x0 x1 r b) (bdp x1 x2 r b) j * x0 (ix2 r ⟨b * 256 + l, by omega⟩)

def bdv (b : Fin 4) (j l : Fin 256) : EReal :=
  ∑ r : Fin 512, prob (bsc x0 x1 r b) j * x2 (ix2 r ⟨b * 256 + l, by omega⟩)

/-- One head's loads of the three blocks. -/
abbrev lq (o : ℕ) (inb : ∀ a, ![0, o] a + ![512, 256] a ≤ S512x1024.size a) : Vec Ideal S512x256 .f32 := View.ld x0 (Rect.unit (s := S512x1024) ![0, o] ![512, 256] inb)
abbrev lk (o : ℕ) (inb : ∀ a, ![0, o] a + ![256, 256] a ≤ S256x2048.size a) : Vec Ideal S256x256 .bf16 := View.ld x1 (Rect.unit (s := S256x2048) ![0, o] ![256, 256] inb)
abbrev lo (o : ℕ) (inb : ∀ a, ![0, o] a + ![512, 256] a ≤ S512x1024.size a) : Vec Ideal S512x256 .bf16 := View.ld x2 (Rect.unit (s := S512x1024) ![0, o] ![512, 256] inb)

theorem sc_ld (b : Fin 4) (o : ℕ) (ho : o = b * 256) (i1) (i2) (r : Fin 512) : sc (lq x0 o i1) (lk x1 o i2) r = bsc x0 x1 r b := by
  subst ho
  unfold sc bsc
  congr 1
  · funext d; exact ld_at x0 _ i1 r d _
  · funext j d; exact ld_at x1 _ i2 j d _

theorem dp_ld (b : Fin 4) (o o' : ℕ) (ho : o = b * 256) (ho' : o' = 1024 + b * 256) (i1) (i2) (r : Fin 512) :
    dp (lk x1 o' i2) (lo x2 o i1) r = bdp x1 x2 r b := by
  subst ho ho'
  funext j
  unfold dp bdp
  refine Finset.sum_congr rfl fun d _ => congrArg₂ _ (ld_at x2 _ i1 r d _) ((ld_at x1 _ i2 j d (by omega)).trans ?_)
  congr 2; apply Fin.ext; dsimp only; omega

theorem dq_ld (b : Fin 4) (o o' : ℕ) (ho : o = b * 256) (ho' : o' = 1024 + b * 256) (i1) (i2) (i3) (r : Fin 512) (l : Fin 256) :
    k0_pay6 (F := Ideal) (lq x0 o i1) (lk x1 o i2) (lk x1 o' i3) (lo x2 o i1) (ix2 r l) = bdq x0 x1 x2 r b l := by
  rw [pay6_at, sc_ld x0 x1 b o ho, dp_ld x1 x2 b o o' ho ho']
  subst ho
  exact Finset.sum_congr rfl fun j _ => congrArg _ (ld_at x1 _ i2 j l _)

theorem dk_ld (b : Fin 4) (o o' : ℕ) (ho : o = b * 256) (ho' : o' = 1024 + b * 256) (i1) (i2) (i3) (a : Vec Ideal S256x256 .f32) (j l : Fin 256) :
    k0_pay7 (F := Ideal) (lq x0 o i1) (k0_pay5 (F := Ideal) (lq x0 o i1) (lk x1 o i2) (lk x1 o' i3) (lo x2 o i1)) a (ix2 j l)
      = a (ix2 j l) + bdk x0 x1 x2 b j l := by
  rw [pay7_at]
  simp only [sc_ld x0 x1 b o ho, dp_ld x1 x2 b o o' ho ho']
  subst ho
  exact congrArg _ (Finset.sum_congr rfl fun r _ => congrArg _ (ld_at x0 _ i1 r l _))

theorem dv_ld (b : Fin 4) (o : ℕ) (ho : o = b * 256) (i1) (i2) (a : Vec Ideal S256x256 .f32) (j l : Fin 256) :
    k0_pay8 (F := Ideal) (k0_pay3 (F := Ideal) (lo x2 o i1)) (k0_pay4 (F := Ideal) (lq x0 o i1) (lk x1 o i2)) a (ix2 j l)
      = a (ix2 j l) + bdv x0 x1 x2 b j l := by
  rw [pay8_at]
  simp only [sc_ld x0 x1 b o ho]
  subst ho
  exact congrArg _ (Finset.sum_congr rfl fun r _ => congrArg _ (ld_at x2 _ i1 r l _))

/-- What `canon_tiles` says of a column, read as the head and the column of the head. -/
theorem pick {b b' : Fin 4} {l : Fin 256} {u o : ℕ} (ho : o = b'.val * 256) (hu : u < 256) (h : b.val * 256 + l.val = o + u) :
    b = b' ∧ l.val = u := by
  constructor
  · apply Fin.ext; omega
  · have : b.val = b'.val := by omega
    omega

/-- What one head's store of its keys' gradient leaves: the buffer before it and the head's share. -/
theorem dk_x (A : Vec Ideal S256x2048 .f32) (b' : Fin 4) (o o' : ℕ) (ho : o = b'.val * 256) (ho' : o' = 1024 + b'.val * 256) (i1) (i2) (i3)
    (b : Fin 4) (j l : Fin 256) (x : S256x256.Idx) (h0 : j.val = (x 0).val) (h1 : b.val * 256 + l.val = o + (x 1).val) :
    k0_pay7 (F := Ideal) (lq x0 o i1) (k0_pay5 (F := Ideal) (lq x0 o i1) (lk x1 o i2) (lk x1 o' i3) (lo x2 o i1))
        (View.ld (S := S256x2048) (e' := .f32) A (Rect.unit (s := S256x2048) ![0, o] ![256, 256] i2)) x
      = A (ix2 j ⟨b.val * 256 + l.val, by omega⟩) + bdk x0 x1 x2 b j l := by
  obtain ⟨rfl, hl⟩ := pick ho (x 1).isLt h1
  obtain rfl : x = ix2 j l := by
    rw [eq_ix2 x]
    exact congrArg₂ ix2 (Fin.ext h0.symm) (Fin.ext hl.symm)
  rw [dk_ld x0 x1 x2 b o o' ho ho']
  subst ho
  exact congrArg (· + _) (ld_at A _ i2 j l _)

/-- What one head's store of its values' gradient leaves. -/
theorem dv_x (A : Vec Ideal S256x2048 .f32) (b' : Fin 4) (o o' : ℕ) (ho : o = b'.val * 256) (ho' : o' = 1024 + b'.val * 256) (i1) (i2) (i3)
    (b : Fin 4) (j l : Fin 256) (x : S256x256.Idx) (h0 : j.val = (x 0).val) (h1 : 1024 + (b.val * 256 + l.val) = o' + (x 1).val) :
    k0_pay8 (F := Ideal) (k0_pay3 (F := Ideal) (lo x2 o i1)) (k0_pay4 (F := Ideal) (lq x0 o i1) (lk x1 o i2))
        (View.ld (S := S256x2048) (e' := .f32) A (Rect.unit (s := S256x2048) ![0, o'] ![256, 256] i3)) x
      = A (ix2 j ⟨1024 + (b.val * 256 + l.val), by omega⟩) + bdv x0 x1 x2 b j l := by
  obtain ⟨rfl, hl⟩ := pick ho (x 1).isLt (show b.val * 256 + l.val = o + (x 1).val by omega)
  obtain rfl : x = ix2 j l := by
    rw [eq_ix2 x]
    exact congrArg₂ ix2 (Fin.ext h0.symm) (Fin.ext hl.symm)
  rw [dv_ld x0 x1 x2 b o ho]
  subst ho ho'
  refine congrArg (· + _) ((ld_at A _ i3 j l (by omega)).trans (congrArg A (congrArg (ix2 j) (Fin.ext ?_))))
  dsimp only; omega

/-- What one head's store of its queries' gradient leaves. -/
theorem dq_x (b' : Fin 4) (o o' : ℕ) (ho : o = b'.val * 256) (ho' : o' = 1024 + b'.val * 256) (i1) (i2) (i3)
    (r : Fin 512) (b : Fin 4) (l : Fin 256) (x : S512x256.Idx) (h0 : r.val = (x 0).val) (h1 : b.val * 256 + l.val = o + (x 1).val) :
    k0_pay6 (F := Ideal) (lq x0 o i1) (lk x1 o i2) (lk x1 o' i3) (lo x2 o i1) x = bdq x0 x1 x2 r b l := by
  obtain ⟨rfl, hl⟩ := pick ho (x 1).isLt h1
  obtain rfl : x = ix2 r l := by
    rw [eq_ix2 x]
    exact congrArg₂ ix2 (Fin.ext h0.symm) (Fin.ext hl.symm)
  exact dq_ld x0 x1 x2 b o o' ho ho' i1 i2 i3 r l

/-- The fill is zero. -/
theorem fill_add (j : Fin 256) (k : Fin 2048) (x : EReal) : k0_pay2 (F := Ideal) (ix2 j k) + x = x :=
  (congrArg (· + x) (fill_at j k)).trans (zero_add x)

variable (m : (ℓ : Loc nD τ sig) → Buf (Elt Ideal) ℓ)

/-- The first block after a point: the queries' gradient. -/
theorem out3_at (c : Dev nD) (t : Fin cfg0.N) (r : Fin 512) (b : Fin 4) (l : Fin 256) :
    (outsAt0 m c t.val t.isLt).1 (ix2 r ⟨b * 256 + l, by omega⟩) = bdq (iblk m c 0 t) (iblk m c 1 t) (iblk m c 2 t) r b l := by
  by_cases h : t.val % 4 = 0
  · rw [outsAt0_A m c t h]; frame_out
    canon_tiles x h
    · rw [dq3]; exact dq_x _ _ _ 3 _ _ rfl rfl _ _ _ r b l x h0 h1
    · rw [dq2]; exact dq_x _ _ _ 2 _ _ rfl rfl _ _ _ r b l x h0 h1
    · rw [dq1]; exact dq_x _ _ _ 1 _ _ rfl rfl _ _ _ r b l x h0 h1
    · exact dq_x _ _ _ 0 _ _ rfl rfl _ _ _ r b l x h0 (h1.trans (Nat.zero_add _).symm)
  · rw [outsAt0_B m c t h]; frame_out
    canon_tiles x h
    · rw [dq3]; exact dq_x _ _ _ 3 _ _ rfl rfl _ _ _ r b l x h0 h1
    · rw [dq2]; exact dq_x _ _ _ 2 _ _ rfl rfl _ _ _ r b l x h0 h1
    · rw [dq1]; exact dq_x _ _ _ 1 _ _ rfl rfl _ _ _ r b l x h0 h1
    · exact dq_x _ _ _ 0 _ _ rfl rfl _ _ _ r b l x h0 (h1.trans (Nat.zero_add _).symm)

/-- The second block after the first point: the keys' gradient. -/
theorem first_k (c : Dev nD) (t : Fin cfg0.N) (h : t.val % 4 = 0) (b : Fin 4) (j l : Fin 256) :
    (outsAt0 m c t.val t.isLt).2 (ix2 j ⟨b * 256 + l, by omega⟩)
      = bdk (iblk m c 0 t) (iblk m c 1 t) (iblk m c 2 t) b j l := by
  rw [outsAt0_A m c t h]; frame_out
  simp (disch := decide) only [↓View.readCov_skip, ↓View.readCov_fill]
  refine (canon_init _ _ [_, _, _, _, _, _, _, _] (View.cover_of_tiled_head _ _ _ (by rfl) _)).trans ?_
  canon_tiles x h
  · exfalso; simp only [ix2_1] at h1; omega
  · rw [dk3]; exact (dk_x _ _ _ _ 3 _ _ rfl rfl _ _ _ b j l x h0 h1).trans (fill_add _ _ _)
  · exfalso; simp only [ix2_1] at h1; omega
  · rw [dk2]; exact (dk_x _ _ _ _ 2 _ _ rfl rfl _ _ _ b j l x h0 h1).trans (fill_add _ _ _)
  · exfalso; simp only [ix2_1] at h1; omega
  · rw [dk1]; exact (dk_x _ _ _ _ 1 _ _ rfl rfl _ _ _ b j l x h0 h1).trans (fill_add _ _ _)
  · exfalso; simp only [ix2_1] at h1; omega
  · exact (dk_x _ _ _ _ 0 _ _ rfl rfl _ _ _ b j l x h0 (h1.trans (Nat.zero_add _).symm)).trans (fill_add _ _ _)

/-- The second block after the first point: the values' gradient. -/
theorem first_v (c : Dev nD) (t : Fin cfg0.N) (h : t.val % 4 = 0) (b : Fin 4) (j l : Fin 256) :
    (outsAt0 m c t.val t.isLt).2 (ix2 j ⟨1024 + (b * 256 + l), by omega⟩)
      = bdv (iblk m c 0 t) (iblk m c 1 t) (iblk m c 2 t) b j l := by
  rw [outsAt0_A m c t h]; frame_out
  simp (disch := decide) only [↓View.readCov_skip, ↓View.readCov_fill]
  refine (canon_init _ _ [_, _, _, _, _, _, _, _] (View.cover_of_tiled_head _ _ _ (by rfl) _)).trans ?_
  canon_tiles x h
  · rw [dv3]; exact (dv_x _ _ _ _ 3 768 _ rfl rfl _ _ _ b j l x h0 h1).trans (fill_add _ _ _)
  · exfalso; simp only [ix2_1] at h1; omega
  · rw [dv2]; exact (dv_x _ _ _ _ 2 512 _ rfl rfl _ _ _ b j l x h0 h1).trans (fill_add _ _ _)
  · exfalso; simp only [ix2_1] at h1; omega
  · rw [dv1]; exact (dv_x _ _ _ _ 1 256 _ rfl rfl _ _ _ b j l x h0 h1).trans (fill_add _ _ _)
  · exfalso; simp only [ix2_1] at h1; omega
  · exact (dv_x _ _ _ _ 0 0 _ rfl rfl _ _ _ b j l x h0 h1).trans (fill_add _ _ _)
  · exfalso; simp only [ix2_1] at h1; omega

/-- The second block after a later point: the keys' gradient grows by the point's rows. -/
theorem next_k (c : Dev nD) (t : Fin cfg0.N) (h : ¬t.val % 4 = 0) (b : Fin 4) (j l : Fin 256) :
    (outsAt0 m c t.val t.isLt).2 (ix2 j ⟨b * 256 + l, by omega⟩)
      = (outsAt0 m c (t.val - 1) (Nat.lt_of_le_of_lt (Nat.sub_le _ _) t.isLt)).2 (ix2 j ⟨b * 256 + l, by omega⟩)
        + bdk (iblk m c 0 t) (iblk m c 1 t) (iblk m c 2 t) b j l := by
  rw [outsAt0_B m c t h]; frame_out
  canon_tiles x h
  · exfalso; simp only [ix2_1] at h1; omega
  · rw [dk3]; exact dk_x _ _ _ _ 3 _ _ rfl rfl _ _ _ b j l x h0 h1
  · exfalso; simp only [ix2_1] at h1; omega
  · rw [dk2]; exact dk_x _ _ _ _ 2 _ _ rfl rfl _ _ _ b j l x h0 h1
  · exfalso; simp only [ix2_1] at h1; omega
  · rw [dk1]; exact dk_x _ _ _ _ 1 _ _ rfl rfl _ _ _ b j l x h0 h1
  · exfalso; simp only [ix2_1] at h1; omega
  · exact dk_x _ _ _ _ 0 _ _ rfl rfl _ _ _ b j l x h0 (h1.trans (Nat.zero_add _).symm)

/-- The second block after a later point: the values' gradient grows by the point's rows. -/
theorem next_v (c : Dev nD) (t : Fin cfg0.N) (h : ¬t.val % 4 = 0) (b : Fin 4) (j l : Fin 256) :
    (outsAt0 m c t.val t.isLt).2 (ix2 j ⟨1024 + (b * 256 + l), by omega⟩)
      = (outsAt0 m c (t.val - 1) (Nat.lt_of_le_of_lt (Nat.sub_le _ _) t.isLt)).2 (ix2 j ⟨1024 + (b * 256 + l), by omega⟩)
        + bdv (iblk m c 0 t) (iblk m c 1 t) (iblk m c 2 t) b j l := by
  rw [outsAt0_B m c t h]; frame_out
  canon_tiles x h
  · rw [dv3]; exact dv_x _ _ _ _ 3 768 _ rfl rfl _ _ _ b j l x h0 h1
  · exfalso; simp only [ix2_1] at h1; omega
  · rw [dv2]; exact dv_x _ _ _ _ 2 512 _ rfl rfl _ _ _ b j l x h0 h1
  · exfalso; simp only [ix2_1] at h1; omega
  · rw [dv1]; exact dv_x _ _ _ _ 1 256 _ rfl rfl _ _ _ b j l x h0 h1
  · exfalso; simp only [ix2_1] at h1; omega
  · exact dv_x _ _ _ _ 0 0 _ rfl rfl _ _ _ b j l x h0 h1
  · exfalso; simp only [ix2_1] at h1; omega

end Cert.KernelIdeal.Attn
-- ==== Proof.Attn.Ref.lean ====
/- The reference of the attention gradient, read at an index: its stages over a head's rows are the functions of
   `Attn/Spec.lean`. -/
module

public import proofs.«01_k».proof.Proof.Attn.Spec
public import proofs.«01_k».proof.Proof.Gen.ReferenceIdeal.Read
public import Idealize.ShloMosaic.Lib.Pointwise
public import Idealize.ShloMosaic.Lib.Claim

@[expose] public section

set_option maxRecDepth 16384

noncomputable section

namespace Cert.ReferenceIdeal.Attn

open Idealize.ShloMosaic Idealize.SL.Sem Cert.Attn Cert.ReferenceIdeal Cert.ReferenceIdeal.Gen Cert.ReferenceIdeal.Read

variable (x0 : (⟨S2048x5120, .f32⟩ : BufTy).Contents (Elt Ideal)) (x1 : (⟨S256x2048, .bf16⟩ : BufTy).Contents (Elt Ideal))
  (x2 : (⟨S2048x3072, .bf16⟩ : BufTy).Contents (Elt Ideal)) (x3 : (⟨S2048x5120, .bf16⟩ : BufTy).Contents (Elt Ideal))

/-- Head `b` of query row `i`. -/
def Q (i : Fin 2048) (b : Fin 4) (d : Fin 256) : EReal := x0 (ix2 i ⟨4096 + (b * 256 + d), by omega⟩)
/-- Head `b` of the gradient row `i` coming in. -/
def O (i : Fin 2048) (b : Fin 4) (d : Fin 256) : EReal := x2 (ix2 i ⟨2048 + (b * 256 + d), by omega⟩)
/-- Head `b`'s keys. -/
def K (b : Fin 4) (j d : Fin 256) : EReal := x1 (ix2 j ⟨b * 256 + d, by omega⟩)
/-- Head `b`'s values. -/
def W (b : Fin 4) (j d : Fin 256) : EReal := x1 (ix2 j ⟨1024 + (b * 256 + d), by omega⟩)

theorem v8_at (i : Fin 2048) (b : Fin 4) (d : Fin 256) : val_main_v8 (F := Ideal) x0 (ix3 i b d) = Q x0 i b d := by
  unfold val_main_v8 val_main_v0
  pointwise; rfl

theorem v5_at (j : Fin 256) (b : Fin 4) (d : Fin 256) : val_main_v5 (F := Ideal) x1 (ix3 j b d) = K x1 b j d := by
  unfold val_main_v5 val_main_v4 val_main_v3
  pointwise; rfl

theorem v7_at (j : Fin 256) (b : Fin 4) (d : Fin 256) : val_main_v7 (F := Ideal) x1 (ix3 j b d) = W x1 b j d := by
  unfold val_main_v7 val_main_v6 val_main_v3
  pointwise; rfl

theorem v44_at (i : Fin 2048) (b : Fin 4) (d : Fin 256) : val_main_v44 (F := Ideal) x2 (ix3 b d i) = O x2 i b d := by
  unfold val_main_v44 val_main_v43 val_main_v2 val_main_v1
  pointwise; rfl

theorem v11_at (b : Fin 4) (i : Fin 2048) (j : Fin 256) :
    val_main_v11 (F := Ideal) x0 x1 (ix3 b i j) = score (Q x0 i b) (K x1 b) j := by
  have h : val_main_v9 (F := Ideal) x0 x1 (ix3 b i j) = ∑ d, Q x0 i b d * K x1 b j d := by
    rw [val_main_v9_apply]
    refine Finset.sum_congr rfl fun d _ => ?_
    rw [← v8_at, ← v5_at]
    congr 2 <;> idx_ext
  unfold val_main_v11 val_main_v10 val_main_cst score scale
  pointwise [h]

theorem v45_at (b : Fin 4) (i : Fin 2048) (j : Fin 256) :
    val_main_v45 (F := Ideal) x1 x2 (ix3 b i j) = ∑ d, O x2 i b d * W x1 b j d := by
  rw [val_main_v45_apply]
  refine Finset.sum_congr rfl fun d _ => ?_
  rw [← v44_at, ← v7_at]
  congr 2 <;> idx_ext

theorem v12_at (b : Fin 4) (i : Fin 2048) :
    val_main_v12 (F := Ideal) x0 x1 (ix2 b i) = top (score (Q x0 i b) (K x1 b)) := by
  unfold val_main_v12 val_main_cst_0 top
  pointwise [v11_at]

theorem v19_at (b : Fin 4) (i : Fin 2048) :
    val_main_v19 (F := Ideal) x0 x1 (ix2 b i) = top (score (Q x0 i b) (K x1 b)) := by
  rw [val_main_v19_apply, val_main_v18_apply, val_main_cst_2_apply, v12_at]
  exact max_bot_top _

theorem v32_at (b : Fin 4) (i : Fin 2048) (j : Fin 256) :
    val_main_v32 (F := Ideal) x0 x1 (ix3 b i j) = num (score (Q x0 i b) (K x1 b)) j := by
  unfold val_main_v32 val_main_v31 val_main_v30 val_main_v29 num
  pointwise [v11_at, v19_at]

theorem v33_at (b : Fin 4) (i : Fin 2048) :
    val_main_v33 (F := Ideal) x0 x1 (ix2 b i) = den (score (Q x0 i b) (K x1 b)) := by
  unfold val_main_v33 val_main_cst_8 den
  pointwise [v32_at]

theorem v36_at (b : Fin 4) (i : Fin 2048) (j : Fin 256) :
    val_main_v36 (F := Ideal) x0 x1 (ix3 b i j) = prob (score (Q x0 i b) (K x1 b)) j := by
  unfold val_main_v36 val_main_v35 val_main_v34 prob
  pointwise [v32_at, v33_at]

theorem v50_at (b : Fin 4) (i : Fin 2048) (j : Fin 256) :
    val_main_v50 (F := Ideal) x0 x1 x2 (ix3 b i j) = (∑ d, O x2 i b d * W x1 b j d)
      * Ideal.div (Ideal.ofBits .f32 0x3F800000#32) (den (score (Q x0 i b) (K x1 b)) * den (score (Q x0 i b) (K x1 b)))
      * num (score (Q x0 i b) (K x1 b)) j := by
  unfold val_main_v50 val_main_v49 val_main_v48 val_main_v39 val_main_v38 val_main_v37 val_main_v34 val_main_cst_9
  pointwise [v45_at, v32_at, v33_at]

/-- The gradient of the scores. -/
theorem v61_at (b : Fin 4) (i : Fin 2048) (j : Fin 256) :
    val_main_v61 (F := Ideal) x0 x1 x2 (ix3 b i j)
      = dscoreQ (score (Q x0 i b) (K x1 b)) (fun j => ∑ d, O x2 i b d * W x1 b j d) j := by
  unfold val_main_v61 val_main_v60 val_main_v59 val_main_v58 val_main_v57 val_main_v56 val_main_v55 val_main_v54 val_main_v53
    val_main_v52 val_main_v51 val_main_v34 val_main_cst_10 val_main_cst_11 val_main_cst_12 dscoreQ scale
  pointwise [v45_at, v32_at, v33_at, v50_at]
  rw [Fin.sum_univ_one]

/-- The gradient of the queries. -/
theorem v64_at (b : Fin 4) (i : Fin 2048) (l : Fin 256) :
    val_main_v64 (F := Ideal) x0 x1 x2 (ix3 b i l)
      = ∑ j, dscoreQ (score (Q x0 i b) (K x1 b)) (fun j => ∑ d, O x2 i b d * W x1 b j d) j * K x1 b j l := by
  rw [val_main_v64_apply]
  refine Finset.sum_congr rfl fun j _ => ?_
  rw [← v61_at, ← v5_at]
  congr 2 <;> idx_ext

/-- The gradient of the keys. -/
theorem v62_at (b : Fin 4) (j l : Fin 256) :
    val_main_v62 (F := Ideal) x0 x1 x2 (ix3 b j l)
      = ∑ i, dscoreQ (score (Q x0 i b) (K x1 b)) (fun j => ∑ d, O x2 i b d * W x1 b j d) j * Q x0 i b l := by
  rw [val_main_v62_apply]
  refine Finset.sum_congr rfl fun i _ => ?_
  rw [← v61_at, ← v8_at]
  congr 2 <;> idx_ext

/-- The gradient of the values. -/
theorem v46_at (b : Fin 4) (j l : Fin 256) :
    val_main_v46 (F := Ideal) x0 x1 x2 (ix3 b l j)
      = ∑ i, O x2 i b l * prob (score (Q x0 i b) (K x1 b)) j := by
  rw [val_main_v46_apply]
  refine Finset.sum_congr rfl fun i _ => ?_
  rw [← v44_at, ← v36_at]
  congr 2 <;> idx_ext

/-- The first result: the queries' gradient in the last 1024 columns, the array as it was in the others. -/
theorem v74_at (i : Fin 2048) (b : Fin 4) (l : Fin 256) :
    val_main_v74 (F := Ideal) x0 x1 x2 x3 (ix2 i ⟨4096 + (b * 256 + l), by omega⟩)
      = ∑ j, dscoreQ (score (Q x0 i b) (K x1 b)) (fun j => ∑ d, O x2 i b d * W x1 b j d) j * K x1 b j l := by
  rw [← v64_at]
  unfold val_main_v74 val_main_v73 val_main_v66 val_main_v65
  pointwise

theorem v74_old (i : Fin 2048) (k : Fin 4096) :
    val_main_v74 (F := Ideal) x0 x1 x2 x3 (ix2 i ⟨k, by omega⟩) = x3 (ix2 i ⟨k, by omega⟩) := by
  unfold val_main_v74 val_main_v72
  pointwise

/-- The second result: the keys' gradient in the first 1024 columns, -/
theorem v71_key (j : Fin 256) (b : Fin 4) (l : Fin 256) :
    val_main_v71 (F := Ideal) x0 x1 x2 (ix2 j ⟨b * 256 + l, by omega⟩)
      = ∑ i, dscoreQ (score (Q x0 i b) (K x1 b)) (fun j => ∑ d, O x2 i b d * W x1 b j d) j * Q x0 i b l := by
  rw [← v62_at]
  unfold val_main_v71 val_main_v68 val_main_v70 val_main_v69 val_main_v63 val_main_cst_13 val_main_cst_14
  pointwise
  rw [dif_neg (by omega), dif_pos (by omega), zero_add]

/-- and the values' gradient in the last 1024. -/
theorem v71_val (j : Fin 256) (b : Fin 4) (l : Fin 256) :
    val_main_v71 (F := Ideal) x0 x1 x2 (ix2 j ⟨1024 + (b * 256 + l), by omega⟩)
      = ∑ i, O x2 i b l * prob (score (Q x0 i b) (K x1 b)) j := by
  rw [← v46_at]
  unfold val_main_v71 val_main_v68 val_main_v70 val_main_v67 val_main_v47 val_main_cst_13 val_main_cst_14
  pointwise
  rw [dif_pos (by omega)]

end Cert.ReferenceIdeal.Attn
-- ==== Proof.Attn.Arr.lean ====
/- The two arrays that the attention gradient's kernel leaves: its reference's two results. -/
module

public import proofs.«01_k».proof.Proof.Attn.Point
public import proofs.«01_k».proof.Proof.Attn.Ref

@[expose] public section

set_option maxRecDepth 16384

noncomputable section

namespace Cert.KernelIdeal.Attn

open Idealize.ShloMosaic Idealize.SL.Sem Cert.Attn Cert.KernelIdeal Cert.KernelIdeal.Gen
open Cert.ReferenceIdeal.Attn (Q K O W)

variable (m : (ℓ : Loc nD τ sig) → Buf (Elt Ideal) ℓ)

abbrev p0 (c : Dev nD) := m ((c.tc : Thread nD τ).loc main_arg0)
abbrev p1 (c : Dev nD) := m ((c.tc : Thread nD τ).loc main_arg1)
abbrev p2 (c : Dev nD) := m ((c.tc : Thread nD τ).loc main_arg2)
abbrev p3 (c : Dev nD) := m ((c.tc : Thread nD τ).loc main_arg3)

theorem lt1 (b : Fin 4) (l : Fin 256) : b.val * 256 + l.val < 1024 := by omega
theorem lt2 (b : Fin 4) (l : Fin 256) : b.val * 256 + l.val < 2048 := by omega
theorem lt3 (b : Fin 4) (l : Fin 256) : 1024 + (b.val * 256 + l.val) < 2048 := by omega

theorem idx : ∀ t : Fin cfg0.N, win0_0.index t = ![t.val, 4] ∧ win0_1.index t = ![0, 0] ∧ win0_2.index t = ![t.val, 2]
    ∧ win0_3.index t = ![t.val, 4] ∧ win0_4.index t = ![0, 0] :=
  (by decide +kernel : ∀ t : Fin grid0.N, _)

/-- Row `r` of the block of rows that point `t` reads. -/
def row (t : Fin cfg0.N) (r : Fin 512) : Fin 2048 := ⟨t.val * 512 + r.val, by have := t.isLt; have : cfg0.N = 4 := N_0; omega⟩

theorem blkQ (c : Dev nD) (t : Fin cfg0.N) (r : Fin 512) (b : Fin 4) (d : Fin 256) :
    iblk m c 0 t (ix2 r ⟨b * 256 + d, by omega⟩) = Q (p0 m c) (row t r) b d := by
  unfold Q p0 row
  blk_ext [iblk, Gen.V, idx t]

theorem blkO (c : Dev nD) (t : Fin cfg0.N) (r : Fin 512) (b : Fin 4) (d : Fin 256) :
    iblk m c 2 t (ix2 r ⟨b * 256 + d, by omega⟩) = O (p2 m c) (row t r) b d := by
  unfold O p2 row
  blk_ext [iblk, Gen.V, idx t]

theorem blkK (c : Dev nD) (t : Fin cfg0.N) (b : Fin 4) (j d : Fin 256) :
    iblk m c 1 t (ix2 j ⟨b * 256 + d, by omega⟩) = K (p1 m c) b j d := by
  unfold K p1
  blk_ext [iblk, Gen.V, idx t]

theorem blkV (c : Dev nD) (t : Fin cfg0.N) (b : Fin 4) (j d : Fin 256) :
    iblk m c 1 t (ix2 j ⟨1024 + (b * 256 + d), by omega⟩) = W (p1 m c) b j d := by
  unfold W p1
  blk_ext [iblk, Gen.V, idx t]

theorem bsc_eq (c : Dev nD) (t : Fin cfg0.N) (r : Fin 512) (b : Fin 4) :
    bsc (iblk m c 0 t) (iblk m c 1 t) r b = score (Q (p0 m c) (row t r) b) (K (p1 m c) b) := by
  unfold bsc
  congr 1
  · funext d; exact blkQ m c t r b d
  · funext j d; exact blkK m c t b j d

theorem bdp_eq (c : Dev nD) (t : Fin cfg0.N) (r : Fin 512) (b : Fin 4) :
    bdp (iblk m c 1 t) (iblk m c 2 t) r b = fun j => ∑ d, O (p2 m c) (row t r) b d * W (p1 m c) b j d := by
  funext j
  unfold bdp
  exact Finset.sum_congr rfl fun d _ => congrArg₂ _ (blkO m c t r b d) (blkV m c t b j d)

/-- The gradient of one row's scores in head `b`. -/
abbrev ds (c : Dev nD) (i : Fin 2048) (b : Fin 4) : Fin 256 → EReal :=
  dscore (score (Q (p0 m c) i b) (K (p1 m c) b)) fun j => ∑ d, O (p2 m c) i b d * W (p1 m c) b j d

/-- One row's softmax in head `b`. -/
abbrev pr (c : Dev nD) (i : Fin 2048) (b : Fin 4) : Fin 256 → EReal := prob (score (Q (p0 m c) i b) (K (p1 m c) b))

theorem bdq_eq (c : Dev nD) (t : Fin cfg0.N) (r : Fin 512) (b : Fin 4) (l : Fin 256) :
    bdq (iblk m c 0 t) (iblk m c 1 t) (iblk m c 2 t) r b l = ∑ j, ds m c (row t r) b j * K (p1 m c) b j l := by
  unfold bdq
  rw [bsc_eq, bdp_eq]
  exact Finset.sum_congr rfl fun j _ => congrArg _ (blkK m c t b j l)

theorem bdk_eq (c : Dev nD) (t : Fin cfg0.N) (b : Fin 4) (j l : Fin 256) :
    bdk (iblk m c 0 t) (iblk m c 1 t) (iblk m c 2 t) b j l = ∑ r, ds m c (row t r) b j * Q (p0 m c) (row t r) b l := by
  unfold bdk
  refine Finset.sum_congr rfl fun r _ => ?_
  rw [bsc_eq, bdp_eq]
  exact congrArg _ (blkQ m c t r b l)

theorem bdv_eq (c : Dev nD) (t : Fin cfg0.N) (b : Fin 4) (j l : Fin 256) :
    bdv (iblk m c 0 t) (iblk m c 1 t) (iblk m c 2 t) b j l = ∑ r, pr m c (row t r) b j * O (p2 m c) (row t r) b l := by
  unfold bdv
  refine Finset.sum_congr rfl fun r _ => ?_
  rw [bsc_eq]
  exact congrArg _ (blkO m c t r b l)

/-- A sum over the points of sums over a point's rows is the sum over the rows. -/
theorem sum_rows (f : Fin 2048 → EReal) : ∑ t : Fin cfg0.N, ∑ r : Fin 512, f (row t r) = ∑ i, f i :=
  (Fin.sum_univ_tiles 4 512 rfl f).symm

/-- The keys' gradient after all points. -/
theorem last_k (c : Dev nD) (b : Fin 4) (j l : Fin 256) :
    (outsAt0 m c t0_3.val t0_3.isLt).2 (ix2 j ⟨b * 256 + l, by omega⟩) = ∑ i, ds m c i b j * Q (p0 m c) i b l := by
  have h := Pipeline.eq_sum_fin_of_reset_step_apply_last
    (fun n h => fun _ : Unit => (outsAt0 m c n h).2 (ix2 j ⟨b * 256 + l, by omega⟩)) 4 (fun _ => 0)
    (fun t _ => bdk (iblk m c 0 t) (iblk m c 1 t) (iblk m c 2 t) b j l)
    (fun t h _ => (first_k m c t h b j l).trans (zero_add _).symm) (fun t h _ => next_k m c t h b j l)
    (le_of_eq N_0) t0_3 rfl ()
  refine h.trans ((zero_add _).trans ?_)
  simp only [bdk_eq]
  exact sum_rows fun i => ds m c i b j * Q (p0 m c) i b l

/-- The values' gradient after all points. -/
theorem last_v (c : Dev nD) (b : Fin 4) (j l : Fin 256) :
    (outsAt0 m c t0_3.val t0_3.isLt).2 (ix2 j ⟨1024 + (b * 256 + l), by omega⟩) = ∑ i, pr m c i b j * O (p2 m c) i b l := by
  have h := Pipeline.eq_sum_fin_of_reset_step_apply_last
    (fun n h => fun _ : Unit => (outsAt0 m c n h).2 (ix2 j ⟨1024 + (b * 256 + l), by omega⟩)) 4 (fun _ => 0)
    (fun t _ => bdv (iblk m c 0 t) (iblk m c 1 t) (iblk m c 2 t) b j l)
    (fun t h _ => (first_v m c t h b j l).trans (zero_add _).symm) (fun t h _ => next_v m c t h b j l)
    (le_of_eq N_0) t0_3 rfl ()
  refine h.trans ((zero_add _).trans ?_)
  simp only [bdv_eq]
  exact sum_rows fun i => pr m c i b j * O (p2 m c) i b l

/-- The array of the projections' gradient: written in the queries' columns, as it was in the others. -/
theorem arr3 (c : Dev nD) (h : ∀ i b j, ∃ r : ℝ, score (Q (p0 m c) i b) (K (p1 m c) b) j = r) :
    (dats m 0 c).arrAt 3 cfg0.N = Cert.ReferenceIdeal.Read.val_main_v74 (F := Ideal) (p0 m c) (p1 m c) (p2 m c) (p3 m c) := by
  have e : (dats m 0 c).arrAt 3 cfg0.N = fun i => if 4 * 1024 ≤ (i 1 : ℕ) then
      Cert.ReferenceIdeal.Read.val_main_v74 (F := Ideal) (p0 m c) (p1 m c) (p2 m c) (p3 m c) i else Gen.V m c main_v0_0 i := by
    refine (dats m 0 c).arrAt_eq_of_coversWhere 3 _ (fun β => 4 ≤ β 1) (by decide +kernel) (fun t hf y => ?_)
      (fun j => by blk_simp [Pipeline.Window.cell_apply]; omega)
    blk_simp
    rw [after0_3]
    obtain ⟨r, l', rfl⟩ : ∃ (r : Fin 512) (l : Fin 1024), y = ix2 r l := ⟨y 0, y 1, eq_ix2 y⟩
    obtain ⟨b, l, rfl⟩ : ∃ (b : Fin 4) (l : Fin 256), l' = ⟨b * 256 + l, lt1 b l⟩ :=
      ⟨⟨l' / 256, by omega⟩, ⟨l' % 256, by omega⟩, Fin.ext (by dsimp only; omega)⟩
    rw [out3_at, bdq_eq]
    refine Eq.trans ?_ ((Cert.ReferenceIdeal.Attn.v74_at (p0 m c) (p1 m c) (p2 m c) (p3 m c) (row t r) b l).symm.trans ?_)
    · simp only [dscoreQ_eq _ _ (h _ _)]
    · unfold row
      blk_ext [idx t]
  rw [e]
  funext i
  obtain ⟨r, k, rfl⟩ : ∃ (r : Fin 2048) (l : Fin 5120), i = ix2 r l := ⟨i 0, i 1, eq_ix2 i⟩
  by_cases hk : 4 * 1024 ≤ k.val
  · exact if_pos hk
  · refine (if_neg hk).trans (Eq.trans ?_ (Cert.ReferenceIdeal.Attn.v74_old (p0 m c) (p1 m c) (p2 m c) (p3 m c) r ⟨k, by omega⟩).symm)
    entry_read
    rfl

/-- The array of the keys' and values' gradients. -/
theorem arr4 (c : Dev nD) (h : ∀ i b j, ∃ r : ℝ, score (Q (p0 m c) i b) (K (p1 m c) b) j = r) :
    (dats m 0 c).arrAt 4 cfg0.N = Cert.ReferenceIdeal.Read.val_main_v71 (F := Ideal) (p0 m c) (p1 m c) (p2 m c) := by
  refine (dats m 0 c).arrAt_eq_of_after_last 4 t0_3 (by decide +kernel) _ fun j => ?_
  blk_simp
  rw [after0_4]
  obtain ⟨j, k, rfl⟩ : ∃ (r : Fin 256) (l : Fin 2048), j = ix2 r l := ⟨j 0, j 1, eq_ix2 j⟩
  by_cases hk : k.val < 1024
  · obtain ⟨b, l, rfl⟩ : ∃ (b : Fin 4) (l : Fin 256), k = ⟨b * 256 + l, lt2 b l⟩ :=
      ⟨⟨k / 256, by omega⟩, ⟨k % 256, by omega⟩, Fin.ext (by dsimp only; omega)⟩
    refine (last_k m c b j l).trans (Eq.trans ?_ (Cert.ReferenceIdeal.Attn.v71_key (p0 m c) (p1 m c) (p2 m c) j b l).symm)
    simp only [dscoreQ_eq _ _ (h _ _)]
  · obtain ⟨b, l, rfl⟩ : ∃ (b : Fin 4) (l : Fin 256), k = ⟨1024 + (b * 256 + l), lt3 b l⟩ :=
      ⟨⟨(k - 1024) / 256, by omega⟩, ⟨(k - 1024) % 256, by omega⟩, Fin.ext (by dsimp only; omega)⟩
    refine (last_v m c b j l).trans (Eq.trans ?_ (Cert.ReferenceIdeal.Attn.v71_val (p0 m c) (p1 m c) (p2 m c) j b l).symm)
    exact Finset.sum_congr rfl fun i _ => mul_comm _ _

end Cert.KernelIdeal.Attn
-- ==== Proof.Attn.Pre.lean ====
/- The precondition of the attention gradient: the queries and the keys are finite. -/
module

public import proofs.«01_k».proof.Proof.Attn.Ref
public import proofs.«01_k».proof.Pre_finite_q_and_k
public import Idealize.ShloMosaic.Lib.Pointwise

@[expose] public section

set_option maxRecDepth 16384

noncomputable section

namespace Cert.Attn

open Idealize.ShloMosaic

theorem and_bits (x y : BitVec 1) (h : IntOp.andi x y = 1#1) : x = 1#1 ∧ y = 1#1 := by revert x y; decide

/-- A conjunction of bits is one only if each of them is. -/
theorem fold_andi {ι : Type} [DecidableEq ι] (u : Finset ι) (f : ι → BitVec 1) (b : BitVec 1) (h : u.fold IntOp.andi b f = 1#1) :
    ∀ i ∈ u, f i = 1#1 := by
  induction u using Finset.induction_on with
  | empty => intro i hi; exact absurd hi (Finset.notMem_empty i)
  | insert a u ha ih =>
      rw [Finset.fold_insert ha] at h
      have h2 := and_bits _ _ h
      intro i hi
      rcases Finset.mem_insert.mp hi with rfl | hi
      · exact h2.1
      · exact ih h2.2 i hi

theorem reduce_andi {s : Shape} {axes : List (Fin s.rank)} (x : IVec s 1) (v : IVec ⟨0, ![]⟩ 1) (h : s.ReducesTo axes ⟨0, ![]⟩) (hu) (j)
    (e : Host.reduce IntOp.andi x v h hu j = 1#1) (i : s.Idx) : x i = 1#1 := by
  classical
  rw [Host.reduce_eq_fold] at e
  exact fold_andi _ _ _ e i (Finset.mem_filter.mpr ⟨Finset.mem_univ _, funext fun a => a.elim0⟩)

theorem ofBits_top : Ideal.ofBits .f32 0x7F800000#32 = ⊤ := by simp [Ideal.ofBits, Ideal.ieee]

/-- A number whose absolute value is below infinity is real. -/
theorem real_of_abs (x : EReal) (h : Ideal.cmp .olt (max x (-x)) (Ideal.ofBits .f32 0x7F800000#32) = 1#1) : ∃ r : ℝ, x = r := by
  rw [ofBits_top] at h
  have h2 : max x (-x) < ⊤ := by
    by_contra hn
    simp [Ideal.cmp, hn] at h
  rw [max_lt_iff] at h2
  induction x with
  | bot => simp at h2
  | top => simp at h2
  | coe r => exact ⟨r, rfl⟩

end Cert.Attn

namespace Cert.Pre_finite_q_and_k

open Idealize.ShloMosaic Cert.Attn Cert.ReferenceIdeal.Attn

theorem facts : Facts where
  slices_S2048x5120_S2048x1024_0_4096 := by decide
  bcast_S_S2048x1024 := by decide
  slices_S256x2048_S256x1024_0_0 := by decide
  bitsLt_bf16_f32 := by decide
  bcast_S_S256x1024 := by decide
  reducesTo_S2048x1024_S_d0_1 := by decide
  h_S_ := by decide
  reducesTo_S256x1024_S_d0_1 := by decide

theorem fn_iff [Facts] (x0 : FVec Ideal S2048x5120 .f32) (x1 : FVec Ideal S256x2048 .bf16) (x2 : FVec Ideal S2048x3072 .bf16)
    (x3 : FVec Ideal S2048x5120 .bf16) (h : fn (F := Ideal) x0 x1 x2 x3 = fun _ => 1#1) :
    (∀ i b d, ∃ r : ℝ, Q x0 i b d = r) ∧ ∀ b j d, ∃ r : ℝ, K x1 b j d = r := by
  have h0 := congrFun h (Shape.Idx.first Facts.h_S_)
  unfold fn at h0
  dsimp only at h0
  have h1 := and_bits _ _ h0
  constructor
  · intro i b d
    have h2 := reduce_andi _ _ _ _ _ h1.1 (ix2 i ⟨b * 256 + d, by omega⟩)
    pointwise at h2
    exact real_of_abs _ h2
  · intro b j d
    have h2 := reduce_andi _ _ _ _ _ h1.2 (ix2 j ⟨b * 256 + d, by omega⟩)
    pointwise at h2
    exact real_of_abs _ h2

end Cert.Pre_finite_q_and_k
-- ==== Proof.Attn.Claim.lean ====
/- The attention gradient's kernel and its reference leave the same arrays. -/
module

public import proofs.«01_k».proof.Defs
public import proofs.«01_k».proof.Proof.Attn.Arr
public import proofs.«01_k».proof.Proof.Attn.Pre
public import proofs.«01_k».proof.Proof.Gen.ReferenceIdeal.Run
public import Idealize.ShloMosaic.Lib.Quiescent
public import proofs.«01_k».proof.Proof.Gen.KernelIdeal
public import proofs.«01_k».proof.Proof.Gen.ReferenceIdeal

@[expose] public section

set_option maxRecDepth 16384

noncomputable section

namespace Cert.Attn

open Idealize.ShloMosaic Idealize.SL.Sem

attribute [local instance] Cert.KernelIdeal.Gen.facts Cert.ReferenceIdeal.Gen.facts Cert.Pre_finite_q_and_k.facts

theorem quiescent_ref : Cert.quiescent_ReferenceIdeal := by
  intro m g _
  run_from Cert.ReferenceIdeal.Value.run m g
  · exact fun c => ⟨trivial, trivial, trivial, trivial⟩
  · exact sem_eq_zero_of_no_sems (by decide) _

theorem algebraic : Cert.algebraic_KernelIdeal_ReferenceIdeal_pre_finite_q_and_k := by
  pair_intro
  · run_from Cert.KernelIdeal.Gen.run_main m g
  · run_from Cert.ReferenceIdeal.Value.run m' g'
    all_goals
      have hf := Cert.Pre_finite_q_and_k.fn_iff _ _ _ _ (hpre c)
      have hs := fun i b j => score_coe _ _ (hf.1 i b) (hf.2 b) j
      obtain ⟨e0, e1, e2, e3⟩ := hagree c
    · refine (Cert.ReferenceIdeal.Read.val_main_v74_eq m' c).trans ?_
      rw [e0, e1, e2, e3]
      exact (Cert.KernelIdeal.Attn.arr3 m c hs).symm
    · refine (Cert.ReferenceIdeal.Read.val_main_v71_eq m' c).trans ?_
      rw [e0, e1, e2]
      exact (Cert.KernelIdeal.Attn.arr4 m c hs).symm

end Cert.Attn
-- ==== Proof.Ffn.DownDx.lean ====
/- The gradient of the feed-forward's hidden layer: through the second product, then through the squared ReLU. -/
module

public import proofs.«01_k».proof.Defs
public import proofs.«01_k».proof.Proof.Gen.Kernel2Ideal.Value
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Ffn

open Idealize.ShloMosaic

/-- Where the hidden value is not positive the factor `2 max(p, 0)` is zero, and so is the product with it. -/
theorem relu_grad (s k p : EReal) : (if 0 < p then s * (k * max p 0) else 0) = s * (k * max p 0) := by
  split
  · rfl
  · rename_i h
    rw [max_eq_right (not_lt.mp h), mul_zero, mul_zero]

end Cert.Ffn

namespace Cert.Reference2Ideal.Ffn

open Idealize.ShloMosaic Idealize.SL.Sem Cert.Reference2Ideal Cert.Reference2Ideal.Gen Cert.Reference2Ideal.Read

theorem out_at (x0 : (⟨S2048x1024, .bf16⟩ : BufTy).Contents (Elt Ideal)) (x1 : (⟨S1x4096x1024, .bf16⟩ : BufTy).Contents (Elt Ideal))
    (x2 : (⟨S2048x4096, .bf16⟩ : BufTy).Contents (Elt Ideal)) (i : Fin 2048) (j : Fin 4096) :
    val_main_v16 (F := Ideal) x0 x1 x2 (ix2 i j)
      = (∑ k : Fin 1024, x0 (ix2 i k) * x1 (ix3 0 j k)) * (Ideal.ofBits .f32 0x40000000#32 * max (x2 (ix2 i j)) 0) := by
  refine Eq.trans ?_ (Cert.Ffn.relu_grad _ _ _)
  unfold val_main_v16 val_main_v15 val_main_v5 val_main_v13 val_main_v14 val_main_v12 val_main_v9 val_main_v4 val_main_v2 val_main_v11
    val_main_v1 val_main_v0 val_main_v8 val_main_v3 val_main_v2 val_main_cst val_main_cst_1 val_main_cst_2 val_main_call0_v0 val_main_call0_cst
  pointwise

end Cert.Reference2Ideal.Ffn

namespace Cert.Kernel2Ideal.Ffn

open Idealize.ShloMosaic Idealize.SL.Sem Cert.Kernel2Ideal Cert.Kernel2Ideal.Gen

theorem pay_at (x : Vec Ideal S2048x1024 .bf16) (w : Vec Ideal S1x1024x1024 .bf16) (p : Vec Ideal S2048x1024 .bf16)
    (i : Fin 2048) (j : Fin 1024) :
    k0_pay1 (F := Ideal) x w p (ix2 i j)
      = (∑ k : Fin 1024, x (ix2 i k) * w (ix3 0 j k)) * (Ideal.ofBits .f32 0x40000000#32 * max (p (ix2 i j)) 0) := by
  unfold k0_pay1
  pointwise

variable (m : (ℓ : Loc nD τ sig) → Buf (Elt Ideal) ℓ)

theorem idx : ∀ t : Fin cfg0.N, win0_0.index t = ![0, 0] ∧ win0_1.index t = ![0, t.val, 0] ∧ win0_2.index t = ![0, t.val]
    ∧ win0_3.index t = ![0, t.val] :=
  (by decide +kernel : ∀ t : Fin grid0.N, _)

/-- Column `j` of the block of columns that point `t` writes. -/
def col (t : Fin cfg0.N) (j : Fin 1024) : Fin 4096 := ⟨t.val * 1024 + j.val, by have := t.isLt; have : cfg0.N = 4 := N_0; omega⟩

theorem blk0 (c : Dev nD) (t : Fin cfg0.N) (i : Fin 2048) (k : Fin 1024) :
    iblk m c 0 t (ix2 i k) = m ((c.tc : Thread nD τ).loc main_arg0) (ix2 i k) := by
  blk_ext [iblk, Gen.V, idx t]

theorem blk1 (c : Dev nD) (t : Fin cfg0.N) (j : Fin 1024) (k : Fin 1024) :
    iblk m c 1 t (ix3 0 j k) = m ((c.tc : Thread nD τ).loc main_arg1) (ix3 0 (col t j) k) := by
  unfold col
  blk_ext [iblk, Gen.V, idx t]

theorem blk2 (c : Dev nD) (t : Fin cfg0.N) (i : Fin 2048) (j : Fin 1024) :
    iblk m c 2 t (ix2 i j) = m ((c.tc : Thread nD τ).loc main_arg2) (ix2 i (col t j)) := by
  unfold col
  blk_ext [iblk, Gen.V, idx t]

/-- The array that the call leaves. -/
theorem arr (c : Dev nD) : (dats m 0 c).arrAt 3 cfg0.N = Cert.Reference2Ideal.Read.val_main_v16 (F := Ideal)
    (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  obtain ⟨i, j, rfl⟩ : ∃ (i : Fin 2048) (j : Fin 1024), y = ix2 i j := ⟨y 0, y 1, eq_ix2 y⟩
  frame_out
  refine (pay_at _ _ _ i j).trans (Eq.trans ?_ ((Cert.Reference2Ideal.Ffn.out_at
    (m ((c.tc : Thread nD τ).loc main_arg0)) (m ((c.tc : Thread nD τ).loc main_arg1)) (m ((c.tc : Thread nD τ).loc main_arg2))
    i (col t j)).symm.trans ?_))
  · exact congrArg₂ (· * ·) (Finset.sum_congr rfl fun k _ => congrArg₂ (· * ·) (blk0 m c t i k) (blk1 m c t j k))
      (congrArg (fun z : EReal => Ideal.ofBits .f32 0x40000000#32 * max z 0) (blk2 m c t i j))
  · unfold col
    blk_ext [idx t]

end Cert.Kernel2Ideal.Ffn

namespace Cert.Ffn

open Idealize.ShloMosaic Idealize.SL.Sem

attribute [local instance] Cert.Kernel2Ideal.Gen.facts Cert.Reference2Ideal.Gen.facts

theorem quiescent_down_dx : Cert.quiescent_Reference2Ideal := by
  intro m g _
  run_from Cert.Reference2Ideal.Value.run m g
  · exact fun c => ⟨trivial, trivial, trivial⟩
  · exact sem_eq_zero_of_no_sems (by decide) _

/-- The call and the derivative of the reference's lines leave the same array. -/
theorem down_dx : Cert.algebraic_Kernel2Ideal_Reference2Ideal := by
  pair_intro
  · run_from Cert.Kernel2Ideal.Value.run_blocks m g
  · run_from Cert.Reference2Ideal.Value.run m' g'
    obtain ⟨e0, e1, e2⟩ := hagree c
    refine (Cert.Reference2Ideal.Read.val_main_v16_eq _ _ _).trans ?_
    exact (Cert.Kernel2Ideal.Ffn.arr m c).symm

end Cert.Ffn
-- ==== Proof.Ffn.DownDw.lean ====
/- The gradient of the weight of the feed-forward's second product. -/
module

public import proofs.«01_k».proof.Defs
public import proofs.«01_k».proof.Proof.Gen.Kernel3Ideal.Value
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference3Ideal.Ffn

open Idealize.ShloMosaic Idealize.SL.Sem Cert.Reference3Ideal Cert.Reference3Ideal.Gen Cert.Reference3Ideal.Read

/-- One element of the result, as a sum. -/
def elem (x0 : (⟨S2048x4096, .bf16⟩ : BufTy).Contents (Elt Ideal))
    (x1 : (⟨S2048x1024, .bf16⟩ : BufTy).Contents (Elt Ideal)) (i : Fin 4096) (j : Fin 1024) : EReal :=
  ∑ k : Fin 2048, max (x0 (ix2 k i)) 0 * max (x0 (ix2 k i)) 0 * x1 (ix2 k j)

/-- The reference's result has these elements. -/
theorem out_at (x0 : (⟨S2048x4096, .bf16⟩ : BufTy).Contents (Elt Ideal))
    (x1 : (⟨S2048x1024, .bf16⟩ : BufTy).Contents (Elt Ideal)) (i : Fin 4096) (j : Fin 1024) :
    val_main_v8 (F := Ideal) x0 x1 (ix2 i j) = elem x0 x1 i j := by
  unfold elem
  refine Eq.trans ?_ (Finset.sum_congr rfl fun k _ => mul_comm _ _)
  unfold val_main_v8 val_main_v7 val_main_v6 val_main_v3 val_main_v5 val_main_v2 val_main_call0_v0 val_main_v0 val_main_call0_cst
  pointwise

end Cert.Reference3Ideal.Ffn

namespace Cert.Kernel3Ideal.Ffn

open Idealize.ShloMosaic Idealize.SL.Sem Cert.Kernel3Ideal Cert.Kernel3Ideal.Gen

/-- One element of the block that the kernel stores at a grid point. -/
theorem pay_at (y0 : Vec Ideal S2048x1024 .bf16) (y1 : Vec Ideal S2048x1024 .bf16)
    (i : Fin 1024) (j : Fin 1024) :
    k0_pay1 (F := Ideal) y0 y1 (ix2 i j) = ∑ k : Fin 2048, max (y0 (ix2 k i)) 0 * max (y0 (ix2 k i)) 0 * y1 (ix2 k j) := by
  unfold k0_pay1
  pointwise

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

/-- The row of the result that point `t` writes as row `i` of its block. -/
def row (t : Fin cfg0.N) (i : Fin 1024) : Fin 4096 :=
  ⟨t.val * 1024 + i.val, by have := t.isLt; have : cfg0.N = 4 := N_0; omega⟩

theorem blk0 (c : Dev nD) (t : Fin cfg0.N) (k : Fin 2048) (i : Fin 1024) :
    iblk m c 0 t (ix2 k i) = m ((c.tc : Thread nD τ).loc main_arg0) (ix2 k (row t i)) := by
  unfold row
  blk_ext [iblk, Gen.V, idx t]

theorem blk1 (c : Dev nD) (t : Fin cfg0.N) (k : Fin 2048) (j : Fin 1024) :
    iblk m c 1 t (ix2 k j) = m ((c.tc : Thread nD τ).loc main_arg1) (ix2 k j) := by
  blk_ext [iblk, Gen.V, idx t]

/-- The block that a point stores, in terms of the arrays. -/
theorem pay_blk (c : Dev nD) (t : Fin cfg0.N) (i : Fin 1024) (j : Fin 1024) :
    k0_pay1 (F := Ideal) (iblk m c 0 t) (iblk m c 1 t) (ix2 i j)
      = Cert.Reference3Ideal.Ffn.elem (m ((c.tc : Thread nD τ).loc main_arg0))
    (m ((c.tc : Thread nD τ).loc main_arg1)) (row t i) j := by
  rw [pay_at]
  unfold Cert.Reference3Ideal.Ffn.elem
  simp only [blk0, blk1]

/-- The array that the call leaves. -/
theorem arr (c : Dev nD) : (dats m 0 c).arrAt 2 cfg0.N = Cert.Reference3Ideal.Read.val_main_v8 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, eq_ix2 y⟩
  frame_out
  refine (pay_blk m c t i j).trans ((Cert.Reference3Ideal.Ffn.out_at
    (m ((c.tc : Thread nD τ).loc main_arg0))
    (m ((c.tc : Thread nD τ).loc main_arg1))
    (row t i) j).symm.trans ?_)
  unfold row
  blk_ext [idx t]

end Cert.Kernel3Ideal.Ffn

namespace Cert.Ffn

open Idealize.ShloMosaic Idealize.SL.Sem

attribute [local instance] Cert.Kernel3Ideal.Gen.facts Cert.Reference3Ideal.Gen.facts

theorem quiescent_down_dw : Cert.quiescent_Reference3Ideal := by
  intro m g _
  run_from Cert.Reference3Ideal.Value.run m g
  · exact fun c => ⟨trivial, trivial⟩
  · exact sem_eq_zero_of_no_sems (by decide) _

/-- The call and the derivative of the reference's lines leave the same array. -/
theorem down_dw : Cert.algebraic_Kernel3Ideal_Reference3Ideal := by
  pair_intro
  · run_from Cert.Kernel3Ideal.Value.run_blocks m g
  · run_from Cert.Reference3Ideal.Value.run m' g'
    obtain ⟨e0, e1⟩ := hagree c
    refine (Cert.Reference3Ideal.Read.val_main_v8_eq (F := Ideal) _ _).trans ?_
    exact (Cert.Kernel3Ideal.Ffn.arr m c).symm

end Cert.Ffn
-- ==== Proof.Ffn.UpDw.lean ====
/- The gradient of the weight of the feed-forward's first product. -/
module

public import proofs.«01_k».proof.Defs
public import proofs.«01_k».proof.Proof.Gen.Kernel4Ideal.Value
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference4Ideal.Ffn

open Idealize.ShloMosaic Idealize.SL.Sem Cert.Reference4Ideal Cert.Reference4Ideal.Gen Cert.Reference4Ideal.Read

/-- One element of the result, as a sum. -/
def elem (x0 : (⟨S2048x1024, .bf16⟩ : BufTy).Contents (Elt Ideal))
    (x1 : (⟨S2048x4096, .bf16⟩ : BufTy).Contents (Elt Ideal)) (i : Fin 1024) (j : Fin 4096) : EReal :=
  ∑ k : Fin 2048, x0 (ix2 k i) * x1 (ix2 k j)

/-- The reference's result has these elements. -/
theorem out_at (x0 : (⟨S2048x1024, .bf16⟩ : BufTy).Contents (Elt Ideal))
    (x1 : (⟨S2048x4096, .bf16⟩ : BufTy).Contents (Elt Ideal)) (i : Fin 1024) (j : Fin 4096) :
    val_main_v6 (F := Ideal) x0 x1 (ix2 i j) = elem x0 x1 i j := by
  unfold elem
  refine Eq.trans ?_ (Finset.sum_congr rfl fun k _ => mul_comm _ _)
  unfold val_main_v6 val_main_v5 val_main_v4 val_main_v0 val_main_v3
  pointwise

end Cert.Reference4Ideal.Ffn

namespace Cert.Kernel4Ideal.Ffn

open Idealize.ShloMosaic Idealize.SL.Sem Cert.Kernel4Ideal Cert.Kernel4Ideal.Gen

/-- One element of the block that the kernel stores at a grid point. -/
theorem pay_at (y0 : Vec Ideal S2048x1024 .bf16) (y1 : Vec Ideal S2048x1024 .bf16)
    (i : Fin 1024) (j : Fin 1024) :
    k0_pay1 (F := Ideal) y0 y1 (ix2 i j) = ∑ k : Fin 2048, y0 (ix2 k i) * y1 (ix2 k j) := by
  unfold k0_pay1
  pointwise

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

/-- The column of the result that point `t` writes as column `j` of its block. -/
def col (t : Fin cfg0.N) (j : Fin 1024) : Fin 4096 :=
  ⟨t.val * 1024 + j.val, by have := t.isLt; have : cfg0.N = 4 := N_0; omega⟩

theorem blk0 (c : Dev nD) (t : Fin cfg0.N) (k : Fin 2048) (i : Fin 1024) :
    iblk m c 0 t (ix2 k i) = m ((c.tc : Thread nD τ).loc main_arg0) (ix2 k i) := by
  blk_ext [iblk, Gen.V, idx t]

theorem blk1 (c : Dev nD) (t : Fin cfg0.N) (k : Fin 2048) (j : Fin 1024) :
    iblk m c 1 t (ix2 k j) = m ((c.tc : Thread nD τ).loc main_arg1) (ix2 k (col t j)) := by
  unfold col
  blk_ext [iblk, Gen.V, idx t]

/-- The block that a point stores, in terms of the arrays. -/
theorem pay_blk (c : Dev nD) (t : Fin cfg0.N) (i : Fin 1024) (j : Fin 1024) :
    k0_pay1 (F := Ideal) (iblk m c 0 t) (iblk m c 1 t) (ix2 i j)
      = Cert.Reference4Ideal.Ffn.elem (m ((c.tc : Thread nD τ).loc main_arg0))
    (m ((c.tc : Thread nD τ).loc main_arg1)) i (col t j) := by
  rw [pay_at]
  unfold Cert.Reference4Ideal.Ffn.elem
  simp only [blk0, blk1]

/-- The array that the call leaves. -/
theorem arr (c : Dev nD) : (dats m 0 c).arrAt 2 cfg0.N = Cert.Reference4Ideal.Read.val_main_v6 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, eq_ix2 y⟩
  frame_out
  refine (pay_blk m c t i j).trans ((Cert.Reference4Ideal.Ffn.out_at
    (m ((c.tc : Thread nD τ).loc main_arg0))
    (m ((c.tc : Thread nD τ).loc main_arg1))
    i (col t j)).symm.trans ?_)
  unfold col
  blk_ext [idx t]

end Cert.Kernel4Ideal.Ffn

namespace Cert.Ffn

open Idealize.ShloMosaic Idealize.SL.Sem

attribute [local instance] Cert.Kernel4Ideal.Gen.facts Cert.Reference4Ideal.Gen.facts

theorem quiescent_up_dw : Cert.quiescent_Reference4Ideal := by
  intro m g _
  run_from Cert.Reference4Ideal.Value.run m g
  · exact fun c => ⟨trivial, trivial⟩
  · exact sem_eq_zero_of_no_sems (by decide) _

/-- The call and the derivative of the reference's product leave the same array. -/
theorem up_dw : Cert.algebraic_Kernel4Ideal_Reference4Ideal := by
  pair_intro
  · run_from Cert.Kernel4Ideal.Value.run_blocks m g
  · run_from Cert.Reference4Ideal.Value.run m' g'
    obtain ⟨e0, e1⟩ := hagree c
    refine (Cert.Reference4Ideal.Read.val_main_v6_eq (F := Ideal) _ _).trans ?_
    exact (Cert.Kernel4Ideal.Ffn.arr m c).symm

end Cert.Ffn
-- ==== Proof.Ffn.UpDx.lean ====
/- The gradient of the input of the feed-forward's first product. -/
module

public import proofs.«01_k».proof.Defs
public import proofs.«01_k».proof.Proof.Gen.Kernel5Ideal.Value
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference5Ideal.Ffn

open Idealize.ShloMosaic Idealize.SL.Sem Cert.Reference5Ideal Cert.Reference5Ideal.Gen Cert.Reference5Ideal.Read

/-- One element of the result, as a sum. -/
def elem (x0 : (⟨S2048x4096, .bf16⟩ : BufTy).Contents (Elt Ideal))
    (x1 : (⟨S1x1024x4096, .bf16⟩ : BufTy).Contents (Elt Ideal)) (i : Fin 2048) (j : Fin 1024) : EReal :=
  ∑ k : Fin 4096, x0 (ix2 i k) * x1 (ix3 0 j k)

/-- The reference's result has these elements. -/
theorem out_at (x0 : (⟨S2048x4096, .bf16⟩ : BufTy).Contents (Elt Ideal))
    (x1 : (⟨S1x1024x4096, .bf16⟩ : BufTy).Contents (Elt Ideal)) (i : Fin 2048) (j : Fin 1024) :
    val_main_v5 (F := Ideal) x0 x1 (ix2 i j) = elem x0 x1 i j := by
  unfold elem
  unfold val_main_v5 val_main_v1 val_main_v4 val_main_v0
  pointwise

end Cert.Reference5Ideal.Ffn

namespace Cert.Kernel5Ideal.Ffn

open Idealize.ShloMosaic Idealize.SL.Sem Cert.Kernel5Ideal Cert.Kernel5Ideal.Gen

/-- One element of the block that the kernel stores at a grid point. -/
theorem pay_at (y0 : Vec Ideal S512x4096 .bf16) (y1 : Vec Ideal S1x1024x4096 .bf16)
    (i : Fin 512) (j : Fin 1024) :
    k0_pay1 (F := Ideal) y0 y1 (ix2 i j) = ∑ k : Fin 4096, y0 (ix2 i k) * y1 (ix3 0 j k) := by
  unfold k0_pay1
  pointwise

variable (m : (ℓ : Loc nD τ sig) → Buf (Elt Ideal) ℓ)

theorem idx : ∀ t : Fin cfg0.N, win0_0.index t = ![t.val, 0] ∧ win0_1.index t = ![0, 0, 0] ∧ win0_2.index t = ![t.val, 0] :=
  (by decide +kernel : ∀ t : Fin grid0.N, _)

/-- The row of the result that point `t` writes as row `i` of its block. -/
def row (t : Fin cfg0.N) (i : Fin 512) : Fin 2048 :=
  ⟨t.val * 512 + i.val, by have := t.isLt; have : cfg0.N = 4 := N_0; omega⟩

theorem blk0 (c : Dev nD) (t : Fin cfg0.N) (i : Fin 512) (k : Fin 4096) :
    iblk m c 0 t (ix2 i k) = m ((c.tc : Thread nD τ).loc main_arg0) (ix2 (row t i) k) := by
  unfold row
  blk_ext [iblk, Gen.V, idx t]

theorem blk1 (c : Dev nD) (t : Fin cfg0.N) (j : Fin 1024) (k : Fin 4096) :
    iblk m c 1 t (ix3 0 j k) = m ((c.tc : Thread nD τ).loc main_arg1) (ix3 0 j k) := by
  blk_ext [iblk, Gen.V, idx t]

/-- The block that a point stores, in terms of the arrays. -/
theorem pay_blk (c : Dev nD) (t : Fin cfg0.N) (i : Fin 512) (j : Fin 1024) :
    k0_pay1 (F := Ideal) (iblk m c 0 t) (iblk m c 1 t) (ix2 i j)
      = Cert.Reference5Ideal.Ffn.elem (m ((c.tc : Thread nD τ).loc main_arg0))
    (m ((c.tc : Thread nD τ).loc main_arg1)) (row t i) j := by
  rw [pay_at]
  unfold Cert.Reference5Ideal.Ffn.elem
  simp only [blk0, blk1]

/-- The array that the call leaves. -/
theorem arr (c : Dev nD) : (dats m 0 c).arrAt 2 cfg0.N = Cert.Reference5Ideal.Read.val_main_v5 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 512) (j : Fin 1024), y = ix2 i j := ⟨y 0, y 1, eq_ix2 y⟩
  frame_out
  refine (pay_blk m c t i j).trans ((Cert.Reference5Ideal.Ffn.out_at
    (m ((c.tc : Thread nD τ).loc main_arg0))
    (m ((c.tc : Thread nD τ).loc main_arg1))
    (row t i) j).symm.trans ?_)
  unfold row
  blk_ext [idx t]

end Cert.Kernel5Ideal.Ffn

namespace Cert.Ffn

open Idealize.ShloMosaic Idealize.SL.Sem

attribute [local instance] Cert.Kernel5Ideal.Gen.facts Cert.Reference5Ideal.Gen.facts

theorem quiescent_up_dx : Cert.quiescent_Reference5Ideal := by
  intro m g _
  run_from Cert.Reference5Ideal.Value.run m g
  · exact fun c => ⟨trivial, trivial⟩
  · exact sem_eq_zero_of_no_sems (by decide) _

/-- The call and the derivative of the reference's product leave the same array. -/
theorem up_dx : Cert.algebraic_Kernel5Ideal_Reference5Ideal := by
  pair_intro
  · run_from Cert.Kernel5Ideal.Value.run_blocks m g
  · run_from Cert.Reference5Ideal.Value.run m' g'
    obtain ⟨e0, e1⟩ := hagree c
    refine (Cert.Reference5Ideal.Read.val_main_v5_eq (F := Ideal) _ _).trans ?_
    exact (Cert.Kernel5Ideal.Ffn.arr m c).symm

end Cert.Ffn
-- ==== Proof.Products.OutDx.lean ====
/- The gradient of the output projection's input. -/
module

public import proofs.«01_k».proof.Defs
public import proofs.«01_k».proof.Proof.Gen.Kernel6Ideal.Value
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference6Ideal.Products

open Idealize.ShloMosaic Idealize.SL.Sem Cert.Reference6Ideal Cert.Reference6Ideal.Gen Cert.Reference6Ideal.Read

/-- One element of the result, as a sum. -/
def elem (x0 : (⟨S2048x1024, .bf16⟩ : BufTy).Contents (Elt Ideal))
    (x1 : (⟨S1x3072x1024, .bf16⟩ : BufTy).Contents (Elt Ideal)) (i : Fin 2048) (j : Fin 3072) : EReal :=
  ∑ k : Fin 1024, x0 (ix2 i k) * x1 (ix3 0 j k)

/-- The reference's result has these elements. -/
theorem out_at (x0 : (⟨S2048x1024, .bf16⟩ : BufTy).Contents (Elt Ideal))
    (x1 : (⟨S1x3072x1024, .bf16⟩ : BufTy).Contents (Elt Ideal)) (i : Fin 2048) (j : Fin 3072) :
    val_main_v6 (F := Ideal) x0 x1 (ix2 i j) = elem x0 x1 i j := by
  unfold elem
  unfold val_main_v6 val_main_v5 val_main_v1 val_main_v4 val_main_v0
  pointwise

end Cert.Reference6Ideal.Products

namespace Cert.Kernel6Ideal.Products

open Idealize.ShloMosaic Idealize.SL.Sem Cert.Kernel6Ideal Cert.Kernel6Ideal.Gen

/-- One element of the block that the kernel stores at a grid point. -/
theorem pay_at (y0 : Vec Ideal S2048x1024 .bf16) (y1 : Vec Ideal S1x1024x1024 .bf16)
    (i : Fin 2048) (j : Fin 1024) :
    k0_pay1 (F := Ideal) y0 y1 (ix2 i j) = ∑ k : Fin 1024, y0 (ix2 i k) * y1 (ix3 0 j k) := by
  unfold k0_pay1
  pointwise

variable (m : (ℓ : Loc nD τ sig) → Buf (Elt Ideal) ℓ)

theorem idx : ∀ t : Fin cfg0.N, win0_0.index t = ![0, 0] ∧ win0_1.index t = ![0, t.val, 0] ∧ win0_2.index t = ![0, t.val] :=
  (by decide +kernel : ∀ t : Fin grid0.N, _)

/-- The column of the result that point `t` writes as column `j` of its block. -/
def col (t : Fin cfg0.N) (j : Fin 1024) : Fin 3072 :=
  ⟨t.val * 1024 + j.val, by have := t.isLt; have : cfg0.N = 3 := N_0; omega⟩

theorem blk0 (c : Dev nD) (t : Fin cfg0.N) (i : Fin 2048) (k : Fin 1024) :
    iblk m c 0 t (ix2 i k) = m ((c.tc : Thread nD τ).loc main_arg0) (ix2 i k) := by
  blk_ext [iblk, Gen.V, idx t]

theorem blk1 (c : Dev nD) (t : Fin cfg0.N) (j : Fin 1024) (k : Fin 1024) :
    iblk m c 1 t (ix3 0 j k) = m ((c.tc : Thread nD τ).loc main_arg1) (ix3 0 (col t j) k) := by
  unfold col
  blk_ext [iblk, Gen.V, idx t]

/-- The block that a point stores, in terms of the arrays. -/
theorem pay_blk (c : Dev nD) (t : Fin cfg0.N) (i : Fin 2048) (j : Fin 1024) :
    k0_pay1 (F := Ideal) (iblk m c 0 t) (iblk m c 1 t) (ix2 i j)
      = Cert.Reference6Ideal.Products.elem (m ((c.tc : Thread nD τ).loc main_arg0))
    (m ((c.tc : Thread nD τ).loc main_arg1)) i (col t j) := by
  rw [pay_at]
  unfold Cert.Reference6Ideal.Products.elem
  simp only [blk0, blk1]

/-- The array that the call leaves. -/
theorem arr (c : Dev nD) : (dats m 0 c).arrAt 2 cfg0.N = Cert.Reference6Ideal.Read.val_main_v6 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 2048) (j : Fin 1024), y = ix2 i j := ⟨y 0, y 1, eq_ix2 y⟩
  frame_out
  refine (pay_blk m c t i j).trans ((Cert.Reference6Ideal.Products.out_at
    (m ((c.tc : Thread nD τ).loc main_arg0))
    (m ((c.tc : Thread nD τ).loc main_arg1))
    i (col t j)).symm.trans ?_)
  unfold col
  blk_ext [idx t]

end Cert.Kernel6Ideal.Products

namespace Cert.Products

open Idealize.ShloMosaic Idealize.SL.Sem

attribute [local instance] Cert.Kernel6Ideal.Gen.facts Cert.Reference6Ideal.Gen.facts

theorem quiescent_out_dx : Cert.quiescent_Reference6Ideal := by
  intro m g _
  run_from Cert.Reference6Ideal.Value.run m g
  · exact fun c => ⟨trivial, trivial⟩
  · exact sem_eq_zero_of_no_sems (by decide) _

/-- The call and the derivative of the reference's product leave the same array. -/
theorem out_dx : Cert.algebraic_Kernel6Ideal_Reference6Ideal := by
  pair_intro
  · run_from Cert.Kernel6Ideal.Value.run_blocks m g
  · run_from Cert.Reference6Ideal.Value.run m' g'
    obtain ⟨e0, e1⟩ := hagree c
    refine (Cert.Reference6Ideal.Read.val_main_v6_eq (F := Ideal) _ _).trans ?_
    exact (Cert.Kernel6Ideal.Products.arr m c).symm

end Cert.Products
-- ==== Proof.Products.OutDw.lean ====
/- The gradient of the output projection's weight. -/
module

public import proofs.«01_k».proof.Defs
public import proofs.«01_k».proof.Proof.Gen.Kernel7Ideal.Value
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference7Ideal.Products

open Idealize.ShloMosaic Idealize.SL.Sem Cert.Reference7Ideal Cert.Reference7Ideal.Gen Cert.Reference7Ideal.Read

/-- One element of the result, as a sum. -/
def elem (x0 : (⟨S2048x3072, .bf16⟩ : BufTy).Contents (Elt Ideal))
    (x1 : (⟨S2048x1024, .bf16⟩ : BufTy).Contents (Elt Ideal)) (i : Fin 3072) (j : Fin 1024) : EReal :=
  ∑ k : Fin 2048, x0 (ix2 k i) * x1 (ix2 k j)

/-- The reference's result has these elements. -/
theorem out_at (x0 : (⟨S2048x3072, .bf16⟩ : BufTy).Contents (Elt Ideal))
    (x1 : (⟨S2048x1024, .bf16⟩ : BufTy).Contents (Elt Ideal)) (i : Fin 3072) (j : Fin 1024) :
    val_main_v6 (F := Ideal) x0 x1 (ix2 i j) = elem x0 x1 i j := by
  unfold elem
  refine Eq.trans ?_ (Finset.sum_congr rfl fun k _ => mul_comm _ _)
  unfold val_main_v6 val_main_v5 val_main_v4 val_main_v0 val_main_v3
  pointwise

end Cert.Reference7Ideal.Products

namespace Cert.Kernel7Ideal.Products

open Idealize.ShloMosaic Idealize.SL.Sem Cert.Kernel7Ideal Cert.Kernel7Ideal.Gen

/-- One element of the block that the kernel stores at a grid point. -/
theorem pay_at (y0 : Vec Ideal S2048x768 .bf16) (y1 : Vec Ideal S2048x1024 .bf16)
    (i : Fin 768) (j : Fin 1024) :
    k0_pay1 (F := Ideal) y0 y1 (ix2 i j) = ∑ k : Fin 2048, y0 (ix2 k i) * y1 (ix2 k j) := by
  unfold k0_pay1
  pointwise

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

/-- The row of the result that point `t` writes as row `i` of its block. -/
def row (t : Fin cfg0.N) (i : Fin 768) : Fin 3072 :=
  ⟨t.val * 768 + i.val, by have := t.isLt; have : cfg0.N = 4 := N_0; omega⟩

theorem blk0 (c : Dev nD) (t : Fin cfg0.N) (i : Fin 768) (k : Fin 2048) :
    iblk m c 0 t (ix2 k i) = m ((c.tc : Thread nD τ).loc main_arg0) (ix2 k (row t i)) := by
  unfold row
  blk_ext [iblk, Gen.V, idx t]

theorem blk1 (c : Dev nD) (t : Fin cfg0.N) (j : Fin 1024) (k : Fin 2048) :
    iblk m c 1 t (ix2 k j) = m ((c.tc : Thread nD τ).loc main_arg1) (ix2 k j) := by
  blk_ext [iblk, Gen.V, idx t]

/-- The block that a point stores, in terms of the arrays. -/
theorem pay_blk (c : Dev nD) (t : Fin cfg0.N) (i : Fin 768) (j : Fin 1024) :
    k0_pay1 (F := Ideal) (iblk m c 0 t) (iblk m c 1 t) (ix2 i j)
      = Cert.Reference7Ideal.Products.elem (m ((c.tc : Thread nD τ).loc main_arg0))
    (m ((c.tc : Thread nD τ).loc main_arg1)) (row t i) j := by
  rw [pay_at]
  unfold Cert.Reference7Ideal.Products.elem
  simp only [blk0, blk1]

/-- The array that the call leaves. -/
theorem arr (c : Dev nD) : (dats m 0 c).arrAt 2 cfg0.N = Cert.Reference7Ideal.Read.val_main_v6 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 768) (j : Fin 1024), y = ix2 i j := ⟨y 0, y 1, eq_ix2 y⟩
  frame_out
  refine (pay_blk m c t i j).trans ((Cert.Reference7Ideal.Products.out_at
    (m ((c.tc : Thread nD τ).loc main_arg0))
    (m ((c.tc : Thread nD τ).loc main_arg1))
    (row t i) j).symm.trans ?_)
  unfold row
  blk_ext [idx t]

end Cert.Kernel7Ideal.Products

namespace Cert.Products

open Idealize.ShloMosaic Idealize.SL.Sem

attribute [local instance] Cert.Kernel7Ideal.Gen.facts Cert.Reference7Ideal.Gen.facts

theorem quiescent_out_dw : Cert.quiescent_Reference7Ideal := by
  intro m g _
  run_from Cert.Reference7Ideal.Value.run m g
  · exact fun c => ⟨trivial, trivial⟩
  · exact sem_eq_zero_of_no_sems (by decide) _

/-- The call and the derivative of the reference's product leave the same array. -/
theorem out_dw : Cert.algebraic_Kernel7Ideal_Reference7Ideal := by
  pair_intro
  · run_from Cert.Kernel7Ideal.Value.run_blocks m g
  · run_from Cert.Reference7Ideal.Value.run m' g'
    obtain ⟨e0, e1⟩ := hagree c
    refine (Cert.Reference7Ideal.Read.val_main_v6_eq (F := Ideal) _ _).trans ?_
    exact (Cert.Kernel7Ideal.Products.arr m c).symm

end Cert.Products
-- ==== Proof.Products.ProjADx.lean ====
/- The gradient of the input of layer 0's projection. -/
module

public import proofs.«01_k».proof.Defs
public import proofs.«01_k».proof.Proof.Gen.Kernel8Ideal.Value
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference8Ideal.Products

open Idealize.ShloMosaic Idealize.SL.Sem Cert.Reference8Ideal Cert.Reference8Ideal.Gen Cert.Reference8Ideal.Read

/-- One element of the result, as a sum. -/
def elem (x0 : (⟨S2048x5120, .bf16⟩ : BufTy).Contents (Elt Ideal))
    (x1 : (⟨S1x1024x5120, .bf16⟩ : BufTy).Contents (Elt Ideal)) (i : Fin 2048) (j : Fin 1024) : EReal :=
  ∑ k : Fin 5120, x0 (ix2 i k) * x1 (ix3 0 j k)

/-- The reference's result has these elements. -/
theorem out_at (x0 : (⟨S2048x5120, .bf16⟩ : BufTy).Contents (Elt Ideal))
    (x1 : (⟨S1x1024x5120, .bf16⟩ : BufTy).Contents (Elt Ideal)) (i : Fin 2048) (j : Fin 1024) :
    val_main_v5 (F := Ideal) x0 x1 (ix2 i j) = elem x0 x1 i j := by
  unfold elem
  unfold val_main_v5 val_main_v1 val_main_v4 val_main_v0
  pointwise

end Cert.Reference8Ideal.Products

namespace Cert.Kernel8Ideal.Products

open Idealize.ShloMosaic Idealize.SL.Sem Cert.Kernel8Ideal Cert.Kernel8Ideal.Gen

/-- One element of the block that the kernel stores at a grid point. -/
theorem pay_at (y0 : Vec Ideal S512x5120 .bf16) (y1 : Vec Ideal S1x1024x5120 .bf16)
    (i : Fin 512) (j : Fin 1024) :
    k0_pay1 (F := Ideal) y0 y1 (ix2 i j) = ∑ k : Fin 5120, y0 (ix2 i k) * y1 (ix3 0 j k) := by
  unfold k0_pay1
  pointwise

variable (m : (ℓ : Loc nD τ sig) → Buf (Elt Ideal) ℓ)

theorem idx : ∀ t : Fin cfg0.N, win0_0.index t = ![t.val, 0] ∧ win0_1.index t = ![0, 0, 0] ∧ win0_2.index t = ![t.val, 0] :=
  (by decide +kernel : ∀ t : Fin grid0.N, _)

/-- The row of the result that point `t` writes as row `i` of its block. -/
def row (t : Fin cfg0.N) (i : Fin 512) : Fin 2048 :=
  ⟨t.val * 512 + i.val, by have := t.isLt; have : cfg0.N = 4 := N_0; omega⟩

theorem blk0 (c : Dev nD) (t : Fin cfg0.N) (i : Fin 512) (k : Fin 5120) :
    iblk m c 0 t (ix2 i k) = m ((c.tc : Thread nD τ).loc main_arg0) (ix2 (row t i) k) := by
  unfold row
  blk_ext [iblk, Gen.V, idx t]

theorem blk1 (c : Dev nD) (t : Fin cfg0.N) (j : Fin 1024) (k : Fin 5120) :
    iblk m c 1 t (ix3 0 j k) = m ((c.tc : Thread nD τ).loc main_arg1) (ix3 0 j k) := by
  blk_ext [iblk, Gen.V, idx t]

/-- The block that a point stores, in terms of the arrays. -/
theorem pay_blk (c : Dev nD) (t : Fin cfg0.N) (i : Fin 512) (j : Fin 1024) :
    k0_pay1 (F := Ideal) (iblk m c 0 t) (iblk m c 1 t) (ix2 i j)
      = Cert.Reference8Ideal.Products.elem (m ((c.tc : Thread nD τ).loc main_arg0))
    (m ((c.tc : Thread nD τ).loc main_arg1)) (row t i) j := by
  rw [pay_at]
  unfold Cert.Reference8Ideal.Products.elem
  simp only [blk0, blk1]

/-- The array that the call leaves. -/
theorem arr (c : Dev nD) : (dats m 0 c).arrAt 2 cfg0.N = Cert.Reference8Ideal.Read.val_main_v5 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 512) (j : Fin 1024), y = ix2 i j := ⟨y 0, y 1, eq_ix2 y⟩
  frame_out
  refine (pay_blk m c t i j).trans ((Cert.Reference8Ideal.Products.out_at
    (m ((c.tc : Thread nD τ).loc main_arg0))
    (m ((c.tc : Thread nD τ).loc main_arg1))
    (row t i) j).symm.trans ?_)
  unfold row
  blk_ext [idx t]

end Cert.Kernel8Ideal.Products

namespace Cert.Products

open Idealize.ShloMosaic Idealize.SL.Sem

attribute [local instance] Cert.Kernel8Ideal.Gen.facts Cert.Reference8Ideal.Gen.facts

theorem quiescent_proj_a_dx : Cert.quiescent_Reference8Ideal := by
  intro m g _
  run_from Cert.Reference8Ideal.Value.run m g
  · exact fun c => ⟨trivial, trivial⟩
  · exact sem_eq_zero_of_no_sems (by decide) _

/-- The call and the derivative of the reference's product leave the same array. -/
theorem proj_a_dx : Cert.algebraic_Kernel8Ideal_Reference8Ideal := by
  pair_intro
  · run_from Cert.Kernel8Ideal.Value.run_blocks m g
  · run_from Cert.Reference8Ideal.Value.run m' g'
    obtain ⟨e0, e1⟩ := hagree c
    refine (Cert.Reference8Ideal.Read.val_main_v5_eq (F := Ideal) _ _).trans ?_
    exact (Cert.Kernel8Ideal.Products.arr m c).symm

end Cert.Products
-- ==== Proof.Products.ProjADw.lean ====
/- The gradient of the weight of layer 0's projection. -/
module

public import proofs.«01_k».proof.Defs
public import proofs.«01_k».proof.Proof.Gen.Kernel9Ideal.Value
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference9Ideal.Products

open Idealize.ShloMosaic Idealize.SL.Sem Cert.Reference9Ideal Cert.Reference9Ideal.Gen Cert.Reference9Ideal.Read

/-- One element of the result, as a sum. -/
def elem (x0 : (⟨S2048x1024, .bf16⟩ : BufTy).Contents (Elt Ideal))
    (x1 : (⟨S2048x5120, .bf16⟩ : BufTy).Contents (Elt Ideal)) (i : Fin 1024) (j : Fin 5120) : EReal :=
  ∑ k : Fin 2048, x0 (ix2 k i) * x1 (ix2 k j)

/-- The reference's result has these elements. -/
theorem out_at (x0 : (⟨S2048x1024, .bf16⟩ : BufTy).Contents (Elt Ideal))
    (x1 : (⟨S2048x5120, .bf16⟩ : BufTy).Contents (Elt Ideal)) (i : Fin 1024) (j : Fin 5120) :
    val_main_v6 (F := Ideal) x0 x1 (ix2 i j) = elem x0 x1 i j := by
  unfold elem
  refine Eq.trans ?_ (Finset.sum_congr rfl fun k _ => mul_comm _ _)
  unfold val_main_v6 val_main_v5 val_main_v4 val_main_v0 val_main_v3
  pointwise

end Cert.Reference9Ideal.Products

namespace Cert.Kernel9Ideal.Products

open Idealize.ShloMosaic Idealize.SL.Sem Cert.Kernel9Ideal Cert.Kernel9Ideal.Gen

/-- One element of the block that the kernel stores at a grid point. -/
theorem pay_at (y0 : Vec Ideal S2048x1024 .bf16) (y1 : Vec Ideal S2048x1024 .bf16)
    (i : Fin 1024) (j : Fin 1024) :
    k0_pay1 (F := Ideal) y0 y1 (ix2 i j) = ∑ k : Fin 2048, y0 (ix2 k i) * y1 (ix2 k j) := by
  unfold k0_pay1
  pointwise

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

/-- The column of the result that point `t` writes as column `j` of its block. -/
def col (t : Fin cfg0.N) (j : Fin 1024) : Fin 5120 :=
  ⟨t.val * 1024 + j.val, by have := t.isLt; have : cfg0.N = 5 := N_0; omega⟩

theorem blk0 (c : Dev nD) (t : Fin cfg0.N) (i : Fin 1024) (k : Fin 2048) :
    iblk m c 0 t (ix2 k i) = m ((c.tc : Thread nD τ).loc main_arg0) (ix2 k i) := by
  blk_ext [iblk, Gen.V, idx t]

theorem blk1 (c : Dev nD) (t : Fin cfg0.N) (j : Fin 1024) (k : Fin 2048) :
    iblk m c 1 t (ix2 k j) = m ((c.tc : Thread nD τ).loc main_arg1) (ix2 k (col t j)) := by
  unfold col
  blk_ext [iblk, Gen.V, idx t]

/-- The block that a point stores, in terms of the arrays. -/
theorem pay_blk (c : Dev nD) (t : Fin cfg0.N) (i : Fin 1024) (j : Fin 1024) :
    k0_pay1 (F := Ideal) (iblk m c 0 t) (iblk m c 1 t) (ix2 i j)
      = Cert.Reference9Ideal.Products.elem (m ((c.tc : Thread nD τ).loc main_arg0))
    (m ((c.tc : Thread nD τ).loc main_arg1)) i (col t j) := by
  rw [pay_at]
  unfold Cert.Reference9Ideal.Products.elem
  simp only [blk0, blk1]

/-- The array that the call leaves. -/
theorem arr (c : Dev nD) : (dats m 0 c).arrAt 2 cfg0.N = Cert.Reference9Ideal.Read.val_main_v6 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, eq_ix2 y⟩
  frame_out
  refine (pay_blk m c t i j).trans ((Cert.Reference9Ideal.Products.out_at
    (m ((c.tc : Thread nD τ).loc main_arg0))
    (m ((c.tc : Thread nD τ).loc main_arg1))
    i (col t j)).symm.trans ?_)
  unfold col
  blk_ext [idx t]

end Cert.Kernel9Ideal.Products

namespace Cert.Products

open Idealize.ShloMosaic Idealize.SL.Sem

attribute [local instance] Cert.Kernel9Ideal.Gen.facts Cert.Reference9Ideal.Gen.facts

theorem quiescent_proj_a_dw : Cert.quiescent_Reference9Ideal := by
  intro m g _
  run_from Cert.Reference9Ideal.Value.run m g
  · exact fun c => ⟨trivial, trivial⟩
  · exact sem_eq_zero_of_no_sems (by decide) _

/-- The call and the derivative of the reference's product leave the same array. -/
theorem proj_a_dw : Cert.algebraic_Kernel9Ideal_Reference9Ideal := by
  pair_intro
  · run_from Cert.Kernel9Ideal.Value.run_blocks m g
  · run_from Cert.Reference9Ideal.Value.run m' g'
    obtain ⟨e0, e1⟩ := hagree c
    refine (Cert.Reference9Ideal.Read.val_main_v6_eq (F := Ideal) _ _).trans ?_
    exact (Cert.Kernel9Ideal.Products.arr m c).symm

end Cert.Products
-- ==== Proof.Products.ProjBDx.lean ====
/- The gradient of the input of layer 1's projection. -/
module

public import proofs.«01_k».proof.Defs
public import proofs.«01_k».proof.Proof.Gen.Kernel10Ideal.Value
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference10Ideal.Products

open Idealize.ShloMosaic Idealize.SL.Sem Cert.Reference10Ideal Cert.Reference10Ideal.Gen Cert.Reference10Ideal.Read

/-- One element of the result, as a sum. -/
def elem (x0 : (⟨S2048x6144, .bf16⟩ : BufTy).Contents (Elt Ideal))
    (x1 : (⟨S6144x1024, .bf16⟩ : BufTy).Contents (Elt Ideal)) (i : Fin 2048) (j : Fin 1024) : EReal :=
  ∑ k : Fin 6144, x0 (ix2 i k) * x1 (ix2 k j)

/-- The reference's result has these elements. -/
theorem out_at (x0 : (⟨S2048x6144, .bf16⟩ : BufTy).Contents (Elt Ideal))
    (x1 : (⟨S6144x1024, .bf16⟩ : BufTy).Contents (Elt Ideal)) (i : Fin 2048) (j : Fin 1024) :
    val_main_v5 (F := Ideal) x0 x1 (ix2 i j) = elem x0 x1 i j := by
  unfold elem
  unfold val_main_v5 val_main_v1 val_main_v4 val_main_v0
  pointwise

end Cert.Reference10Ideal.Products

namespace Cert.Kernel10Ideal.Products

open Idealize.ShloMosaic Idealize.SL.Sem Cert.Kernel10Ideal Cert.Kernel10Ideal.Gen

/-- One element of the block that the kernel stores at a grid point. -/
theorem pay_at (y0 : Vec Ideal S256x6144 .bf16) (y1 : Vec Ideal S6144x1024 .bf16)
    (i : Fin 256) (j : Fin 1024) :
    k0_pay1 (F := Ideal) y0 y1 (ix2 i j) = ∑ k : Fin 6144, y0 (ix2 i k) * y1 (ix2 k j) := by
  unfold k0_pay1
  pointwise

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The row of the result that point `t` writes as row `i` of its block. -/
def row (t : Fin cfg0.N) (i : Fin 256) : Fin 2048 :=
  ⟨t.val * 256 + i.val, by have := t.isLt; have : cfg0.N = 8 := N_0; omega⟩

theorem blk0 (c : Dev nD) (t : Fin cfg0.N) (i : Fin 256) (k : Fin 6144) :
    iblk m c 0 t (ix2 i k) = m ((c.tc : Thread nD τ).loc main_arg0) (ix2 (row t i) k) := by
  unfold row
  blk_ext [iblk, Gen.V, idx t]

theorem blk1 (c : Dev nD) (t : Fin cfg0.N) (j : Fin 1024) (k : Fin 6144) :
    iblk m c 1 t (ix2 k j) = m ((c.tc : Thread nD τ).loc main_arg1) (ix2 k j) := by
  blk_ext [iblk, Gen.V, idx t]

/-- The block that a point stores, in terms of the arrays. -/
theorem pay_blk (c : Dev nD) (t : Fin cfg0.N) (i : Fin 256) (j : Fin 1024) :
    k0_pay1 (F := Ideal) (iblk m c 0 t) (iblk m c 1 t) (ix2 i j)
      = Cert.Reference10Ideal.Products.elem (m ((c.tc : Thread nD τ).loc main_arg0))
    (m ((c.tc : Thread nD τ).loc main_arg1)) (row t i) j := by
  rw [pay_at]
  unfold Cert.Reference10Ideal.Products.elem
  simp only [blk0, blk1]

/-- The array that the call leaves. -/
theorem arr (c : Dev nD) : (dats m 0 c).arrAt 2 cfg0.N = Cert.Reference10Ideal.Read.val_main_v5 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 256) (j : Fin 1024), y = ix2 i j := ⟨y 0, y 1, eq_ix2 y⟩
  frame_out
  refine (pay_blk m c t i j).trans ((Cert.Reference10Ideal.Products.out_at
    (m ((c.tc : Thread nD τ).loc main_arg0))
    (m ((c.tc : Thread nD τ).loc main_arg1))
    (row t i) j).symm.trans ?_)
  unfold row
  blk_ext [idx t]

end Cert.Kernel10Ideal.Products

namespace Cert.Products

open Idealize.ShloMosaic Idealize.SL.Sem

attribute [local instance] Cert.Kernel10Ideal.Gen.facts Cert.Reference10Ideal.Gen.facts

theorem quiescent_proj_b_dx : Cert.quiescent_Reference10Ideal := by
  intro m g _
  run_from Cert.Reference10Ideal.Value.run m g
  · exact fun c => ⟨trivial, trivial⟩
  · exact sem_eq_zero_of_no_sems (by decide) _

/-- The call and the derivative of the reference's product leave the same array. -/
theorem proj_b_dx : Cert.algebraic_Kernel10Ideal_Reference10Ideal := by
  pair_intro
  · run_from Cert.Kernel10Ideal.Value.run_blocks m g
  · run_from Cert.Reference10Ideal.Value.run m' g'
    obtain ⟨e0, e1⟩ := hagree c
    refine (Cert.Reference10Ideal.Read.val_main_v5_eq (F := Ideal) _ _).trans ?_
    exact (Cert.Kernel10Ideal.Products.arr m c).symm

end Cert.Products
-- ==== Proof.Products.ProjBDw.lean ====
/- The gradient of the transposed weight of layer 1's projection. -/
module

public import proofs.«01_k».proof.Defs
public import proofs.«01_k».proof.Proof.Gen.Kernel11Ideal.Value
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference11Ideal.Products

open Idealize.ShloMosaic Idealize.SL.Sem Cert.Reference11Ideal Cert.Reference11Ideal.Gen Cert.Reference11Ideal.Read

/-- One element of the result, as a sum. -/
def elem (x0 : (⟨S2048x6144, .bf16⟩ : BufTy).Contents (Elt Ideal))
    (x1 : (⟨S2048x1024, .bf16⟩ : BufTy).Contents (Elt Ideal)) (i : Fin 6144) (j : Fin 1024) : EReal :=
  ∑ k : Fin 2048, x0 (ix2 k i) * x1 (ix2 k j)

/-- The reference's result has these elements. -/
theorem out_at (x0 : (⟨S2048x6144, .bf16⟩ : BufTy).Contents (Elt Ideal))
    (x1 : (⟨S2048x1024, .bf16⟩ : BufTy).Contents (Elt Ideal)) (i : Fin 6144) (j : Fin 1024) :
    val_main_v8 (F := Ideal) x0 x1 (ix2 i j) = elem x0 x1 i j := by
  unfold elem
  unfold val_main_v8 val_main_v7 val_main_v6 val_main_v5 val_main_v0 val_main_v4
  pointwise

end Cert.Reference11Ideal.Products

namespace Cert.Kernel11Ideal.Products

open Idealize.ShloMosaic Idealize.SL.Sem Cert.Kernel11Ideal Cert.Kernel11Ideal.Gen

/-- One element of the block that the kernel stores at a grid point. -/
theorem pay_at (y0 : Vec Ideal S2048x1024 .bf16) (y1 : Vec Ideal S2048x1024 .bf16)
    (i : Fin 1024) (j : Fin 1024) :
    k0_pay1 (F := Ideal) y0 y1 (ix2 i j) = ∑ k : Fin 2048, y0 (ix2 k i) * y1 (ix2 k j) := by
  unfold k0_pay1
  pointwise

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

/-- The row of the result that point `t` writes as row `i` of its block. -/
def row (t : Fin cfg0.N) (i : Fin 1024) : Fin 6144 :=
  ⟨t.val * 1024 + i.val, by have := t.isLt; have : cfg0.N = 6 := N_0; omega⟩

theorem blk0 (c : Dev nD) (t : Fin cfg0.N) (i : Fin 1024) (k : Fin 2048) :
    iblk m c 0 t (ix2 k i) = m ((c.tc : Thread nD τ).loc main_arg0) (ix2 k (row t i)) := by
  unfold row
  blk_ext [iblk, Gen.V, idx t]

theorem blk1 (c : Dev nD) (t : Fin cfg0.N) (j : Fin 1024) (k : Fin 2048) :
    iblk m c 1 t (ix2 k j) = m ((c.tc : Thread nD τ).loc main_arg1) (ix2 k j) := by
  blk_ext [iblk, Gen.V, idx t]

/-- The block that a point stores, in terms of the arrays. -/
theorem pay_blk (c : Dev nD) (t : Fin cfg0.N) (i : Fin 1024) (j : Fin 1024) :
    k0_pay1 (F := Ideal) (iblk m c 0 t) (iblk m c 1 t) (ix2 i j)
      = Cert.Reference11Ideal.Products.elem (m ((c.tc : Thread nD τ).loc main_arg0))
    (m ((c.tc : Thread nD τ).loc main_arg1)) (row t i) j := by
  rw [pay_at]
  unfold Cert.Reference11Ideal.Products.elem
  simp only [blk0, blk1]

/-- The array that the call leaves. -/
theorem arr (c : Dev nD) : (dats m 0 c).arrAt 2 cfg0.N = Cert.Reference11Ideal.Read.val_main_v8 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, eq_ix2 y⟩
  frame_out
  refine (pay_blk m c t i j).trans ((Cert.Reference11Ideal.Products.out_at
    (m ((c.tc : Thread nD τ).loc main_arg0))
    (m ((c.tc : Thread nD τ).loc main_arg1))
    (row t i) j).symm.trans ?_)
  unfold row
  blk_ext [idx t]

end Cert.Kernel11Ideal.Products

namespace Cert.Products

open Idealize.ShloMosaic Idealize.SL.Sem

attribute [local instance] Cert.Kernel11Ideal.Gen.facts Cert.Reference11Ideal.Gen.facts

theorem quiescent_proj_b_dw : Cert.quiescent_Reference11Ideal := by
  intro m g _
  run_from Cert.Reference11Ideal.Value.run m g
  · exact fun c => ⟨trivial, trivial⟩
  · exact sem_eq_zero_of_no_sems (by decide) _

/-- The call and the derivative of the reference's product leave the same array. -/
theorem proj_b_dw : Cert.algebraic_Kernel11Ideal_Reference11Ideal := by
  pair_intro
  · run_from Cert.Kernel11Ideal.Value.run_blocks m g
  · run_from Cert.Reference11Ideal.Value.run m' g'
    obtain ⟨e0, e1⟩ := hagree c
    refine (Cert.Reference11Ideal.Read.val_main_v8_eq (F := Ideal) _ _).trans ?_
    exact (Cert.Kernel11Ideal.Products.arr m c).symm

end Cert.Products
-- ==== Proof.Products.KvDw.lean ====
/- The gradient of the weight of the memory's keys and values. -/
module

public import proofs.«01_k».proof.Defs
public import proofs.«01_k».proof.Proof.Gen.Kernel12Ideal.Value
public import proofs.«01_k».proof.Proof.Gen.Kernel12Ideal
public import proofs.«01_k».proof.Proof.Gen.Reference12Ideal
public import proofs.«01_k».proof.Proof.Gen.Reference12Ideal.Run
public import proofs.«01_k».proof.Proof.Gen.Reference12Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference12Ideal.Products

open Idealize.ShloMosaic Idealize.SL.Sem Cert.Reference12Ideal Cert.Reference12Ideal.Gen Cert.Reference12Ideal.Read

/-- One element of the result, as a sum. -/
def elem (x0 : (⟨S256x1024, .bf16⟩ : BufTy).Contents (Elt Ideal))
    (x1 : (⟨S256x2048, .f32⟩ : BufTy).Contents (Elt Ideal)) (i : Fin 1024) (j : Fin 2048) : EReal :=
  ∑ k : Fin 256, x0 (ix2 k i) * x1 (ix2 k j)

/-- The reference's result has these elements. -/
theorem out_at (x0 : (⟨S256x1024, .bf16⟩ : BufTy).Contents (Elt Ideal))
    (x1 : (⟨S256x2048, .f32⟩ : BufTy).Contents (Elt Ideal)) (i : Fin 1024) (j : Fin 2048) :
    val_main_v5 (F := Ideal) x0 x1 (ix2 i j) = elem x0 x1 i j := by
  unfold elem
  refine Eq.trans ?_ (Finset.sum_congr rfl fun k _ => mul_comm _ _)
  unfold val_main_v5 val_main_v4 val_main_v3 val_main_v0
  pointwise

end Cert.Reference12Ideal.Products

namespace Cert.Kernel12Ideal.Products

open Idealize.ShloMosaic Idealize.SL.Sem Cert.Kernel12Ideal Cert.Kernel12Ideal.Gen

/-- One element of the block that the kernel stores at a grid point. -/
theorem pay_at (y0 : Vec Ideal S256x1024 .bf16) (y1 : Vec Ideal S256x1024 .f32)
    (i : Fin 1024) (j : Fin 1024) :
    k0_pay1 (F := Ideal) y0 y1 (ix2 i j) = ∑ k : Fin 256, y0 (ix2 k i) * y1 (ix2 k j) := by
  unfold k0_pay1
  pointwise

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

/-- The column of the result that point `t` writes as column `j` of its block. -/
def col (t : Fin cfg0.N) (j : Fin 1024) : Fin 2048 :=
  ⟨t.val * 1024 + j.val, by have := t.isLt; have : cfg0.N = 2 := N_0; omega⟩

theorem blk0 (c : Dev nD) (t : Fin cfg0.N) (i : Fin 1024) (k : Fin 256) :
    iblk m c 0 t (ix2 k i) = m ((c.tc : Thread nD τ).loc main_arg0) (ix2 k i) := by
  blk_ext [iblk, Gen.V, idx t]

theorem blk1 (c : Dev nD) (t : Fin cfg0.N) (j : Fin 1024) (k : Fin 256) :
    iblk m c 1 t (ix2 k j) = m ((c.tc : Thread nD τ).loc main_arg1) (ix2 k (col t j)) := by
  unfold col
  blk_ext [iblk, Gen.V, idx t]

/-- The block that a point stores, in terms of the arrays. -/
theorem pay_blk (c : Dev nD) (t : Fin cfg0.N) (i : Fin 1024) (j : Fin 1024) :
    k0_pay1 (F := Ideal) (iblk m c 0 t) (iblk m c 1 t) (ix2 i j)
      = Cert.Reference12Ideal.Products.elem (m ((c.tc : Thread nD τ).loc main_arg0))
    (m ((c.tc : Thread nD τ).loc main_arg1)) i (col t j) := by
  rw [pay_at]
  unfold Cert.Reference12Ideal.Products.elem
  simp only [blk0, blk1]

/-- The array that the call leaves. -/
theorem arr (c : Dev nD) : (dats m 0 c).arrAt 2 cfg0.N = Cert.Reference12Ideal.Read.val_main_v5 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, eq_ix2 y⟩
  frame_out
  refine (pay_blk m c t i j).trans ((Cert.Reference12Ideal.Products.out_at
    (m ((c.tc : Thread nD τ).loc main_arg0))
    (m ((c.tc : Thread nD τ).loc main_arg1))
    i (col t j)).symm.trans ?_)
  unfold col
  blk_ext [idx t]

end Cert.Kernel12Ideal.Products

namespace Cert.Products

open Idealize.ShloMosaic Idealize.SL.Sem

attribute [local instance] Cert.Kernel12Ideal.Gen.facts Cert.Reference12Ideal.Gen.facts

theorem quiescent_kv_dw : Cert.quiescent_Reference12Ideal := by
  intro m g _
  run_from Cert.Reference12Ideal.Value.run m g
  · exact fun c => ⟨trivial, trivial⟩
  · exact sem_eq_zero_of_no_sems (by decide) _

/-- The call and the derivative of the reference's product leave the same array. -/
theorem kv_dw : Cert.algebraic_Kernel12Ideal_Reference12Ideal := by
  pair_intro
  · run_from Cert.Kernel12Ideal.Value.run_blocks m g
  · run_from Cert.Reference12Ideal.Value.run m' g'
    obtain ⟨e0, e1⟩ := hagree c
    refine (Cert.Reference12Ideal.Read.val_main_v5_eq (F := Ideal) _ _).trans ?_
    exact (Cert.Kernel12Ideal.Products.arr m c).symm

end Cert.Products
-- ==== Proof.Products.KvDx.lean ====
/- The gradient of the normed memory. -/
module

public import proofs.«01_k».proof.Defs
public import proofs.«01_k».proof.Proof.Gen.Kernel13Ideal.Value
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference13Ideal.Products

open Idealize.ShloMosaic Idealize.SL.Sem Cert.Reference13Ideal Cert.Reference13Ideal.Gen Cert.Reference13Ideal.Read

/-- One element of the result, as a sum. -/
def elem (x0 : (⟨S256x2048, .f32⟩ : BufTy).Contents (Elt Ideal))
    (x1 : (⟨S1x1024x2048, .bf16⟩ : BufTy).Contents (Elt Ideal)) (i : Fin 256) (j : Fin 1024) : EReal :=
  ∑ k : Fin 2048, x0 (ix2 i k) * x1 (ix3 0 j k)

/-- The reference's result has these elements. -/
theorem out_at (x0 : (⟨S256x2048, .f32⟩ : BufTy).Contents (Elt Ideal))
    (x1 : (⟨S1x1024x2048, .bf16⟩ : BufTy).Contents (Elt Ideal)) (i : Fin 256) (j : Fin 1024) :
    val_main_v4 (F := Ideal) x0 x1 (ix2 i j) = elem x0 x1 i j := by
  unfold elem
  unfold val_main_v4 val_main_v1 val_main_v0
  pointwise

end Cert.Reference13Ideal.Products

namespace Cert.Kernel13Ideal.Products

open Idealize.ShloMosaic Idealize.SL.Sem Cert.Kernel13Ideal Cert.Kernel13Ideal.Gen

/-- One element of the block that the kernel stores at a grid point. -/
theorem pay_at (y0 : Vec Ideal S256x2048 .f32) (y1 : Vec Ideal S1x512x2048 .bf16)
    (i : Fin 256) (j : Fin 512) :
    k0_pay1 (F := Ideal) y0 y1 (ix2 i j) = ∑ k : Fin 2048, y0 (ix2 i k) * y1 (ix3 0 j k) := by
  unfold k0_pay1
  pointwise

variable (m : (ℓ : Loc nD τ sig) → Buf (Elt Ideal) ℓ)

theorem idx : ∀ t : Fin cfg0.N, win0_0.index t = ![0, 0] ∧ win0_1.index t = ![0, t.val, 0] ∧ win0_2.index t = ![0, t.val] :=
  (by decide +kernel : ∀ t : Fin grid0.N, _)

/-- The column of the result that point `t` writes as column `j` of its block. -/
def col (t : Fin cfg0.N) (j : Fin 512) : Fin 1024 :=
  ⟨t.val * 512 + j.val, by have := t.isLt; have : cfg0.N = 2 := N_0; omega⟩

theorem blk0 (c : Dev nD) (t : Fin cfg0.N) (i : Fin 256) (k : Fin 2048) :
    iblk m c 0 t (ix2 i k) = m ((c.tc : Thread nD τ).loc main_arg0) (ix2 i k) := by
  blk_ext [iblk, Gen.V, idx t]

theorem blk1 (c : Dev nD) (t : Fin cfg0.N) (j : Fin 512) (k : Fin 2048) :
    iblk m c 1 t (ix3 0 j k) = m ((c.tc : Thread nD τ).loc main_arg1) (ix3 0 (col t j) k) := by
  unfold col
  blk_ext [iblk, Gen.V, idx t]

/-- The block that a point stores, in terms of the arrays. -/
theorem pay_blk (c : Dev nD) (t : Fin cfg0.N) (i : Fin 256) (j : Fin 512) :
    k0_pay1 (F := Ideal) (iblk m c 0 t) (iblk m c 1 t) (ix2 i j)
      = Cert.Reference13Ideal.Products.elem (m ((c.tc : Thread nD τ).loc main_arg0))
    (m ((c.tc : Thread nD τ).loc main_arg1)) i (col t j) := by
  rw [pay_at]
  unfold Cert.Reference13Ideal.Products.elem
  simp only [blk0, blk1]

/-- The array that the call leaves. -/
theorem arr (c : Dev nD) : (dats m 0 c).arrAt 2 cfg0.N = Cert.Reference13Ideal.Read.val_main_v4 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 256) (j : Fin 512), y = ix2 i j := ⟨y 0, y 1, eq_ix2 y⟩
  frame_out
  refine (pay_blk m c t i j).trans ((Cert.Reference13Ideal.Products.out_at
    (m ((c.tc : Thread nD τ).loc main_arg0))
    (m ((c.tc : Thread nD τ).loc main_arg1))
    i (col t j)).symm.trans ?_)
  unfold col
  blk_ext [idx t]

end Cert.Kernel13Ideal.Products

namespace Cert.Products

open Idealize.ShloMosaic Idealize.SL.Sem

attribute [local instance] Cert.Kernel13Ideal.Gen.facts Cert.Reference13Ideal.Gen.facts

theorem quiescent_kv_dx : Cert.quiescent_Reference13Ideal := by
  intro m g _
  run_from Cert.Reference13Ideal.Value.run m g
  · exact fun c => ⟨trivial, trivial⟩
  · exact sem_eq_zero_of_no_sems (by decide) _

/-- The call and the derivative of the reference's product leave the same array. -/
theorem kv_dx : Cert.algebraic_Kernel13Ideal_Reference13Ideal := by
  pair_intro
  · run_from Cert.Kernel13Ideal.Value.run_blocks m g
  · run_from Cert.Reference13Ideal.Value.run m' g'
    obtain ⟨e0, e1⟩ := hagree c
    refine (Cert.Reference13Ideal.Read.val_main_v4_eq (F := Ideal) _ _).trans ?_
    exact (Cert.Kernel13Ideal.Products.arr m c).symm

end Cert.Products
-- ==== Proof.Products.DtDw.lean ====
/- The gradient of the transposed weight of the time steps' projection. -/
module

public import proofs.«01_k».proof.Defs
public import proofs.«01_k».proof.Proof.Gen.Kernel14Ideal.Value
public import proofs.«01_k».proof.Proof.Gen.Kernel14Ideal
public import proofs.«01_k».proof.Proof.Gen.Reference14Ideal
public import proofs.«01_k».proof.Proof.Gen.Reference14Ideal.Run
public import proofs.«01_k».proof.Proof.Gen.Reference14Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference14Ideal.Products

open Idealize.ShloMosaic Idealize.SL.Sem Cert.Reference14Ideal Cert.Reference14Ideal.Gen Cert.Reference14Ideal.Read

/-- One element of the result, as a sum. -/
def elem (x0 : (⟨S2048x128, .bf16⟩ : BufTy).Contents (Elt Ideal))
    (x1 : (⟨S2048x1024, .bf16⟩ : BufTy).Contents (Elt Ideal)) (i : Fin 128) (j : Fin 1024) : EReal :=
  ∑ k : Fin 2048, x0 (ix2 k i) * x1 (ix2 k j)

/-- The reference's result has these elements. -/
theorem out_at (x0 : (⟨S2048x128, .bf16⟩ : BufTy).Contents (Elt Ideal))
    (x1 : (⟨S2048x1024, .bf16⟩ : BufTy).Contents (Elt Ideal)) (i : Fin 128) (j : Fin 1024) :
    val_main_v8 (F := Ideal) x0 x1 (ix2 i j) = elem x0 x1 i j := by
  unfold elem
  unfold val_main_v8 val_main_v7 val_main_v6 val_main_v5 val_main_v0 val_main_v4
  pointwise

end Cert.Reference14Ideal.Products

namespace Cert.Kernel14Ideal.Products

open Idealize.ShloMosaic Idealize.SL.Sem Cert.Kernel14Ideal Cert.Kernel14Ideal.Gen

/-- One element of the block that the kernel stores at a grid point. -/
theorem pay_at (y0 : Vec Ideal S2048x128 .bf16) (y1 : Vec Ideal S2048x512 .bf16)
    (i : Fin 128) (j : Fin 512) :
    k0_pay1 (F := Ideal) y0 y1 (ix2 i j) = ∑ k : Fin 2048, y0 (ix2 k i) * y1 (ix2 k j) := by
  unfold k0_pay1
  pointwise

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

/-- The column of the result that point `t` writes as column `j` of its block. -/
def col (t : Fin cfg0.N) (j : Fin 512) : Fin 1024 :=
  ⟨t.val * 512 + j.val, by have := t.isLt; have : cfg0.N = 2 := N_0; omega⟩

theorem blk0 (c : Dev nD) (t : Fin cfg0.N) (i : Fin 128) (k : Fin 2048) :
    iblk m c 0 t (ix2 k i) = m ((c.tc : Thread nD τ).loc main_arg0) (ix2 k i) := by
  blk_ext [iblk, Gen.V, idx t]

theorem blk1 (c : Dev nD) (t : Fin cfg0.N) (j : Fin 512) (k : Fin 2048) :
    iblk m c 1 t (ix2 k j) = m ((c.tc : Thread nD τ).loc main_arg1) (ix2 k (col t j)) := by
  unfold col
  blk_ext [iblk, Gen.V, idx t]

/-- The block that a point stores, in terms of the arrays. -/
theorem pay_blk (c : Dev nD) (t : Fin cfg0.N) (i : Fin 128) (j : Fin 512) :
    k0_pay1 (F := Ideal) (iblk m c 0 t) (iblk m c 1 t) (ix2 i j)
      = Cert.Reference14Ideal.Products.elem (m ((c.tc : Thread nD τ).loc main_arg0))
    (m ((c.tc : Thread nD τ).loc main_arg1)) i (col t j) := by
  rw [pay_at]
  unfold Cert.Reference14Ideal.Products.elem
  simp only [blk0, blk1]

/-- The array that the call leaves. -/
theorem arr (c : Dev nD) : (dats m 0 c).arrAt 2 cfg0.N = Cert.Reference14Ideal.Read.val_main_v8 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 128) (j : Fin 512), y = ix2 i j := ⟨y 0, y 1, eq_ix2 y⟩
  frame_out
  refine (pay_blk m c t i j).trans ((Cert.Reference14Ideal.Products.out_at
    (m ((c.tc : Thread nD τ).loc main_arg0))
    (m ((c.tc : Thread nD τ).loc main_arg1))
    i (col t j)).symm.trans ?_)
  unfold col
  blk_ext [idx t]

end Cert.Kernel14Ideal.Products

namespace Cert.Products

open Idealize.ShloMosaic Idealize.SL.Sem

attribute [local instance] Cert.Kernel14Ideal.Gen.facts Cert.Reference14Ideal.Gen.facts

theorem quiescent_dt_dw : Cert.quiescent_Reference14Ideal := by
  intro m g _
  run_from Cert.Reference14Ideal.Value.run m g
  · exact fun c => ⟨trivial, trivial⟩
  · exact sem_eq_zero_of_no_sems (by decide) _

/-- The call and the derivative of the reference's product leave the same array. -/
theorem dt_dw : Cert.algebraic_Kernel14Ideal_Reference14Ideal := by
  pair_intro
  · run_from Cert.Kernel14Ideal.Value.run_blocks m g
  · run_from Cert.Reference14Ideal.Value.run m' g'
    obtain ⟨e0, e1⟩ := hagree c
    refine (Cert.Reference14Ideal.Read.val_main_v8_eq (F := Ideal) _ _).trans ?_
    exact (Cert.Kernel14Ideal.Products.arr m c).symm

end Cert.Products
-- ==== Proof.Products.DtDx.lean ====
/- The gradient of the input of the time steps' projection, added to another. -/
module

public import proofs.«01_k».proof.Defs
public import proofs.«01_k».proof.Proof.Gen.Kernel15Ideal.Value
public import proofs.«01_k».proof.Proof.Gen.Kernel15Ideal
public import proofs.«01_k».proof.Proof.Gen.Reference15Ideal
public import proofs.«01_k».proof.Proof.Gen.Reference15Ideal.Run
public import proofs.«01_k».proof.Proof.Gen.Reference15Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference15Ideal.Products

open Idealize.ShloMosaic Idealize.SL.Sem Cert.Reference15Ideal Cert.Reference15Ideal.Gen Cert.Reference15Ideal.Read

/-- One element of the result, as a sum. -/
def elem (x0 : (⟨S2048x128, .bf16⟩ : BufTy).Contents (Elt Ideal))
    (x1 : (⟨S128x1024, .bf16⟩ : BufTy).Contents (Elt Ideal))
    (x2 : (⟨S2048x1024, .f32⟩ : BufTy).Contents (Elt Ideal)) (i : Fin 2048) (j : Fin 1024) : EReal :=
  (∑ k : Fin 128, x0 (ix2 i k) * x1 (ix2 k j)) + x2 (ix2 i j)

/-- The reference's result has these elements. -/
theorem out_at (x0 : (⟨S2048x128, .bf16⟩ : BufTy).Contents (Elt Ideal))
    (x1 : (⟨S128x1024, .bf16⟩ : BufTy).Contents (Elt Ideal))
    (x2 : (⟨S2048x1024, .f32⟩ : BufTy).Contents (Elt Ideal)) (i : Fin 2048) (j : Fin 1024) :
    val_main_v6 (F := Ideal) x0 x1 x2 (ix2 i j) = elem x0 x1 x2 i j := by
  unfold elem
  refine Eq.trans ?_ (add_comm _ _)
  unfold val_main_v6 val_main_v5 val_main_v1 val_main_v4 val_main_v0
  pointwise

end Cert.Reference15Ideal.Products

namespace Cert.Kernel15Ideal.Products

open Idealize.ShloMosaic Idealize.SL.Sem Cert.Kernel15Ideal Cert.Kernel15Ideal.Gen

/-- One element of the block that the kernel stores at a grid point. -/
theorem pay_at (y0 : Vec Ideal S1024x128 .bf16) (y1 : Vec Ideal S128x1024 .bf16) (y2 : Vec Ideal S1024x1024 .f32)
    (i : Fin 1024) (j : Fin 1024) :
    k0_pay1 (F := Ideal) y0 y1 y2 (ix2 i j) = (∑ k : Fin 128, y0 (ix2 i k) * y1 (ix2 k j)) + y2 (ix2 i j) := by
  unfold k0_pay1
  pointwise

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row of the result that point `t` writes as row `i` of its block. -/
def row (t : Fin cfg0.N) (i : Fin 1024) : Fin 2048 :=
  ⟨t.val * 1024 + i.val, by have := t.isLt; have : cfg0.N = 2 := N_0; omega⟩

theorem blk0 (c : Dev nD) (t : Fin cfg0.N) (i : Fin 1024) (k : Fin 128) :
    iblk m c 0 t (ix2 i k) = m ((c.tc : Thread nD τ).loc main_arg0) (ix2 (row t i) k) := by
  unfold row
  blk_ext [iblk, Gen.V, idx t]

theorem blk1 (c : Dev nD) (t : Fin cfg0.N) (j : Fin 1024) (k : Fin 128) :
    iblk m c 1 t (ix2 k j) = m ((c.tc : Thread nD τ).loc main_arg1) (ix2 k j) := by
  blk_ext [iblk, Gen.V, idx t]

theorem blk2 (c : Dev nD) (t : Fin cfg0.N) (i : Fin 1024) (j : Fin 1024) :
    iblk m c 2 t (ix2 i j) = m ((c.tc : Thread nD τ).loc main_arg2) (ix2 (row t i) j) := by
  unfold row
  blk_ext [iblk, Gen.V, idx t]

/-- The block that a point stores, in terms of the arrays. -/
theorem pay_blk (c : Dev nD) (t : Fin cfg0.N) (i : Fin 1024) (j : Fin 1024) :
    k0_pay1 (F := Ideal) (iblk m c 0 t) (iblk m c 1 t) (iblk m c 2 t) (ix2 i j)
      = Cert.Reference15Ideal.Products.elem (m ((c.tc : Thread nD τ).loc main_arg0))
    (m ((c.tc : Thread nD τ).loc main_arg1))
    (m ((c.tc : Thread nD τ).loc main_arg2)) (row t i) j := by
  rw [pay_at]
  unfold Cert.Reference15Ideal.Products.elem
  simp only [blk0, blk1, blk2]

/-- The array that the call leaves. -/
theorem arr (c : Dev nD) : (dats m 0 c).arrAt 3 cfg0.N = Cert.Reference15Ideal.Read.val_main_v6 (F := Ideal)
    (m ((c.tc : Thread nD τ).loc main_arg0))
    (m ((c.tc : Thread nD τ).loc main_arg1))
    (m ((c.tc : Thread nD τ).loc main_arg2)) := by
  refine (dats m 0 c).arrAt_eq_of_covers 3 _ (by decide +kernel) fun t hf y => ?_
  blk_simp
  rw [after0_3]
  obtain ⟨i, j, rfl⟩ : ∃ (i : Fin 1024) (j : Fin 1024), y = ix2 i j := ⟨y 0, y 1, eq_ix2 y⟩
  frame_out
  refine (pay_blk m c t i j).trans ((Cert.Reference15Ideal.Products.out_at
    (m ((c.tc : Thread nD τ).loc main_arg0))
    (m ((c.tc : Thread nD τ).loc main_arg1))
    (m ((c.tc : Thread nD τ).loc main_arg2))
    (row t i) j).symm.trans ?_)
  unfold row
  blk_ext [idx t]

end Cert.Kernel15Ideal.Products

namespace Cert.Products

open Idealize.ShloMosaic Idealize.SL.Sem

attribute [local instance] Cert.Kernel15Ideal.Gen.facts Cert.Reference15Ideal.Gen.facts

theorem quiescent_dt_dx : Cert.quiescent_Reference15Ideal := by
  intro m g _
  run_from Cert.Reference15Ideal.Value.run m g
  · exact fun c => ⟨trivial, trivial, trivial⟩
  · exact sem_eq_zero_of_no_sems (by decide) _

/-- The call and the derivative of the reference's product leave the same array. -/
theorem dt_dx : Cert.algebraic_Kernel15Ideal_Reference15Ideal := by
  pair_intro
  · run_from Cert.Kernel15Ideal.Value.run_blocks m g
  · run_from Cert.Reference15Ideal.Value.run m' g'
    obtain ⟨e0, e1, e2⟩ := hagree c
    refine (Cert.Reference15Ideal.Read.val_main_v6_eq (F := Ideal) _ _ _).trans ?_
    exact (Cert.Kernel15Ideal.Products.arr m c).symm

end Cert.Products
-- ==== Proof.Products.FfnUp.lean ====
/- The feed-forward's first product. -/
module

public import proofs.«01_k».proof.Defs
public import proofs.«01_k».proof.Proof.Gen.Kernel16Ideal.Value
public import proofs.«01_k».proof.Proof.Gen.Kernel16Ideal
public import proofs.«01_k».proof.Proof.Gen.Reference16Ideal
public import proofs.«01_k».proof.Proof.Gen.Reference16Ideal.Run
public import proofs.«01_k».proof.Proof.Gen.Reference16Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference16Ideal.Products

open Idealize.ShloMosaic Idealize.SL.Sem Cert.Reference16Ideal Cert.Reference16Ideal.Gen Cert.Reference16Ideal.Read

/-- One element of the result, as a sum. -/
def elem (x0 : (⟨S2048x1024, .bf16⟩ : BufTy).Contents (Elt Ideal))
    (x1 : (⟨S1x1024x4096, .bf16⟩ : BufTy).Contents (Elt Ideal)) (i : Fin 2048) (j : Fin 4096) : EReal :=
  ∑ k : Fin 1024, x0 (ix2 i k) * x1 (ix3 0 k j)

/-- The reference's result has these elements. -/
theorem out_at (x0 : (⟨S2048x1024, .bf16⟩ : BufTy).Contents (Elt Ideal))
    (x1 : (⟨S1x1024x4096, .bf16⟩ : BufTy).Contents (Elt Ideal)) (i : Fin 2048) (j : Fin 4096) :
    val_main_v4 (F := Ideal) x0 x1 (ix2 i j) = elem x0 x1 i j := by
  unfold elem
  unfold val_main_v4 val_main_v3 val_main_v0 val_main_v2 val_main_v1
  pointwise

end Cert.Reference16Ideal.Products

namespace Cert.Kernel16Ideal.Products

open Idealize.ShloMosaic Idealize.SL.Sem Cert.Kernel16Ideal Cert.Kernel16Ideal.Gen

/-- One element of the block that the kernel stores at a grid point. -/
theorem pay_at (y0 : Vec Ideal S2048x1024 .bf16) (y1 : Vec Ideal S1x1024x1024 .bf16)
    (i : Fin 2048) (j : Fin 1024) :
    k0_pay1 (F := Ideal) y0 y1 (ix2 i j) = ∑ k : Fin 1024, y0 (ix2 i k) * y1 (ix3 0 k j) := by
  unfold k0_pay1
  pointwise

variable (m : (ℓ : Loc nD τ sig) → Buf (Elt Ideal) ℓ)

theorem idx : ∀ t : Fin cfg0.N, win0_0.index t = ![0, 0] ∧ win0_1.index t = ![0, 0, t.val] ∧ win0_2.index t = ![0, t.val] :=
  (by decide +kernel : ∀ t : Fin grid0.N, _)

/-- The column of the result that point `t` writes as column `j` of its block. -/
def col (t : Fin cfg0.N) (j : Fin 1024) : Fin 4096 :=
  ⟨t.val * 1024 + j.val, by have := t.isLt; have : cfg0.N = 4 := N_0; omega⟩

theorem blk0 (c : Dev nD) (t : Fin cfg0.N) (i : Fin 2048) (k : Fin 1024) :
    iblk m c 0 t (ix2 i k) = m ((c.tc : Thread nD τ).loc main_arg0) (ix2 i k) := by
  blk_ext [iblk, Gen.V, idx t]

theorem blk1 (c : Dev nD) (t : Fin cfg0.N) (j : Fin 1024) (k : Fin 1024) :
    iblk m c 1 t (ix3 0 k j) = m ((c.tc : Thread nD τ).loc main_arg1) (ix3 0 k (col t j)) := by
  unfold col
  blk_ext [iblk, Gen.V, idx t]

/-- The block that a point stores, in terms of the arrays. -/
theorem pay_blk (c : Dev nD) (t : Fin cfg0.N) (i : Fin 2048) (j : Fin 1024) :
    k0_pay1 (F := Ideal) (iblk m c 0 t) (iblk m c 1 t) (ix2 i j)
      = Cert.Reference16Ideal.Products.elem (m ((c.tc : Thread nD τ).loc main_arg0))
    (m ((c.tc : Thread nD τ).loc main_arg1)) i (col t j) := by
  rw [pay_at]
  unfold Cert.Reference16Ideal.Products.elem
  simp only [blk0, blk1]

/-- The array that the call leaves. -/
theorem arr (c : Dev nD) : (dats m 0 c).arrAt 2 cfg0.N = Cert.Reference16Ideal.Read.val_main_v4 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 2048) (j : Fin 1024), y = ix2 i j := ⟨y 0, y 1, eq_ix2 y⟩
  frame_out
  refine (pay_blk m c t i j).trans ((Cert.Reference16Ideal.Products.out_at
    (m ((c.tc : Thread nD τ).loc main_arg0))
    (m ((c.tc : Thread nD τ).loc main_arg1))
    i (col t j)).symm.trans ?_)
  unfold col
  blk_ext [idx t]

end Cert.Kernel16Ideal.Products

namespace Cert.Products

open Idealize.ShloMosaic Idealize.SL.Sem

attribute [local instance] Cert.Kernel16Ideal.Gen.facts Cert.Reference16Ideal.Gen.facts

theorem quiescent_ffn_up : Cert.quiescent_Reference16Ideal := by
  intro m g _
  run_from Cert.Reference16Ideal.Value.run m g
  · exact fun c => ⟨trivial, trivial⟩
  · exact sem_eq_zero_of_no_sems (by decide) _

/-- The call and the reference's line leave the same array. -/
theorem ffn_up : Cert.algebraic_Kernel16Ideal_Reference16Ideal := by
  pair_intro
  · run_from Cert.Kernel16Ideal.Value.run_blocks m g
  · run_from Cert.Reference16Ideal.Value.run m' g'
    obtain ⟨e0, e1⟩ := hagree c
    refine (Cert.Reference16Ideal.Read.val_main_v4_eq (F := Ideal) _ _).trans ?_
    exact (Cert.Kernel16Ideal.Products.arr m c).symm

end Cert.Products
-- ==== Proof.Products.FfnDown.lean ====
/- The feed-forward's squared ReLU and second product, with the residual. -/
module

public import proofs.«01_k».proof.Defs
public import proofs.«01_k».proof.Proof.Gen.Kernel17Ideal.Value
public import proofs.«01_k».proof.Proof.Gen.Kernel17Ideal
public import proofs.«01_k».proof.Proof.Gen.Reference17Ideal
public import proofs.«01_k».proof.Proof.Gen.Reference17Ideal.Run
public import proofs.«01_k».proof.Proof.Gen.Reference17Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference17Ideal.Products

open Idealize.ShloMosaic Idealize.SL.Sem Cert.Reference17Ideal Cert.Reference17Ideal.Gen Cert.Reference17Ideal.Read

/-- One element of the result, as a sum. -/
def elem (x0 : (⟨S2048x4096, .bf16⟩ : BufTy).Contents (Elt Ideal))
    (x1 : (⟨S1x4096x1024, .bf16⟩ : BufTy).Contents (Elt Ideal))
    (x2 : (⟨S2048x1024, .f32⟩ : BufTy).Contents (Elt Ideal)) (i : Fin 2048) (j : Fin 1024) : EReal :=
  (∑ k : Fin 4096, max (x0 (ix2 i k)) 0 * max (x0 (ix2 i k)) 0 * x1 (ix3 0 k j)) + x2 (ix2 i j)

/-- The reference's result has these elements. -/
theorem out_at (x0 : (⟨S2048x4096, .bf16⟩ : BufTy).Contents (Elt Ideal))
    (x1 : (⟨S1x4096x1024, .bf16⟩ : BufTy).Contents (Elt Ideal))
    (x2 : (⟨S2048x1024, .f32⟩ : BufTy).Contents (Elt Ideal)) (i : Fin 2048) (j : Fin 1024) :
    val_main_v6 (F := Ideal) x0 x1 x2 (ix2 i j) = elem x0 x1 x2 i j := by
  unfold elem
  refine Eq.trans ?_ (add_comm _ _)
  unfold val_main_v6 val_main_v5 val_main_v2 val_main_v4 val_main_v1 val_main_v3 val_main_call0_v0 val_main_v0 val_main_call0_cst
  pointwise

end Cert.Reference17Ideal.Products

namespace Cert.Kernel17Ideal.Products

open Idealize.ShloMosaic Idealize.SL.Sem Cert.Kernel17Ideal Cert.Kernel17Ideal.Gen

/-- One element of the block that the kernel stores at a grid point. -/
theorem pay_at (y0 : Vec Ideal S256x4096 .bf16) (y1 : Vec Ideal S1x4096x1024 .bf16) (y2 : Vec Ideal S256x1024 .f32)
    (i : Fin 256) (j : Fin 1024) :
    k0_pay1 (F := Ideal) y0 y1 y2 (ix2 i j) = (∑ k : Fin 4096, max (y0 (ix2 i k)) 0 * max (y0 (ix2 i k)) 0 * y1 (ix3 0 k j)) + y2 (ix2 i j) := by
  unfold k0_pay1
  pointwise

variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

/-- The row of the result that point `t` writes as row `i` of its block. -/
def row (t : Fin cfg0.N) (i : Fin 256) : Fin 2048 :=
  ⟨t.val * 256 + i.val, by have := t.isLt; have : cfg0.N = 8 := N_0; omega⟩

theorem blk0 (c : Dev nD) (t : Fin cfg0.N) (i : Fin 256) (k : Fin 4096) :
    iblk m c 0 t (ix2 i k) = m ((c.tc : Thread nD τ).loc main_arg0) (ix2 (row t i) k) := by
  unfold row
  blk_ext [iblk, Gen.V, idx t]

theorem blk1 (c : Dev nD) (t : Fin cfg0.N) (j : Fin 1024) (k : Fin 4096) :
    iblk m c 1 t (ix3 0 k j) = m ((c.tc : Thread nD τ).loc main_arg1) (ix3 0 k j) := by
  blk_ext [iblk, Gen.V, idx t]

theorem blk2 (c : Dev nD) (t : Fin cfg0.N) (i : Fin 256) (j : Fin 1024) :
    iblk m c 2 t (ix2 i j) = m ((c.tc : Thread nD τ).loc main_arg2) (ix2 (row t i) j) := by
  unfold row
  blk_ext [iblk, Gen.V, idx t]

/-- The block that a point stores, in terms of the arrays. -/
theorem pay_blk (c : Dev nD) (t : Fin cfg0.N) (i : Fin 256) (j : Fin 1024) :
    k0_pay1 (F := Ideal) (iblk m c 0 t) (iblk m c 1 t) (iblk m c 2 t) (ix2 i j)
      = Cert.Reference17Ideal.Products.elem (m ((c.tc : Thread nD τ).loc main_arg0))
    (m ((c.tc : Thread nD τ).loc main_arg1))
    (m ((c.tc : Thread nD τ).loc main_arg2)) (row t i) j := by
  rw [pay_at]
  unfold Cert.Reference17Ideal.Products.elem
  simp only [blk0, blk1, blk2]

/-- The array that the call leaves. -/
theorem arr (c : Dev nD) : (dats m 0 c).arrAt 3 cfg0.N = Cert.Reference17Ideal.Read.val_main_v6 (F := Ideal)
    (m ((c.tc : Thread nD τ).loc main_arg0))
    (m ((c.tc : Thread nD τ).loc main_arg1))
    (m ((c.tc : Thread nD τ).loc main_arg2)) := by
  refine (dats m 0 c).arrAt_eq_of_covers 3 _ (by decide +kernel) fun t hf y => ?_
  blk_simp
  rw [after0_3]
  obtain ⟨i, j, rfl⟩ : ∃ (i : Fin 256) (j : Fin 1024), y = ix2 i j := ⟨y 0, y 1, eq_ix2 y⟩
  frame_out
  refine (pay_blk m c t i j).trans ((Cert.Reference17Ideal.Products.out_at
    (m ((c.tc : Thread nD τ).loc main_arg0))
    (m ((c.tc : Thread nD τ).loc main_arg1))
    (m ((c.tc : Thread nD τ).loc main_arg2))
    (row t i) j).symm.trans ?_)
  unfold row
  blk_ext [idx t]

end Cert.Kernel17Ideal.Products

namespace Cert.Products

open Idealize.ShloMosaic Idealize.SL.Sem

attribute [local instance] Cert.Kernel17Ideal.Gen.facts Cert.Reference17Ideal.Gen.facts

theorem quiescent_ffn_down : Cert.quiescent_Reference17Ideal := by
  intro m g _
  run_from Cert.Reference17Ideal.Value.run m g
  · exact fun c => ⟨trivial, trivial, trivial⟩
  · exact sem_eq_zero_of_no_sems (by decide) _

/-- The call and the reference's line leave the same array. -/
theorem ffn_down : Cert.algebraic_Kernel17Ideal_Reference17Ideal := by
  pair_intro
  · run_from Cert.Kernel17Ideal.Value.run_blocks m g
  · run_from Cert.Reference17Ideal.Value.run m' g'
    obtain ⟨e0, e1, e2⟩ := hagree c
    refine (Cert.Reference17Ideal.Read.val_main_v6_eq (F := Ideal) _ _ _).trans ?_
    exact (Cert.Kernel17Ideal.Products.arr m c).symm

end Cert.Products
-- ==== Proof.Products.OutProj.lean ====
/- The output projection, with the residual. -/
module

public import proofs.«01_k».proof.Defs
public import proofs.«01_k».proof.Proof.Gen.Kernel18Ideal.Value
public import proofs.«01_k».proof.Proof.Gen.Kernel18Ideal
public import proofs.«01_k».proof.Proof.Gen.Reference18Ideal
public import proofs.«01_k».proof.Proof.Gen.Reference18Ideal.Run
public import proofs.«01_k».proof.Proof.Gen.Reference18Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference18Ideal.Products

open Idealize.ShloMosaic Idealize.SL.Sem Cert.Reference18Ideal Cert.Reference18Ideal.Gen Cert.Reference18Ideal.Read

/-- One element of the result, as a sum. -/
def elem (x0 : (⟨S2048x3072, .bf16⟩ : BufTy).Contents (Elt Ideal))
    (x1 : (⟨S1x3072x1024, .bf16⟩ : BufTy).Contents (Elt Ideal))
    (x2 : (⟨S2048x1024, .f32⟩ : BufTy).Contents (Elt Ideal)) (i : Fin 2048) (j : Fin 1024) : EReal :=
  (∑ k : Fin 3072, x0 (ix2 i k) * x1 (ix3 0 k j)) + x2 (ix2 i j)

/-- The reference's result has these elements. -/
theorem out_at (x0 : (⟨S2048x3072, .bf16⟩ : BufTy).Contents (Elt Ideal))
    (x1 : (⟨S1x3072x1024, .bf16⟩ : BufTy).Contents (Elt Ideal))
    (x2 : (⟨S2048x1024, .f32⟩ : BufTy).Contents (Elt Ideal)) (i : Fin 2048) (j : Fin 1024) :
    val_main_v4 (F := Ideal) x0 x1 x2 (ix2 i j) = elem x0 x1 x2 i j := by
  unfold elem
  refine Eq.trans ?_ (add_comm _ _)
  unfold val_main_v4 val_main_v3 val_main_v0 val_main_v2 val_main_v1
  pointwise

end Cert.Reference18Ideal.Products

namespace Cert.Kernel18Ideal.Products

open Idealize.ShloMosaic Idealize.SL.Sem Cert.Kernel18Ideal Cert.Kernel18Ideal.Gen

/-- One element of the block that the kernel stores at a grid point. -/
theorem pay_at (y0 : Vec Ideal S512x3072 .bf16) (y1 : Vec Ideal S1x3072x1024 .bf16) (y2 : Vec Ideal S512x1024 .f32)
    (i : Fin 512) (j : Fin 1024) :
    k0_pay1 (F := Ideal) y0 y1 y2 (ix2 i j) = (∑ k : Fin 3072, y0 (ix2 i k) * y1 (ix3 0 k j)) + y2 (ix2 i j) := by
  unfold k0_pay1
  pointwise

variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

/-- The row of the result that point `t` writes as row `i` of its block. -/
def row (t : Fin cfg0.N) (i : Fin 512) : Fin 2048 :=
  ⟨t.val * 512 + i.val, by have := t.isLt; have : cfg0.N = 4 := N_0; omega⟩

theorem blk0 (c : Dev nD) (t : Fin cfg0.N) (i : Fin 512) (k : Fin 3072) :
    iblk m c 0 t (ix2 i k) = m ((c.tc : Thread nD τ).loc main_arg0) (ix2 (row t i) k) := by
  unfold row
  blk_ext [iblk, Gen.V, idx t]

theorem blk1 (c : Dev nD) (t : Fin cfg0.N) (j : Fin 1024) (k : Fin 3072) :
    iblk m c 1 t (ix3 0 k j) = m ((c.tc : Thread nD τ).loc main_arg1) (ix3 0 k j) := by
  blk_ext [iblk, Gen.V, idx t]

theorem blk2 (c : Dev nD) (t : Fin cfg0.N) (i : Fin 512) (j : Fin 1024) :
    iblk m c 2 t (ix2 i j) = m ((c.tc : Thread nD τ).loc main_arg2) (ix2 (row t i) j) := by
  unfold row
  blk_ext [iblk, Gen.V, idx t]

/-- The block that a point stores, in terms of the arrays. -/
theorem pay_blk (c : Dev nD) (t : Fin cfg0.N) (i : Fin 512) (j : Fin 1024) :
    k0_pay1 (F := Ideal) (iblk m c 0 t) (iblk m c 1 t) (iblk m c 2 t) (ix2 i j)
      = Cert.Reference18Ideal.Products.elem (m ((c.tc : Thread nD τ).loc main_arg0))
    (m ((c.tc : Thread nD τ).loc main_arg1))
    (m ((c.tc : Thread nD τ).loc main_arg2)) (row t i) j := by
  rw [pay_at]
  unfold Cert.Reference18Ideal.Products.elem
  simp only [blk0, blk1, blk2]

/-- The array that the call leaves. -/
theorem arr (c : Dev nD) : (dats m 0 c).arrAt 3 cfg0.N = Cert.Reference18Ideal.Read.val_main_v4 (F := Ideal)
    (m ((c.tc : Thread nD τ).loc main_arg0))
    (m ((c.tc : Thread nD τ).loc main_arg1))
    (m ((c.tc : Thread nD τ).loc main_arg2)) := by
  refine (dats m 0 c).arrAt_eq_of_covers 3 _ (by decide +kernel) fun t hf y => ?_
  blk_simp
  rw [after0_3]
  obtain ⟨i, j, rfl⟩ : ∃ (i : Fin 512) (j : Fin 1024), y = ix2 i j := ⟨y 0, y 1, eq_ix2 y⟩
  frame_out
  refine (pay_blk m c t i j).trans ((Cert.Reference18Ideal.Products.out_at
    (m ((c.tc : Thread nD τ).loc main_arg0))
    (m ((c.tc : Thread nD τ).loc main_arg1))
    (m ((c.tc : Thread nD τ).loc main_arg2))
    (row t i) j).symm.trans ?_)
  unfold row
  blk_ext [idx t]

end Cert.Kernel18Ideal.Products

namespace Cert.Products

open Idealize.ShloMosaic Idealize.SL.Sem

attribute [local instance] Cert.Kernel18Ideal.Gen.facts Cert.Reference18Ideal.Gen.facts

theorem quiescent_out_proj : Cert.quiescent_Reference18Ideal := by
  intro m g _
  run_from Cert.Reference18Ideal.Value.run m g
  · exact fun c => ⟨trivial, trivial, trivial⟩
  · exact sem_eq_zero_of_no_sems (by decide) _

/-- The call and the reference's line leave the same array. -/
theorem out_proj : Cert.algebraic_Kernel18Ideal_Reference18Ideal := by
  pair_intro
  · run_from Cert.Kernel18Ideal.Value.run_blocks m g
  · run_from Cert.Reference18Ideal.Value.run m' g'
    obtain ⟨e0, e1, e2⟩ := hagree c
    refine (Cert.Reference18Ideal.Read.val_main_v4_eq (F := Ideal) _ _ _).trans ?_
    exact (Cert.Kernel18Ideal.Products.arr m c).symm

end Cert.Products
-- ==== Proof.Products.ProjA.lean ====
/- Layer 0's input projection. -/
module

public import proofs.«01_k».proof.Defs
public import proofs.«01_k».proof.Proof.Gen.Kernel19Ideal.Value
public import proofs.«01_k».proof.Proof.Gen.Kernel19Ideal
public import proofs.«01_k».proof.Proof.Gen.Reference19Ideal
public import proofs.«01_k».proof.Proof.Gen.Reference19Ideal.Run
public import proofs.«01_k».proof.Proof.Gen.Reference19Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference19Ideal.Products

open Idealize.ShloMosaic Idealize.SL.Sem Cert.Reference19Ideal Cert.Reference19Ideal.Gen Cert.Reference19Ideal.Read

/-- One element of the result, as a sum. -/
def elem (x0 : (⟨S2048x1024, .bf16⟩ : BufTy).Contents (Elt Ideal))
    (x1 : (⟨S1x1024x5120, .bf16⟩ : BufTy).Contents (Elt Ideal)) (i : Fin 2048) (j : Fin 5120) : EReal :=
  ∑ k : Fin 1024, x0 (ix2 i k) * x1 (ix3 0 k j)

/-- The reference's result has these elements. -/
theorem out_at (x0 : (⟨S2048x1024, .bf16⟩ : BufTy).Contents (Elt Ideal))
    (x1 : (⟨S1x1024x5120, .bf16⟩ : BufTy).Contents (Elt Ideal)) (i : Fin 2048) (j : Fin 5120) :
    val_main_v3 (F := Ideal) x0 x1 (ix2 i j) = elem x0 x1 i j := by
  unfold elem
  unfold val_main_v3 val_main_v0 val_main_v2 val_main_v1
  pointwise

end Cert.Reference19Ideal.Products

namespace Cert.Kernel19Ideal.Products

open Idealize.ShloMosaic Idealize.SL.Sem Cert.Kernel19Ideal Cert.Kernel19Ideal.Gen

/-- One element of the block that the kernel stores at a grid point. -/
theorem pay_at (y0 : Vec Ideal S2048x1024 .bf16) (y1 : Vec Ideal S1x1024x1024 .bf16)
    (i : Fin 2048) (j : Fin 1024) :
    k0_pay1 (F := Ideal) y0 y1 (ix2 i j) = ∑ k : Fin 1024, y0 (ix2 i k) * y1 (ix3 0 k j) := by
  unfold k0_pay1
  pointwise

variable (m : (ℓ : Loc nD τ sig) → Buf (Elt Ideal) ℓ)

theorem idx : ∀ t : Fin cfg0.N, win0_0.index t = ![0, 0] ∧ win0_1.index t = ![0, 0, t.val] ∧ win0_2.index t = ![0, t.val] :=
  (by decide +kernel : ∀ t : Fin grid0.N, _)

/-- The column of the result that point `t` writes as column `j` of its block. -/
def col (t : Fin cfg0.N) (j : Fin 1024) : Fin 5120 :=
  ⟨t.val * 1024 + j.val, by have := t.isLt; have : cfg0.N = 5 := N_0; omega⟩

theorem blk0 (c : Dev nD) (t : Fin cfg0.N) (i : Fin 2048) (k : Fin 1024) :
    iblk m c 0 t (ix2 i k) = m ((c.tc : Thread nD τ).loc main_arg0) (ix2 i k) := by
  blk_ext [iblk, Gen.V, idx t]

theorem blk1 (c : Dev nD) (t : Fin cfg0.N) (j : Fin 1024) (k : Fin 1024) :
    iblk m c 1 t (ix3 0 k j) = m ((c.tc : Thread nD τ).loc main_arg1) (ix3 0 k (col t j)) := by
  unfold col
  blk_ext [iblk, Gen.V, idx t]

/-- The block that a point stores, in terms of the arrays. -/
theorem pay_blk (c : Dev nD) (t : Fin cfg0.N) (i : Fin 2048) (j : Fin 1024) :
    k0_pay1 (F := Ideal) (iblk m c 0 t) (iblk m c 1 t) (ix2 i j)
      = Cert.Reference19Ideal.Products.elem (m ((c.tc : Thread nD τ).loc main_arg0))
    (m ((c.tc : Thread nD τ).loc main_arg1)) i (col t j) := by
  rw [pay_at]
  unfold Cert.Reference19Ideal.Products.elem
  simp only [blk0, blk1]

/-- The array that the call leaves. -/
theorem arr (c : Dev nD) : (dats m 0 c).arrAt 2 cfg0.N = Cert.Reference19Ideal.Read.val_main_v3 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 2048) (j : Fin 1024), y = ix2 i j := ⟨y 0, y 1, eq_ix2 y⟩
  frame_out
  refine (pay_blk m c t i j).trans ((Cert.Reference19Ideal.Products.out_at
    (m ((c.tc : Thread nD τ).loc main_arg0))
    (m ((c.tc : Thread nD τ).loc main_arg1))
    i (col t j)).symm.trans ?_)
  unfold col
  blk_ext [idx t]

end Cert.Kernel19Ideal.Products

namespace Cert.Products

open Idealize.ShloMosaic Idealize.SL.Sem

attribute [local instance] Cert.Kernel19Ideal.Gen.facts Cert.Reference19Ideal.Gen.facts

theorem quiescent_proj_a : Cert.quiescent_Reference19Ideal := by
  intro m g _
  run_from Cert.Reference19Ideal.Value.run m g
  · exact fun c => ⟨trivial, trivial⟩
  · exact sem_eq_zero_of_no_sems (by decide) _

/-- The call and the reference's line leave the same array. -/
theorem proj_a : Cert.algebraic_Kernel19Ideal_Reference19Ideal := by
  pair_intro
  · run_from Cert.Kernel19Ideal.Value.run_blocks m g
  · run_from Cert.Reference19Ideal.Value.run m' g'
    obtain ⟨e0, e1⟩ := hagree c
    refine (Cert.Reference19Ideal.Read.val_main_v3_eq (F := Ideal) _ _).trans ?_
    exact (Cert.Kernel19Ideal.Products.arr m c).symm

end Cert.Products
-- ==== Proof.Products.ProjB.lean ====
/- Layer 1's input projection. -/
module

public import proofs.«01_k».proof.Defs
public import proofs.«01_k».proof.Proof.Gen.Kernel20Ideal.Value
public import proofs.«01_k».proof.Proof.Gen.Kernel20Ideal
public import proofs.«01_k».proof.Proof.Gen.Reference20Ideal
public import proofs.«01_k».proof.Proof.Gen.Reference20Ideal.Run
public import proofs.«01_k».proof.Proof.Gen.Reference20Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference20Ideal.Products

open Idealize.ShloMosaic Idealize.SL.Sem Cert.Reference20Ideal Cert.Reference20Ideal.Gen Cert.Reference20Ideal.Read

/-- One element of the result, as a sum. -/
def elem (x0 : (⟨S2048x1024, .bf16⟩ : BufTy).Contents (Elt Ideal))
    (x1 : (⟨S6144x1024, .bf16⟩ : BufTy).Contents (Elt Ideal)) (i : Fin 2048) (j : Fin 6144) : EReal :=
  ∑ k : Fin 1024, x0 (ix2 i k) * x1 (ix2 j k)

/-- The reference's result has these elements. -/
theorem out_at (x0 : (⟨S2048x1024, .bf16⟩ : BufTy).Contents (Elt Ideal))
    (x1 : (⟨S6144x1024, .bf16⟩ : BufTy).Contents (Elt Ideal)) (i : Fin 2048) (j : Fin 6144) :
    val_main_v3 (F := Ideal) x0 x1 (ix2 i j) = elem x0 x1 i j := by
  unfold elem
  unfold val_main_v3 val_main_v0 val_main_v2 val_main_v1
  pointwise

end Cert.Reference20Ideal.Products

namespace Cert.Kernel20Ideal.Products

open Idealize.ShloMosaic Idealize.SL.Sem Cert.Kernel20Ideal Cert.Kernel20Ideal.Gen

/-- One element of the block that the kernel stores at a grid point. -/
theorem pay_at (y0 : Vec Ideal S2048x1024 .bf16) (y1 : Vec Ideal S1024x1024 .bf16)
    (i : Fin 2048) (j : Fin 1024) :
    k0_pay1 (F := Ideal) y0 y1 (ix2 i j) = ∑ k : Fin 1024, y0 (ix2 i k) * y1 (ix2 j k) := by
  unfold k0_pay1
  pointwise

variable (m : (ℓ : Loc nD τ sig) → Buf (Elt Ideal) ℓ)

theorem idx : ∀ t : Fin cfg0.N, win0_0.index t = ![0, 0] ∧ win0_1.index t = ![t.val, 0] ∧ win0_2.index t = ![0, t.val] :=
  (by decide +kernel : ∀ t : Fin grid0.N, _)

/-- The column of the result that point `t` writes as column `j` of its block. -/
def col (t : Fin cfg0.N) (j : Fin 1024) : Fin 6144 :=
  ⟨t.val * 1024 + j.val, by have := t.isLt; have : cfg0.N = 6 := N_0; omega⟩

theorem blk0 (c : Dev nD) (t : Fin cfg0.N) (i : Fin 2048) (k : Fin 1024) :
    iblk m c 0 t (ix2 i k) = m ((c.tc : Thread nD τ).loc main_arg0) (ix2 i k) := by
  blk_ext [iblk, Gen.V, idx t]

theorem blk1 (c : Dev nD) (t : Fin cfg0.N) (j : Fin 1024) (k : Fin 1024) :
    iblk m c 1 t (ix2 j k) = m ((c.tc : Thread nD τ).loc main_arg1) (ix2 (col t j) k) := by
  unfold col
  blk_ext [iblk, Gen.V, idx t]

/-- The block that a point stores, in terms of the arrays. -/
theorem pay_blk (c : Dev nD) (t : Fin cfg0.N) (i : Fin 2048) (j : Fin 1024) :
    k0_pay1 (F := Ideal) (iblk m c 0 t) (iblk m c 1 t) (ix2 i j)
      = Cert.Reference20Ideal.Products.elem (m ((c.tc : Thread nD τ).loc main_arg0))
    (m ((c.tc : Thread nD τ).loc main_arg1)) i (col t j) := by
  rw [pay_at]
  unfold Cert.Reference20Ideal.Products.elem
  simp only [blk0, blk1]

/-- The array that the call leaves. -/
theorem arr (c : Dev nD) : (dats m 0 c).arrAt 2 cfg0.N = Cert.Reference20Ideal.Read.val_main_v3 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 2048) (j : Fin 1024), y = ix2 i j := ⟨y 0, y 1, eq_ix2 y⟩
  frame_out
  refine (pay_blk m c t i j).trans ((Cert.Reference20Ideal.Products.out_at
    (m ((c.tc : Thread nD τ).loc main_arg0))
    (m ((c.tc : Thread nD τ).loc main_arg1))
    i (col t j)).symm.trans ?_)
  unfold col
  blk_ext [idx t]

end Cert.Kernel20Ideal.Products

namespace Cert.Products

open Idealize.ShloMosaic Idealize.SL.Sem

attribute [local instance] Cert.Kernel20Ideal.Gen.facts Cert.Reference20Ideal.Gen.facts

theorem quiescent_proj_b : Cert.quiescent_Reference20Ideal := by
  intro m g _
  run_from Cert.Reference20Ideal.Value.run m g
  · exact fun c => ⟨trivial, trivial⟩
  · exact sem_eq_zero_of_no_sems (by decide) _

/-- The call and the reference's line leave the same array. -/
theorem proj_b : Cert.algebraic_Kernel20Ideal_Reference20Ideal := by
  pair_intro
  · run_from Cert.Kernel20Ideal.Value.run_blocks m g
  · run_from Cert.Reference20Ideal.Value.run m' g'
    obtain ⟨e0, e1⟩ := hagree c
    refine (Cert.Reference20Ideal.Read.val_main_v3_eq (F := Ideal) _ _).trans ?_
    exact (Cert.Kernel20Ideal.Products.arr m c).symm

end Cert.Products
-- ==== Proof.Products.ProjDt.lean ====
/- The time steps' projection. -/
module

public import proofs.«01_k».proof.Defs
public import proofs.«01_k».proof.Proof.Gen.Kernel21Ideal.Value
public import proofs.«01_k».proof.Proof.Gen.Kernel21Ideal
public import proofs.«01_k».proof.Proof.Gen.Reference21Ideal
public import proofs.«01_k».proof.Proof.Gen.Reference21Ideal.Run
public import proofs.«01_k».proof.Proof.Gen.Reference21Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference21Ideal.Products

open Idealize.ShloMosaic Idealize.SL.Sem Cert.Reference21Ideal Cert.Reference21Ideal.Gen Cert.Reference21Ideal.Read

/-- One element of the result, as a sum. -/
def elem (x0 : (⟨S2048x1024, .bf16⟩ : BufTy).Contents (Elt Ideal))
    (x1 : (⟨S128x1024, .bf16⟩ : BufTy).Contents (Elt Ideal)) (i : Fin 2048) (j : Fin 128) : EReal :=
  ∑ k : Fin 1024, x0 (ix2 i k) * x1 (ix2 j k)

/-- The reference's result has these elements. -/
theorem out_at (x0 : (⟨S2048x1024, .bf16⟩ : BufTy).Contents (Elt Ideal))
    (x1 : (⟨S128x1024, .bf16⟩ : BufTy).Contents (Elt Ideal)) (i : Fin 2048) (j : Fin 128) :
    val_main_v3 (F := Ideal) x0 x1 (ix2 i j) = elem x0 x1 i j := by
  unfold elem
  unfold val_main_v3 val_main_v0 val_main_v2 val_main_v1
  pointwise

end Cert.Reference21Ideal.Products

namespace Cert.Kernel21Ideal.Products

open Idealize.ShloMosaic Idealize.SL.Sem Cert.Kernel21Ideal Cert.Kernel21Ideal.Gen

/-- One element of the block that the kernel stores at a grid point. -/
theorem pay_at (y0 : Vec Ideal S1024x1024 .bf16) (y1 : Vec Ideal S128x1024 .bf16)
    (i : Fin 1024) (j : Fin 128) :
    k0_pay1 (F := Ideal) y0 y1 (ix2 i j) = ∑ k : Fin 1024, y0 (ix2 i k) * y1 (ix2 j k) := by
  unfold k0_pay1
  pointwise

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The row of the result that point `t` writes as row `i` of its block. -/
def row (t : Fin cfg0.N) (i : Fin 1024) : Fin 2048 :=
  ⟨t.val * 1024 + i.val, by have := t.isLt; have : cfg0.N = 2 := N_0; omega⟩

theorem blk0 (c : Dev nD) (t : Fin cfg0.N) (i : Fin 1024) (k : Fin 1024) :
    iblk m c 0 t (ix2 i k) = m ((c.tc : Thread nD τ).loc main_arg0) (ix2 (row t i) k) := by
  unfold row
  blk_ext [iblk, Gen.V, idx t]

theorem blk1 (c : Dev nD) (t : Fin cfg0.N) (j : Fin 128) (k : Fin 1024) :
    iblk m c 1 t (ix2 j k) = m ((c.tc : Thread nD τ).loc main_arg1) (ix2 j k) := by
  blk_ext [iblk, Gen.V, idx t]

/-- The block that a point stores, in terms of the arrays. -/
theorem pay_blk (c : Dev nD) (t : Fin cfg0.N) (i : Fin 1024) (j : Fin 128) :
    k0_pay1 (F := Ideal) (iblk m c 0 t) (iblk m c 1 t) (ix2 i j)
      = Cert.Reference21Ideal.Products.elem (m ((c.tc : Thread nD τ).loc main_arg0))
    (m ((c.tc : Thread nD τ).loc main_arg1)) (row t i) j := by
  rw [pay_at]
  unfold Cert.Reference21Ideal.Products.elem
  simp only [blk0, blk1]

/-- The array that the call leaves. -/
theorem arr (c : Dev nD) : (dats m 0 c).arrAt 2 cfg0.N = Cert.Reference21Ideal.Read.val_main_v3 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 1024) (j : Fin 128), y = ix2 i j := ⟨y 0, y 1, eq_ix2 y⟩
  frame_out
  refine (pay_blk m c t i j).trans ((Cert.Reference21Ideal.Products.out_at
    (m ((c.tc : Thread nD τ).loc main_arg0))
    (m ((c.tc : Thread nD τ).loc main_arg1))
    (row t i) j).symm.trans ?_)
  unfold row
  blk_ext [idx t]

end Cert.Kernel21Ideal.Products

namespace Cert.Products

open Idealize.ShloMosaic Idealize.SL.Sem

attribute [local instance] Cert.Kernel21Ideal.Gen.facts Cert.Reference21Ideal.Gen.facts

theorem quiescent_proj_dt : Cert.quiescent_Reference21Ideal := by
  intro m g _
  run_from Cert.Reference21Ideal.Value.run m g
  · exact fun c => ⟨trivial, trivial⟩
  · exact sem_eq_zero_of_no_sems (by decide) _

/-- The call and the reference's line leave the same array. -/
theorem proj_dt : Cert.algebraic_Kernel21Ideal_Reference21Ideal := by
  pair_intro
  · run_from Cert.Kernel21Ideal.Value.run_blocks m g
  · run_from Cert.Reference21Ideal.Value.run m' g'
    obtain ⟨e0, e1⟩ := hagree c
    refine (Cert.Reference21Ideal.Read.val_main_v3_eq (F := Ideal) _ _).trans ?_
    exact (Cert.Kernel21Ideal.Products.arr m c).symm

end Cert.Products
-- ==== Proof.Products.Kv.lean ====
/- The memory's keys and values. -/
module

public import proofs.«01_k».proof.Defs
public import proofs.«01_k».proof.Proof.Gen.Kernel22Ideal.Value
public import proofs.«01_k».proof.Proof.Gen.Kernel22Ideal
public import proofs.«01_k».proof.Proof.Gen.Reference22Ideal
public import proofs.«01_k».proof.Proof.Gen.Reference22Ideal.Run
public import proofs.«01_k».proof.Proof.Gen.Reference22Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference22Ideal.Products

open Idealize.ShloMosaic Idealize.SL.Sem Cert.Reference22Ideal Cert.Reference22Ideal.Gen Cert.Reference22Ideal.Read

/-- One element of the result, as a sum. -/
def elem (x0 : (⟨S256x1024, .bf16⟩ : BufTy).Contents (Elt Ideal))
    (x1 : (⟨S1x1024x2048, .bf16⟩ : BufTy).Contents (Elt Ideal)) (i : Fin 256) (j : Fin 2048) : EReal :=
  ∑ k : Fin 1024, x0 (ix2 i k) * x1 (ix3 0 k j)

/-- The reference's result has these elements. -/
theorem out_at (x0 : (⟨S256x1024, .bf16⟩ : BufTy).Contents (Elt Ideal))
    (x1 : (⟨S1x1024x2048, .bf16⟩ : BufTy).Contents (Elt Ideal)) (i : Fin 256) (j : Fin 2048) :
    val_main_v4 (F := Ideal) x0 x1 (ix2 i j) = elem x0 x1 i j := by
  unfold elem
  unfold val_main_v4 val_main_v3 val_main_v0 val_main_v2 val_main_v1
  pointwise

end Cert.Reference22Ideal.Products

namespace Cert.Kernel22Ideal.Products

open Idealize.ShloMosaic Idealize.SL.Sem Cert.Kernel22Ideal Cert.Kernel22Ideal.Gen

/-- One element of the block that the kernel stores at a grid point. -/
theorem pay_at (y0 : Vec Ideal S256x1024 .bf16) (y1 : Vec Ideal S1x1024x1024 .bf16)
    (i : Fin 256) (j : Fin 1024) :
    k0_pay1 (F := Ideal) y0 y1 (ix2 i j) = ∑ k : Fin 1024, y0 (ix2 i k) * y1 (ix3 0 k j) := by
  unfold k0_pay1
  pointwise

variable (m : (ℓ : Loc nD τ sig) → Buf (Elt Ideal) ℓ)

theorem idx : ∀ t : Fin cfg0.N, win0_0.index t = ![0, 0] ∧ win0_1.index t = ![0, 0, t.val] ∧ win0_2.index t = ![0, t.val] :=
  (by decide +kernel : ∀ t : Fin grid0.N, _)

/-- The column of the result that point `t` writes as column `j` of its block. -/
def col (t : Fin cfg0.N) (j : Fin 1024) : Fin 2048 :=
  ⟨t.val * 1024 + j.val, by have := t.isLt; have : cfg0.N = 2 := N_0; omega⟩

theorem blk0 (c : Dev nD) (t : Fin cfg0.N) (i : Fin 256) (k : Fin 1024) :
    iblk m c 0 t (ix2 i k) = m ((c.tc : Thread nD τ).loc main_arg0) (ix2 i k) := by
  blk_ext [iblk, Gen.V, idx t]

theorem blk1 (c : Dev nD) (t : Fin cfg0.N) (j : Fin 1024) (k : Fin 1024) :
    iblk m c 1 t (ix3 0 k j) = m ((c.tc : Thread nD τ).loc main_arg1) (ix3 0 k (col t j)) := by
  unfold col
  blk_ext [iblk, Gen.V, idx t]

/-- The block that a point stores, in terms of the arrays. -/
theorem pay_blk (c : Dev nD) (t : Fin cfg0.N) (i : Fin 256) (j : Fin 1024) :
    k0_pay1 (F := Ideal) (iblk m c 0 t) (iblk m c 1 t) (ix2 i j)
      = Cert.Reference22Ideal.Products.elem (m ((c.tc : Thread nD τ).loc main_arg0))
    (m ((c.tc : Thread nD τ).loc main_arg1)) i (col t j) := by
  rw [pay_at]
  unfold Cert.Reference22Ideal.Products.elem
  simp only [blk0, blk1]

/-- The array that the call leaves. -/
theorem arr (c : Dev nD) : (dats m 0 c).arrAt 2 cfg0.N = Cert.Reference22Ideal.Read.val_main_v4 (F := Ideal)
    (m ((c.tc : Thread nD τ).loc main_arg0))
    (m ((c.tc : Thread nD τ).loc main_arg1)) := by
  refine (dats m 0 c).arrAt_eq_of_covers 2 _ (by decide +kernel) fun t hf y => ?_
  blk_simp
  rw [after0_2]
  obtain ⟨i, j, rfl⟩ : ∃ (i : Fin 256) (j : Fin 1024), y = ix2 i j := ⟨y 0, y 1, eq_ix2 y⟩
  frame_out
  refine (pay_blk m c t i j).trans ((Cert.Reference22Ideal.Products.out_at
    (m ((c.tc : Thread nD τ).loc main_arg0))
    (m ((c.tc : Thread nD τ).loc main_arg1))
    i (col t j)).symm.trans ?_)
  unfold col
  blk_ext [idx t]

end Cert.Kernel22Ideal.Products

namespace Cert.Products

open Idealize.ShloMosaic Idealize.SL.Sem

attribute [local instance] Cert.Kernel22Ideal.Gen.facts Cert.Reference22Ideal.Gen.facts

theorem quiescent_kv : Cert.quiescent_Reference22Ideal := by
  intro m g _
  run_from Cert.Reference22Ideal.Value.run m g
  · exact fun c => ⟨trivial, trivial⟩
  · exact sem_eq_zero_of_no_sems (by decide) _

/-- The call and the reference's line leave the same array. -/
theorem kv : Cert.algebraic_Kernel22Ideal_Reference22Ideal := by
  pair_intro
  · run_from Cert.Kernel22Ideal.Value.run_blocks m g
  · run_from Cert.Reference22Ideal.Value.run m' g'
    obtain ⟨e0, e1⟩ := hagree c
    refine (Cert.Reference22Ideal.Read.val_main_v4_eq (F := Ideal) _ _).trans ?_
    exact (Cert.Kernel22Ideal.Products.arr m c).symm

end Cert.Products
-- ==== Proof.Norm.Spec.lean ====
/- The mathematics of the gradient of an RMS norm at one row, as functions on extended reals: the reciprocal root of the mean
   square, the gradient of the row in the form in which the kernel writes it and in the form that the derivative of the
   reference's lines has, and their equality for every row of extended reals. -/
module

public import proofs.«01_k».proof.Proof.Attn.Spec

@[expose] public section

noncomputable section

namespace Cert.Norm

open Idealize.ShloMosaic
open Cert.Attn (mul_sum_coe)

variable {n : ℕ}

/-- The number 10⁻⁶ (as a float32) that is added to the mean square. -/
def eps : EReal := Ideal.ofBits .f32 0x358637BD#32

theorem eps_eq : ∃ e : ℝ, 0 < e ∧ eps = e := by
  refine ⟨8796093 / 8796093022208, by norm_num, ?_⟩
  unfold eps; simp [Ideal.ofBits, Ideal.ieee, -EReal.coe_mul]; norm_num

/-- A row's mean square, plus `eps`. `N` is the row's length. -/
def msq (N : EReal) (x : Fin n → EReal) : EReal := Ideal.div (∑ k, x k * x k) N + eps

/-- The reciprocal root of `msq`. -/
def rinv (N : EReal) (x : Fin n → EReal) : EReal := Ideal.rsqrt (msq N x)

/-- The gradient of the row `x` from the gradient `w` of the normed row: the kernel's form. -/
def grad (N : EReal) (x w : Fin n → EReal) (j : Fin n) : EReal :=
  rinv N x * (w j - x j * rinv N x * Ideal.div (∑ k, w k * (x k * rinv N x)) N)

/-- The gradient of the square of a row's element, in the derivative of the reference's lines. -/
def gradSq (N : EReal) (x w : Fin n → EReal) : EReal :=
  Ideal.div ((∑ k, x k * w k) * (Ideal.ofBits .f32 0xBF000000#32 * Ideal.div (rinv N x) (msq N x))) N

/-- The gradient of the row in the derivative of the reference's lines. -/
def gradQ (N : EReal) (x w : Fin n → EReal) (j : Fin n) : EReal :=
  w j * rinv N x + x j * gradSq N x w + gradSq N x w * x j

theorem negHalf_eq : Ideal.ofBits .f32 0xBF000000#32 = ((-(1 / 2) : ℝ) : EReal) := by
  simp [Ideal.ofBits, Ideal.ieee, -EReal.coe_mul]; norm_num

theorem sq_nonneg (x : EReal) : 0 ≤ x * x := by
  induction x with
  | bot => simp
  | top => simp
  | coe r => exact_mod_cast mul_self_nonneg r

/-- Twice a real multiple. -/
theorem add_self_mul (S : EReal) (u : ℝ) : S * (u : EReal) + S * (u : EReal) = S * ((u + u : ℝ) : EReal) := by
  induction S with
  | coe r => norm_cast; ring
  | top =>
      rcases lt_trichotomy u 0 with h | h | h
      · rw [EReal.top_mul_coe_of_neg h, EReal.top_mul_coe_of_neg (by linarith)]; rfl
      · simp [h]
      · rw [EReal.top_mul_coe_of_pos h, EReal.top_mul_coe_of_pos (by linarith)]; rfl
  | bot =>
      rcases lt_trichotomy u 0 with h | h | h
      · rw [EReal.bot_mul_coe_of_neg h, EReal.bot_mul_coe_of_neg (by linarith)]; rfl
      · simp [h]
      · rw [EReal.bot_mul_coe_of_pos h, EReal.bot_mul_coe_of_pos (by linarith)]; rfl

/-- The negative of a real multiple. -/
theorem mul_neg_coe (S : EReal) (u : ℝ) : -(S * (u : EReal)) = S * ((-u : ℝ) : EReal) := by
  rw [EReal.coe_neg, mul_comm S, mul_comm S, EReal.neg_mul]

/-- Either the mean square is infinite, or the row is finite and so are the mean square and its reciprocal root. -/
theorem cases {N : EReal} (hN : ∃ r : ℝ, 0 < r ∧ N = r) (x : Fin n → EReal) :
    (msq N x = ⊤ ∧ rinv N x = 0) ∨
      ∃ a r : ℝ, 0 < a ∧ 0 < r ∧ msq N x = a ∧ rinv N x = r ∧ r * r = 1 / a ∧ ∀ k, ∃ y : ℝ, x k = y := by
  obtain ⟨N', hN0, rfl⟩ := hN
  obtain ⟨e, he, hee⟩ := eps_eq
  have h0 : ∀ k, 0 ≤ x k * x k := fun k => sq_nonneg _
  have hS : 0 ≤ ∑ k, x k * x k := Finset.sum_nonneg fun k _ => h0 k
  by_cases hT : ∑ k, x k * x k = ⊤
  · left
    have h : msq (N' : EReal) x = ⊤ := by
      unfold msq
      rw [hT, Ideal.div_coe hN0.ne', EReal.top_mul_coe_of_pos (by positivity), hee]; rfl
    exact ⟨h, by unfold rinv; rw [h]; rfl⟩
  · right
    obtain ⟨s, hs⟩ : ∃ s : ℝ, ∑ k, x k * x k = s :=
      ⟨_, (EReal.coe_toReal hT (fun h => by rw [h] at hS; exact absurd hS (by simp))).symm⟩
    have hs0 : 0 ≤ s := by rw [hs] at hS; exact_mod_cast hS
    have ha : 0 < s * (1 / N') + e := by positivity
    have h : msq (N' : EReal) x = ((s * (1 / N') + e : ℝ) : EReal) := by
      unfold msq
      rw [hs, Ideal.div_coe hN0.ne', hee]; norm_cast
    refine ⟨s * (1 / N') + e, (Real.sqrt (s * (1 / N') + e))⁻¹, ha, by positivity, h, ?_, ?_, fun k => ?_⟩
    · unfold rinv
      rw [h, Ideal.rsqrt_coe, if_neg (by linarith), if_neg ha.ne']
    · rw [← mul_inv, Real.mul_self_sqrt ha.le, inv_eq_one_div]
    · have hk : x k * x k ≠ ⊤ := fun hk =>
        hT (top_le_iff.mp (hk ▸ Finset.single_le_sum (f := fun k => x k * x k) (fun k _ => h0 k) (Finset.mem_univ k)))
      rcases hx : x k with _ | _ | y
      · exact absurd hk (by rw [show x k = ⊥ from hx]; simp)
      · exact absurd hk (by rw [show x k = ⊤ from hx]; simp)
      · exact ⟨y, rfl⟩

/-- The two forms of the gradient are equal. -/
theorem gradQ_eq {N : EReal} (hN : ∃ r : ℝ, 0 < r ∧ N = r) (x w : Fin n → EReal) (j : Fin n) :
    gradQ N x w j = grad N x w j := by
  rcases cases hN x with ⟨ha, hr⟩ | ⟨a, r, ha0, hr0, ha, hr, hra, hx⟩
  · obtain ⟨N', hN0, rfl⟩ := hN
    have h : gradSq (N' : EReal) x w = 0 := by
      unfold gradSq
      rw [ha, hr]
      simp [Ideal.div_coe hN0.ne', Ideal.div, hN0.ne']
    unfold gradQ grad
    rw [h, hr]
    simp
  · obtain ⟨N', hN0, rfl⟩ := hN
    obtain ⟨y, hy⟩ := hx j
    have hr' : (0 : EReal) ≤ (r : EReal) := by exact_mod_cast hr0.le
    have hs : ∑ k, w k * (x k * (r : EReal)) = (r : EReal) * ∑ k, x k * w k := by
      rw [mul_sum_coe _ hr' (EReal.coe_ne_top r)]
      exact Finset.sum_congr rfl fun k _ => by rw [← mul_assoc, mul_comm, mul_comm (w k)]
    unfold gradQ grad gradSq
    rw [ha, hr, hy, hs, negHalf_eq]
    generalize ∑ k, x k * w k = S
    rw [Ideal.div_coe hN0.ne', Ideal.div_coe hN0.ne', Ideal.div_coe ha0.ne']
    have e1 : (S * (((-(1 / 2) : ℝ) : EReal) * ((r : EReal) * ((1 / a : ℝ) : EReal)))) * ((1 / N' : ℝ) : EReal)
        = S * ((-(1 / 2) * (r * (1 / a)) * (1 / N') : ℝ) : EReal) := by
      push_cast; simp only [mul_assoc]
    have e2 : (y : EReal) * (r : EReal) * ((r : EReal) * S * ((1 / N' : ℝ) : EReal)) = S * ((y * r * r * (1 / N') : ℝ) : EReal) := by
      push_cast; ac_rfl
    rw [e1, e2, sub_eq_add_neg, EReal.left_distrib_of_nonneg_of_ne_top hr' (EReal.coe_ne_top r), add_assoc, mul_comm (w j)]
    congr 1
    have e3 : (y : EReal) * (S * ((-(1 / 2) * (r * (1 / a)) * (1 / N') : ℝ) : EReal))
        = S * ((y * (-(1 / 2) * (r * (1 / a)) * (1 / N')) : ℝ) : EReal) := by
      push_cast; ac_rfl
    rw [mul_comm _ (y : EReal), e3, add_self_mul, mul_neg_coe, mul_left_comm (r : EReal) S, ← EReal.coe_mul]
    congr 2
    rw [← hra]
    ring

/-- The rows' length as a float32. -/
def len : EReal := Ideal.ofBits .f32 0x44800000#32

theorem len_pos : ∃ r : ℝ, 0 < r ∧ len = r := by
  refine ⟨1024, by norm_num, ?_⟩
  unfold len; simp [Ideal.ofBits, Ideal.ieee, -EReal.coe_mul]; norm_num

end Cert.Norm

end
-- ==== Proof.Norm.RmsBwd.lean ====
/- The gradient of an RMS norm, with the residual's gradient added. -/
module

public import proofs.«01_k».proof.Defs
public import proofs.«01_k».proof.Proof.Norm.Spec
public import proofs.«01_k».proof.Proof.Gen.Kernel23Ideal.Value
public import proofs.«01_k».proof.Proof.Gen.Kernel23Ideal
public import proofs.«01_k».proof.Proof.Gen.Reference23Ideal
public import proofs.«01_k».proof.Proof.Gen.Reference23Ideal.Run
public import proofs.«01_k».proof.Proof.Gen.Reference23Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference23Ideal.Norm

open Idealize.ShloMosaic Idealize.SL.Sem Cert.Norm Cert.Reference23Ideal Cert.Reference23Ideal.Gen Cert.Reference23Ideal.Read

variable (x0 : (⟨S2048x1024, .f32⟩ : BufTy).Contents (Elt Ideal)) (x1 : (⟨S1x1024, .f32⟩ : BufTy).Contents (Elt Ideal))
  (x2 x3 : (⟨S2048x1024, .f32⟩ : BufTy).Contents (Elt Ideal))

/-- One row of the normed array. -/
def X (i : Fin 2048) : Fin 1024 → EReal := fun k => x0 (ix2 i k)

/-- One row's gradient, scaled by the gain. -/
def W (i : Fin 2048) : Fin 1024 → EReal := fun k => x2 (ix2 i k) * x1 (ix2 0 k)

/-- One element of the array's gradient. -/
def dx (i : Fin 2048) (j : Fin 1024) : EReal := grad len (X x0 i) (W x1 x2 i) j + x3 (ix2 i j)

/-- One element of the gain's gradient, and one row's part in it. -/
def dgTerm (i : Fin 2048) (j : Fin 1024) : EReal := x2 (ix2 i j) * (X x0 i j * rinv len (X x0 i))

def dg (j : Fin 1024) : EReal := ∑ i : Fin 2048, dgTerm x0 x2 i j

theorem v6_at (i : Fin 2048) : val_main_v6 (F := Ideal) x0 (ix2 i 0) = msq len (X x0 i) := by
  unfold val_main_v6 val_main_v4 val_main_v5 val_main_v3 val_main_v2 val_main_v1 val_main_v0 val_main_cst val_main_cst_0 val_main_cst_1
  pointwise
  rfl

theorem v7_at (i : Fin 2048) : val_main_v7 (F := Ideal) x0 (ix2 i 0) = rinv len (X x0 i) := by
  unfold val_main_v7
  exact congrArg Ideal.rsqrt (v6_at x0 i)

theorem v33_at (i : Fin 2048) (j : Fin 1024) : val_main_v33 (F := Ideal) x0 x1 x2 (ix2 i j) = grad len (X x0 i) (W x1 x2 i) j := by
  rw [← gradQ_eq len_pos]
  unfold val_main_v33 val_main_v32 val_main_v31 val_main_v30 val_main_v29 val_main_v28 val_main_v27 val_main_v26 val_main_v25 val_main_v24 val_main_v23 val_main_v22 val_main_v21 val_main_v20 val_main_v19 val_main_v18 val_main_v10 val_main_v9 val_main_v8 val_main_cst_2 val_main_cst_4 val_main_cst_5 val_main_cst_6
  pointwise
  simp only [v7_at, v6_at, Finset.univ_unique, Finset.sum_singleton, Fin.default_eq_zero]
  rfl

theorem v34_at (i : Fin 2048) (j : Fin 1024) : val_main_v34 (F := Ideal) x0 x1 x2 x3 (ix2 i j) = dx x0 x1 x2 x3 i j := by
  unfold val_main_v34 dx
  rw [← v33_at]
  pointwise

theorem v35_at (i : Fin 2048) (j : Fin 1024) : val_main_v35 (F := Ideal) x0 x1 x2 x3 (ix2 i j) = dx x0 x1 x2 x3 i j := by
  rw [← v34_at]
  unfold val_main_v35
  pointwise

theorem v17_at (j : Fin 1024) : val_main_v17 (F := Ideal) x0 x2 (ix2 0 j) = dg x0 x2 j := by
  unfold dg dgTerm val_main_v17 val_main_v16 val_main_v15 val_main_v12 val_main_v11 val_main_cst_3
  pointwise
  simp only [v7_at]
  exact Finset.sum_congr rfl fun i _ => mul_comm _ _

end Cert.Reference23Ideal.Norm
namespace Cert.Kernel23Ideal.Norm

open Idealize.ShloMosaic Idealize.SL.Sem Cert.Norm Cert.Kernel23Ideal Cert.Kernel23Ideal.Gen

variable (y0 : Vec Ideal S512x1024 .f32) (y1 : Vec Ideal S512x1024 .f32) (y2 : Vec Ideal S1x1024 .f32) (y3 : Vec Ideal S512x1024 .f32)

theorem pay3_at (i : Fin 512) : k0_pay3 (F := Ideal) y0 (ix2 i 0) = rinv len fun k => y0 (ix2 i k) := by
  unfold k0_pay3
  pointwise
  rfl

theorem pay4_at (i : Fin 512) (j : Fin 1024) : k0_pay4 (F := Ideal) y0 (ix2 i j) = y0 (ix2 i j) * rinv len fun k => y0 (ix2 i k) := by
  rw [← pay3_at]
  unfold k0_pay4
  pointwise

/-- One element of the blocks of the array's gradient. -/
def bdx (i : Fin 512) (j : Fin 1024) : EReal :=
  grad len (fun k => y0 (ix2 i k)) (fun k => y1 (ix2 i k) * y2 (ix2 0 k)) j + y3 (ix2 i j)

theorem pay5_at (i : Fin 512) (j : Fin 1024) : k0_pay5 (F := Ideal) y0 y1 y2 y3 (ix2 i j) = bdx y0 y1 y2 y3 i j := by
  unfold bdx grad
  rw [← pay3_at]
  unfold k0_pay5 k0_pay4
  pointwise
  rfl

theorem pay6_at (i : Fin 512) (j : Fin 1024) : k0_pay6 (F := Ideal) y0 y1 y2 y3 (ix2 i j) = bdx y0 y1 y2 y3 i j := by
  rw [← pay5_at]
  unfold k0_pay6
  pointwise

theorem pay1_at (old : Vec Ideal S1x1024 .f32) (z : Vec Ideal S512x1024 .f32) (j : Fin 1024) : k0_pay1 (F := Ideal) y1 z old (ix2 0 j)
    = old (ix2 0 j) + ∑ i : Fin 512, y1 (ix2 i j) * z (ix2 i j) := by
  unfold k0_pay1
  pointwise

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

abbrev p0 (c : Dev nD) := m ((c.tc : Thread nD τ).loc main_arg0)
abbrev p1 (c : Dev nD) := m ((c.tc : Thread nD τ).loc main_arg1)
abbrev p2 (c : Dev nD) := m ((c.tc : Thread nD τ).loc main_arg2)
abbrev p3 (c : Dev nD) := m ((c.tc : Thread nD τ).loc main_arg3)

/-- The row of the arrays that point `t` reads as row `i` of its blocks. -/
def row (t : Fin cfg0.N) (i : Fin 512) : Fin 2048 :=
  ⟨t.val * 512 + i.val, by have := t.isLt; have : cfg0.N = 4 := N_0; omega⟩

theorem blk0 (c : Dev nD) (t : Fin cfg0.N) (i : Fin 512) (j : Fin 1024) : iblk m c 0 t (ix2 i j) = p0 m c (ix2 (row t i) j) := by
  unfold row; blk_ext [iblk, Gen.V, idx t]

theorem blk1 (c : Dev nD) (t : Fin cfg0.N) (j : Fin 1024) : iblk m c 1 t (ix2 0 j) = p1 m c (ix2 0 j) := by
  blk_ext [iblk, Gen.V, idx t]

theorem blk2 (c : Dev nD) (t : Fin cfg0.N) (i : Fin 512) (j : Fin 1024) : iblk m c 2 t (ix2 i j) = p2 m c (ix2 (row t i) j) := by
  unfold row; blk_ext [iblk, Gen.V, idx t]

theorem blk3 (c : Dev nD) (t : Fin cfg0.N) (i : Fin 512) (j : Fin 1024) : iblk m c 3 t (ix2 i j) = p3 m c (ix2 (row t i) j) := by
  unfold row; blk_ext [iblk, Gen.V, idx t]

open Cert.Reference23Ideal.Norm (X W dx dg dgTerm v17_at v34_at v35_at)

/-- The element that a point stores in its blocks of the array's gradient. -/
theorem dx_blk (c : Dev nD) (t : Fin cfg0.N) (i : Fin 512) (j : Fin 1024) :
    bdx (iblk m c 0 t) (iblk m c 2 t) (iblk m c 1 t) (iblk m c 3 t) i j
      = dx (p0 m c) (p1 m c) (p2 m c) (p3 m c) (row t i) j := by
  unfold dx X W bdx
  simp only [blk0, blk1, blk2, blk3]

/-- The part of the gain's gradient that a point adds. -/
def bdg (c : Dev nD) (t : Fin cfg0.N) (j : Fin 1024) : EReal :=
  ∑ i : Fin 512, dgTerm (p0 m c) (p2 m c) (row t i) j

theorem pay1_blk (c : Dev nD) (t : Fin cfg0.N) (old : Vec Ideal S1x1024 .f32) (j : Fin 1024) :
    k0_pay1 (F := Ideal) (iblk m c 2 t) (k0_pay4 (F := Ideal) (iblk m c 0 t)) old (ix2 0 j) = old (ix2 0 j) + bdg m c t j := by
  rw [pay1_at]
  unfold bdg dgTerm X
  simp only [pay4_at, blk0, blk2]

theorem pay7_eq (z : Vec Ideal S1x1024 .f32) : k0_pay7 (F := Ideal) z = z := by
  funext i
  obtain ⟨a, j, rfl⟩ : ∃ (a : Fin 1) (j : Fin 1024), i = ix2 a j := ⟨i 0, i 1, eq_ix2 i⟩
  unfold k0_pay7
  pointwise

theorem pay2_at (j : Fin 1024) : k0_pay2 (F := Ideal) (ix2 0 j) = 0 := by
  unfold k0_pay2
  pointwise

theorem first (c : Dev nD) (t : Fin cfg0.N) (h : t.val % 4 = 0) (j : Fin 1024) :
    (outsAt0 m c t.val t.isLt).2.2 (ix2 0 j) = 0 + bdg m c t j := by
  rw [outsAt0_A m c t h]; frame_out
  rw [pay7_eq]
  exact (pay1_blk m c t _ j).trans (congrArg (· + _) (pay2_at j))

theorem next (c : Dev nD) (t : Fin cfg0.N) (h : ¬t.val % 4 = 0) (j : Fin 1024) :
    (outsAt0 m c t.val t.isLt).2.2 (ix2 0 j)
      = (outsAt0 m c (t.val - 1) (Nat.lt_of_le_of_lt (Nat.sub_le _ _) t.isLt)).2.2 (ix2 0 j) + bdg m c t j := by
  rw [outsAt0_B m c t h]; frame_out
  rw [pay7_eq]
  exact pay1_blk m c t _ j

theorem dx4 (c : Dev nD) (t : Fin cfg0.N) (i : Fin 512) (j : Fin 1024) :
    (outsAt0 m c t.val t.isLt).1 (ix2 i j) = dx (p0 m c) (p1 m c) (p2 m c) (p3 m c) (row t i) j := by
  refine Eq.trans ?_ ((pay5_at _ _ _ _ i j).trans (dx_blk m c t i j))
  by_cases h : t.val % 4 = 0
  · rw [outsAt0_A m c t h]; frame_out
  · rw [outsAt0_B m c t h]; frame_out

theorem dx5 (c : Dev nD) (t : Fin cfg0.N) (i : Fin 512) (j : Fin 1024) :
    (outsAt0 m c t.val t.isLt).2.1 (ix2 i j) = dx (p0 m c) (p1 m c) (p2 m c) (p3 m c) (row t i) j := by
  refine Eq.trans ?_ ((pay6_at _ _ _ _ i j).trans (dx_blk m c t i j))
  by_cases h : t.val % 4 = 0
  · rw [outsAt0_A m c t h]; frame_out
  · rw [outsAt0_B m c t h]; frame_out

/-- The gain's gradient after all points. -/
theorem last (c : Dev nD) (j : Fin 1024) : (outsAt0 m c t0_3.val t0_3.isLt).2.2 (ix2 0 j) = dg (p0 m c) (p2 m c) j := by
  have h := Pipeline.eq_sum_fin_of_reset_step_apply_last
    (fun n h => fun _ : Unit => (outsAt0 m c n h).2.2 (ix2 0 j)) 4 (fun _ => 0) (fun t _ => bdg m c t j)
    (fun t h _ => first m c t h j) (fun t h _ => next m c t h j) (le_of_eq N_0) t0_3 rfl ()
  exact h.trans ((zero_add _).trans (Fin.sum_univ_tiles 4 512 rfl fun i => dgTerm (p0 m c) (p2 m c) i j).symm)

/-- The arrays that the call leaves. -/
theorem arr4 (c : Dev nD) : (dats m 0 c).arrAt 4 cfg0.N
    = Cert.Reference23Ideal.Read.val_main_v34 (F := Ideal) (p0 m c) (p1 m c) (p2 m c) (p3 m c) := by
  refine (dats m 0 c).arrAt_eq_of_covers 4 _ (by decide +kernel) fun t hf y => ?_
  blk_simp
  rw [after0_4]
  obtain ⟨i, j, rfl⟩ : ∃ (i : Fin 512) (j : Fin 1024), y = ix2 i j := ⟨y 0, y 1, eq_ix2 y⟩
  refine (dx4 m c t i j).trans ((v34_at _ _ _ _ (row t i) j).symm.trans ?_)
  unfold row
  blk_ext [idx t]

theorem arr5 (c : Dev nD) : (dats m 0 c).arrAt 5 cfg0.N
    = Cert.Reference23Ideal.Read.val_main_v35 (F := Ideal) (p0 m c) (p1 m c) (p2 m c) (p3 m c) := by
  refine (dats m 0 c).arrAt_eq_of_covers 5 _ (by decide +kernel) fun t hf y => ?_
  blk_simp
  rw [after0_5]
  obtain ⟨i, j, rfl⟩ : ∃ (i : Fin 512) (j : Fin 1024), y = ix2 i j := ⟨y 0, y 1, eq_ix2 y⟩
  refine (dx5 m c t i j).trans ((v35_at _ _ _ _ (row t i) j).symm.trans ?_)
  unfold row
  blk_ext [idx t]

theorem arr6 (c : Dev nD) : (dats m 0 c).arrAt 6 cfg0.N
    = Cert.Reference23Ideal.Read.val_main_v17 (F := Ideal) (p0 m c) (p2 m c) := by
  refine (dats m 0 c).arrAt_eq_of_covers 6 _ (by decide +kernel) fun t hf y => ?_
  obtain rfl : t = t0_3 := by revert hf; revert t; decide +kernel
  blk_simp
  rw [after0_6]
  obtain ⟨i, j, rfl⟩ : ∃ (i : Fin 1) (j : Fin 1024), y = ix2 i j := ⟨y 0, y 1, eq_ix2 y⟩
  obtain rfl : i = 0 := Fin.fin_one_eq_zero i
  refine (last m c j).trans ((v17_at _ _ j).symm.trans ?_)
  blk_ext [idx t0_3]

end Cert.Kernel23Ideal.Norm

namespace Cert.Norm

open Idealize.ShloMosaic Idealize.SL.Sem

attribute [local instance] Cert.Kernel23Ideal.Gen.facts Cert.Reference23Ideal.Gen.facts

theorem quiescent_rms_bwd : Cert.quiescent_Reference23Ideal := by
  intro m g _
  run_from Cert.Reference23Ideal.Value.run m g
  · exact fun c => ⟨trivial, trivial, trivial, trivial⟩
  · exact sem_eq_zero_of_no_sems (by decide) _

/-- The call and the derivative of the reference's lines leave the same arrays. -/
theorem rms_bwd : Cert.algebraic_Kernel23Ideal_Reference23Ideal := by
  pair_intro
  · run_from Cert.Kernel23Ideal.Value.run_blocks m g
  · refine θ_run_mono (Cert.Reference23Ideal.Value.run m' g') fun r hr c => ?_
    obtain ⟨h34, h35, h17, hk⟩ := hr c
    obtain ⟨e0, e1, e2, e3⟩ := hagree c
    refine ⟨(h34.trans (Cert.Reference23Ideal.Read.val_main_v34_eq (F := Ideal) _ _ _ _)).trans ?_,
      (h35.trans (Cert.Reference23Ideal.Read.val_main_v35_eq (F := Ideal) _ _ _ _)).trans ?_,
      (h17.trans (Cert.Reference23Ideal.Read.val_main_v17_eq (F := Ideal) _ _)).trans ?_, hk⟩
    · rw [e0, e1, e2, e3]
      exact (Cert.Kernel23Ideal.Norm.arr4 m c).symm
    · rw [e0, e1, e2, e3]
      exact (Cert.Kernel23Ideal.Norm.arr5 m c).symm
    · rw [e0, e2]
      exact (Cert.Kernel23Ideal.Norm.arr6 m c).symm

end Cert.Norm

end
-- ==== Proof.Norm.RmsFwd.lean ====
/- An RMS norm. -/
module

public import proofs.«01_k».proof.Defs
public import proofs.«01_k».proof.Proof.Norm.Spec
public import proofs.«01_k».proof.Proof.Gen.Kernel24Ideal.Value
public import proofs.«01_k».proof.Proof.Gen.Kernel24Ideal
public import proofs.«01_k».proof.Proof.Gen.Reference24Ideal
public import proofs.«01_k».proof.Proof.Gen.Reference24Ideal.Run
public import proofs.«01_k».proof.Proof.Gen.Reference24Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference24Ideal.Norm

open Idealize.ShloMosaic Idealize.SL.Sem Cert.Norm Cert.Reference24Ideal Cert.Reference24Ideal.Gen Cert.Reference24Ideal.Read

variable (x0 : (⟨S2048x1024, .f32⟩ : BufTy).Contents (Elt Ideal)) (x1 : (⟨S1x1024, .f32⟩ : BufTy).Contents (Elt Ideal))

/-- One element of the result. -/
def elem (i : Fin 2048) (j : Fin 1024) : EReal := x0 (ix2 i j) * (rinv len fun k => x0 (ix2 i k)) * x1 (ix2 0 j)

theorem v12_at (i : Fin 2048) (j : Fin 1024) : val_main_v12 (F := Ideal) x0 x1 (ix2 i j) = elem x0 x1 i j := by
  unfold val_main_v12 val_main_v11 val_main_v10 val_main_v9 val_main_v8 val_main_v7 val_main_v6 val_main_v4 val_main_v5 val_main_v3 val_main_v2 val_main_v1 val_main_v0 val_main_cst val_main_cst_0 val_main_cst_1
  pointwise
  rfl

end Cert.Reference24Ideal.Norm

namespace Cert.Kernel24Ideal.Norm

open Idealize.ShloMosaic Idealize.SL.Sem Cert.Norm Cert.Kernel24Ideal Cert.Kernel24Ideal.Gen

theorem pay_at (y0 : Vec Ideal S1024x1024 .f32) (y1 : Vec Ideal S1x1024 .f32) (i : Fin 1024) (j : Fin 1024) :
    k0_pay1 (F := Ideal) y0 y1 (ix2 i j) = y0 (ix2 i j) * (rinv len fun k => y0 (ix2 i k)) * y1 (ix2 0 j) := by
  unfold k0_pay1
  pointwise
  rfl

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

abbrev p0 (c : Dev nD) := m ((c.tc : Thread nD τ).loc main_arg0)
abbrev p1 (c : Dev nD) := m ((c.tc : Thread nD τ).loc main_arg1)

/-- The row of the arrays that point `t` reads as row `i` of its blocks. -/
def row (t : Fin cfg0.N) (i : Fin 1024) : Fin 2048 :=
  ⟨t.val * 1024 + i.val, by have := t.isLt; have : cfg0.N = 2 := N_0; omega⟩

theorem blk0 (c : Dev nD) (t : Fin cfg0.N) (i : Fin 1024) (j : Fin 1024) : iblk m c 0 t (ix2 i j) = p0 m c (ix2 (row t i) j) := by
  unfold row; blk_ext [iblk, Gen.V, idx t]

theorem blk1 (c : Dev nD) (t : Fin cfg0.N) (j : Fin 1024) : iblk m c 1 t (ix2 0 j) = p1 m c (ix2 0 j) := by
  blk_ext [iblk, Gen.V, idx t]

theorem pay_blk (c : Dev nD) (t : Fin cfg0.N) (i : Fin 1024) (j : Fin 1024) :
    k0_pay1 (F := Ideal) (iblk m c 0 t) (iblk m c 1 t) (ix2 i j) = Cert.Reference24Ideal.Norm.elem (p0 m c) (p1 m c) (row t i) j := by
  rw [pay_at]
  unfold Cert.Reference24Ideal.Norm.elem
  simp only [blk0, blk1]

/-- The array that the call leaves. -/
theorem arr (c : Dev nD) : (dats m 0 c).arrAt 2 cfg0.N
    = Cert.Reference24Ideal.Read.val_main_v12 (F := Ideal) (p0 m c) (p1 m c) := by
  refine (dats m 0 c).arrAt_eq_of_covers 2 _ (by decide +kernel) fun t hf y => ?_
  blk_simp
  rw [after0_2]
  obtain ⟨i, j, rfl⟩ : ∃ (i : Fin 1024) (j : Fin 1024), y = ix2 i j := ⟨y 0, y 1, eq_ix2 y⟩
  frame_out
  refine (pay_blk m c t i j).trans ((Cert.Reference24Ideal.Norm.v12_at _ _ (row t i) j).symm.trans ?_)
  unfold row
  blk_ext [idx t]

end Cert.Kernel24Ideal.Norm

namespace Cert.Norm

open Idealize.ShloMosaic Idealize.SL.Sem

attribute [local instance] Cert.Kernel24Ideal.Gen.facts Cert.Reference24Ideal.Gen.facts

theorem quiescent_rms_fwd : Cert.quiescent_Reference24Ideal := by
  intro m g _
  run_from Cert.Reference24Ideal.Value.run m g
  · exact fun c => ⟨trivial, trivial⟩
  · exact sem_eq_zero_of_no_sems (by decide) _

/-- The call and the reference's lines leave the same array. -/
theorem rms_fwd : Cert.algebraic_Kernel24Ideal_Reference24Ideal := by
  pair_intro
  · run_from Cert.Kernel24Ideal.Value.run_blocks m g
  · refine θ_run_mono (Cert.Reference24Ideal.Value.run m' g') fun r hr c => ?_
    obtain ⟨h12, hk⟩ := hr c
    obtain ⟨e0, e1⟩ := hagree c
    refine ⟨(h12.trans (Cert.Reference24Ideal.Read.val_main_v12_eq (F := Ideal) _ _)).trans ?_, hk⟩
    rw [e0, e1]
    exact (Cert.Kernel24Ideal.Norm.arr m c).symm

end Cert.Norm

end
-- ==== Proof.Attn.Fwd.lean ====
/- The memory attention. -/
module

public import proofs.«01_k».proof.Defs
public import proofs.«01_k».proof.Proof.Attn.Point
public import proofs.«01_k».proof.Proof.Gen.Kernel25Ideal.Value
public import proofs.«01_k».proof.Proof.Gen.Kernel25Ideal
public import proofs.«01_k».proof.Proof.Gen.Reference25Ideal
public import proofs.«01_k».proof.Proof.Gen.Reference25Ideal.Run
public import proofs.«01_k».proof.Proof.Gen.Reference25Ideal.Read
public import Idealize.ShloMosaic.Lib.Pointwise
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Reference25Ideal.Attn

open Idealize.ShloMosaic Idealize.SL.Sem Cert.Attn Cert.Reference25Ideal Cert.Reference25Ideal.Gen Cert.Reference25Ideal.Read

variable (x0 : (⟨S2048x5120, .f32⟩ : BufTy).Contents (Elt Ideal)) (x1 : (⟨S256x2048, .bf16⟩ : BufTy).Contents (Elt Ideal))
  (x2 : (⟨S2048x3072, .bf16⟩ : BufTy).Contents (Elt Ideal))

/-- Head `b` of query row `i`. -/
def Q (i : Fin 2048) (b : Fin 4) (d : Fin 256) : EReal := x0 (ix2 i ⟨4096 + (b * 256 + d), by omega⟩)
/-- Head `b`'s keys. -/
def K (b : Fin 4) (j d : Fin 256) : EReal := x1 (ix2 j ⟨b * 256 + d, by omega⟩)
/-- Head `b`'s values. -/
def W (b : Fin 4) (j d : Fin 256) : EReal := x1 (ix2 j ⟨1024 + (b * 256 + d), by omega⟩)

/-- One element of what the attention gives. -/
def elem (i : Fin 2048) (b : Fin 4) (l : Fin 256) : EReal := ∑ j, prob (score (Q x0 i b) (K x1 b)) j * W x1 b j l

theorem v6_at (i : Fin 2048) (b : Fin 4) (d : Fin 256) : val_main_v6 (F := Ideal) x0 (ix3 i b d) = Q x0 i b d := by
  unfold val_main_v6 val_main_v0
  pointwise; rfl

theorem v3_at (j : Fin 256) (b : Fin 4) (d : Fin 256) : val_main_v3 (F := Ideal) x1 (ix3 j b d) = K x1 b j d := by
  unfold val_main_v3 val_main_v2 val_main_v1
  pointwise; rfl

theorem v5_at (j : Fin 256) (b : Fin 4) (d : Fin 256) : val_main_v5 (F := Ideal) x1 (ix3 j b d) = W x1 b j d := by
  unfold val_main_v5 val_main_v4 val_main_v1
  pointwise; rfl

theorem v9_at (b : Fin 4) (i : Fin 2048) (j : Fin 256) :
    val_main_v9 (F := Ideal) x0 x1 (ix3 b i j) = score (Q x0 i b) (K x1 b) j := by
  have h : val_main_v7 (F := Ideal) x0 x1 (ix3 b i j) = ∑ d, Q x0 i b d * K x1 b j d := by
    rw [val_main_v7_apply]
    refine Finset.sum_congr rfl fun d _ => ?_
    rw [← v6_at, ← v3_at]
    congr 2 <;> idx_ext
  unfold val_main_v9 val_main_v8 val_main_cst score scale
  pointwise [h]

theorem v10_at (b : Fin 4) (i : Fin 2048) : val_main_v10 (F := Ideal) x0 x1 (ix2 b i) = top (score (Q x0 i b) (K x1 b)) := by
  unfold val_main_v10 val_main_cst_0 top
  pointwise [v9_at]

theorem v12_at (b : Fin 4) (i : Fin 2048) : val_main_v12 (F := Ideal) x0 x1 (ix2 b i) = top (score (Q x0 i b) (K x1 b)) := by
  rw [val_main_v12_apply, val_main_v11_apply, val_main_cst_1_apply, v10_at]
  exact max_bot_top _

theorem v16_at (b : Fin 4) (i : Fin 2048) (j : Fin 256) :
    val_main_v16 (F := Ideal) x0 x1 (ix3 b i j) = num (score (Q x0 i b) (K x1 b)) j := by
  unfold val_main_v16 val_main_v15 val_main_v14 val_main_v13 num
  pointwise [v9_at, v12_at]

theorem v20_at (b : Fin 4) (i : Fin 2048) (j : Fin 256) :
    val_main_v20 (F := Ideal) x0 x1 (ix3 b i j) = prob (score (Q x0 i b) (K x1 b)) j := by
  unfold val_main_v20 val_main_v19 val_main_v18 val_main_v17 val_main_cst_2 prob den
  pointwise [v16_at]

theorem v21_at (b : Fin 4) (l : Fin 256) (i : Fin 2048) : val_main_v21 (F := Ideal) x0 x1 (ix3 b l i) = elem x0 x1 i b l := by
  rw [val_main_v21_apply]
  refine Finset.sum_congr rfl fun j _ => ?_
  rw [← v20_at, ← v5_at, mul_comm]
  congr 2 <;> idx_ext

/-- The result: the attention in the last 1024 columns, the array as it was in the others. -/
theorem v26_at (i : Fin 2048) (b : Fin 4) (l : Fin 256) :
    val_main_v26 (F := Ideal) x0 x1 x2 (ix2 i ⟨2048 + (b * 256 + l), by omega⟩) = elem x0 x1 i b l := by
  rw [← v21_at]
  unfold val_main_v26 val_main_v25 val_main_v23 val_main_v22
  pointwise

theorem v26_old (i : Fin 2048) (k : Fin 2048) :
    val_main_v26 (F := Ideal) x0 x1 x2 (ix2 i ⟨k, by omega⟩) = x2 (ix2 i ⟨k, by omega⟩) := by
  unfold val_main_v26 val_main_v24
  pointwise

end Cert.Reference25Ideal.Attn

namespace Cert.Kernel25Ideal.Attn

open Idealize.ShloMosaic Idealize.SL.Sem Cert.Attn Cert.Kernel25Ideal Cert.Kernel25Ideal.Gen
open Cert.KernelIdeal.Attn (ld_at pick)
open Cert.Reference25Ideal.Attn (Q K W elem)

theorem pay2_at (q : Vec Ideal S512x256 .f32) (k w : Vec Ideal S256x256 .bf16) (r : Fin 512) (l : Fin 256) :
    k0_pay2 (F := Ideal) k w q (ix2 r l)
      = ∑ j : Fin 256, prob (score (fun d => q (ix2 r d)) fun j d => k (ix2 j d)) j * w (ix2 j l) := by
  unfold k0_pay2
  pointwise; rfl

/-! ## The other heads store the same operations -/

theorem o1 (q : Vec Ideal S512x256 .f32) (k w : Vec Ideal S256x256 .bf16) :
    k0_pay5 (F := Ideal) w (k0_pay3 k q) (k0_pay4 k q) = k0_pay2 k w q := rfl
theorem o2 (q : Vec Ideal S512x256 .f32) (k w : Vec Ideal S256x256 .bf16) : k0_pay6 (F := Ideal) k w q = k0_pay2 k w q := rfl
theorem o3 (q : Vec Ideal S512x256 .f32) (k w : Vec Ideal S256x256 .bf16) :
    k0_pay1 (F := Ideal) w (k0_pay7 k q) (k0_pay8 k q) = k0_pay2 k w q := rfl

/-- What one head's store leaves. -/
theorem o_x (x0 : Vec Ideal S512x1024 .f32) (x1 : Vec Ideal S256x2048 .bf16) (b' : Fin 4) (o o' : ℕ) (ho : o = b'.val * 256)
    (ho' : o' = 1024 + b'.val * 256) (i1) (i2) (i3) (r : Fin 512) (b : Fin 4) (l : Fin 256) (x : S512x256.Idx) (h0 : r.val = (x 0).val)
    (h1 : b.val * 256 + l.val = o + (x 1).val) :
    k0_pay2 (F := Ideal) (View.ld (S := S256x2048) (e' := .bf16) x1 (Rect.unit (s := S256x2048) ![0, o] ![256, 256] i2))
        (View.ld (S := S256x2048) (e' := .bf16) x1 (Rect.unit (s := S256x2048) ![0, o'] ![256, 256] i3))
        (View.ld (S := S512x1024) (e' := .f32) x0 (Rect.unit (s := S512x1024) ![0, o] ![512, 256] i1)) x
      = ∑ j : Fin 256, prob (score (fun d => x0 (ix2 r ⟨b * 256 + d, by omega⟩)) fun j d => x1 (ix2 j ⟨b * 256 + d, by omega⟩)) j
          * x1 (ix2 j ⟨1024 + (b * 256 + l), by omega⟩) := by
  obtain ⟨rfl, hl⟩ := pick ho (x 1).isLt h1
  obtain rfl : x = ix2 r l := by
    rw [eq_ix2 x]
    exact congrArg₂ ix2 (Fin.ext h0.symm) (Fin.ext hl.symm)
  subst ho ho'
  rw [pay2_at]
  refine Finset.sum_congr rfl fun j _ => congrArg₂ _ ?_ ((ld_at x1 _ i3 j l (by omega)).trans ?_)
  · congr 2
    · funext d; exact ld_at x0 _ i1 r d _
    · funext j d; exact ld_at x1 _ i2 j d _
  · congr 2; apply Fin.ext; dsimp only; omega

variable (m : (ℓ : Loc nD τ sig) → Buf (Elt Ideal) ℓ)

abbrev p0 (c : Dev nD) := m ((c.tc : Thread nD τ).loc main_arg0)
abbrev p1 (c : Dev nD) := m ((c.tc : Thread nD τ).loc main_arg1)
abbrev p2 (c : Dev nD) := m ((c.tc : Thread nD τ).loc main_arg2)

theorem idx : ∀ t : Fin cfg0.N, win0_0.index t = ![t.val, 4] ∧ win0_1.index t = ![0, 0] ∧ win0_2.index t = ![t.val, 2] :=
  (by decide +kernel : ∀ t : Fin grid0.N, _)

/-- Row `r` of the block of rows that point `t` reads. -/
def row (t : Fin cfg0.N) (r : Fin 512) : Fin 2048 := ⟨t.val * 512 + r.val, by have := t.isLt; have : cfg0.N = 4 := N_0; omega⟩

theorem blkQ (c : Dev nD) (t : Fin cfg0.N) (r : Fin 512) (b : Fin 4) (d : Fin 256) :
    iblk m c 0 t (ix2 r ⟨b * 256 + d, by omega⟩) = Q (p0 m c) (row t r) b d := by
  unfold Q row
  blk_ext [iblk, Gen.V, idx t]

theorem blkK (c : Dev nD) (t : Fin cfg0.N) (b : Fin 4) (j d : Fin 256) :
    iblk m c 1 t (ix2 j ⟨b * 256 + d, by omega⟩) = K (p1 m c) b j d := by
  unfold K
  blk_ext [iblk, Gen.V, idx t]

theorem blkW (c : Dev nD) (t : Fin cfg0.N) (b : Fin 4) (j d : Fin 256) :
    iblk m c 1 t (ix2 j ⟨1024 + (b * 256 + d), by omega⟩) = W (p1 m c) b j d := by
  unfold W
  blk_ext [iblk, Gen.V, idx t]

theorem out_at (c : Dev nD) (t : Fin cfg0.N) (r : Fin 512) (b : Fin 4) (l : Fin 256) :
    outsAt0 m c t (ix2 r ⟨b * 256 + l, by omega⟩) = elem (p0 m c) (p1 m c) (row t r) b l := by
  have e : elem (p0 m c) (p1 m c) (row t r) b l = ∑ j : Fin 256, prob (score (fun d => iblk m c 0 t (ix2 r ⟨b * 256 + d, by omega⟩))
      fun j d => iblk m c 1 t (ix2 j ⟨b * 256 + d, by omega⟩)) j * (iblk m c 1 t (ix2 j ⟨1024 + (b * 256 + l), by omega⟩) : EReal) := by
    simp only [blkQ, blkK, blkW]; rfl
  rw [e]
  unfold outsAt0
  frame_out
  canon_tiles x h
  · rw [o3]; exact o_x _ _ 3 _ _ rfl rfl _ _ _ r b l x h0 h1
  · rw [o2]; exact o_x _ _ 2 _ _ rfl rfl _ _ _ r b l x h0 h1
  · rw [o1]; exact o_x _ _ 1 _ _ rfl rfl _ _ _ r b l x h0 h1
  · exact o_x _ _ 0 _ _ rfl rfl _ _ _ r b l x h0 (h1.trans (Nat.zero_add _).symm)

/-- The array that the call leaves: written in the attention's columns, as it was in the others. -/
theorem arr (c : Dev nD) : (dats m 0 c).arrAt 2 cfg0.N
    = Cert.Reference25Ideal.Read.val_main_v26 (F := Ideal) (p0 m c) (p1 m c) (p2 m c) := by
  have e : (dats m 0 c).arrAt 2 cfg0.N = fun i => if 2 * 1024 ≤ (i 1 : ℕ) then
      Cert.Reference25Ideal.Read.val_main_v26 (F := Ideal) (p0 m c) (p1 m c) (p2 m c) i else Gen.V m c main_v0 i := by
    refine (dats m 0 c).arrAt_eq_of_coversWhere 2 _ (fun β => 2 ≤ β 1) (by decide +kernel) (fun t hf y => ?_)
      (fun j => by blk_simp [Pipeline.Window.cell_apply]; omega)
    blk_simp
    rw [after0_2]
    obtain ⟨r, l', rfl⟩ : ∃ (r : Fin 512) (l : Fin 1024), y = ix2 r l := ⟨y 0, y 1, eq_ix2 y⟩
    obtain ⟨b, l, rfl⟩ : ∃ (b : Fin 4) (l : Fin 256), l' = ⟨b * 256 + l, by omega⟩ :=
      ⟨⟨l' / 256, by omega⟩, ⟨l' % 256, by omega⟩, Fin.ext (by dsimp only; omega)⟩
    refine (out_at m c t r b l).trans ((Cert.Reference25Ideal.Attn.v26_at (p0 m c) (p1 m c) (p2 m c) (row t r) b l).symm.trans ?_)
    unfold row
    blk_ext [idx t]
  rw [e]
  funext i
  obtain ⟨r, k, rfl⟩ : ∃ (r : Fin 2048) (l : Fin 3072), i = ix2 r l := ⟨i 0, i 1, eq_ix2 i⟩
  by_cases hk : 2 * 1024 ≤ k.val
  · exact if_pos hk
  · refine (if_neg hk).trans (Eq.trans ?_ (Cert.Reference25Ideal.Attn.v26_old (p0 m c) (p1 m c) (p2 m c) r ⟨k, by omega⟩).symm)
    entry_read
    rfl

end Cert.Kernel25Ideal.Attn

namespace Cert.Attn

open Idealize.ShloMosaic Idealize.SL.Sem

attribute [local instance] Cert.Kernel25Ideal.Gen.facts Cert.Reference25Ideal.Gen.facts

theorem quiescent_fwd : Cert.quiescent_Reference25Ideal := by
  intro m g _
  run_from Cert.Reference25Ideal.Value.run m g
  · exact fun c => ⟨trivial, trivial, trivial⟩
  · exact sem_eq_zero_of_no_sems (by decide) _

/-- The call and the reference's lines leave the same array. -/
theorem fwd : Cert.algebraic_Kernel25Ideal_Reference25Ideal := by
  pair_intro
  · run_from Cert.Kernel25Ideal.Value.run_blocks m g
  · refine θ_run_mono (Cert.Reference25Ideal.Value.run m' g') fun r hr c => ?_
    obtain ⟨h26, hk⟩ := hr c
    obtain ⟨e0, e1, e2⟩ := hagree c
    refine ⟨(h26.trans (Cert.Reference25Ideal.Read.val_main_v26_eq (F := Ideal) _ _ _)).trans ?_, hk⟩
    rw [e0, e1, e2]
    exact (Cert.Kernel25Ideal.Attn.arr m c).symm

end Cert.Attn

end
-- ==== Proof.Norm.Gate.lean ====
/- The mathematics of the gate and the grouped norm's gradient at one row, as functions on extended reals: the sigmoid, and the
   gradient of the gate's argument in the kernel's form and in the form that the derivative of the reference's lines has. -/
module

public import proofs.«01_k».proof.Proof.Norm.Spec

@[expose] public section

noncomputable section

namespace Cert.Norm

open Idealize.ShloMosaic
open Cert.Attn (ofBits_one)

/-- The sigmoid of `z`. -/
def sg (z : EReal) : EReal := Ideal.div (Ideal.ofBits .f32 0x3F800000#32) (Ideal.ofBits .f32 0x3F800000#32 + Ideal.exp (-z))

theorem sg_top : sg ⊤ = 1 := by
  simp [sg, ofBits_one, Ideal.div]

theorem sg_bot : sg ⊥ = 0 := by
  simp only [sg, ofBits_one, EReal.neg_bot, Ideal.exp_top]
  rw [show (1 : EReal) + ⊤ = ⊤ from rfl]
  simp [Ideal.div]

theorem sg_coe (z : ℝ) : ∃ s : ℝ, 0 < s ∧ sg z = s := by
  have h : 0 < 1 + Real.exp (-z) := by positivity
  refine ⟨1 * (1 / (1 + Real.exp (-z))), by positivity, ?_⟩
  unfold sg
  rw [ofBits_one, ← EReal.coe_neg, Ideal.exp_coe, ← EReal.coe_one, ← EReal.coe_add, Ideal.div_coe h.ne', ← EReal.coe_mul]

variable {n : ℕ}

/-- A row before its norm: the array times its gate. -/
def gated (y z : Fin n → EReal) : Fin n → EReal := fun k => y k * (z k * sg (z k))

/-- The gradient of the gate's argument in the derivative of the reference's lines, from the gradient `c` of the gate. -/
def dgateQ (z c : EReal) : EReal := c * sg z + z * c * (sg z * (Ideal.ofBits .f32 0x3F800000#32 - sg z))

/-- The factor of the gate's gradient as the kernel writes it. -/
def dsilu (z : EReal) : EReal := sg z * (Ideal.ofBits .f32 0x3F800000#32 + z * (Ideal.ofBits .f32 0x3F800000#32 - sg z))

theorem one_sub_one : (1 : EReal) - 1 = 0 := by
  rw [← EReal.coe_one, ← EReal.coe_sub, sub_self, EReal.coe_zero]

theorem dgateQ_real (z : EReal) (c : ℝ) : dgateQ z c = c * dsilu z := by
  unfold dgateQ dsilu
  rw [ofBits_one]
  induction z with
  | top => rw [sg_top]; simp [one_sub_one]
  | bot => rw [sg_bot]; simp
  | coe z =>
      obtain ⟨s, -, hs⟩ := sg_coe z
      rw [hs]; norm_cast; ring

theorem grad_real {N : EReal} (hN : ∃ r : ℝ, 0 < r ∧ N = r) (x w : Fin n → EReal) (hw : ∀ k, ∃ r : ℝ, w k = r) (j : Fin n) :
    grad N x w j = 0 ∨ (∃ r : ℝ, grad N x w j = r) ∧ ∃ r : ℝ, x j = r := by
  rcases cases hN x with ⟨-, hr⟩ | ⟨a, r, -, -, -, hr, -, hx⟩
  · left; unfold grad; rw [hr, zero_mul]
  · right
    refine ⟨?_, hx j⟩
    obtain ⟨N', hN0, rfl⟩ := hN
    choose x' hx' using hx
    choose w' hw' using hw
    obtain ⟨S, hS⟩ := Cert.Attn.sum_coe Finset.univ (fun k => w k * (x k * (r : EReal))) fun k =>
      ⟨w' k * (x' k * r), by rw [hx', hw']; push_cast; rfl⟩
    refine ⟨r * (w' j - x' j * r * (S * (1 / N'))), ?_⟩
    unfold grad
    rw [hr, Ideal.div_coe hN0.ne', hS, hx', hw']
    push_cast
    rfl

/-- The two forms of the gradient of the gate's argument are equal, for the gradient of a normed row. -/
theorem dgateQ_eq {N : EReal} (hN : ∃ r : ℝ, 0 < r ∧ N = r) (y z w : Fin n → EReal) (hw : ∀ k, ∃ r : ℝ, w k = r) (j : Fin n) :
    dgateQ (z j) (y j * grad N (gated y z) w j) = grad N (gated y z) w j * y j * dsilu (z j) := by
  rw [mul_comm (y j)]
  rcases grad_real hN (gated y z) w hw j with h | ⟨⟨d, hd⟩, t, ht⟩
  · rw [h]; simp [dgateQ]
  · rw [hd]
    have hy : (∃ y' : ℝ, y j = y') ∨ z j = 0 ∨ z j = ⊥ := by
      unfold gated at ht
      rcases hy : y j with _ | _ | y'
      · right
        rw [show y j = ⊥ from hy] at ht
        rcases hz : z j with _ | _ | z'
        · exact Or.inr rfl
        · rw [show z j = ⊤ from hz, sg_top] at ht; simp at ht
        · left
          rw [show z j = (z' : EReal) from hz] at ht
          obtain ⟨s, hs0, hs⟩ := sg_coe z'
          rw [hs, ← EReal.coe_mul] at ht
          rcases lt_trichotomy z' 0 with h | h | h
          · rw [EReal.bot_mul_coe_of_neg (mul_neg_of_neg_of_pos h hs0)] at ht; exact absurd ht (by simp)
          · rw [h]; rfl
          · rw [EReal.bot_mul_coe_of_pos (mul_pos h hs0)] at ht; exact absurd ht (by simp)
      · right
        rw [show y j = ⊤ from hy] at ht
        rcases hz : z j with _ | _ | z'
        · exact Or.inr rfl
        · rw [show z j = ⊤ from hz, sg_top] at ht; simp at ht
        · left
          rw [show z j = (z' : EReal) from hz] at ht
          obtain ⟨s, hs0, hs⟩ := sg_coe z'
          rw [hs, ← EReal.coe_mul] at ht
          rcases lt_trichotomy z' 0 with h | h | h
          · rw [EReal.top_mul_coe_of_neg (mul_neg_of_neg_of_pos h hs0)] at ht; exact absurd ht (by simp)
          · rw [h]; rfl
          · rw [EReal.top_mul_coe_of_pos (mul_pos h hs0)] at ht; exact absurd ht (by simp)
      · exact Or.inl ⟨y', rfl⟩
    rcases hy with ⟨y', hy'⟩ | h0 | h0
    · rw [hy', ← EReal.coe_mul, dgateQ_real]
    · rw [h0]; simp [dgateQ, dsilu, ofBits_one]
    · rw [h0]; simp [dgateQ, dsilu, sg_bot]

/-- The groups' width as a float32. -/
def glen : EReal := Ideal.ofBits .f32 0x44000000#32

theorem glen_pos : ∃ r : ℝ, 0 < r ∧ glen = r := by
  refine ⟨512, by norm_num, ?_⟩
  unfold glen; simp [Ideal.ofBits, Ideal.ieee, -EReal.coe_mul]; norm_num

end Cert.Norm

end
-- ==== Proof.Norm.GateFwd.lean ====
/- The gated norm. -/
module

public import proofs.«01_k».proof.Defs
public import proofs.«01_k».proof.Proof.Attn.Point
public import proofs.«01_k».proof.Proof.Norm.Gate
public import proofs.«01_k».proof.Proof.Gen.Kernel27Ideal
public import proofs.«01_k».proof.Proof.Gen.Kernel27Ideal.Frame
public import proofs.«01_k».proof.Proof.Gen.Reference27Ideal
public import proofs.«01_k».proof.Proof.Gen.Reference27Ideal.Run
public import proofs.«01_k».proof.Proof.Gen.Reference27Ideal.Read
public import Idealize.ShloMosaic.Lib.Pointwise
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Reference27Ideal.Norm

open Idealize.ShloMosaic Idealize.SL.Sem Cert.Norm Cert.Reference27Ideal Cert.Reference27Ideal.Gen Cert.Reference27Ideal.Read

variable (x0 : (⟨S2048x2048, .f32⟩ : BufTy).Contents (Elt Ideal)) (x1 : (⟨S2048x6144, .f32⟩ : BufTy).Contents (Elt Ideal))
  (x2 : (⟨S1x2048, .f32⟩ : BufTy).Contents (Elt Ideal))

/-- One group of one row of the array, and of its gate's argument. -/
def Y (i : Fin 2048) (g : Fin 4) : Fin 512 → EReal := fun k => x0 (ix2 i ⟨g * 512 + k, by omega⟩)
def Z (i : Fin 2048) (g : Fin 4) : Fin 512 → EReal := fun k => x1 (ix2 i ⟨g * 512 + k, by omega⟩)

/-- One element of the result. -/
def elem (i : Fin 2048) (g : Fin 4) (l : Fin 512) : EReal :=
  gated (Y x0 i g) (Z x1 i g) l * rinv glen (gated (Y x0 i g) (Z x1 i g)) * x2 (ix2 0 ⟨g * 512 + l, by omega⟩)

theorem v3_at (i : Fin 2048) (g : Fin 4) (l : Fin 512) :
    val_main_v3 (F := Ideal) x0 x1 (ix3 i g l) = gated (Y x0 i g) (Z x1 i g) l := by
  unfold gated Y Z sg val_main_v3 val_main_v2 val_main_v1 val_main_call0_v5 val_main_call0_v4 val_main_call0_v3 val_main_call0_v2 val_main_call0_v1 val_main_call0_v0 val_main_call0_cst val_main_call0_cst_0 val_main_v0
  pointwise

theorem v11_at (i : Fin 2048) (g : Fin 4) :
    val_main_v11 (F := Ideal) x0 x1 (ix3 i g 0) = rinv glen (gated (Y x0 i g) (Z x1 i g)) := by
  unfold val_main_v11 val_main_v10 val_main_v9 val_main_v8 val_main_v7 val_main_v6 val_main_v5 val_main_v4 val_main_cst val_main_cst_0 val_main_cst_1
  pointwise
  simp only [v3_at]
  rfl

theorem v17_at (i : Fin 2048) (g : Fin 4) (l : Fin 512) :
    val_main_v17 (F := Ideal) x0 x1 x2 (ix2 i ⟨g * 512 + l, by omega⟩) = elem x0 x1 x2 i g l := by
  unfold elem
  rw [← v11_at, ← v3_at]
  unfold val_main_v17 val_main_v16 val_main_v15 val_main_v14 val_main_v13 val_main_v12
  pointwise

end Cert.Reference27Ideal.Norm

namespace Cert.Norm

/-- What a store's position says of a column, read as the group and the column of the group. -/
theorem pick {b b' : Fin 4} {l : Fin 512} {u o : ℕ} (ho : o = b'.val * 512) (hu : u < 512) (h : b.val * 512 + l.val = o + u) :
    b = b' ∧ l.val = u := by
  constructor
  · apply Fin.ext; omega
  · have : b.val = b'.val := by omega
    omega

end Cert.Norm

namespace Cert.Kernel27Ideal.Norm

open Idealize.ShloMosaic Idealize.SL.Sem Cert.Norm Cert.Kernel27Ideal Cert.Kernel27Ideal.Gen
open Cert.KernelIdeal.Attn (ld_at)

theorem pay2_at (z y : Vec Ideal S512x512 .f32) (w : Vec Ideal S1x512 .f32) (i l : Fin 512) :
    k0_pay2 (F := Ideal) z y w (ix2 i l)
      = gated (fun k => y (ix2 i k)) (fun k => z (ix2 i k)) l
        * rinv glen (gated (fun k => y (ix2 i k)) fun k => z (ix2 i k)) * w (ix2 0 l) := by
  unfold gated sg
  simp only [← zero_sub (z _)]
  unfold k0_pay2
  pointwise
  rfl

/-! ## The other groups store the same operations -/

theorem o1 (z y : Vec Ideal S512x512 .f32) (w : Vec Ideal S1x512 .f32) :
    k0_pay4 (F := Ideal) (k0_pay3 z y) w = k0_pay2 z y w := rfl
theorem o2 (z y : Vec Ideal S512x512 .f32) (w : Vec Ideal S1x512 .f32) : k0_pay5 (F := Ideal) z y w = k0_pay2 z y w := rfl
theorem o3 (z y : Vec Ideal S512x512 .f32) (w : Vec Ideal S1x512 .f32) : k0_pay1 (F := Ideal) z y w = k0_pay2 z y w := rfl

/-- One group's element of a block. -/
def belem (x0 x1 : Vec Ideal S512x2048 .f32) (x2 : Vec Ideal S1x2048 .f32) (i : Fin 512) (g : Fin 4) (l : Fin 512) : EReal :=
  gated (fun k : Fin 512 => x0 (ix2 i ⟨g * 512 + k, by omega⟩)) (fun k : Fin 512 => x1 (ix2 i ⟨g * 512 + k, by omega⟩)) l
    * rinv glen (gated (fun k : Fin 512 => x0 (ix2 i ⟨g * 512 + k, by omega⟩)) fun k : Fin 512 => x1 (ix2 i ⟨g * 512 + k, by omega⟩))
    * x2 (ix2 0 ⟨g * 512 + l, by omega⟩)

/-- What one group's store leaves. -/
theorem o_x (x0 x1 : Vec Ideal S512x2048 .f32) (x2 : Vec Ideal S1x2048 .f32) (g' : Fin 4) (o : ℕ) (ho : o = g'.val * 512) (i1) (i2)
    (i : Fin 512) (g : Fin 4) (l : Fin 512) (x : S512x512.Idx) (h0 : i.val = (x 0).val) (h1 : g.val * 512 + l.val = o + (x 1).val) :
    k0_pay2 (F := Ideal) (View.ld (S := S512x2048) (e' := .f32) x1 (Rect.unit (s := S512x2048) ![0, o] ![512, 512] i1))
        (View.ld (S := S512x2048) (e' := .f32) x0 (Rect.unit (s := S512x2048) ![0, o] ![512, 512] i1))
        (View.ld (S := S1x2048) (e' := .f32) x2 (Rect.unit (s := S1x2048) ![0, o] ![1, 512] i2)) x
      = belem x0 x1 x2 i g l := by
  obtain ⟨rfl, hl⟩ := pick ho (x 1).isLt h1
  obtain rfl : x = ix2 i l := by
    funext a
    match a with
    | ⟨0, _⟩ => exact Fin.ext h0.symm
    | ⟨1, _⟩ => exact Fin.ext hl.symm
  subst ho
  rw [pay2_at]
  unfold belem
  have e0 : ∀ k : Fin 512, _ = x0 (ix2 i ⟨g * 512 + k, by omega⟩) := fun k => ld_at x0 _ i1 i k _
  have e1 : ∀ k : Fin 512, _ = x1 (ix2 i ⟨g * 512 + k, by omega⟩) := fun k => ld_at x1 _ i1 i k _
  have e2 : _ = x2 (ix2 0 ⟨g * 512 + l, by omega⟩) := ld_at x2 _ i2 0 l _
  simp only [e0, e1, e2]

theorem out_at (x0 x1 : Vec Ideal S512x2048 .f32) (x2 : Vec Ideal S1x2048 .f32) (i : Fin 512) (g : Fin 4) (l : Fin 512) :
    out0_3 x0 x1 x2 (ix2 i ⟨g * 512 + l, by omega⟩) = belem x0 x1 x2 i g l := by
  frame_out
  canon_tiles x h
  · rw [o3]; exact o_x _ _ _ 3 _ rfl _ _ i g l x h0 h1
  · rw [o2]; exact o_x _ _ _ 2 _ rfl _ _ i g l x h0 h1
  · rw [o1]; exact o_x _ _ _ 1 _ rfl _ _ i g l x h0 h1
  · exact o_x _ _ _ 0 _ rfl _ _ i g l x h0 (h1.trans (Nat.zero_add _).symm)

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

abbrev p0 (c : Dev nD) := m ((c.tc : Thread nD τ).loc main_arg0)
abbrev p1 (c : Dev nD) := m ((c.tc : Thread nD τ).loc main_arg1)
abbrev p2 (c : Dev nD) := m ((c.tc : Thread nD τ).loc main_arg2)

/-- The row of the arrays that point `t` reads as row `i` of its blocks. -/
def row (t : Fin cfg0.N) (i : Fin 512) : Fin 2048 :=
  ⟨t.val * 512 + i.val, by have := t.isLt; have : cfg0.N = 4 := N_0; omega⟩

open Cert.Reference27Ideal.Norm (Y Z elem)

theorem blk0 (c : Dev nD) (t : Fin cfg0.N) (i : Fin 512) (g : Fin 4) (k : Fin 512) :
    iblk m c 0 t (ix2 i ⟨g * 512 + k, by omega⟩) = Y (p0 m c) (row t i) g k := by
  unfold Y row; blk_ext [iblk, Gen.V, idx t]

theorem blk1 (c : Dev nD) (t : Fin cfg0.N) (i : Fin 512) (g : Fin 4) (k : Fin 512) :
    iblk m c 1 t (ix2 i ⟨g * 512 + k, by omega⟩) = Z (p1 m c) (row t i) g k := by
  unfold Z row; blk_ext [iblk, Gen.V, idx t]

theorem blk2 (c : Dev nD) (t : Fin cfg0.N) (j : Fin 2048) : iblk m c 2 t (ix2 0 j) = p2 m c (ix2 0 j) := by
  blk_ext [iblk, Gen.V, idx t]

theorem belem_blk (c : Dev nD) (t : Fin cfg0.N) (i : Fin 512) (g : Fin 4) (l : Fin 512) :
    belem (iblk m c 0 t) (iblk m c 1 t) (iblk m c 2 t) i g l = elem (p0 m c) (p1 m c) (p2 m c) (row t i) g l := by
  unfold belem elem
  simp only [blk0, blk1, blk2]

/-- No block of the result is cut. -/
theorem xsz : ∀ t : Fin cfg0.N, ∀ a, (cfg0.win 3).xsize (cfg0.grid.coords t) a = (cfg0.win 3).size a := by decide +kernel

/-- The reference's result, set in the wider array that the call writes. -/
def wide (c : Dev nD) : Vec Ideal S2048x3072 .bf16 := fun y =>
  if h : (y 1).val < 2048 then Cert.Reference27Ideal.Read.val_main_v17 (F := Ideal) (p0 m c) (p1 m c) (p2 m c) (ix2 (y 0) ⟨y 1, h⟩)
  else 0

theorem wide_at (c : Dev nD) (y : S2048x3072.Idx) (i j : Fin 2048) (h0 : (y 0).val = i) (h1 : (y 1).val = j) :
    wide m c y = Cert.Reference27Ideal.Read.val_main_v17 (F := Ideal) (p0 m c) (p1 m c) (p2 m c) (ix2 i j) := by
  have e : y = (ix2 i ⟨j, by omega⟩ : S2048x3072.Idx) := by
    funext a
    match a with
    | ⟨0, _⟩ => exact Fin.ext h0
    | ⟨1, _⟩ => exact Fin.ext h1
  rw [e]
  exact dif_pos (c := (j : ℕ) < 2048) j.isLt

/-- The array that the call leaves, in the columns that it writes. -/
theorem arr (c : Dev nD) (i j : Fin 2048) : (dats m 0 c).arrAt 3 cfg0.N (ix2 i ⟨j, by omega⟩)
    = Cert.Reference27Ideal.Read.val_main_v17 (F := Ideal) (p0 m c) (p1 m c) (p2 m c) (ix2 i j) := by
  refine ((dats m 0 c).arrAt_emb_eq_of_coversWhere 3 (wide m c) (fun β => β 1 = 0) (by decide +kernel) (fun t hf y => ?_)
    (ix2 i ⟨j, by omega⟩)).trans ?_
  · blk_simp
    rw [after0_3]
    obtain ⟨i, hi⟩ : ∃ i : Fin 512, i.val = (y 0).val := ⟨⟨(y 0).val, (y 0).isLt.trans_le (xsz t 0).le⟩, rfl⟩
    obtain ⟨q, hq⟩ : ∃ q : Fin 2048, q.val = (y 1).val := ⟨⟨(y 1).val, (y 1).isLt.trans_le (xsz t 1).le⟩, rfl⟩
    obtain ⟨g, l, hgl⟩ : ∃ (g : Fin 4) (l : Fin 512), q.val = g * 512 + l :=
      ⟨⟨q.val / 512, by omega⟩, ⟨q.val % 512, Nat.mod_lt _ (by norm_num)⟩, (Nat.div_add_mod' _ _).symm⟩
    have hy : (cfg0.win 3).xinj (cfg0.grid.coords t) y = (ix2 i ⟨g * 512 + l, by omega⟩ : S512x2048.Idx) := by
      funext a
      match a with
      | ⟨0, _⟩ => exact Fin.ext hi.symm
      | ⟨1, _⟩ => exact Fin.ext (hq.symm.trans hgl)
    have h0 : (((win0_3.blk t).view.emb y : S2048x3072.Idx) 0).val = t.val * 512 + i.val := by
      refine (win0_3.rect_emb_val t y 0).trans ?_
      rw [(idx t).2.2.2, hi]; rfl
    have h1 : (((win0_3.blk t).view.emb y : S2048x3072.Idx) 1).val = g * 512 + l := by
      refine (win0_3.rect_emb_val t y 1).trans ?_
      rw [(idx t).2.2.2, ← hgl, hq]; exact (Nat.zero_mul 2048).symm ▸ Nat.zero_add _
    rw [hy, out_at, belem_blk]
    refine (Cert.Reference27Ideal.Norm.v17_at _ _ _ (row t i) g l).symm.trans ?_
    exact (wide_at m c _ (row t i) ⟨g * 512 + l, by omega⟩ h0 h1).symm
  · rw [if_pos]
    · unfold wide
      exact dif_pos (c := (j : ℕ) < 2048) j.isLt
    · blk_simp [Pipeline.Window.cell_apply]
      exact Nat.div_eq_of_lt j.isLt

/-- The result: the columns that the call writes. -/
theorem tail (c : Dev nD) : Pipeline.afterTail₀ cfgs (dats m) 0 (V0 m) [hostOps1] c main_v1
    = Cert.Reference27Ideal.Read.val_main_v17 (F := Ideal) (p0 m c) (p1 m c) (p2 m c) := by
  unfold Pipeline.afterTail₀
  show StableHlo.after hostOps1 _ (Proc.devRef .tc main_v1) = _
  after_results
  have e := Pipeline.withArrays_arr (τ := τ) spec0 (by decide) c (V0 m c) (fun w => (dats m 0 c).arrAt w cfg0.N) 3
  funext y
  obtain ⟨i, j, rfl⟩ : ∃ i j : Fin 2048, y = ix2 i j := ⟨y 0, y 1, eq_ix2 y⟩
  refine (congrFun (congrArg (fun A => extractStridedSlice S2048x2048 ![0, 0] A slices_S2048x3072_S2048x2048_0_0) e) (ix2 i j)).trans ?_
  refine Eq.trans ?_ (arr m c i j)
  exact congrArg ((dats m 0 c).arrAt 3 cfg0.N) (by idx_ext)

end Cert.Kernel27Ideal.Norm

namespace Cert.Norm

open Idealize.ShloMosaic Idealize.SL.Sem

attribute [local instance] Cert.Kernel27Ideal.Gen.facts Cert.Reference27Ideal.Gen.facts

theorem quiescent_gate_fwd : Cert.quiescent_Reference27Ideal := by
  intro m g _
  run_from Cert.Reference27Ideal.Value.run m g
  · exact fun c => ⟨trivial, trivial, trivial⟩
  · exact sem_eq_zero_of_no_sems (by decide) _

/-- The call and the reference's lines leave the same array. -/
theorem gate_fwd : Cert.algebraic_Kernel27Ideal_Reference27Ideal := by
  intro m g m' g' hpre hagree
  refine ⟨fun c => Cert.Reference27Ideal.Read.val_main_v17 (F := Ideal) (Cert.Kernel27Ideal.Norm.p0 m c)
    (Cert.Kernel27Ideal.Norm.p1 m c) (Cert.Kernel27Ideal.Norm.p2 m c), ?_, ?_⟩
  · refine θ_run_mono (θ_run_and (Cert.Kernel27Ideal.Gen.run_main m g) (Cert.Kernel27Ideal.Gen.unchanged m g)) fun r h c => ?_
    exact ⟨((h.1 c).2 Cert.Kernel27Ideal.main_v1 (by decide +kernel)).trans (Cert.Kernel27Ideal.Norm.tail m c), h.2 c⟩
  · refine θ_run_mono (Cert.Reference27Ideal.Value.run m' g') fun r hr c => ?_
    obtain ⟨h17, hk⟩ := hr c
    obtain ⟨e0, e1, e2⟩ := hagree c
    refine ⟨(h17.trans (Cert.Reference27Ideal.Read.val_main_v17_eq (F := Ideal) _ _ _)).trans ?_, hk⟩
    rw [e0, e1, e2]

end Cert.Norm

end
-- ==== Proof.Norm.GateBwd.lean ====
/- The gradient of the gated norm. -/
module

public import proofs.«01_k».proof.Defs
public import proofs.«01_k».proof.Proof.Attn.Point
public import proofs.«01_k».proof.Proof.Norm.Gate
public import proofs.«01_k».proof.Proof.Norm.GateFwd
public import proofs.«01_k».proof.Proof.Gen.Kernel26Ideal
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Reference26Ideal.Read
public import Idealize.ShloMosaic.Lib.Pointwise
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Reference26Ideal.Norm

open Idealize.ShloMosaic Idealize.SL.Sem Cert.Norm Cert.Reference26Ideal Cert.Reference26Ideal.Gen Cert.Reference26Ideal.Read
open Cert.Reference27Ideal.Norm (Y Z)

variable (x0 : (⟨S2048x2048, .f32⟩ : BufTy).Contents (Elt Ideal)) (x1 : (⟨S2048x6144, .f32⟩ : BufTy).Contents (Elt Ideal))
  (x2 : (⟨S1x2048, .f32⟩ : BufTy).Contents (Elt Ideal)) (x3 : (⟨S2048x3072, .bf16⟩ : BufTy).Contents (Elt Ideal))

/-- One group of one row before its norm, and of the normed row's gradient. -/
def X (i : Fin 2048) (g : Fin 4) : Fin 512 → EReal := gated (Y x0 i g) (Z x1 i g)
def D (i : Fin 2048) (g : Fin 4) : Fin 512 → EReal := fun k : Fin 512 => x3 (ix2 i ⟨g * 512 + k, by omega⟩)
def W (i : Fin 2048) (g : Fin 4) : Fin 512 → EReal := fun k : Fin 512 => D x3 i g k * x2 (ix2 0 ⟨g * 512 + k, by omega⟩)

/-- One element of the gradient of the row before its norm. -/
def dn (i : Fin 2048) (g : Fin 4) (l : Fin 512) : EReal := grad glen (X x0 x1 i g) (W x2 x3 i g) l

/-- One element of each result. -/
def dy (i : Fin 2048) (g : Fin 4) (l : Fin 512) : EReal := dn x0 x1 x2 x3 i g l * (Z x1 i g l * sg (Z x1 i g l))
def dz (i : Fin 2048) (g : Fin 4) (l : Fin 512) : EReal := dn x0 x1 x2 x3 i g l * Y x0 i g l * dsilu (Z x1 i g l)
def dgTerm (g : Fin 4) (l : Fin 512) (i : Fin 2048) : EReal := D x3 i g l * (X x0 x1 i g l * rinv glen (X x0 x1 i g))
def dg (g : Fin 4) (l : Fin 512) : EReal := ∑ i : Fin 2048, dgTerm x0 x1 x3 g l i

theorem v12_at (i : Fin 2048) (j : Fin 2048) : val_main_v1_2 (F := Ideal) x1 (ix2 i j) = sg (x1 (ix2 i ⟨j, by omega⟩)) := by
  unfold sg val_main_v1_2 val_main_call0_v4 val_main_call0_v3 val_main_call0_v2 val_main_call0_v1 val_main_call0_v0 val_main_call0_cst val_main_call0_cst_0 val_main_v0
  pointwise

theorem v10_at (i : Fin 2048) (j : Fin 2048) : val_main_v1_0 (F := Ideal) x1 (ix2 i j) = x1 (ix2 i ⟨j, by omega⟩) * sg (x1 (ix2 i ⟨j, by omega⟩)) := by
  rw [← v12_at]
  unfold val_main_v1_0 val_main_v0
  pointwise

theorem v3_at (i : Fin 2048) (g : Fin 4) (l : Fin 512) : val_main_v3 (F := Ideal) x0 x1 (ix3 i g l) = X x0 x1 i g l := by
  unfold X gated Y Z val_main_v3 val_main_v2
  pointwise
  rw [v10_at]

theorem v10m_at (i : Fin 2048) (g : Fin 4) : val_main_v10 (F := Ideal) x0 x1 (ix3 i g 0) = msq glen (X x0 x1 i g) := by
  unfold val_main_v10 val_main_v9 val_main_v8 val_main_v7 val_main_v6 val_main_v5 val_main_v4 val_main_cst val_main_cst_0 val_main_cst_1
  pointwise
  simp only [v3_at]
  rfl

theorem v11_at (i : Fin 2048) (g : Fin 4) : val_main_v11 (F := Ideal) x0 x1 (ix3 i g 0) = rinv glen (X x0 x1 i g) := by
  unfold val_main_v11
  exact congrArg Ideal.rsqrt (v10m_at x0 x1 i g)

theorem v27_at (i : Fin 2048) (g : Fin 4) (l : Fin 512) : val_main_v27 (F := Ideal) x2 x3 (ix3 i g l) = W x2 x3 i g l := by
  unfold W D val_main_v27 val_main_v26 val_main_v25 val_main_v21 val_main_v20
  pointwise

theorem v36_at (i : Fin 2048) (g : Fin 4) : val_main_v36 (F := Ideal) x0 x1 x2 x3 (ix2 i g) = gradSq glen (X x0 x1 i g) (W x2 x3 i g) := by
  unfold val_main_v36 val_main_v35 val_main_v34 val_main_v33 val_main_v30 val_main_v29 val_main_v28 val_main_v14 val_main_v13 val_main_v12 val_main_cst_2 val_main_cst_4 val_main_cst_5 val_main_cst_6
  pointwise
  simp only [v11_at, v10m_at, v3_at, v27_at, Finset.univ_unique, Finset.sum_singleton, Fin.default_eq_zero]
  rfl

theorem v41_at (i : Fin 2048) (g : Fin 4) (l : Fin 512) : val_main_v41 (F := Ideal) x0 x1 x2 x3 (ix3 i g l) = dn x0 x1 x2 x3 i g l := by
  unfold dn
  rw [← gradQ_eq glen_pos]
  unfold gradQ val_main_v41 val_main_v40 val_main_v39 val_main_v38 val_main_v37 val_main_v32 val_main_v31
  pointwise
  simp only [v11_at, v36_at, v3_at, v27_at]

theorem v42_at (i : Fin 2048) (g : Fin 4) (l : Fin 512) :
    val_main_v42 (F := Ideal) x0 x1 x2 x3 (ix2 i ⟨g * 512 + l, by omega⟩) = dn x0 x1 x2 x3 i g l := by
  rw [← v41_at]
  unfold val_main_v42
  pointwise

theorem v44_at (i : Fin 2048) (g : Fin 4) (l : Fin 512) :
    val_main_v44 (F := Ideal) x0 x1 x2 x3 (ix2 i ⟨g * 512 + l, by omega⟩) = dy x0 x1 x2 x3 i g l := by
  unfold dy Z val_main_v44
  rw [← v42_at]
  exact congrArg _ (v10_at x1 i ⟨g * 512 + l, by omega⟩)

theorem v46_at (hw : ∀ i g k, ∃ r : ℝ, W x2 x3 i g k = r) (i : Fin 2048) (g : Fin 4) (l : Fin 512) :
    val_main_v46 (F := Ideal) x0 x1 x2 x3 (ix2 i ⟨g * 512 + l, by omega⟩) = dz x0 x1 x2 x3 i g l := by
  unfold dz dn
  refine Eq.trans ?_ (dgateQ_eq glen_pos (Y x0 i g) (Z x1 i g) (W x2 x3 i g) (hw i g) l)
  unfold dgateQ
  refine Eq.trans (b := Y x0 i g l * dn x0 x1 x2 x3 i g l * sg (Z x1 i g l)
    + Z x1 i g l * (Y x0 i g l * dn x0 x1 x2 x3 i g l) * (sg (Z x1 i g l) * (Ideal.ofBits .f32 0x3F800000#32 - sg (Z x1 i g l)))) ?_ rfl
  rw [← v42_at]
  unfold Y Z
  rw [← v12_at x1 i ⟨g * 512 + l, by omega⟩]
  unfold val_main_v46 val_main_v45 val_main_call1_v2 val_main_call1_v1 val_main_call1_v0 val_main_v43 val_main_v1_1 val_main_call0_v7 val_main_call0_v6 val_main_call0_cst_1 val_main_v0
  pointwise

theorem v24_at (g : Fin 4) (l : Fin 512) : val_main_v24 (F := Ideal) x0 x1 x3 (ix2 0 ⟨g * 512 + l, by omega⟩) = dg x0 x1 x3 g l := by
  have e (i : Fin 2048) : val_main_v17 (F := Ideal) x0 x1 (ix2 i ⟨g * 512 + l, by omega⟩) = X x0 x1 i g l * rinv glen (X x0 x1 i g) := by
    rw [← v11_at, ← v3_at]
    unfold val_main_v17 val_main_v16 val_main_v15
    pointwise
  unfold dg dgTerm D val_main_v24 val_main_v23 val_main_v22 val_main_v21 val_main_v20 val_main_cst_3
  pointwise
  simp only [e]
  exact Finset.sum_congr rfl fun i _ => mul_comm _ _

end Cert.Reference26Ideal.Norm

namespace Cert.Kernel26Ideal.Norm

open Idealize.ShloMosaic Idealize.SL.Sem Cert.Norm Cert.Kernel26Ideal Cert.Kernel26Ideal.Gen
open Cert.KernelIdeal.Attn (ld_at canon_init)

section
variable (z y : Vec Ideal S512x512 .f32) (d : Vec Ideal S512x512 .bf16) (w : Vec Ideal S1x512 .f32)

/-- The first group's stored arrays; the other groups store the same. -/
abbrev ody : Vec Ideal S512x512 .f32 := k0_pay14 (k0_pay7 z) (k0_pay12 z y d w)
abbrev odz : Vec Ideal S512x512 .bf16 := k0_pay15 z y (k0_pay6 z) (k0_pay12 z y d w)
abbrev odg (old : Vec Ideal S1x512 .f32) : Vec Ideal S1x512 .f32 := k0_pay13 (k0_pay10 z y) (k0_pay11 d) old

theorem ody1 : k0_pay25 (F := Ideal) (k0_pay17 z) (k0_pay18 z y) (k0_pay19 z y) d w = ody z y d w := rfl
theorem ody2 : k0_pay35 (F := Ideal) (k0_pay28 z) (k0_pay33 z y d w) = ody z y d w := rfl
theorem ody3 : k0_pay3 (F := Ideal) (k0_pay38 z) (k0_pay40 z y) (k0_pay41 z y) (k0_pay42 d) w = ody z y d w := rfl
theorem odz1 : k0_pay26 (F := Ideal) z y (k0_pay16 z) (k0_pay18 z y) (k0_pay19 z y) d w = odz z y d w := rfl
theorem odz2 : k0_pay36 (F := Ideal) z y (k0_pay27 z) (k0_pay33 z y d w) = odz z y d w := rfl
theorem odz3 : k0_pay4 (F := Ideal) z y (k0_pay37 z) (k0_pay40 z y) (k0_pay41 z y) (k0_pay42 d) w = odz z y d w := rfl
theorem odg1 (old : Vec Ideal S1x512 .f32) : k0_pay24 (F := Ideal) (k0_pay18 z y) (k0_pay19 z y) d old = odg z y d old := rfl
theorem odg2 (old : Vec Ideal S1x512 .f32) : k0_pay34 (F := Ideal) z y d old = odg z y d old := rfl
theorem odg3 (old : Vec Ideal S1x512 .f32) : k0_pay2 (F := Ideal) (k0_pay41 z y) (k0_pay42 d) old = odg z y d old := rfl

/-- One row of the group before its norm. -/
def gr (i : Fin 512) : Fin 512 → EReal := gated (fun k => y (ix2 i k)) fun k => z (ix2 i k)
def wr (i : Fin 512) : Fin 512 → EReal := fun k => d (ix2 i k) * w (ix2 0 k)

theorem pay6_at (i l : Fin 512) : k0_pay6 (F := Ideal) z (ix2 i l) = sg (z (ix2 i l)) := by
  unfold sg
  rw [← zero_sub (z _)]
  unfold k0_pay6
  pointwise

theorem pay8_at (i l : Fin 512) : k0_pay8 (F := Ideal) z y (ix2 i l) = gr z y i l := by
  unfold gr gated
  rw [← pay6_at]
  unfold k0_pay8 k0_pay7
  pointwise

theorem pay9_at (i : Fin 512) : k0_pay9 (F := Ideal) z y (ix2 i 0) = rinv glen (gr z y i) := by
  unfold k0_pay9
  pointwise
  simp only [pay8_at]
  rfl

theorem pay10_at (i l : Fin 512) : k0_pay10 (F := Ideal) z y (ix2 i l) = gr z y i l * rinv glen (gr z y i) := by
  rw [← pay9_at, ← pay8_at]
  unfold k0_pay10
  pointwise

theorem pay12_at (i l : Fin 512) : k0_pay12 (F := Ideal) z y d w (ix2 i l) = grad glen (gr z y i) (wr d w i) l := by
  unfold k0_pay12 k0_pay11
  pointwise
  simp only [pay9_at, pay10_at]
  rfl

theorem ody_at (i l : Fin 512) : ody z y d w (ix2 i l) = grad glen (gr z y i) (wr d w i) l * (z (ix2 i l) * sg (z (ix2 i l))) := by
  rw [← pay12_at, ← pay6_at]
  unfold ody k0_pay14 k0_pay7
  pointwise

theorem odz_at (i l : Fin 512) : odz z y d w (ix2 i l) = grad glen (gr z y i) (wr d w i) l * y (ix2 i l) * dsilu (z (ix2 i l)) := by
  unfold dsilu
  rw [← pay12_at, ← pay6_at]
  unfold odz k0_pay15
  pointwise

theorem odg_at (old : Vec Ideal S1x512 .f32) (l : Fin 512) : odg z y d old (ix2 0 l)
    = old (ix2 0 l) + ∑ i : Fin 512, d (ix2 i l) * (gr z y i l * rinv glen (gr z y i)) := by
  simp only [← pay10_at]
  unfold odg k0_pay13 k0_pay11
  pointwise

end

section
variable (x0 x1 : Vec Ideal S512x2048 .f32) (x2 : Vec Ideal S1x2048 .f32) (x3 : Vec Ideal S512x2048 .bf16)

/-- One row of a group in the blocks. -/
def bz (i : Fin 512) (g : Fin 4) : Fin 512 → EReal := fun k : Fin 512 => x1 (ix2 i ⟨g * 512 + k, by omega⟩)
def bd (i : Fin 512) (g : Fin 4) : Fin 512 → EReal := fun k : Fin 512 => x3 (ix2 i ⟨g * 512 + k, by omega⟩)
def bw (g : Fin 4) : Fin 512 → EReal := fun k : Fin 512 => x2 (ix2 0 ⟨g * 512 + k, by omega⟩)

/-- One element of each stored block, and of what is added to the gain's gradient. -/
def bgrad (i : Fin 512) (g : Fin 4) (l : Fin 512) : EReal :=
  grad glen (gated (bz x0 i g) (bz x1 i g)) (fun k => bd x3 i g k * bw x2 g k) l
def bdy (i : Fin 512) (g : Fin 4) (l : Fin 512) : EReal := bgrad x0 x1 x2 x3 i g l * (bz x1 i g l * sg (bz x1 i g l))
def bdz (i : Fin 512) (g : Fin 4) (l : Fin 512) : EReal := bgrad x0 x1 x2 x3 i g l * bz x0 i g l * dsilu (bz x1 i g l)
def bdg (g : Fin 4) (l : Fin 512) : EReal :=
  ∑ i : Fin 512, bd x3 i g l * (gated (bz x0 i g) (bz x1 i g) l * rinv glen (gated (bz x0 i g) (bz x1 i g)))

/-- One group's loads of the four blocks. -/
abbrev lf (x : Vec Ideal S512x2048 .f32) (o : ℕ) (inb : ∀ a, ![0, o] a + ![512, 512] a ≤ S512x2048.size a) : Vec Ideal S512x512 .f32 :=
  View.ld x (Rect.unit (s := S512x2048) ![0, o] ![512, 512] inb)
abbrev lb (o : ℕ) (inb : ∀ a, ![0, o] a + ![512, 512] a ≤ S512x2048.size a) : Vec Ideal S512x512 .bf16 :=
  View.ld x3 (Rect.unit (s := S512x2048) ![0, o] ![512, 512] inb)
abbrev lw (x : Vec Ideal S1x2048 .f32) (o : ℕ) (inb : ∀ a, ![0, o] a + ![1, 512] a ≤ S1x2048.size a) : Vec Ideal S1x512 .f32 :=
  View.ld x (Rect.unit (s := S1x2048) ![0, o] ![1, 512] inb)

theorem col_lt (g : Fin 4) (l : Fin 512) : g.val * 512 + l.val < 2048 := by omega

theorem at_group (g g' : Fin 4) (o : ℕ) (i l : Fin 512) (x : S512x512.Idx) (ho : o = g'.val * 512) (h0 : i.val = (x 0).val)
    (h1 : g.val * 512 + l.val = o + (x 1).val) : g = g' ∧ x = ix2 i l := by
  obtain ⟨hg, hl⟩ := pick ho (x 1).isLt h1
  refine ⟨hg, ?_⟩
  funext a
  match a with
  | ⟨0, _⟩ => exact Fin.ext h0.symm
  | ⟨1, _⟩ => exact Fin.ext hl.symm

variable (g : Fin 4) (o : ℕ) (ho : o = g.val * 512) (i1 : ∀ a, ![0, o] a + ![512, 512] a ≤ S512x2048.size a)
  (i2 : ∀ a, ![0, o] a + ![1, 512] a ≤ S1x2048.size a)

include ho in
theorem lf_at (x : Vec Ideal S512x2048 .f32) (i k : Fin 512) : lf x o i1 (ix2 i k) = bz x i g k := by
  subst ho; exact ld_at x _ i1 i k _

include ho in
theorem lb_at (i k : Fin 512) : lb x3 o i1 (ix2 i k) = bd x3 i g k := by
  subst ho; exact ld_at x3 _ i1 i k _

include ho in
theorem lw_at (x : Vec Ideal S1x2048 .f32) (k : Fin 512) : lw x o i2 (ix2 0 k) = bw x g k := by
  subst ho; exact ld_at x _ i2 0 k _

include ho in
theorem gr_ld (i : Fin 512) : gr (lf x1 o i1) (lf x0 o i1) i = gated (bz x0 i g) (bz x1 i g) := by
  unfold gr
  simp only [lf_at g o ho i1 x0, lf_at g o ho i1 x1]

include ho in
theorem wr_ld (i : Fin 512) : wr (lb x3 o i1) (lw x2 o i2) i = fun k => bd x3 i g k * bw x2 g k := by
  unfold wr
  simp only [lb_at x3 g o ho i1, lw_at g o ho i2 x2]

/-- What one group's stores leave. -/
theorem dy_x (g' : Fin 4) (ho : o = g'.val * 512) (i l : Fin 512) (x : S512x512.Idx) (h0 : i.val = (x 0).val)
    (h1 : g.val * 512 + l.val = o + (x 1).val) :
    ody (lf x1 o i1) (lf x0 o i1) (lb x3 o i1) (lw x2 o i2) x = bdy x0 x1 x2 x3 i g l := by
  obtain ⟨rfl, rfl⟩ := at_group g g' o i l x ho h0 h1
  rw [ody_at, gr_ld x0 x1 g o ho, wr_ld x2 x3 g o ho, lf_at g o ho]
  rfl

theorem dz_x (g' : Fin 4) (ho : o = g'.val * 512) (i l : Fin 512) (x : S512x512.Idx) (h0 : i.val = (x 0).val)
    (h1 : g.val * 512 + l.val = o + (x 1).val) :
    odz (lf x1 o i1) (lf x0 o i1) (lb x3 o i1) (lw x2 o i2) x = bdz x0 x1 x2 x3 i g l := by
  obtain ⟨rfl, rfl⟩ := at_group g g' o i l x ho h0 h1
  rw [odz_at, gr_ld x0 x1 g o ho, wr_ld x2 x3 g o ho, lf_at g o ho, lf_at g o ho]
  rfl

theorem dg_x (A : Vec Ideal S1x2048 .f32) (g' : Fin 4) (ho : o = g'.val * 512) (l : Fin 512) (x : S1x512.Idx)
    (h1 : g.val * 512 + l.val = o + (x 1).val) :
    odg (lf x1 o i1) (lf x0 o i1) (lb x3 o i1) (lw A o i2) x
      = A (ix2 0 ⟨g.val * 512 + l.val, col_lt g l⟩) + bdg x0 x1 x3 g l := by
  obtain ⟨rfl, hl⟩ := pick ho (x 1).isLt h1
  obtain rfl : x = ix2 0 l := by
    funext a
    match a with
    | ⟨0, _⟩ => exact Fin.fin_one_eq_zero _
    | ⟨1, _⟩ => exact Fin.ext hl.symm
  rw [odg_at, lw_at g o ho]
  simp only [gr_ld x0 x1 g o ho, lb_at x3 g o ho]
  rfl

end

theorem fill_add (k : Fin 2048) (x : EReal) : k0_pay5 (F := Ideal) (ix2 0 k) + x = x := by
  have e : k0_pay5 (F := Ideal) (ix2 0 k) = 0 := by
    unfold k0_pay5
    pointwise
  exact (congrArg (· + x) e).trans (zero_add x)

variable (m : (ℓ : Loc nD τ sig) → Buf (Elt Ideal) ℓ)

theorem dy_out (c : Dev nD) (t : Fin cfg0.N) (i : Fin 512) (g : Fin 4) (l : Fin 512) :
    (outsAt0 m c t.val t.isLt).1 (ix2 i ⟨g * 512 + l, by omega⟩) = bdy (iblk m c 0 t) (iblk m c 1 t) (iblk m c 2 t) (X0_3 m c t) i g l := by
  by_cases h : t.val % 4 = 0
  · rw [outsAt0_A m c t h]; frame_out
    canon_tiles x h
    · rw [ody3]; exact dy_x _ _ _ _ g _ _ _ 3 rfl i l x h0 h1
    · rw [ody2]; exact dy_x _ _ _ _ g _ _ _ 2 rfl i l x h0 h1
    · rw [ody1]; exact dy_x _ _ _ _ g _ _ _ 1 rfl i l x h0 h1
    · exact dy_x _ _ _ _ g _ _ _ 0 rfl i l x h0 (h1.trans (Nat.zero_add _).symm)
  · rw [outsAt0_B m c t h]; frame_out
    canon_tiles x h
    · rw [ody3]; exact dy_x _ _ _ _ g _ _ _ 3 rfl i l x h0 h1
    · rw [ody2]; exact dy_x _ _ _ _ g _ _ _ 2 rfl i l x h0 h1
    · rw [ody1]; exact dy_x _ _ _ _ g _ _ _ 1 rfl i l x h0 h1
    · exact dy_x _ _ _ _ g _ _ _ 0 rfl i l x h0 (h1.trans (Nat.zero_add _).symm)

theorem dz_out (c : Dev nD) (t : Fin cfg0.N) (i : Fin 512) (g : Fin 4) (l : Fin 512) :
    (outsAt0 m c t.val t.isLt).2.1 (ix2 i ⟨g * 512 + l, by omega⟩) = bdz (iblk m c 0 t) (iblk m c 1 t) (iblk m c 2 t) (X0_3 m c t) i g l := by
  by_cases h : t.val % 4 = 0
  · rw [outsAt0_A m c t h]; frame_out
    canon_tiles x h
    · rw [odz3]; exact dz_x _ _ _ _ g _ _ _ 3 rfl i l x h0 h1
    · rw [odz2]; exact dz_x _ _ _ _ g _ _ _ 2 rfl i l x h0 h1
    · rw [odz1]; exact dz_x _ _ _ _ g _ _ _ 1 rfl i l x h0 h1
    · exact dz_x _ _ _ _ g _ _ _ 0 rfl i l x h0 (h1.trans (Nat.zero_add _).symm)
  · rw [outsAt0_B m c t h]; frame_out
    canon_tiles x h
    · rw [odz3]; exact dz_x _ _ _ _ g _ _ _ 3 rfl i l x h0 h1
    · rw [odz2]; exact dz_x _ _ _ _ g _ _ _ 2 rfl i l x h0 h1
    · rw [odz1]; exact dz_x _ _ _ _ g _ _ _ 1 rfl i l x h0 h1
    · exact dz_x _ _ _ _ g _ _ _ 0 rfl i l x h0 (h1.trans (Nat.zero_add _).symm)

/-- The gain's gradient after the first point, and after a later one. -/
theorem first (c : Dev nD) (t : Fin cfg0.N) (h : t.val % 4 = 0) (g : Fin 4) (l : Fin 512) :
    (outsAt0 m c t.val t.isLt).2.2 (ix2 0 ⟨g * 512 + l, by omega⟩) = bdg (iblk m c 0 t) (iblk m c 1 t) (X0_3 m c t) g l := by
  rw [outsAt0_A m c t h]; frame_out
  simp (disch := decide) only [↓View.readCov_skip, ↓View.readCov_fill]
  refine (canon_init _ _ [_, _, _, _] (View.cover_of_tiled_head _ _ _ (by rfl) _)).trans ?_
  canon_tiles x h
  · rw [odg3]; exact (dg_x _ _ _ g _ _ _ _ 3 rfl l x h1).trans (fill_add _ _)
  · rw [odg2]; exact (dg_x _ _ _ g _ _ _ _ 2 rfl l x h1).trans (fill_add _ _)
  · rw [odg1]; exact (dg_x _ _ _ g _ _ _ _ 1 rfl l x h1).trans (fill_add _ _)
  · exact (dg_x _ _ _ g _ _ _ _ 0 rfl l x (h1.trans (Nat.zero_add _).symm)).trans (fill_add _ _)

theorem next (c : Dev nD) (t : Fin cfg0.N) (h : ¬t.val % 4 = 0) (g : Fin 4) (l : Fin 512) :
    (outsAt0 m c t.val t.isLt).2.2 (ix2 0 ⟨g * 512 + l, by omega⟩)
      = (outsAt0 m c (t.val - 1) (Nat.lt_of_le_of_lt (Nat.sub_le _ _) t.isLt)).2.2 (ix2 0 ⟨g * 512 + l, by omega⟩)
        + bdg (iblk m c 0 t) (iblk m c 1 t) (X0_3 m c t) g l := by
  rw [outsAt0_B m c t h]; frame_out
  canon_tiles x h
  · rw [odg3]; exact dg_x _ _ _ g _ _ _ _ 3 rfl l x h1
  · rw [odg2]; exact dg_x _ _ _ g _ _ _ _ 2 rfl l x h1
  · rw [odg1]; exact dg_x _ _ _ g _ _ _ _ 1 rfl l x h1
  · exact dg_x _ _ _ g _ _ _ _ 0 rfl l x (h1.trans (Nat.zero_add _).symm)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

abbrev p0 (c : Dev nD) := m ((c.tc : Thread nD τ).loc main_arg0)
abbrev p1 (c : Dev nD) := m ((c.tc : Thread nD τ).loc main_arg1)
abbrev p2 (c : Dev nD) := m ((c.tc : Thread nD τ).loc main_arg2)
abbrev p3 (c : Dev nD) := m ((c.tc : Thread nD τ).loc main_arg3)

/-- The row of the arrays that point `t` reads as row `i` of its blocks. -/
def row (t : Fin cfg0.N) (i : Fin 512) : Fin 2048 :=
  ⟨t.val * 512 + i.val, by have := t.isLt; have : cfg0.N = 4 := N_0; omega⟩

open Cert.Reference27Ideal.Norm (Y Z)
open Cert.Reference26Ideal.Norm (X D W dn dy dz dg dgTerm)

theorem blk0 (c : Dev nD) (t : Fin cfg0.N) (i : Fin 512) (g : Fin 4) : bz (iblk m c 0 t) i g = Y (p0 m c) (row t i) g := by
  funext k
  unfold bz Y row; blk_ext [iblk, Gen.V, idx t]

theorem blk1 (c : Dev nD) (t : Fin cfg0.N) (i : Fin 512) (g : Fin 4) : bz (iblk m c 1 t) i g = Z (p1 m c) (row t i) g := by
  funext k
  unfold bz Z row; blk_ext [iblk, Gen.V, idx t]

theorem blk2 (c : Dev nD) (t : Fin cfg0.N) (g : Fin 4) (k : Fin 512) :
    bw (iblk m c 2 t) g k = p2 m c (ix2 0 ⟨g * 512 + k, by omega⟩) := by
  unfold bw; blk_ext [iblk, Gen.V, idx t]

theorem blk3 (c : Dev nD) (t : Fin cfg0.N) (i : Fin 512) (g : Fin 4) : bd (X0_3 m c t) i g = D (p3 m c) (row t i) g := by
  funext k
  unfold bd X0_3 Pipeline.Window.fill
  rw [dif_pos (moved0_3 t _)]
  unfold D row; blk_ext [iblk, Gen.V, idx t]

theorem dy_blk (c : Dev nD) (t : Fin cfg0.N) (i : Fin 512) (g : Fin 4) (l : Fin 512) :
    bdy (iblk m c 0 t) (iblk m c 1 t) (iblk m c 2 t) (X0_3 m c t) i g l = dy (p0 m c) (p1 m c) (p2 m c) (p3 m c) (row t i) g l := by
  unfold bdy bgrad
  simp only [blk0, blk1, blk2, blk3]
  rfl

theorem dz_blk (c : Dev nD) (t : Fin cfg0.N) (i : Fin 512) (g : Fin 4) (l : Fin 512) :
    bdz (iblk m c 0 t) (iblk m c 1 t) (iblk m c 2 t) (X0_3 m c t) i g l = dz (p0 m c) (p1 m c) (p2 m c) (p3 m c) (row t i) g l := by
  unfold bdz bgrad
  simp only [blk0, blk1, blk2, blk3]
  rfl

theorem dg_blk (c : Dev nD) (t : Fin cfg0.N) (g : Fin 4) (l : Fin 512) :
    bdg (iblk m c 0 t) (iblk m c 1 t) (X0_3 m c t) g l = ∑ i : Fin 512, dgTerm (p0 m c) (p1 m c) (p3 m c) g l (row t i) := by
  unfold bdg
  simp only [blk0, blk1, blk3]
  rfl

/-- The gain's gradient after all points. -/
theorem last (c : Dev nD) (g : Fin 4) (l : Fin 512) :
    (outsAt0 m c t0_3.val t0_3.isLt).2.2 (ix2 0 ⟨g * 512 + l, by omega⟩) = dg (p0 m c) (p1 m c) (p3 m c) g l := by
  have h := Pipeline.eq_sum_fin_of_reset_step_apply_last
    (fun n h => fun _ : Unit => (outsAt0 m c n h).2.2 (ix2 0 ⟨g * 512 + l, by omega⟩)) 4 (fun _ => 0)
    (fun t _ => ∑ i : Fin 512, dgTerm (p0 m c) (p1 m c) (p3 m c) g l (row t i))
    (fun t h _ => ((first m c t h g l).trans (dg_blk m c t g l)).trans (zero_add _).symm)
    (fun t h _ => (next m c t h g l).trans (congrArg _ (dg_blk m c t g l))) (le_of_eq N_0) t0_3 rfl ()
  exact h.trans ((zero_add _).trans (Fin.sum_univ_tiles 4 512 rfl fun i => dgTerm (p0 m c) (p1 m c) (p3 m c) g l i).symm)

theorem group (q : Fin 2048) : ∃ (g : Fin 4) (l : Fin 512), q = ⟨g * 512 + l, by omega⟩ :=
  ⟨⟨q.val / 512, by omega⟩, ⟨q.val % 512, Nat.mod_lt _ (by norm_num)⟩, Fin.ext (Nat.div_add_mod' _ _).symm⟩

/-- The arrays that the call leaves. -/
theorem arr4 (c : Dev nD) : (dats m 0 c).arrAt 4 cfg0.N
    = Cert.Reference26Ideal.Read.val_main_v44 (F := Ideal) (p0 m c) (p1 m c) (p2 m c) (p3 m c) := by
  refine (dats m 0 c).arrAt_eq_of_covers 4 _ (by decide +kernel) fun t hf y => ?_
  blk_simp
  rw [after0_4]
  obtain ⟨i, q, rfl⟩ : ∃ (i : Fin 512) (q : Fin 2048), y = ix2 i q := ⟨y 0, y 1, eq_ix2 y⟩
  obtain ⟨g, l, rfl⟩ := group q
  refine ((dy_out m c t i g l).trans (dy_blk m c t i g l)).trans
    ((Cert.Reference26Ideal.Norm.v44_at _ _ _ _ (row t i) g l).symm.trans ?_)
  unfold row
  blk_ext [idx t]

theorem arr6 (c : Dev nD) : (dats m 0 c).arrAt 6 cfg0.N
    = Cert.Reference26Ideal.Read.val_main_v24 (F := Ideal) (p0 m c) (p1 m c) (p3 m c) := by
  refine (dats m 0 c).arrAt_eq_of_covers 6 _ (by decide +kernel) fun t hf y => ?_
  obtain rfl : t = t0_3 := by revert hf; revert t; decide +kernel
  blk_simp
  rw [after0_6]
  obtain ⟨i, q, rfl⟩ : ∃ (i : Fin 1) (q : Fin 2048), y = ix2 i q := ⟨y 0, y 1, eq_ix2 y⟩
  obtain rfl : i = 0 := Fin.fin_one_eq_zero i
  obtain ⟨g, l, rfl⟩ := group q
  refine (last m c g l).trans ((Cert.Reference26Ideal.Norm.v24_at _ _ _ g l).symm.trans ?_)
  blk_ext [idx t0_3]

/-- The reference's second result, set in the wider array that the call writes. -/
def wide (c : Dev nD) : Vec Ideal S2048x6144 .bf16 := fun y =>
  if h : (y 1).val < 2048 then
    Cert.Reference26Ideal.Read.val_main_v46 (F := Ideal) (p0 m c) (p1 m c) (p2 m c) (p3 m c) (ix2 (y 0) ⟨y 1, h⟩)
  else 0

theorem wide_at (c : Dev nD) (y : S2048x6144.Idx) (i j : Fin 2048) (h0 : (y 0).val = i) (h1 : (y 1).val = j) :
    wide m c y = Cert.Reference26Ideal.Read.val_main_v46 (F := Ideal) (p0 m c) (p1 m c) (p2 m c) (p3 m c) (ix2 i j) := by
  have e : y = (ix2 i ⟨j, by omega⟩ : S2048x6144.Idx) := by
    funext a
    match a with
    | ⟨0, _⟩ => exact Fin.ext h0
    | ⟨1, _⟩ => exact Fin.ext h1
  rw [e]
  exact dif_pos (c := (j : ℕ) < 2048) j.isLt

theorem arr5 (c : Dev nD) (hw : ∀ i g k, ∃ r : ℝ, W (p2 m c) (p3 m c) i g k = r) (i j : Fin 2048) :
    (dats m 0 c).arrAt 5 cfg0.N (ix2 i ⟨j, by omega⟩)
      = Cert.Reference26Ideal.Read.val_main_v46 (F := Ideal) (p0 m c) (p1 m c) (p2 m c) (p3 m c) (ix2 i j) := by
  refine ((dats m 0 c).arrAt_emb_eq_of_coversWhere 5 (wide m c) (fun β => β 1 = 0) (by decide +kernel) (fun t hf y => ?_)
    (ix2 i ⟨j, by omega⟩)).trans ?_
  · blk_simp
    rw [after0_5]
    obtain ⟨i, hi⟩ : ∃ i : Fin 512, i.val = (y 0).val := ⟨y 0, rfl⟩
    obtain ⟨q, hq⟩ : ∃ q : Fin 2048, q.val = (y 1).val := ⟨y 1, rfl⟩
    obtain ⟨g, l, hgl⟩ := group q
    have hgl : q.val = g * 512 + l := congrArg Fin.val hgl
    have hy : y = (ix2 i ⟨g * 512 + l, by omega⟩ : S512x2048.Idx) := by
      funext a
      match a with
      | ⟨0, _⟩ => exact Fin.ext hi.symm
      | ⟨1, _⟩ => exact Fin.ext (hq.symm.trans hgl)
    have h0 : (((win0_5.blk t).view.emb y : S2048x6144.Idx) 0).val = t.val * 512 + i.val := by
      refine (win0_5.rect_emb_val t y 0).trans ?_
      rw [(idx t).2.2.2.2.2.1, hi]; rfl
    have h1 : (((win0_5.blk t).view.emb y : S2048x6144.Idx) 1).val = g * 512 + l := by
      refine (win0_5.rect_emb_val t y 1).trans ?_
      rw [(idx t).2.2.2.2.2.1, ← hgl, hq]; exact (Nat.zero_mul 2048).symm ▸ Nat.zero_add _
    refine Eq.trans ?_ ((Cert.Reference26Ideal.Norm.v46_at _ _ _ _ hw (row t i) g l).symm.trans
      (wide_at m c _ (row t i) ⟨g * 512 + l, by omega⟩ h0 h1).symm)
    refine Eq.trans ?_ ((dz_out m c t i g l).trans (dz_blk m c t i g l))
    exact congrArg (outsAt0 m c t.val t.isLt).2.1 hy
  · rw [if_pos]
    · exact wide_at m c _ i j rfl rfl
    · blk_simp [Pipeline.Window.cell_apply]
      exact Nat.div_eq_of_lt j.isLt

/-- The second result: the columns that the call writes. -/
theorem tail (c : Dev nD) (hw : ∀ i g k, ∃ r : ℝ, W (p2 m c) (p3 m c) i g k = r) :
    Pipeline.afterTail₀ cfgs (dats m) 0 (V0 m) [hostOps1] c main_v1
      = Cert.Reference26Ideal.Read.val_main_v46 (F := Ideal) (p0 m c) (p1 m c) (p2 m c) (p3 m c) := by
  unfold Pipeline.afterTail₀
  show StableHlo.after hostOps1 _ (Proc.devRef .tc main_v1) = _
  after_results
  have e := Pipeline.withArrays_arr (τ := τ) spec0 (by decide) c (V0 m c) (fun w => (dats m 0 c).arrAt w cfg0.N) 5
  funext y
  obtain ⟨i, j, rfl⟩ : ∃ i j : Fin 2048, y = ix2 i j := ⟨y 0, y 1, eq_ix2 y⟩
  refine (congrFun (congrArg (fun A => extractStridedSlice S2048x2048 ![0, 0] A slices_S2048x6144_S2048x2048_0_0) e) (ix2 i j)).trans ?_
  refine Eq.trans ?_ (arr5 m c hw i j)
  exact congrArg ((dats m 0 c).arrAt 5 cfg0.N) (by idx_ext)

end Cert.Kernel26Ideal.Norm

end
-- ==== Proof.Norm.GateClaim.lean ====
/- The gated norm's gradient: the precondition, and the claim that the call and its reference leave the same arrays. -/
module

public import proofs.«01_k».proof.Defs
public import proofs.«01_k».proof.Proof.Attn.Pre
public import proofs.«01_k».proof.Proof.Norm.GateBwd
public import proofs.«01_k».proof.Pre_finite_gain_and_gradient
public import proofs.«01_k».proof.Proof.Gen.Kernel26Ideal
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Reference26Ideal.Read
public import Idealize.ShloMosaic.Lib.Pointwise
public import Idealize.ShloMosaic.Lib.Claim
public import Idealize.ShloMosaic.Lib.Quiescent

@[expose] public section

set_option maxRecDepth 16384

noncomputable section

namespace Cert.Pre_finite_gain_and_gradient

open Idealize.ShloMosaic Cert.Attn Cert.Reference26Ideal.Norm

theorem facts : Facts where
  slices_S2048x3072_S2048x2048_0_0 := by decide
  bitsLt_bf16_f32 := by decide
  bcast_S_S2048x2048 := by decide
  bcast_S_S1x2048 := by decide
  reducesTo_S1x2048_S_d0_1 := by decide
  h_S_ := by decide
  reducesTo_S2048x2048_S_d0_1 := by decide

/-- Every product of the gain and the incoming gradient is real. -/
theorem fn_real [Facts] (x0 : FVec Ideal S2048x2048 .f32) (x1 : FVec Ideal S2048x6144 .f32) (x2 : FVec Ideal S1x2048 .f32)
    (x3 : FVec Ideal S2048x3072 .bf16) (h : fn (F := Ideal) x0 x1 x2 x3 = fun _ => 1#1) (i : Fin 2048) (g : Fin 4) (k : Fin 512) :
    ∃ r : ℝ, W x2 x3 i g k = r := by
  have h0 := congrFun h (Shape.Idx.first Facts.h_S_)
  unfold fn at h0
  dsimp only at h0
  have h1 := and_bits _ _ h0
  have ha := reduce_andi _ _ _ _ _ h1.1 (ix2 0 ⟨g * 512 + k, by omega⟩)
  pointwise at ha
  have hb := reduce_andi _ _ _ _ _ h1.2 (ix2 i ⟨g * 512 + k, by omega⟩)
  pointwise at hb
  obtain ⟨a, ea⟩ := real_of_abs _ ha
  obtain ⟨b, eb⟩ := real_of_abs _ hb
  exact ⟨b * a, (congrArg₂ (· * ·) eb ea).trans (EReal.coe_mul b a).symm⟩

end Cert.Pre_finite_gain_and_gradient

namespace Cert.Norm

open Idealize.ShloMosaic Idealize.SL.Sem

attribute [local instance] Cert.Kernel26Ideal.Gen.facts Cert.Reference26Ideal.Gen.facts Cert.Pre_finite_gain_and_gradient.facts

theorem quiescent_gate_bwd : Cert.quiescent_Reference26Ideal := by
  intro m g _
  run_from Cert.Reference26Ideal.Value.run m g
  · exact fun c => ⟨trivial, trivial, trivial, trivial⟩
  · exact sem_eq_zero_of_no_sems (by decide) _

open Cert.Kernel26Ideal.Norm (p0 p1 p2 p3 arr4 arr6 tail) in
/-- The call and the derivative of the reference's lines leave the same arrays. -/
theorem gate_bwd : Cert.algebraic_Kernel26Ideal_Reference26Ideal_pre_finite_gain_and_gradient := by
  intro m g m' g' hpre hagree
  have hw := fun c => Cert.Pre_finite_gain_and_gradient.fn_real _ _ _ _ (hpre c)
  refine ⟨fun c => Cert.Reference26Ideal.Read.val_main_v44 (F := Ideal) (p0 m c) (p1 m c) (p2 m c) (p3 m c),
    fun c => Cert.Reference26Ideal.Read.val_main_v46 (F := Ideal) (p0 m c) (p1 m c) (p2 m c) (p3 m c),
    fun c => Cert.Reference26Ideal.Read.val_main_v24 (F := Ideal) (p0 m c) (p1 m c) (p3 m c), ?_, ?_⟩
  · refine θ_run_mono (θ_run_and (Cert.Kernel26Ideal.Gen.run_main m g) (Cert.Kernel26Ideal.Gen.unchanged m g)) fun r h c => ?_
    exact ⟨((h.1 c).1 4).trans (arr4 m c), ((h.1 c).2 Cert.Kernel26Ideal.main_v1 (by decide +kernel)).trans (tail m c (hw c)),
      ((h.1 c).1 6).trans (arr6 m c), h.2 c⟩
  · refine θ_run_mono (Cert.Reference26Ideal.Value.run m' g') fun r hr c => ?_
    obtain ⟨h44, h46, h24, hk⟩ := hr c
    obtain ⟨e0, e1, e2, e3⟩ := hagree c
    refine ⟨(h44.trans (Cert.Reference26Ideal.Read.val_main_v44_eq (F := Ideal) _ _)).trans ?_,
      (h46.trans (Cert.Reference26Ideal.Read.val_main_v46_eq (F := Ideal) _ _)).trans ?_,
      (h24.trans (Cert.Reference26Ideal.Read.val_main_v24_eq (F := Ideal) _ _ _)).trans ?_, hk⟩
    · rw [e0, e1, e2, e3]
    · rw [e0, e1, e2, e3]
    · rw [e0, e1, e3]

end Cert.Norm

end
-- ==== Proof.Conv.Spec.lean ====
/- The mathematics of the causal convolution over four rows: one column's element before the SiLU, as a function on extended
   reals. -/
module

public import proofs.«01_k».proof.Proof.Norm.Gate
public import Idealize.ShloMosaic.Lib.WordCmp
public import Idealize.ShloMosaic.Lib.Pointwise

@[expose] public section

noncomputable section

namespace Cert.Conv

open Idealize.ShloMosaic
open Cert.Norm (sg)

variable {n : ℕ}

/-- The column `d` rows earlier, zero before the first row. -/
def back (x : Fin n → EReal) (d : ℕ) (i : Fin n) : EReal := if d ≤ i.val then x ⟨i.val - d, by omega⟩ else 0

/-- The convolution of the column `x` by the weights `w` with the bias `b`. -/
def pre (b : EReal) (w : Fin 4 → EReal) (x : Fin n → EReal) (i : Fin n) : EReal :=
  b + w 3 * x i + w 2 * back x 1 i + w 1 * back x 2 i + w 0 * back x 3 i

/-- The kernel's form of one shifted product: the column rotated by `d` rows, and its first `d` rows replaced by zero. -/
theorem rot_eq {N : ℕ} (hN : N < 2147483648) (w : EReal) (x : Fin N → EReal) (d : ℕ) (hd : d < N) (i : Fin N) (j : Fin N)
    (hj : j.val = (i.val + N - d) % N) :
    Scalar.select (IntOp.cmpi .sge (BitVec.ofNat 32 i.val) (BitVec.ofNat 32 d)) (w * x j) 0 = w * back x d i := by
  rw [WordCmp.cmpi_sge_ofNat (by have := i.isLt; norm_num; omega) (by norm_num; omega)]
  unfold back Scalar.select
  by_cases h : d ≤ i.val
  · have e : (i.val + N - d) % N = i.val - d := by
      rw [show i.val + N - d = (i.val - d) + N by omega, Nat.add_mod_right, Nat.mod_eq_of_lt (by omega)]
    rw [if_pos h, if_pos (by simp [h])]
    congr 2
    exact Fin.ext (hj.trans e)
  · rw [if_neg h, if_neg (by simp [h]), mul_zero]

/-- The column with three zero rows before it, at row `i + 3 - d`. -/
theorem pad_eq (x : Fin n → EReal) (d k : ℕ) (hk : k + d = 3) (i : Fin n) (z : EReal) (hz : z = 0) :
    (if h : k + i.val < 3 then z else x ⟨k + i.val - 3, by omega⟩) = back x d i := by
  unfold back
  by_cases h : k + i.val < 3
  · rw [dif_pos h, if_neg (by omega), hz]
  · rw [dif_neg h, if_pos (by omega)]
    congr 1
    apply Fin.ext
    dsimp only
    omega

end Cert.Conv

end
-- ==== Proof.Conv.Fwd.lean ====
/- The causal convolution and its SiLU. -/
module

public import proofs.«01_k».proof.Defs
public import proofs.«01_k».proof.Proof.Conv.Spec
public import proofs.«01_k».proof.Proof.Gen.Kernel28Ideal.Value
public import proofs.«01_k».proof.Proof.Gen.Kernel28Ideal
public import proofs.«01_k».proof.Proof.Gen.Reference28Ideal
public import proofs.«01_k».proof.Proof.Gen.Reference28Ideal.Run
public import proofs.«01_k».proof.Proof.Gen.Reference28Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Reference28Ideal.Conv

open Idealize.ShloMosaic Idealize.SL.Sem Cert.Conv Cert.Reference28Ideal Cert.Reference28Ideal.Gen Cert.Reference28Ideal.Read
open Cert.Norm (sg)

variable (x0 : (⟨S2048x6144, .f32⟩ : BufTy).Contents (Elt Ideal)) (x1 : (⟨S4x3072, .f32⟩ : BufTy).Contents (Elt Ideal))
  (x2 : (⟨S1x3072, .f32⟩ : BufTy).Contents (Elt Ideal))

/-- One column of the convolution's argument. -/
def X (l : Fin 3072) : Fin 2048 → EReal := fun i => x0 (ix2 i ⟨2048 + l, by omega⟩)

/-- One element of the convolution. -/
def cv (i : Fin 2048) (l : Fin 3072) : EReal := pre (x2 (ix2 0 l)) (fun j => x1 (ix2 j l)) (X x0 l) i

/-- One element of the result. -/
def elem (i : Fin 2048) (l : Fin 3072) : EReal := cv x0 x1 x2 i l * sg (cv x0 x1 x2 i l)

theorem v33_at (i : Fin 2048) (l : Fin 3072) : val_main_v33 (F := Ideal) x0 x1 x2 (ix2 i l) = cv x0 x1 x2 i l := by
  unfold cv pre val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0
  pointwise
  have h3 : (if h : i.val < 3 then (0 : EReal) else x0 (ix2 ⟨i.val - 3, by omega⟩ ⟨2048 + l, by omega⟩)) = back (X x0 l) 3 i := by
    unfold back X
    by_cases h : i.val < 3
    · rw [dif_pos h, if_neg (by omega)]
    · rw [dif_neg h, if_pos (by omega)]
  have h2 : (if h : 1 + i.val < 3 then (0 : EReal) else x0 (ix2 ⟨1 + i.val - 3, by omega⟩ ⟨2048 + l, by omega⟩)) = back (X x0 l) 2 i :=
    pad_eq (X x0 l) 2 1 rfl i 0 rfl
  have h1 : (if h : 2 + i.val < 3 then (0 : EReal) else x0 (ix2 ⟨2 + i.val - 3, by omega⟩ ⟨2048 + l, by omega⟩)) = back (X x0 l) 1 i :=
    pad_eq (X x0 l) 1 2 rfl i 0 rfl
  rw [h3, h2, h1]
  generalize hb3 : back (X x0 l) 3 i = b3
  generalize hb2 : back (X x0 l) 2 i = b2
  generalize hb1 : back (X x0 l) 1 i = b1
  unfold X
  rw [mul_comm b3, mul_comm b2, mul_comm b1, mul_comm (x0 _)]
  generalize x1 (ix2 0 l) * b3 = q3
  generalize x1 (ix2 1 l) * b2 = q2
  generalize x1 (ix2 2 l) * b1 = q1
  generalize x1 (ix2 3 l) * x0 (ix2 i ⟨2048 + l, by omega⟩) = q0
  ac_rfl

theorem v34_at (i : Fin 2048) (l : Fin 3072) : val_main_v34 (F := Ideal) x0 x1 x2 (ix2 i l) = elem x0 x1 x2 i l := by
  unfold elem sg
  rw [← v33_at]
  unfold val_main_v34 val_main_call0_v5 val_main_call0_v4 val_main_call0_v3 val_main_call0_v2 val_main_call0_v1 val_main_call0_v0 val_main_call0_cst val_main_call0_cst_0
  pointwise

end Cert.Reference28Ideal.Conv

namespace Cert.Kernel28Ideal.Conv

open Idealize.ShloMosaic Idealize.SL.Sem Cert.Conv Cert.Kernel28Ideal Cert.Kernel28Ideal.Gen
open Cert.Norm (sg)

theorem pay2_at (x : Vec Ideal S2048x256 .f32) (b w3 w2 w1 w0 : Vec Ideal S1x256 .f32) (i : Fin 2048) (l : Fin 256) :
    k0_pay2 (F := Ideal) x b w3 w2 w1 w0 (ix2 i l)
      = pre (b (ix2 0 l)) (![w0 (ix2 0 l), w1 (ix2 0 l), w2 (ix2 0 l), w3 (ix2 0 l)] : Fin 4 → EReal) (fun i => x (ix2 i l)) i := by
  unfold k0_pay2
  pointwise
  unfold pre
  refine congrArg₂ (· + ·) (congrArg₂ (· + ·) (congrArg₂ (· + ·) rfl ?_) ?_) ?_
  · exact rot_eq (by norm_num) _ (fun i => x (ix2 i l)) 1 (by norm_num) i _ rfl
  · exact rot_eq (by norm_num) _ (fun i => x (ix2 i l)) 2 (by norm_num) i _ rfl
  · exact rot_eq (by norm_num) _ (fun i => x (ix2 i l)) 3 (by norm_num) i _ rfl

theorem pay1_at (x : Vec Ideal S2048x256 .f32) (b w3 w2 w1 w0 : Vec Ideal S1x256 .f32) (i : Fin 2048) (l : Fin 256) :
    k0_pay1 (F := Ideal) (k0_pay2 (F := Ideal) x b w3 w2 w1 w0) (k0_pay3 (F := Ideal) x b w3 w2 w1 w0) (ix2 i l)
      = k0_pay2 (F := Ideal) x b w3 w2 w1 w0 (ix2 i l) * sg (k0_pay2 (F := Ideal) x b w3 w2 w1 w0 (ix2 i l)) := by
  unfold sg k0_pay1 k0_pay3
  pointwise
  rw [zero_sub]

variable (m : (ℓ : Loc nD τ sig) → Buf (Elt Ideal) ℓ)

theorem idx : ∀ t : Fin cfg0.N, win0_0.index t = ![0, 8 + t.val] ∧ win0_1.index t = ![0, t.val] ∧ win0_2.index t = ![0, t.val]
    ∧ win0_3.index t = ![0, t.val] :=
  (by decide +kernel : ∀ t : Fin grid0.N, _)

abbrev p0 (c : Dev nD) := m ((c.tc : Thread nD τ).loc main_arg0)
abbrev p1 (c : Dev nD) := m ((c.tc : Thread nD τ).loc main_arg1)
abbrev p2 (c : Dev nD) := m ((c.tc : Thread nD τ).loc main_arg2)

/-- The convolution's column that point `t` reads as column `l` of its blocks. -/
def col (t : Fin cfg0.N) (l : Fin 256) : Fin 3072 :=
  ⟨t.val * 256 + l.val, by have := t.isLt; have : cfg0.N = 12 := N_0; omega⟩

open Cert.Reference28Ideal.Conv (X cv elem)

theorem blk0 (c : Dev nD) (t : Fin cfg0.N) (i : Fin 2048) (l : Fin 256) : iblk m c 0 t (ix2 i l) = X (p0 m c) (col t l) i := by
  unfold X col; blk_ext [iblk, Gen.V, idx t]

theorem blk1 (c : Dev nD) (t : Fin cfg0.N) (j : Fin 4) (l : Fin 256) : iblk m c 1 t (ix2 j l) = p1 m c (ix2 j (col t l)) := by
  unfold col; blk_ext [iblk, Gen.V, idx t]

theorem blk2 (c : Dev nD) (t : Fin cfg0.N) (l : Fin 256) : iblk m c 2 t (ix2 0 l) = p2 m c (ix2 0 (col t l)) := by
  unfold col; blk_ext [iblk, Gen.V, idx t]

/-- A load of one row of weights. -/
theorem ld_row (w : Vec Ideal S4x256 .f32) (j : Fin 4) (o : ℕ) (ho : o = j) (inb) (l : Fin 256) :
    View.ld (S := S4x256) (e' := .f32) w (Rect.unit (s := S4x256) ![o, 0] ![1, 256] inb) (ix2 (0 : Fin 1) l) = w (ix2 j l) := by
  subst ho
  refine View.ld_unit_apply_of w _ _ _ _ _ fun a => ?_
  match a with
  | ⟨0, _⟩ => simp
  | ⟨1, _⟩ => simp

/-- The array that the call leaves. -/
theorem arr (c : Dev nD) : (dats m 0 c).arrAt 3 cfg0.N
    = Cert.Reference28Ideal.Read.val_main_v34 (F := Ideal) (p0 m c) (p1 m c) (p2 m c) := by
  refine (dats m 0 c).arrAt_eq_of_covers 3 _ (by decide +kernel) fun t hf y => ?_
  blk_simp
  rw [after0_3]
  obtain ⟨i, l, rfl⟩ : ∃ (i : Fin 2048) (l : Fin 256), y = ix2 i l := ⟨y 0, y 1, eq_ix2 y⟩
  frame_out
  refine (pay1_at _ _ _ _ _ _ i l).trans ?_
  rw [pay2_at]
  refine Eq.trans ?_ ((Cert.Reference28Ideal.Conv.v34_at (p0 m c) (p1 m c) (p2 m c) i (col t l)).symm.trans ?_)
  · unfold elem cv
    have e0 : View.ld (iblk m c 1 t) r0_5 (ix2 0 l) = p1 m c (ix2 0 (col t l)) := (ld_row (iblk m c 1 t) 0 0 rfl _ l).trans (blk1 m c t 0 l)
    have e1 : View.ld (iblk m c 1 t) r0_4 (ix2 0 l) = p1 m c (ix2 1 (col t l)) := (ld_row (iblk m c 1 t) 1 1 rfl _ l).trans (blk1 m c t 1 l)
    have e2 : View.ld (iblk m c 1 t) r0_3 (ix2 0 l) = p1 m c (ix2 2 (col t l)) := (ld_row (iblk m c 1 t) 2 2 rfl _ l).trans (blk1 m c t 2 l)
    have e3 : View.ld (iblk m c 1 t) r0_2 (ix2 0 l) = p1 m c (ix2 3 (col t l)) := (ld_row (iblk m c 1 t) 3 3 rfl _ l).trans (blk1 m c t 3 l)
    rw [blk2, e0, e1, e2, e3]
    unfold pre
    simp only [blk0]
    rfl
  · unfold col
    blk_ext [idx t]

end Cert.Kernel28Ideal.Conv

namespace Cert.Conv

open Idealize.ShloMosaic Idealize.SL.Sem

attribute [local instance] Cert.Kernel28Ideal.Gen.facts Cert.Reference28Ideal.Gen.facts

theorem quiescent_fwd : Cert.quiescent_Reference28Ideal := by
  intro m g _
  run_from Cert.Reference28Ideal.Value.run m g
  · exact fun c => ⟨trivial, trivial, trivial⟩
  · exact sem_eq_zero_of_no_sems (by decide) _

/-- The call and the reference's lines leave the same array. -/
theorem fwd : Cert.algebraic_Kernel28Ideal_Reference28Ideal := by
  pair_intro
  · run_from Cert.Kernel28Ideal.Value.run_blocks m g
  · refine θ_run_mono (Cert.Reference28Ideal.Value.run m' g') fun r hr c => ?_
    obtain ⟨h34, hk⟩ := hr c
    obtain ⟨e0, e1, e2⟩ := hagree c
    refine ⟨(h34.trans (Cert.Reference28Ideal.Read.val_main_v34_eq (F := Ideal) _ _)).trans ?_, hk⟩
    rw [e0, e1, e2]
    exact (Cert.Kernel28Ideal.Conv.arr m c).symm

end Cert.Conv

end
-- ==== Proof.Gmlp.Spec.lean ====
/- The mathematics of the gMLP mixer at one row, as functions on extended reals: the exact GELU and the layer norm. -/
module

public import proofs.«01_k».proof.Proof.Norm.Spec

@[expose] public section

noncomputable section

namespace Cert.Gmlp

open Idealize.ShloMosaic Cert.Norm

/-- The exact GELU. -/
def ge (x : EReal) : EReal :=
  Ideal.ofBits .f32 0x3F000000#32 * x * (Ideal.ofBits .f32 0x3F800000#32 + Ideal.erf (Ideal.div x (Ideal.sqrt (Ideal.ofBits .f32 0x40000000#32))))

theorem two_eq : Ideal.ofBits .f32 0x40000000#32 = ((2 : ℝ) : EReal) := by
  simp [Ideal.ofBits, Ideal.ieee, -EReal.coe_mul]; norm_num

/-- A quotient by the root of two is a product with its inverse. -/
theorem div_sqrt_two (x : EReal) :
    Ideal.div x (Ideal.sqrt (Ideal.ofBits .f32 0x40000000#32)) = x * (((Real.sqrt 2)⁻¹ : ℝ) : EReal) := by
  have h : Real.sqrt 2 ≠ 0 := (Real.sqrt_pos.mpr (by norm_num)).ne'
  rw [two_eq, Ideal.sqrt_coe, if_neg (by norm_num : ¬(2 : ℝ) < 0), Ideal.div_coe h, one_div]

/-- The rows' length as a float32. -/
def width : EReal := Ideal.ofBits .f32 0x45000000#32

variable {n : ℕ}

/-- A row less its mean. -/
def centred (x : Fin n → EReal) : Fin n → EReal := fun k => x k - Ideal.div (∑ l, x l) width

/-- One element of a layer norm. -/
def normed (x g b : Fin n → EReal) (j : Fin n) : EReal := centred x j * rinv width (centred x) * g j + b j

end Cert.Gmlp

end
-- ==== Proof.Gmlp.Fwd.lean ====
/- The gMLP mixer: the gates, the layer norm, and the masked mixing of the rows of one block. -/
module

public import proofs.«01_k».proof.Defs
public import proofs.«01_k».proof.Proof.Attn.Point
public import proofs.«01_k».proof.Proof.Gmlp.Spec
public import proofs.«01_k».proof.Proof.Gen.Kernel29Ideal
public import proofs.«01_k».proof.Proof.Gen.Kernel29Ideal.Frame
public import proofs.«01_k».proof.Proof.Gen.Reference29Ideal
public import proofs.«01_k».proof.Proof.Gen.Reference29Ideal.Run
public import proofs.«01_k».proof.Proof.Gen.Reference29Ideal.Read
public import Idealize.ShloMosaic.Lib.Pointwise
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Gmlp

open Idealize.ShloMosaic

/-- The causal mask: a comparison of the two positions. -/
theorem sge : ∀ t s : Fin 128, IntOp.cmpi .sge (BitVec.ofNat 32 t.val) (BitVec.ofNat 32 s.val) = if s ≤ t then 1#1 else 0#1 := by
  decide +kernel

theorem sge_pick (t s : Fin 128) :
    Scalar.select (IntOp.cmpi .sge (IntOp.addi (BitVec.ofNat 32 t.val) 0#32) (BitVec.ofNat 32 s.val)) 1#1 0#1 = if s ≤ t then 1#1 else 0#1 := by
  have e : IntOp.addi (BitVec.ofNat 32 t.val) 0#32 = BitVec.ofNat 32 t.val := by simp [IntOp.addi]
  rw [e, sge]
  split <;> rfl

theorem pick_le (t s : Fin 128) (x : EReal) : Scalar.select (if s ≤ t then 1#1 else 0#1) x 0 = if s ≤ t then x else 0 := by
  split <;> rfl

/-- The kernel's form of the GELU. -/
theorem ge_eq (x : EReal) : Ideal.ofBits .f32 0x3F000000#32 * x
    * (Ideal.ofBits .f32 0x3F800000#32 + Ideal.erf (x * (((Real.sqrt 2)⁻¹ : ℝ) : EReal))) = ge x := by
  unfold ge
  rw [div_sqrt_two]

end Cert.Gmlp

namespace Cert.Reference29Ideal.Gmlp

open Idealize.ShloMosaic Idealize.SL.Sem Cert.Norm Cert.Gmlp Cert.Reference29Ideal Cert.Reference29Ideal.Gen Cert.Reference29Ideal.Read

variable (x0 : (⟨S2048x5120, .f32⟩ : BufTy).Contents (Elt Ideal)) (x1 x2 : (⟨S1x2048, .f32⟩ : BufTy).Contents (Elt Ideal))
  (x3 : (⟨S8x128x128, .f32⟩ : BufTy).Contents (Elt Ideal)) (x4 : (⟨S8x128x1, .f32⟩ : BufTy).Contents (Elt Ideal))

/-- One row of the two gated parts. -/
def U (i : Fin 2048) (j : Fin 2048) : EReal := ge (x0 (ix2 i ⟨j, by omega⟩))
def R (i : Fin 2048) : Fin 2048 → EReal := fun j => ge (x0 (ix2 i ⟨2048 + j, by omega⟩))

/-- The weights that the mask keeps. -/
def wt (g : Fin 8) (t s : Fin 128) : EReal := if s ≤ t then x3 (ix3 g t s) else 0

/-- One element of the result. -/
def elem (c : Fin 16) (t : Fin 128) (g : Fin 8) (l : Fin 256) : EReal :=
  U x0 ⟨c * 128 + t, by omega⟩ ⟨g * 256 + l, by omega⟩
    * ((∑ s : Fin 128, wt x3 g t s * normed (R x0 ⟨c * 128 + s, by omega⟩) (fun j => x1 (ix2 0 j)) (fun j => x2 (ix2 0 j)) ⟨g * 256 + l, by omega⟩)
      + x4 (ix3 g t 0))

theorem v10_at (i j : Fin 2048) : val_main_v10 (F := Ideal) x0 (ix2 i j) = U x0 i j := by
  unfold U ge val_main_v10 val_main_v9 val_main_v8 val_main_v7 val_main_v6 val_main_v5 val_main_v4 val_main_v3 val_main_v2 val_main_v0 val_main_cst val_main_cst_0 val_main_cst_1
  pointwise

theorem v19_at (i j : Fin 2048) : val_main_v19 (F := Ideal) x0 (ix2 i j) = R x0 i j := by
  unfold R ge val_main_v19 val_main_v18 val_main_v17 val_main_v16 val_main_v15 val_main_v14 val_main_v13 val_main_v12 val_main_v11 val_main_v1 val_main_cst_2 val_main_cst_3 val_main_cst_4
  pointwise

theorem v25_at (i j : Fin 2048) : val_main_v25 (F := Ideal) x0 (ix2 i j) = centred (R x0 i) j := by
  unfold centred val_main_v25 val_main_v24 val_main_v23 val_main_v22 val_main_v21 val_main_v20 val_main_cst_5 val_main_cst_6
  pointwise
  simp only [v19_at]
  rfl

theorem v33_at (i : Fin 2048) : val_main_v33 (F := Ideal) x0 (ix2 i 0) = rinv width (centred (R x0 i)) := by
  unfold val_main_v33 val_main_v32 val_main_v31 val_main_v30 val_main_v29 val_main_v28 val_main_v27 val_main_v26 val_main_cst_7 val_main_cst_8 val_main_cst_9
  pointwise
  simp only [v25_at]
  rfl

theorem v39_at (i j : Fin 2048) : val_main_v39 (F := Ideal) x0 x1 x2 (ix2 i j)
    = normed (R x0 i) (fun j => x1 (ix2 0 j)) (fun j => x2 (ix2 0 j)) j := by
  unfold normed
  rw [← v25_at, ← v33_at]
  unfold val_main_v39 val_main_v38 val_main_v37 val_main_v36 val_main_v35 val_main_v34
  pointwise

theorem v40_at (c : Fin 16) (s : Fin 128) (g : Fin 8) (l : Fin 256) : val_main_v40 (F := Ideal) x0 x1 x2 (ix4 c s g l)
    = normed (R x0 ⟨c * 128 + s, by omega⟩) (fun j => x1 (ix2 0 j)) (fun j => x2 (ix2 0 j)) ⟨g * 256 + l, by omega⟩ := by
  rw [← v39_at]
  unfold val_main_v40
  pointwise

theorem v42_at (t s : Fin 128) : val_main_v42 (F := Ideal) (ix2 t s) = if s ≤ t then 1#1 else 0#1 := by
  unfold val_main_v42 val_main_call0_v5 val_main_call0_v4 val_main_call0_v3 val_main_call0_v2 val_main_call0_v1 val_main_call0_v0 val_main_call0_c val_main_call0_c_0 val_main_v41 val_main_c
  pointwise
  exact sge_pick t s

theorem v45_at (g : Fin 8) (t s : Fin 128) : val_main_v45 (F := Ideal) x3 (ix3 g t s) = wt x3 g t s := by
  unfold val_main_v45 val_main_call1_v0 val_main_v44 val_main_v43 val_main_cst_10
  pointwise
  rw [v42_at]
  exact pick_le t s _

theorem v46_at (g : Fin 8) (c : Fin 16) (l : Fin 256) (t : Fin 128) : val_main_v46 (F := Ideal) x0 x1 x2 x3 (ix4 g c l t)
    = ∑ s : Fin 128, val_main_v40 (F := Ideal) x0 x1 x2 (ix4 c s g l) * val_main_v45 (F := Ideal) x3 (ix3 g t s) := by
  unfold val_main_v46
  pointwise

theorem v56_at (c : Fin 16) (t : Fin 128) (g : Fin 8) (l : Fin 256) :
    val_main_v56 (F := Ideal) x0 x1 x2 x3 x4 (ix2 ⟨c * 128 + t, by omega⟩ ⟨g * 256 + l, by omega⟩) = elem x0 x1 x2 x3 x4 c t g l := by
  unfold elem
  rw [← v10_at]
  simp only [← v45_at, ← v40_at, mul_comm (val_main_v45 _ _)]
  rw [← v46_at]
  unfold val_main_v56 val_main_v55 val_main_v54 val_main_v53 val_main_v52 val_main_v51 val_main_v50 val_main_v49 val_main_v48 val_main_v47
  pointwise

end Cert.Reference29Ideal.Gmlp

namespace Cert.Kernel29Ideal.Gmlp

open Idealize.ShloMosaic Idealize.SL.Sem Cert.Norm Cert.Gmlp Cert.Kernel29Ideal Cert.Kernel29Ideal.Gen

theorem root : Named.named (F := Ideal) Cert.Kernel29Ideal.κ "inv_sqrt2" (φ := .f32) 0x3F3504F3#32 = (((Real.sqrt 2)⁻¹ : ℝ) : EReal) :=
  IdealRules.named_const.ideal_named_scalar _ _ _ _ rfl

theorem pay3_at (x : Vec Ideal S128x2048 .f32) (i : Fin 128) (j : Fin 2048) : k0_pay3 (F := Ideal) x (ix2 i j) = ge (x (ix2 i j)) := by
  rw [← ge_eq]
  unfold k0_pay3
  rw [root]
  pointwise
  rfl

/-- One row of the second part's GELU. -/
def bv (x : Vec Ideal S128x2048 .f32) (i : Fin 128) : Fin 2048 → EReal := fun j => ge (x (ix2 i j))

theorem pay4_eq (x : Vec Ideal S128x2048 .f32) (g b : Vec Ideal S1x2048 .f32) (i : Fin 128) (j : Fin 2048) :
    k0_pay4 (F := Ideal) x g b (ix2 i j) = normed (bv x i) (fun j => g (ix2 0 j)) (fun j => b (ix2 0 j)) j := by
  unfold normed centred bv
  simp only [← ge_eq]
  unfold k0_pay4
  rw [root]
  pointwise
  rfl

theorem pay5_at (t s : Fin 128) : k0_pay5 (ix2 t s) = if s ≤ t then 1#1 else 0#1 := by
  rw [← sge]
  unfold k0_pay5
  pointwise

/-- One group: the second part mixed, its bias added, and the first part's gate. -/
def grp (o : ℕ) (ho : S128x2048.Slices ![0, o] S128x256) (u v : FVec Ideal S128x2048 .f32) (w : Vec Ideal S1x128x128 .f32)
    (b : Vec Ideal S1x128x1 .f32) : FVec Ideal S128x256 .bf16 :=
  truncf .bf16 (mulf (extractStridedSlice S128x256 ![0, o] u ho)
    (addf (matmul dot_S128x128_S128x256_S128x256_1_0_0_1_n_n none
        (truncf .bf16 (select k0_pay5 (shapeCast S128x128 w shapeCasts_S1x128x128_S128x128) (broadcast S128x128 (Scalar.ofBits (F := Ideal) .f32 0x00000000#32))) bitsLt_bf16_f32)
        (truncf .bf16 (extractStridedSlice S128x256 ![0, o] v ho) bitsLt_bf16_f32)
        (constant S128x256 .f32 0x00000000#32))
      (broadcastTo S128x256 (shapeCast S128x1 b shapeCasts_S1x128x1_S128x1) broadcasts_S128x1_S128x256))) bitsLt_bf16_f32

theorem grp_at (o : ℕ) (ho) (u v : FVec Ideal S128x2048 .f32) (w : Vec Ideal S1x128x128 .f32) (b : Vec Ideal S1x128x1 .f32)
    (i : Fin 128) (l : Fin 256) (h : o + l < 2048) : grp o ho u v w b (ix2 i l)
      = u (ix2 i ⟨o + l, h⟩) * ((∑ s : Fin 128, (if s ≤ i then w (ix3 0 i s) else 0) * v (ix2 s ⟨o + l, h⟩)) + b (ix3 0 i 0)) := by
  simp only [← pick_le, ← pay5_at]
  unfold grp
  pointwise

section

variable (u v : FVec Ideal S128x2048 .f32) (w : Vec Ideal S1x128x128 .f32) (b : Vec Ideal S1x128x1 .f32)

theorem o0 : k0_pay6 (F := Ideal) u v w b = grp 0 slices_S128x2048_o0_0_S128x256 u v w b := rfl
theorem o1 : k0_pay7 (F := Ideal) u v w b = grp 256 slices_S128x2048_o0_256_S128x256 u v w b := rfl
theorem o2 : k0_pay8 (F := Ideal) u v k0_pay5 w b = grp 512 slices_S128x2048_o0_512_S128x256 u v w b := rfl
theorem o3 : k0_pay9 (F := Ideal) u v k0_pay5 w b = grp 768 slices_S128x2048_o0_768_S128x256 u v w b := rfl
theorem o4 : k0_pay12 (F := Ideal) u (k0_pay10 k0_pay5 w) (k0_pay11 v) b = grp 1024 slices_S128x2048_o0_1024_S128x256 u v w b := rfl
theorem o5 : k0_pay13 (F := Ideal) u v k0_pay5 w b = grp 1280 slices_S128x2048_o0_1280_S128x256 u v w b := rfl
theorem o6 : k0_pay1 (F := Ideal) u (k0_pay14 v k0_pay5 w) b = grp 1536 slices_S128x2048_o0_1536_S128x256 u v w b := rfl
theorem o7 : k0_pay2 (F := Ideal) u v k0_pay5 w b = grp 1792 slices_S128x2048_o0_1792_S128x256 u v w b := rfl

end

/-- What a store's position says of a column, read as the group and the column of the group. -/
theorem pick {b b' : Fin 8} {l : Fin 256} {u o : ℕ} (ho : o = b'.val * 256) (hu : u < 256) (h : b.val * 256 + l.val = o + u) :
    b = b' ∧ l.val = u := by
  constructor
  · apply Fin.ext; omega
  · have : b.val = b'.val := by omega
    omega

/-- One group's element of a block. -/
def belem (x0 x1 : Vec Ideal S128x2048 .f32) (x2 x3 : Vec Ideal S1x2048 .f32) (x4 : Vec Ideal S8x128x128 .f32) (x5 : Vec Ideal S8x128x1 .f32)
    (i : Fin 128) (g : Fin 8) (l : Fin 256) : EReal :=
  ge (x0 (ix2 i ⟨g * 256 + l, by omega⟩))
    * ((∑ s : Fin 128, (if s ≤ i then x4 (ix3 g i s) else 0) * normed (bv x1 s) (fun j => x2 (ix2 0 j)) (fun j => x3 (ix2 0 j)) ⟨g * 256 + l, by omega⟩)
      + x5 (ix3 g i 0))

/-- A load of one of the leading axis' slices. -/
theorem ld3_at {k a n : ℕ} {e : EltTy} (X : (⟨3, ![k, a, n]⟩ : Shape).Idx → Elt Ideal e) (g : Fin k) (o : ℕ) (ho : o = g) (inb) (i : Fin a) (s : Fin n) :
    View.ld (S := ⟨3, ![k, a, n]⟩) X (Rect.unit ![o, 0, 0] ![1, a, n] inb) (ix3 0 i s) = X (ix3 g i s) := by
  refine View.ld_unit_apply_of X _ _ _ _ _ fun b => ?_
  match b with
  | ⟨0, _⟩ => simp [ho]
  | ⟨1, _⟩ => simp
  | ⟨2, _⟩ => simp

/-- What one group's store leaves. -/
theorem o_x (x0 x1 : Vec Ideal S128x2048 .f32) (x2 x3 : Vec Ideal S1x2048 .f32) (x4 : Vec Ideal S8x128x128 .f32) (x5 : Vec Ideal S8x128x1 .f32)
    (g' : Fin 8) (o : ℕ) (ho : o = g'.val * 256) (hs) (q : ℕ) (hq : q = g') (i1) (i2)
    (i : Fin 128) (g : Fin 8) (l : Fin 256) (x : S128x256.Idx) (h0 : i.val = (x 0).val) (h1 : g.val * 256 + l.val = o + (x 1).val) :
    grp o hs (k0_pay3 x0) (k0_pay4 x1 x2 x3)
        (View.ld (S := S8x128x128) (e' := .f32) x4 (Rect.unit (s := S8x128x128) ![q, 0, 0] ![1, 128, 128] i1))
        (View.ld (S := S8x128x1) (e' := .f32) x5 (Rect.unit (s := S8x128x1) ![q, 0, 0] ![1, 128, 1] i2)) x
      = belem x0 x1 x2 x3 x4 x5 i g l := by
  obtain ⟨rfl, hl⟩ := pick ho (x 1).isLt h1
  obtain rfl : x = ix2 i l := by
    funext a
    match a with
    | ⟨0, _⟩ => exact Fin.ext h0.symm
    | ⟨1, _⟩ => exact Fin.ext hl.symm
  subst ho
  rw [grp_at _ _ _ _ _ _ _ _ (by omega)]
  unfold belem
  have e4 : ∀ s : Fin 128, _ = x4 (ix3 g i s) := fun s => ld3_at x4 g q hq i1 i s
  have e5 : _ = x5 (ix3 g i 0) := ld3_at x5 g q hq i2 i 0
  simp only [e4, e5, pay3_at, pay4_eq]

variable (m : (ℓ : Loc nD τ sig) → Buf (Elt Ideal) ℓ)

theorem out_at (c : Dev nD) (t : Fin cfg0.N) (i : Fin 128) (g : Fin 8) (l : Fin 256) :
    outsAt0 m c t (ix2 i ⟨g * 256 + l, by omega⟩)
      = belem (X0_0 m c t) (X0_1 m c t) (iblk m c 2 t) (iblk m c 3 t) (iblk m c 4 t) (iblk m c 5 t) i g l := by
  unfold outsAt0
  frame_out
  canon_tiles x h
  · rw [o7]; exact o_x _ _ _ _ _ _ 7 _ rfl _ _ rfl _ _ i g l x h0 h1
  · rw [o6]; exact o_x _ _ _ _ _ _ 6 _ rfl _ _ rfl _ _ i g l x h0 h1
  · rw [o5]; exact o_x _ _ _ _ _ _ 5 _ rfl _ _ rfl _ _ i g l x h0 h1
  · rw [o4]; exact o_x _ _ _ _ _ _ 4 _ rfl _ _ rfl _ _ i g l x h0 h1
  · rw [o3]; exact o_x _ _ _ _ _ _ 3 _ rfl _ _ rfl _ _ i g l x h0 h1
  · rw [o2]; exact o_x _ _ _ _ _ _ 2 _ rfl _ _ rfl _ _ i g l x h0 h1
  · rw [o1]; exact o_x _ _ _ _ _ _ 1 _ rfl _ _ rfl _ _ i g l x h0 h1
  · rw [o0]; exact o_x _ _ _ _ _ _ 0 _ rfl _ _ rfl _ _ i g l x h0 (h1.trans (Nat.zero_add _).symm)

theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0, 0] ∧ win0_6.index t = ![t.val, 0] :=
  (by decide +kernel : ∀ t : Fin grid0.N, _)

abbrev p0 (c : Dev nD) := m ((c.tc : Thread nD τ).loc main_arg0)
abbrev p1 (c : Dev nD) := m ((c.tc : Thread nD τ).loc main_arg1)
abbrev p2 (c : Dev nD) := m ((c.tc : Thread nD τ).loc main_arg2)
abbrev p3 (c : Dev nD) := m ((c.tc : Thread nD τ).loc main_arg3)
abbrev p4 (c : Dev nD) := m ((c.tc : Thread nD τ).loc main_arg4)

/-- The block of rows that a point reads. -/
def tile (t : Fin cfg0.N) : Fin 16 := ⟨t.val, by have := t.isLt; have : cfg0.N = 16 := N_0; omega⟩

/-- A row of the arrays: its block and its place in the block. -/
abbrev row (c : Fin 16) (i : Fin 128) : Fin 2048 := ⟨c * 128 + i, by omega⟩

open Cert.Reference29Ideal.Gmlp (U R wt elem v56_at)

theorem blk0 (c : Dev nD) (t : Fin cfg0.N) (i : Fin 128) (j : Fin 2048) : X0_0 m c t (ix2 i j) = p0 m c (ix2 (row (tile t) i) ⟨j, by omega⟩) := by
  unfold X0_0 Pipeline.Window.fill
  rw [dif_pos (moved0_0 t _)]
  unfold row tile; blk_ext [iblk, Gen.V, idx t]

theorem blk1 (c : Dev nD) (t : Fin cfg0.N) (i : Fin 128) (j : Fin 2048) :
    X0_1 m c t (ix2 i j) = p0 m c (ix2 (row (tile t) i) ⟨2048 + j, by omega⟩) := by
  unfold X0_1 Pipeline.Window.fill
  rw [dif_pos (moved0_1 t _)]
  unfold row tile; blk_ext [iblk, Gen.V, idx t]

theorem blk2 (c : Dev nD) (t : Fin cfg0.N) (j : Fin 2048) : iblk m c 2 t (ix2 0 j) = p1 m c (ix2 0 j) := by
  blk_ext [iblk, Gen.V, idx t]

theorem blk3 (c : Dev nD) (t : Fin cfg0.N) (j : Fin 2048) : iblk m c 3 t (ix2 0 j) = p2 m c (ix2 0 j) := by
  blk_ext [iblk, Gen.V, idx t]

theorem blk4 (c : Dev nD) (t : Fin cfg0.N) (g : Fin 8) (i s : Fin 128) : iblk m c 4 t (ix3 g i s) = p3 m c (ix3 g i s) := by
  blk_ext [iblk, Gen.V, idx t]

theorem blk5 (c : Dev nD) (t : Fin cfg0.N) (g : Fin 8) (i : Fin 128) : iblk m c 5 t (ix3 g i 0) = p4 m c (ix3 g i 0) := by
  blk_ext [iblk, Gen.V, idx t]

theorem belem_blk (c : Dev nD) (t : Fin cfg0.N) (i : Fin 128) (g : Fin 8) (l : Fin 256) :
    belem (X0_0 m c t) (X0_1 m c t) (iblk m c 2 t) (iblk m c 3 t) (iblk m c 4 t) (iblk m c 5 t) i g l
      = elem (p0 m c) (p1 m c) (p2 m c) (p3 m c) (p4 m c) (tile t) i g l := by
  unfold belem elem bv U R wt
  simp only [blk0, blk1, blk2, blk3, blk4, blk5]

/-- The reference's array. -/
abbrev ref (c : Dev nD) := Cert.Reference29Ideal.Read.val_main_v56 (F := Ideal) (p0 m c) (p1 m c) (p2 m c) (p3 m c) (p4 m c)

/-- No block of the result is cut. -/
theorem xsz : ∀ t : Fin cfg0.N, ∀ a, (cfg0.win 6).xsize (cfg0.grid.coords t) a = (cfg0.win 6).size a := by decide +kernel

/-- The reference's result, set in the wider array that the call writes. -/
def wide (c : Dev nD) : Vec Ideal S2048x3072 .bf16 := fun y => if h : (y 1).val < 2048 then ref m c (ix2 (y 0) ⟨y 1, h⟩) else 0

theorem wide_at (c : Dev nD) (y : S2048x3072.Idx) (i j : Fin 2048) (h0 : (y 0).val = i) (h1 : (y 1).val = j) :
    wide m c y = ref m c (ix2 i j) := by
  have e : y = (ix2 i ⟨j, by omega⟩ : S2048x3072.Idx) := by
    funext a
    match a with
    | ⟨0, _⟩ => exact Fin.ext h0
    | ⟨1, _⟩ => exact Fin.ext h1
  rw [e]
  exact dif_pos (c := (j : ℕ) < 2048) j.isLt

/-- The array that the call leaves, in the columns that it writes. -/
theorem arr (c : Dev nD) (i j : Fin 2048) : (dats m 0 c).arrAt 6 cfg0.N (ix2 i ⟨j, by omega⟩) = ref m c (ix2 i j) := by
  refine ((dats m 0 c).arrAt_emb_eq_of_coversWhere 6 (wide m c) (fun β => β 1 = 0) (by decide +kernel) (fun t hf y => ?_)
    (ix2 i ⟨j, by omega⟩)).trans ?_
  · blk_simp
    rw [after0_6]
    obtain ⟨i, hi⟩ : ∃ i : Fin 128, i.val = (y 0).val := ⟨⟨(y 0).val, (y 0).isLt.trans_le (xsz t 0).le⟩, rfl⟩
    obtain ⟨q, hq⟩ : ∃ q : Fin 2048, q.val = (y 1).val := ⟨⟨(y 1).val, (y 1).isLt.trans_le (xsz t 1).le⟩, rfl⟩
    obtain ⟨g, l, hgl⟩ : ∃ (g : Fin 8) (l : Fin 256), q.val = g * 256 + l :=
      ⟨⟨q.val / 256, by omega⟩, ⟨q.val % 256, Nat.mod_lt _ (by norm_num)⟩, (Nat.div_add_mod' _ _).symm⟩
    have hy : (cfg0.win 6).xinj (cfg0.grid.coords t) y = (ix2 i ⟨g * 256 + l, by omega⟩ : S128x2048.Idx) := by
      funext a
      match a with
      | ⟨0, _⟩ => exact Fin.ext hi.symm
      | ⟨1, _⟩ => exact Fin.ext (hq.symm.trans hgl)
    have h0 : (((win0_6.blk t).view.emb y : S2048x3072.Idx) 0).val = t.val * 128 + i.val := by
      refine (win0_6.rect_emb_val t y 0).trans ?_
      rw [(idx t).2.2.2.2.2.2, hi]; rfl
    have h1 : (((win0_6.blk t).view.emb y : S2048x3072.Idx) 1).val = g * 256 + l := by
      refine (win0_6.rect_emb_val t y 1).trans ?_
      rw [(idx t).2.2.2.2.2.2, ← hgl, hq]; exact (Nat.zero_mul 2048).symm ▸ Nat.zero_add _
    rw [hy, out_at, belem_blk]
    refine (v56_at _ _ _ _ _ (tile t) i g l).symm.trans ?_
    exact (wide_at m c _ (row (tile t) i) ⟨g * 256 + l, by omega⟩ h0 h1).symm
  · rw [if_pos]
    · unfold wide
      exact dif_pos (c := (j : ℕ) < 2048) j.isLt
    · blk_simp [Pipeline.Window.cell_apply]
      exact Nat.div_eq_of_lt j.isLt

/-- The result: the columns that the call writes. -/
theorem tail (c : Dev nD) : Pipeline.afterTail₀ cfgs (dats m) 0 (V0 m) [hostOps1] c main_v1 = ref m c := by
  unfold Pipeline.afterTail₀
  show StableHlo.after hostOps1 _ (Proc.devRef .tc main_v1) = _
  after_results
  have e := (dats m 0 c).withArrays_arrAt sharedIn0 (V0 m c) (fun w => A_eq m c w) 6
  funext y
  obtain ⟨i, j, rfl⟩ : ∃ i j : Fin 2048, y = ix2 i j := ⟨y 0, y 1, eq_ix2 y⟩
  refine (congrFun (congrArg (fun A => extractStridedSlice S2048x2048 ![0, 0] A slices_S2048x3072_S2048x2048_0_0) e) (ix2 i j)).trans ?_
  refine Eq.trans ?_ (arr m c i j)
  exact congrArg ((dats m 0 c).arrAt 6 cfg0.N) (by idx_ext)

end Cert.Kernel29Ideal.Gmlp

namespace Cert.Gmlp

open Idealize.ShloMosaic Idealize.SL.Sem

attribute [local instance] Cert.Kernel29Ideal.Gen.facts Cert.Reference29Ideal.Gen.facts

/-- The named constant is the inverse of the root of two. -/
theorem preserves_fwd : Cert.preserves_Kernel29_Kernel29Ideal :=
  IdealRules.named_const.statement Cert.Kernel29Ideal.κ "inv_sqrt2" .f32 0x3F3504F3#32 (((Real.sqrt 2)⁻¹ : ℝ) : EReal) rfl

theorem quiescent_fwd : Cert.quiescent_Reference29Ideal := by
  intro m g _
  run_from Cert.Reference29Ideal.Value.run m g
  · exact fun c => ⟨trivial, trivial, trivial, trivial, trivial⟩
  · exact sem_eq_zero_of_no_sems (by decide) _

/-- The call and the reference's lines leave the same array. -/
theorem fwd : Cert.algebraic_Kernel29Ideal_Reference29Ideal := by
  intro m g m' g' hpre hagree
  refine ⟨fun c => Cert.Kernel29Ideal.Gmlp.ref m c, ?_, ?_⟩
  · refine θ_run_mono (θ_run_and (Cert.Kernel29Ideal.Gen.run_main m g) (Cert.Kernel29Ideal.Gen.unchanged m g)) fun r h c => ?_
    exact ⟨((h.1 c).2 Cert.Kernel29Ideal.main_v1 (by decide +kernel)).trans (Cert.Kernel29Ideal.Gmlp.tail m c), h.2 c⟩
  · refine θ_run_mono (Cert.Reference29Ideal.Value.run m' g') fun r hr c => ?_
    obtain ⟨h56, hk⟩ := hr c
    obtain ⟨e0, e1, e2, e3, e4⟩ := hagree c
    refine ⟨(h56.trans (Cert.Reference29Ideal.Read.val_main_v56_eq (F := Ideal) _ _)).trans ?_, hk⟩
    rw [e0, e1, e2, e3, e4]

end Cert.Gmlp

end
-- ==== Proof.Norm.Loss.lean ====
/- The loss head: the final norm, the loss and its gradient. -/
module

public import proofs.«01_k».proof.Defs
public import proofs.«01_k».proof.Proof.Norm.Spec
public import proofs.«01_k».proof.Proof.Gen.Kernel30Ideal.Value
public import proofs.«01_k».proof.Proof.Gen.Kernel30Ideal
public import proofs.«01_k».proof.Proof.Gen.Reference30Ideal
public import proofs.«01_k».proof.Proof.Gen.Reference30Ideal.Run
public import proofs.«01_k».proof.Proof.Gen.Reference30Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Norm

open Idealize.ShloMosaic
open Cert.Attn (mul_sum_coe)

/-- The numbers 1/2 and 1/1024 as float32. -/
def half : EReal := Ideal.ofBits .f32 0x3F000000#32

def invLen : EReal := Ideal.ofBits .f32 0x3A800000#32

theorem half_eq : half = ((1 / 2 : ℝ) : EReal) := by
  unfold half; simp [Ideal.ofBits, Ideal.ieee, -EReal.coe_mul]; norm_num

theorem invLen_eq : invLen = ((1 / 1024 : ℝ) : EReal) := by
  unfold invLen; simp [Ideal.ofBits, Ideal.ieee, -EReal.coe_mul]; norm_num

theorem len_eq : len = ((1024 : ℝ) : EReal) := by
  unfold len; simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

/-- The derivative of half the mean square, in the form that the derivative of the reference's lines has. -/
theorem err_eq (e : EReal) : Ideal.div (half * Ideal.ofBits .f32 0x3F800000#32) len * (Ideal.ofBits .f32 0x40000000#32 * e) = e * invLen := by
  rw [half_eq, one_eq, two_eq, len_eq, invLen_eq, Ideal.div_coe (by norm_num), ← mul_assoc, ← EReal.coe_mul, ← EReal.coe_mul, ← EReal.coe_mul,
    mul_comm e]
  congr 2
  norm_num

theorem half_sum {ι : Type} (s : Finset ι) (f : ι → EReal) : half * ∑ i ∈ s, f i = ∑ i ∈ s, half * f i := by
  rw [half_eq]
  exact mul_sum_coe _ (by exact_mod_cast (by norm_num : (0 : ℝ) ≤ 1 / 2)) (EReal.coe_ne_top _) f

end Cert.Norm

namespace Cert.Reference30Ideal.Norm

open Idealize.ShloMosaic Idealize.SL.Sem Cert.Norm Cert.Reference30Ideal Cert.Reference30Ideal.Gen Cert.Reference30Ideal.Read

variable (x0 : (⟨S2048x1024, .f32⟩ : BufTy).Contents (Elt Ideal)) (x1 : (⟨S1x1024, .f32⟩ : BufTy).Contents (Elt Ideal))
  (x2 : (⟨S2048x1024, .f32⟩ : BufTy).Contents (Elt Ideal))

/-- One row of the normed array. -/
def X (i : Fin 2048) : Fin 1024 → EReal := fun k => x0 (ix2 i k)

/-- One row's error. -/
def E (i : Fin 2048) : Fin 1024 → EReal := fun k => X x0 i k * rinv len (X x0 i) * x1 (ix2 0 k) - x2 (ix2 i k)

/-- One row's part in twice the loss. -/
def lossTerm (i : Fin 2048) : EReal := Ideal.div (∑ k, E x0 x1 x2 i k * E x0 x1 x2 i k) len

def lossAt : EReal := half * ∑ i : Fin 2048, lossTerm x0 x1 x2 i

/-- One row's gradient, scaled by the gain. -/
def W (i : Fin 2048) : Fin 1024 → EReal := fun k => E x0 x1 x2 i k * invLen * x1 (ix2 0 k)

/-- One element of the array's gradient. -/
def dx (i : Fin 2048) (j : Fin 1024) : EReal := grad len (X x0 i) (W x0 x1 x2 i) j

/-- One element of the gain's gradient, and one row's part in it. -/
def dgTerm (i : Fin 2048) (j : Fin 1024) : EReal := E x0 x1 x2 i j * invLen * (X x0 i j * rinv len (X x0 i))

def dg (j : Fin 1024) : EReal := ∑ i : Fin 2048, dgTerm x0 x1 x2 i j

theorem v6_at (i : Fin 2048) : val_main_v6 (F := Ideal) x0 (ix2 i 0) = msq len (X x0 i) := by
  unfold val_main_v6 val_main_v4 val_main_v5 val_main_v3 val_main_v2 val_main_v1 val_main_v0 val_main_cst val_main_cst_0 val_main_cst_1
  pointwise
  rfl

theorem v7_at (i : Fin 2048) : val_main_v7 (F := Ideal) x0 (ix2 i 0) = rinv len (X x0 i) := by
  unfold val_main_v7
  exact congrArg Ideal.rsqrt (v6_at x0 i)

theorem v15_at (i : Fin 2048) (j : Fin 1024) : val_main_v15 (F := Ideal) x0 x1 x2 (ix2 i j) = E x0 x1 x2 i j := by
  unfold E
  rw [← v7_at]
  unfold val_main_v15 val_main_v14 val_main_v13 val_main_v12 val_main_v11
  pointwise
  rfl

theorem v29_at (i : Fin 2048) (j : Fin 1024) : val_main_v29 (F := Ideal) x0 x1 x2 (ix2 i j) = E x0 x1 x2 i j * invLen := by
  rw [← err_eq, ← v15_at]
  unfold val_main_v29 val_main_v28 val_main_v27 val_main_v26 val_main_v25 val_main_v24 val_main_v18 val_main_v17 val_main_cst_3 val_main_cst_8 val_main_cst_9 val_main_cst_10
  pointwise
  rfl

theorem v34_at (i : Fin 2048) (j : Fin 1024) : val_main_v34 (F := Ideal) x0 x1 x2 (ix2 i j) = W x0 x1 x2 i j := by
  unfold W
  rw [← v29_at]
  unfold val_main_v34 val_main_v33
  pointwise

theorem v48_at (i : Fin 2048) (j : Fin 1024) : val_main_v48 (F := Ideal) x0 x1 x2 (ix2 i j) = dx x0 x1 x2 i j := by
  unfold dx
  rw [← gradQ_eq len_pos]
  unfold val_main_v48 val_main_v47 val_main_v46 val_main_v45 val_main_v44 val_main_v43 val_main_v42 val_main_v41 val_main_v40 val_main_v39 val_main_v38 val_main_v37 val_main_v36 val_main_v35 val_main_v10 val_main_v9 val_main_v8 val_main_cst_2 val_main_cst_12 val_main_cst_13 val_main_cst_14
  pointwise
  simp only [v7_at, v6_at, v34_at, Finset.univ_unique, Finset.sum_singleton, Fin.default_eq_zero]
  rfl

theorem v50_at (i : Fin 2048) (j : Fin 1024) : val_main_v50 (F := Ideal) x0 x1 x2 (ix2 i j) = dx x0 x1 x2 i j := by
  rw [← v48_at]
  unfold val_main_v50
  pointwise

theorem v32_at (j : Fin 1024) : val_main_v32 (F := Ideal) x0 x1 x2 (ix2 0 j) = dg x0 x1 x2 j := by
  unfold dg dgTerm val_main_v32 val_main_v31 val_main_v30 val_main_v12 val_main_v11 val_main_cst_11
  pointwise
  simp only [v7_at, v29_at]
  exact Finset.sum_congr rfl fun i _ => mul_comm _ _

theorem v49_at (j : Fin 128) : val_main_v49 (F := Ideal) x0 x1 x2 (ix2 0 j) = lossAt x0 x1 x2 := by
  unfold lossAt lossTerm val_main_v49 val_main_v23 val_main_v22 val_main_v21 val_main_v20 val_main_v19 val_main_v16 val_main_cst_4 val_main_cst_5 val_main_cst_6 val_main_cst_7
  pointwise
  simp only [v15_at]
  rfl

end Cert.Reference30Ideal.Norm

namespace Cert.Kernel30Ideal.Norm

open Idealize.ShloMosaic Idealize.SL.Sem Cert.Norm Cert.Kernel30Ideal Cert.Kernel30Ideal.Gen

variable (y0 : Vec Ideal S512x1024 .f32) (y1 : Vec Ideal S1x1024 .f32) (y2 : Vec Ideal S512x1024 .f32)

theorem pay6_at (i : Fin 512) : k0_pay6 (F := Ideal) y0 (ix2 i 0) = rinv len fun k => y0 (ix2 i k) := by
  unfold k0_pay6
  pointwise
  rfl

theorem pay7_at (i : Fin 512) (j : Fin 1024) : k0_pay7 (F := Ideal) y0 (ix2 i j) = y0 (ix2 i j) * rinv len fun k => y0 (ix2 i k) := by
  rw [← pay6_at]
  unfold k0_pay7
  pointwise

/-- One element of a block's error. -/
def bE (i : Fin 512) (j : Fin 1024) : EReal := y0 (ix2 i j) * (rinv len fun k => y0 (ix2 i k)) * y1 (ix2 0 j) - y2 (ix2 i j)

theorem pay8_at (i : Fin 512) (j : Fin 1024) : k0_pay8 (F := Ideal) y0 y1 y2 (ix2 i j) = bE y0 y1 y2 i j := by
  unfold bE
  rw [← pay7_at]
  unfold k0_pay8
  pointwise

theorem pay10_at (i : Fin 512) (j : Fin 1024) : k0_pay10 (F := Ideal) y0 y1 y2 (ix2 i j) = bE y0 y1 y2 i j * invLen := by
  rw [← pay8_at]
  unfold k0_pay10
  pointwise
  rfl

/-- One element of the blocks of the array's gradient. -/
def bdx (i : Fin 512) (j : Fin 1024) : EReal :=
  grad len (fun k => y0 (ix2 i k)) (fun k => bE y0 y1 y2 i k * invLen * y1 (ix2 0 k)) j

theorem pay1_at (i : Fin 512) (j : Fin 1024) :
    k0_pay1 (F := Ideal) (k0_pay6 y0) (k0_pay7 y0) (k0_pay10 y0 y1 y2) y1 (ix2 i j) = bdx y0 y1 y2 i j := by
  unfold bdx grad
  simp only [← pay10_at]
  rw [← pay6_at]
  unfold k0_pay1
  pointwise
  simp only [pay7_at, pay6_at]
  rfl

theorem pay2_at (i : Fin 512) (j : Fin 1024) :
    k0_pay2 (F := Ideal) (k0_pay6 y0) (k0_pay7 y0) (k0_pay10 y0 y1 y2) y1 (ix2 i j) = bdx y0 y1 y2 i j := by
  rw [← pay1_at]
  unfold k0_pay2
  pointwise

theorem pay3_at (old : Vec Ideal S1x1024 .f32) (z w : Vec Ideal S512x1024 .f32) (j : Fin 1024) : k0_pay3 (F := Ideal) z w old (ix2 0 j)
    = old (ix2 0 j) + ∑ i : Fin 512, w (ix2 i j) * z (ix2 i j) := by
  unfold k0_pay3
  pointwise

theorem pay9_at (old : Vec Ideal S1x128 .f32) (j : Fin 128) : k0_pay9 (F := Ideal) y0 y1 y2 old (ix2 0 j)
    = old (ix2 0 j) + half * ∑ i : Fin 512, Ideal.div (∑ k, bE y0 y1 y2 i k * bE y0 y1 y2 i k) len := by
  simp only [← pay8_at]
  unfold k0_pay9
  pointwise
  simp only [Finset.univ_unique, Finset.sum_singleton]
  rfl

theorem pay4_at (j : Fin 1024) : k0_pay4 (F := Ideal) (ix2 0 j) = 0 := by
  unfold k0_pay4
  pointwise

theorem pay5_at (j : Fin 128) : k0_pay5 (F := Ideal) (ix2 0 j) = 0 := by
  unfold k0_pay5
  pointwise

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

abbrev p0 (c : Dev nD) := m ((c.tc : Thread nD τ).loc main_arg0)
abbrev p1 (c : Dev nD) := m ((c.tc : Thread nD τ).loc main_arg1)
abbrev p2 (c : Dev nD) := m ((c.tc : Thread nD τ).loc main_arg2)

/-- The row of the arrays that point `t` reads as row `i` of its blocks. -/
def row (t : Fin cfg0.N) (i : Fin 512) : Fin 2048 :=
  ⟨t.val * 512 + i.val, by have := t.isLt; have : cfg0.N = 4 := N_0; omega⟩

theorem blk0 (c : Dev nD) (t : Fin cfg0.N) (i : Fin 512) (j : Fin 1024) : iblk m c 0 t (ix2 i j) = p0 m c (ix2 (row t i) j) := by
  unfold row; blk_ext [iblk, Gen.V, idx t]

theorem blk1 (c : Dev nD) (t : Fin cfg0.N) (j : Fin 1024) : iblk m c 1 t (ix2 0 j) = p1 m c (ix2 0 j) := by
  blk_ext [iblk, Gen.V, idx t]

theorem blk2 (c : Dev nD) (t : Fin cfg0.N) (i : Fin 512) (j : Fin 1024) : iblk m c 2 t (ix2 i j) = p2 m c (ix2 (row t i) j) := by
  unfold row; blk_ext [iblk, Gen.V, idx t]

open Cert.Reference30Ideal.Norm (X E W dx dg dgTerm lossTerm lossAt v48_at v49_at v50_at v32_at)

theorem bE_blk (c : Dev nD) (t : Fin cfg0.N) (i : Fin 512) (j : Fin 1024) :
    bE (iblk m c 0 t) (iblk m c 1 t) (iblk m c 2 t) i j = E (p0 m c) (p1 m c) (p2 m c) (row t i) j := by
  unfold E X bE
  simp only [blk0, blk1, blk2]

/-- The element that a point stores in its blocks of the array's gradient. -/
theorem dx_blk (c : Dev nD) (t : Fin cfg0.N) (i : Fin 512) (j : Fin 1024) :
    bdx (iblk m c 0 t) (iblk m c 1 t) (iblk m c 2 t) i j = dx (p0 m c) (p1 m c) (p2 m c) (row t i) j := by
  unfold dx X W bdx
  simp only [bE_blk, blk0, blk1]

/-- The parts of the gain's gradient and of the loss that a point adds. -/
def bdg (c : Dev nD) (t : Fin cfg0.N) (j : Fin 1024) : EReal :=
  ∑ i : Fin 512, dgTerm (p0 m c) (p1 m c) (p2 m c) (row t i) j

def bloss (c : Dev nD) (t : Fin cfg0.N) : EReal :=
  ∑ i : Fin 512, half * lossTerm (p0 m c) (p1 m c) (p2 m c) (row t i)

theorem pay3_blk (c : Dev nD) (t : Fin cfg0.N) (old : Vec Ideal S1x1024 .f32) (j : Fin 1024) :
    k0_pay3 (F := Ideal) (k0_pay7 (F := Ideal) (iblk m c 0 t)) (k0_pay10 (F := Ideal) (iblk m c 0 t) (iblk m c 1 t) (iblk m c 2 t)) old
      (ix2 0 j) = old (ix2 0 j) + bdg m c t j := by
  rw [pay3_at]
  unfold bdg dgTerm X
  simp only [pay7_at, pay10_at, bE_blk, blk0]

theorem pay9_blk (c : Dev nD) (t : Fin cfg0.N) (old : Vec Ideal S1x128 .f32) (j : Fin 128) :
    k0_pay9 (F := Ideal) (iblk m c 0 t) (iblk m c 1 t) (iblk m c 2 t) old (ix2 0 j) = old (ix2 0 j) + bloss m c t := by
  rw [pay9_at, half_sum]
  unfold bloss lossTerm
  simp only [bE_blk]

theorem first (c : Dev nD) (t : Fin cfg0.N) (h : t.val % 4 = 0) (j : Fin 1024) :
    (outsAt0 m c t.val t.isLt).2.2.2 (ix2 0 j) = 0 + bdg m c t j := by
  rw [outsAt0_A m c t h]; frame_out
  exact (pay3_blk m c t _ j).trans (congrArg (· + _) (pay4_at j))

theorem next (c : Dev nD) (t : Fin cfg0.N) (h : ¬t.val % 4 = 0) (j : Fin 1024) :
    (outsAt0 m c t.val t.isLt).2.2.2 (ix2 0 j)
      = (outsAt0 m c (t.val - 1) (Nat.lt_of_le_of_lt (Nat.sub_le _ _) t.isLt)).2.2.2 (ix2 0 j) + bdg m c t j := by
  rw [outsAt0_B m c t h]; frame_out
  exact pay3_blk m c t _ j

theorem lossFirst (c : Dev nD) (t : Fin cfg0.N) (h : t.val % 4 = 0) (j : Fin 128) :
    (outsAt0 m c t.val t.isLt).1 (ix2 0 j) = 0 + bloss m c t := by
  rw [outsAt0_A m c t h]; frame_out
  exact (pay9_blk m c t _ j).trans (congrArg (· + _) (pay5_at j))

theorem lossNext (c : Dev nD) (t : Fin cfg0.N) (h : ¬t.val % 4 = 0) (j : Fin 128) :
    (outsAt0 m c t.val t.isLt).1 (ix2 0 j)
      = (outsAt0 m c (t.val - 1) (Nat.lt_of_le_of_lt (Nat.sub_le _ _) t.isLt)).1 (ix2 0 j) + bloss m c t := by
  rw [outsAt0_B m c t h]; frame_out
  exact pay9_blk m c t _ j

theorem dx4 (c : Dev nD) (t : Fin cfg0.N) (i : Fin 512) (j : Fin 1024) :
    (outsAt0 m c t.val t.isLt).2.1 (ix2 i j) = dx (p0 m c) (p1 m c) (p2 m c) (row t i) j := by
  refine Eq.trans ?_ ((pay1_at _ _ _ i j).trans (dx_blk m c t i j))
  by_cases h : t.val % 4 = 0
  · rw [outsAt0_A m c t h]; frame_out
  · rw [outsAt0_B m c t h]; frame_out

theorem dx5 (c : Dev nD) (t : Fin cfg0.N) (i : Fin 512) (j : Fin 1024) :
    (outsAt0 m c t.val t.isLt).2.2.1 (ix2 i j) = dx (p0 m c) (p1 m c) (p2 m c) (row t i) j := by
  refine Eq.trans ?_ ((pay2_at _ _ _ i j).trans (dx_blk m c t i j))
  by_cases h : t.val % 4 = 0
  · rw [outsAt0_A m c t h]; frame_out
  · rw [outsAt0_B m c t h]; frame_out

/-- The gain's gradient after all points. -/
theorem last (c : Dev nD) (j : Fin 1024) : (outsAt0 m c t0_3.val t0_3.isLt).2.2.2 (ix2 0 j) = dg (p0 m c) (p1 m c) (p2 m c) j := by
  have h := Pipeline.eq_sum_fin_of_reset_step_apply_last
    (fun n h => fun _ : Unit => (outsAt0 m c n h).2.2.2 (ix2 0 j)) 4 (fun _ => 0) (fun t _ => bdg m c t j)
    (fun t h _ => first m c t h j) (fun t h _ => next m c t h j) (le_of_eq N_0) t0_3 rfl ()
  exact h.trans ((zero_add _).trans (Fin.sum_univ_tiles 4 512 rfl fun i => dgTerm (p0 m c) (p1 m c) (p2 m c) i j).symm)

/-- The loss after all points. -/
theorem lossLast (c : Dev nD) (j : Fin 128) : (outsAt0 m c t0_3.val t0_3.isLt).1 (ix2 0 j) = lossAt (p0 m c) (p1 m c) (p2 m c) := by
  have h := Pipeline.eq_sum_fin_of_reset_step_apply_last
    (fun n h => fun _ : Unit => (outsAt0 m c n h).1 (ix2 0 j)) 4 (fun _ => 0) (fun t _ => bloss m c t)
    (fun t h _ => lossFirst m c t h j) (fun t h _ => lossNext m c t h j) (le_of_eq N_0) t0_3 rfl ()
  exact h.trans ((zero_add _).trans ((Fin.sum_univ_tiles 4 512 rfl fun i => half * lossTerm (p0 m c) (p1 m c) (p2 m c) i).symm.trans
    (half_sum _ _).symm))

/-- The arrays that the call leaves. -/
theorem arr3 (c : Dev nD) : (dats m 0 c).arrAt 3 cfg0.N
    = Cert.Reference30Ideal.Read.val_main_v49 (F := Ideal) (p0 m c) (p1 m c) (p2 m c) := by
  refine (dats m 0 c).arrAt_eq_of_covers 3 _ (by decide +kernel) fun t hf y => ?_
  obtain rfl : t = t0_3 := by revert hf; revert t; decide +kernel
  blk_simp
  rw [after0_3]
  obtain ⟨i, j, rfl⟩ : ∃ (i : Fin 1) (j : Fin 128), y = ix2 i j := ⟨y 0, y 1, eq_ix2 y⟩
  obtain rfl : i = 0 := Fin.fin_one_eq_zero i
  refine (lossLast m c j).trans ((v49_at _ _ _ j).symm.trans ?_)
  blk_ext [idx t0_3]

theorem arr4 (c : Dev nD) : (dats m 0 c).arrAt 4 cfg0.N
    = Cert.Reference30Ideal.Read.val_main_v48 (F := Ideal) (p0 m c) (p1 m c) (p2 m c) := by
  refine (dats m 0 c).arrAt_eq_of_covers 4 _ (by decide +kernel) fun t hf y => ?_
  blk_simp
  rw [after0_4]
  obtain ⟨i, j, rfl⟩ : ∃ (i : Fin 512) (j : Fin 1024), y = ix2 i j := ⟨y 0, y 1, eq_ix2 y⟩
  refine (dx4 m c t i j).trans ((v48_at _ _ _ (row t i) j).symm.trans ?_)
  unfold row
  blk_ext [idx t]

theorem arr5 (c : Dev nD) : (dats m 0 c).arrAt 5 cfg0.N
    = Cert.Reference30Ideal.Read.val_main_v50 (F := Ideal) (p0 m c) (p1 m c) (p2 m c) := by
  refine (dats m 0 c).arrAt_eq_of_covers 5 _ (by decide +kernel) fun t hf y => ?_
  blk_simp
  rw [after0_5]
  obtain ⟨i, j, rfl⟩ : ∃ (i : Fin 512) (j : Fin 1024), y = ix2 i j := ⟨y 0, y 1, eq_ix2 y⟩
  refine (dx5 m c t i j).trans ((v50_at _ _ _ (row t i) j).symm.trans ?_)
  unfold row
  blk_ext [idx t]

theorem arr6 (c : Dev nD) : (dats m 0 c).arrAt 6 cfg0.N
    = Cert.Reference30Ideal.Read.val_main_v32 (F := Ideal) (p0 m c) (p1 m c) (p2 m c) := by
  refine (dats m 0 c).arrAt_eq_of_covers 6 _ (by decide +kernel) fun t hf y => ?_
  obtain rfl : t = t0_3 := by revert hf; revert t; decide +kernel
  blk_simp
  rw [after0_6]
  obtain ⟨i, j, rfl⟩ : ∃ (i : Fin 1) (j : Fin 1024), y = ix2 i j := ⟨y 0, y 1, eq_ix2 y⟩
  obtain rfl : i = 0 := Fin.fin_one_eq_zero i
  refine (last m c j).trans ((v32_at _ _ _ j).symm.trans ?_)
  blk_ext [idx t0_3]

end Cert.Kernel30Ideal.Norm

namespace Cert.Norm

open Idealize.ShloMosaic Idealize.SL.Sem

attribute [local instance] Cert.Kernel30Ideal.Gen.facts Cert.Reference30Ideal.Gen.facts

theorem quiescent_loss_head : Cert.quiescent_Reference30Ideal := by
  intro m g _
  run_from Cert.Reference30Ideal.Value.run m g
  · exact fun c => ⟨trivial, trivial, trivial⟩
  · exact sem_eq_zero_of_no_sems (by decide) _

/-- The call leaves the loss of the reference's lines and its derivatives. -/
theorem loss_head : Cert.algebraic_Kernel30Ideal_Reference30Ideal := by
  pair_intro
  · run_from Cert.Kernel30Ideal.Value.run_blocks m g
  · refine θ_run_mono (Cert.Reference30Ideal.Value.run m' g') fun r hr c => ?_
    obtain ⟨h49, h48, h50, h32, hk⟩ := hr c
    obtain ⟨e0, e1, e2⟩ := hagree c
    refine ⟨(h49.trans (Cert.Reference30Ideal.Read.val_main_v49_eq (F := Ideal) _ _ _)).trans ?_,
      (h48.trans (Cert.Reference30Ideal.Read.val_main_v48_eq (F := Ideal) _ _)).trans ?_,
      (h50.trans (Cert.Reference30Ideal.Read.val_main_v50_eq (F := Ideal) _ _)).trans ?_,
      (h32.trans (Cert.Reference30Ideal.Read.val_main_v32_eq (F := Ideal) _ _ _)).trans ?_, hk⟩
    · rw [e0, e1, e2]
      exact (Cert.Kernel30Ideal.Norm.arr3 m c).symm
    · rw [e0, e1, e2]
      exact (Cert.Kernel30Ideal.Norm.arr4 m c).symm
    · rw [e0, e1, e2]
      exact (Cert.Kernel30Ideal.Norm.arr5 m c).symm
    · rw [e0, e1, e2]
      exact (Cert.Kernel30Ideal.Norm.arr6 m c).symm

end Cert.Norm

end
-- ==== Proof.Attn1.Point.lean ====
/- What one grid point of layer 1's attention gradient leaves in its two output blocks, at an index: its body's operations are
   those of layer 0's. -/
module

public import proofs.«01_k».proof.Proof.Attn.Point
public import proofs.«01_k».proof.Proof.Gen.Kernel31Ideal.Value

@[expose] public section

set_option maxRecDepth 16384

noncomputable section

namespace Cert.Kernel31Ideal.Attn

open Idealize.ShloMosaic Idealize.SL.Sem Cert.Attn Cert.Kernel31Ideal Cert.Kernel31Ideal.Gen
open Cert.KernelIdeal.Attn (bdq bdk bdv dq_x dk_x dv_x fill_add canon_init)

/-! ## The heads store the operations of layer 0's first head -/

variable (q : Vec Ideal S512x256 .f32) (k w : Vec Ideal S256x256 .bf16) (o : Vec Ideal S512x256 .bf16)

theorem dq0 : k0_pay6 (F := Ideal) q k w o = Cert.KernelIdeal.Gen.k0_pay6 q k w o := rfl
theorem dk0 (a : Vec Ideal S256x256 .f32) : k0_pay7 (F := Ideal) q (k0_pay5 q k w o) a = Cert.KernelIdeal.Gen.k0_pay7 q (Cert.KernelIdeal.Gen.k0_pay5 q k w o) a := rfl
theorem dv0 (a : Vec Ideal S256x256 .f32) : k0_pay8 (F := Ideal) (k0_pay3 o) (k0_pay4 q k) a = Cert.KernelIdeal.Gen.k0_pay8 (Cert.KernelIdeal.Gen.k0_pay3 o) (Cert.KernelIdeal.Gen.k0_pay4 q k) a := rfl
theorem dq1 : k0_pay14 (F := Ideal) k (k0_pay10 q k) (k0_pay11 w o) (k0_pay12 q k w o) = Cert.KernelIdeal.Gen.k0_pay6 q k w o := rfl
theorem dk1 (a : Vec Ideal S256x256 .f32) :
    k0_pay15 (F := Ideal) q (k0_pay10 q k) (k0_pay11 w o) (k0_pay12 q k w o) a = Cert.KernelIdeal.Gen.k0_pay7 q (Cert.KernelIdeal.Gen.k0_pay5 q k w o) a := rfl
theorem dv1 (a : Vec Ideal S256x256 .f32) : k0_pay16 (F := Ideal) (k0_pay9 o) (k0_pay10 q k) a = Cert.KernelIdeal.Gen.k0_pay8 (Cert.KernelIdeal.Gen.k0_pay3 o) (Cert.KernelIdeal.Gen.k0_pay4 q k) a := rfl
theorem dq2 : k0_pay21 (F := Ideal) k w (k0_pay17 o) (k0_pay18 q k) = Cert.KernelIdeal.Gen.k0_pay6 q k w o := rfl
theorem dk2 (a : Vec Ideal S256x256 .f32) :
    k0_pay22 (F := Ideal) q w (k0_pay17 o) (k0_pay18 q k) a = Cert.KernelIdeal.Gen.k0_pay7 q (Cert.KernelIdeal.Gen.k0_pay5 q k w o) a := rfl
theorem dv2 (a : Vec Ideal S256x256 .f32) : k0_pay23 (F := Ideal) (k0_pay17 o) (k0_pay18 q k) a = Cert.KernelIdeal.Gen.k0_pay8 (Cert.KernelIdeal.Gen.k0_pay3 o) (Cert.KernelIdeal.Gen.k0_pay4 q k) a := rfl
theorem dq3 : k0_pay27 (F := Ideal) q k w o = Cert.KernelIdeal.Gen.k0_pay6 q k w o := rfl
theorem dk3 (a : Vec Ideal S256x256 .f32) : k0_pay28 (F := Ideal) q k w o a = Cert.KernelIdeal.Gen.k0_pay7 q (Cert.KernelIdeal.Gen.k0_pay5 q k w o) a := rfl
theorem dv3 (a : Vec Ideal S256x256 .f32) : k0_pay1 (F := Ideal) (k0_pay24 o) (k0_pay25 q k) a = Cert.KernelIdeal.Gen.k0_pay8 (Cert.KernelIdeal.Gen.k0_pay3 o) (Cert.KernelIdeal.Gen.k0_pay4 q k) a := rfl

variable (m : (ℓ : Loc nD τ sig) → Buf (Elt Ideal) ℓ)

/-- The first block after a point: the queries' gradient. -/
theorem out3_at (c : Dev nD) (t : Fin cfg0.N) (r : Fin 512) (b : Fin 4) (l : Fin 256) :
    (outsAt0 m c t.val t.isLt).1 (ix2 r ⟨b * 256 + l, by omega⟩) = bdq (iblk m c 0 t) (iblk m c 1 t) (iblk m c 2 t) r b l := by
  by_cases h : t.val % 4 = 0
  · rw [outsAt0_A m c t h]; frame_out
    canon_tiles x h
    · rw [dq3]; exact dq_x _ _ _ 3 _ _ rfl rfl _ _ _ r b l x h0 h1
    · rw [dq2]; exact dq_x _ _ _ 2 _ _ rfl rfl _ _ _ r b l x h0 h1
    · rw [dq1]; exact dq_x _ _ _ 1 _ _ rfl rfl _ _ _ r b l x h0 h1
    · rw [dq0]; exact dq_x _ _ _ 0 _ _ rfl rfl _ _ _ r b l x h0 (h1.trans (Nat.zero_add _).symm)
  · rw [outsAt0_B m c t h]; frame_out
    canon_tiles x h
    · rw [dq3]; exact dq_x _ _ _ 3 _ _ rfl rfl _ _ _ r b l x h0 h1
    · rw [dq2]; exact dq_x _ _ _ 2 _ _ rfl rfl _ _ _ r b l x h0 h1
    · rw [dq1]; exact dq_x _ _ _ 1 _ _ rfl rfl _ _ _ r b l x h0 h1
    · rw [dq0]; exact dq_x _ _ _ 0 _ _ rfl rfl _ _ _ r b l x h0 (h1.trans (Nat.zero_add _).symm)

/-- The second block after the first point: the keys' gradient. -/
theorem first_k (c : Dev nD) (t : Fin cfg0.N) (h : t.val % 4 = 0) (b : Fin 4) (j l : Fin 256) :
    (outsAt0 m c t.val t.isLt).2 (ix2 j ⟨b * 256 + l, by omega⟩)
      = bdk (iblk m c 0 t) (iblk m c 1 t) (iblk m c 2 t) b j l := by
  rw [outsAt0_A m c t h]; frame_out
  simp (disch := decide) only [↓View.readCov_skip, ↓View.readCov_fill]
  refine (canon_init _ _ [_, _, _, _, _, _, _, _] (View.cover_of_tiled_head _ _ _ (by rfl) _)).trans ?_
  canon_tiles x h
  · exfalso; simp only [ix2_1] at h1; omega
  · rw [dk3]; exact (dk_x _ _ _ _ 3 _ _ rfl rfl _ _ _ b j l x h0 h1).trans (fill_add _ _ _)
  · exfalso; simp only [ix2_1] at h1; omega
  · rw [dk2]; exact (dk_x _ _ _ _ 2 _ _ rfl rfl _ _ _ b j l x h0 h1).trans (fill_add _ _ _)
  · exfalso; simp only [ix2_1] at h1; omega
  · rw [dk1]; exact (dk_x _ _ _ _ 1 _ _ rfl rfl _ _ _ b j l x h0 h1).trans (fill_add _ _ _)
  · exfalso; simp only [ix2_1] at h1; omega
  · rw [dk0]; exact (dk_x _ _ _ _ 0 _ _ rfl rfl _ _ _ b j l x h0 (h1.trans (Nat.zero_add _).symm)).trans (fill_add _ _ _)

/-- The second block after the first point: the values' gradient. -/
theorem first_v (c : Dev nD) (t : Fin cfg0.N) (h : t.val % 4 = 0) (b : Fin 4) (j l : Fin 256) :
    (outsAt0 m c t.val t.isLt).2 (ix2 j ⟨1024 + (b * 256 + l), by omega⟩)
      = bdv (iblk m c 0 t) (iblk m c 1 t) (iblk m c 2 t) b j l := by
  rw [outsAt0_A m c t h]; frame_out
  simp (disch := decide) only [↓View.readCov_skip, ↓View.readCov_fill]
  refine (canon_init _ _ [_, _, _, _, _, _, _, _] (View.cover_of_tiled_head _ _ _ (by rfl) _)).trans ?_
  canon_tiles x h
  · rw [dv3]; exact (dv_x _ _ _ _ 3 768 _ rfl rfl _ _ _ b j l x h0 h1).trans (fill_add _ _ _)
  · exfalso; simp only [ix2_1] at h1; omega
  · rw [dv2]; exact (dv_x _ _ _ _ 2 512 _ rfl rfl _ _ _ b j l x h0 h1).trans (fill_add _ _ _)
  · exfalso; simp only [ix2_1] at h1; omega
  · rw [dv1]; exact (dv_x _ _ _ _ 1 256 _ rfl rfl _ _ _ b j l x h0 h1).trans (fill_add _ _ _)
  · exfalso; simp only [ix2_1] at h1; omega
  · rw [dv0]; exact (dv_x _ _ _ _ 0 0 _ rfl rfl _ _ _ b j l x h0 h1).trans (fill_add _ _ _)
  · exfalso; simp only [ix2_1] at h1; omega

/-- The second block after a later point: the keys' gradient grows by the point's rows. -/
theorem next_k (c : Dev nD) (t : Fin cfg0.N) (h : ¬t.val % 4 = 0) (b : Fin 4) (j l : Fin 256) :
    (outsAt0 m c t.val t.isLt).2 (ix2 j ⟨b * 256 + l, by omega⟩)
      = (outsAt0 m c (t.val - 1) (Nat.lt_of_le_of_lt (Nat.sub_le _ _) t.isLt)).2 (ix2 j ⟨b * 256 + l, by omega⟩)
        + bdk (iblk m c 0 t) (iblk m c 1 t) (iblk m c 2 t) b j l := by
  rw [outsAt0_B m c t h]; frame_out
  canon_tiles x h
  · exfalso; simp only [ix2_1] at h1; omega
  · rw [dk3]; exact dk_x _ _ _ _ 3 _ _ rfl rfl _ _ _ b j l x h0 h1
  · exfalso; simp only [ix2_1] at h1; omega
  · rw [dk2]; exact dk_x _ _ _ _ 2 _ _ rfl rfl _ _ _ b j l x h0 h1
  · exfalso; simp only [ix2_1] at h1; omega
  · rw [dk1]; exact dk_x _ _ _ _ 1 _ _ rfl rfl _ _ _ b j l x h0 h1
  · exfalso; simp only [ix2_1] at h1; omega
  · rw [dk0]; exact dk_x _ _ _ _ 0 _ _ rfl rfl _ _ _ b j l x h0 (h1.trans (Nat.zero_add _).symm)

/-- The second block after a later point: the values' gradient grows by the point's rows. -/
theorem next_v (c : Dev nD) (t : Fin cfg0.N) (h : ¬t.val % 4 = 0) (b : Fin 4) (j l : Fin 256) :
    (outsAt0 m c t.val t.isLt).2 (ix2 j ⟨1024 + (b * 256 + l), by omega⟩)
      = (outsAt0 m c (t.val - 1) (Nat.lt_of_le_of_lt (Nat.sub_le _ _) t.isLt)).2 (ix2 j ⟨1024 + (b * 256 + l), by omega⟩)
        + bdv (iblk m c 0 t) (iblk m c 1 t) (iblk m c 2 t) b j l := by
  rw [outsAt0_B m c t h]; frame_out
  canon_tiles x h
  · rw [dv3]; exact dv_x _ _ _ _ 3 768 _ rfl rfl _ _ _ b j l x h0 h1
  · exfalso; simp only [ix2_1] at h1; omega
  · rw [dv2]; exact dv_x _ _ _ _ 2 512 _ rfl rfl _ _ _ b j l x h0 h1
  · exfalso; simp only [ix2_1] at h1; omega
  · rw [dv1]; exact dv_x _ _ _ _ 1 256 _ rfl rfl _ _ _ b j l x h0 h1
  · exfalso; simp only [ix2_1] at h1; omega
  · rw [dv0]; exact dv_x _ _ _ _ 0 0 _ rfl rfl _ _ _ b j l x h0 h1
  · exfalso; simp only [ix2_1] at h1; omega

end Cert.Kernel31Ideal.Attn
-- ==== Proof.Attn1.Ref.lean ====
/- The reference of layer 1's attention gradient: layer 0's, of the projections without their first 1024 columns. -/
module

public import proofs.«01_k».proof.Proof.Attn.Ref
public import proofs.«01_k».proof.Proof.Gen.Reference31Ideal.Read
public import Idealize.ShloMosaic.Lib.Pointwise
public import Idealize.ShloMosaic.Lib.Claim

@[expose] public section

set_option maxRecDepth 16384

noncomputable section

namespace Cert.Attn

open Idealize.ShloMosaic

/-- Layer 1's projections without their first 1024 columns: the queries are where layer 0 has them. -/
def tail (x : (⟨2, ![2048, 6144]⟩ : Shape).Idx → EReal) : (⟨2, ![2048, 5120]⟩ : Shape).Idx → EReal :=
  fun i => x (ix2 (i 0) ⟨1024 + (i 1).val, by have : (i 1).val < 5120 := (i 1).isLt; omega⟩)

end Cert.Attn

namespace Cert.Reference31Ideal.Attn

open Idealize.ShloMosaic Idealize.SL.Sem Cert.Attn Cert.Reference31Ideal Cert.Reference31Ideal.Gen
open Cert.ReferenceIdeal.Attn (Q O K W)

variable (x0 : (⟨S2048x6144, .f32⟩ : BufTy).Contents (Elt Ideal)) (x1 : (⟨S256x2048, .bf16⟩ : BufTy).Contents (Elt Ideal))
  (x2 : (⟨S2048x3072, .bf16⟩ : BufTy).Contents (Elt Ideal)) (x3 : (⟨S2048x6144, .bf16⟩ : BufTy).Contents (Elt Ideal))

theorem v0_eq : Cert.Reference31Ideal.Read.val_main_v0 (F := Ideal) x0 = Cert.ReferenceIdeal.Read.val_main_v0 (tail x0) := by
  funext i
  rw [Cert.Reference31Ideal.Read.val_main_v0_apply, Cert.ReferenceIdeal.Read.val_main_v0_apply]
  unfold tail
  congr 1; idx_ext

theorem v8_eq : Cert.Reference31Ideal.Read.val_main_v8 (F := Ideal) x0 = Cert.ReferenceIdeal.Read.val_main_v8 (tail x0) := by
  unfold Cert.Reference31Ideal.Read.val_main_v8 Cert.ReferenceIdeal.Read.val_main_v8
  rw [v0_eq]

theorem v11_eq : Cert.Reference31Ideal.Read.val_main_v11 (F := Ideal) x0 x1 = Cert.ReferenceIdeal.Read.val_main_v11 (tail x0) x1 := by
  unfold Cert.Reference31Ideal.Read.val_main_v11 Cert.ReferenceIdeal.Read.val_main_v11 Cert.Reference31Ideal.Read.val_main_v9 Cert.ReferenceIdeal.Read.val_main_v9
  rw [v8_eq]; rfl

theorem v19_eq : Cert.Reference31Ideal.Read.val_main_v19 (F := Ideal) x0 x1 = Cert.ReferenceIdeal.Read.val_main_v19 (tail x0) x1 := by
  unfold Cert.Reference31Ideal.Read.val_main_v19 Cert.ReferenceIdeal.Read.val_main_v19 Cert.Reference31Ideal.Read.val_main_v12 Cert.ReferenceIdeal.Read.val_main_v12
  rw [v11_eq]; rfl

theorem v32_eq : Cert.Reference31Ideal.Read.val_main_v32 (F := Ideal) x0 x1 = Cert.ReferenceIdeal.Read.val_main_v32 (tail x0) x1 := by
  unfold Cert.Reference31Ideal.Read.val_main_v32 Cert.ReferenceIdeal.Read.val_main_v32 Cert.Reference31Ideal.Read.val_main_v31 Cert.ReferenceIdeal.Read.val_main_v31 Cert.Reference31Ideal.Read.val_main_v30 Cert.ReferenceIdeal.Read.val_main_v30 Cert.Reference31Ideal.Read.val_main_v29 Cert.ReferenceIdeal.Read.val_main_v29
  rw [v11_eq, v19_eq]

theorem v34_eq : Cert.Reference31Ideal.Read.val_main_v34 (F := Ideal) x0 x1 = Cert.ReferenceIdeal.Read.val_main_v34 (tail x0) x1 := by
  unfold Cert.Reference31Ideal.Read.val_main_v34 Cert.ReferenceIdeal.Read.val_main_v34 Cert.Reference31Ideal.Read.val_main_v33 Cert.ReferenceIdeal.Read.val_main_v33
  rw [v32_eq]; rfl

theorem v36_eq : Cert.Reference31Ideal.Read.val_main_v36 (F := Ideal) x0 x1 = Cert.ReferenceIdeal.Read.val_main_v36 (tail x0) x1 := by
  unfold Cert.Reference31Ideal.Read.val_main_v36 Cert.ReferenceIdeal.Read.val_main_v36 Cert.Reference31Ideal.Read.val_main_v35 Cert.ReferenceIdeal.Read.val_main_v35
  rw [v32_eq, v34_eq]

theorem v50_eq : Cert.Reference31Ideal.Read.val_main_v50 (F := Ideal) x0 x1 x2 = Cert.ReferenceIdeal.Read.val_main_v50 (tail x0) x1 x2 := by
  unfold Cert.Reference31Ideal.Read.val_main_v50 Cert.ReferenceIdeal.Read.val_main_v50 Cert.Reference31Ideal.Read.val_main_v49 Cert.ReferenceIdeal.Read.val_main_v49 Cert.Reference31Ideal.Read.val_main_v48 Cert.ReferenceIdeal.Read.val_main_v48 Cert.Reference31Ideal.Read.val_main_v39 Cert.ReferenceIdeal.Read.val_main_v39 Cert.Reference31Ideal.Read.val_main_v37 Cert.ReferenceIdeal.Read.val_main_v37
  rw [v32_eq, v34_eq]; rfl

theorem v61_eq : Cert.Reference31Ideal.Read.val_main_v61 (F := Ideal) x0 x1 x2 = Cert.ReferenceIdeal.Read.val_main_v61 (tail x0) x1 x2 := by
  unfold Cert.Reference31Ideal.Read.val_main_v61 Cert.ReferenceIdeal.Read.val_main_v61 Cert.Reference31Ideal.Read.val_main_v59 Cert.ReferenceIdeal.Read.val_main_v59 Cert.Reference31Ideal.Read.val_main_v58 Cert.ReferenceIdeal.Read.val_main_v58 Cert.Reference31Ideal.Read.val_main_v57 Cert.ReferenceIdeal.Read.val_main_v57 Cert.Reference31Ideal.Read.val_main_v56 Cert.ReferenceIdeal.Read.val_main_v56 Cert.Reference31Ideal.Read.val_main_v55 Cert.ReferenceIdeal.Read.val_main_v55 Cert.Reference31Ideal.Read.val_main_v54 Cert.ReferenceIdeal.Read.val_main_v54 Cert.Reference31Ideal.Read.val_main_v53 Cert.ReferenceIdeal.Read.val_main_v53 Cert.Reference31Ideal.Read.val_main_v52 Cert.ReferenceIdeal.Read.val_main_v52 Cert.Reference31Ideal.Read.val_main_v51 Cert.ReferenceIdeal.Read.val_main_v51
  rw [v50_eq, v34_eq, v32_eq]; rfl

theorem v64_eq : Cert.Reference31Ideal.Read.val_main_v64 (F := Ideal) x0 x1 x2 = Cert.ReferenceIdeal.Read.val_main_v64 (tail x0) x1 x2 := by
  unfold Cert.Reference31Ideal.Read.val_main_v64 Cert.ReferenceIdeal.Read.val_main_v64
  rw [v61_eq]; rfl

theorem v63_eq : Cert.Reference31Ideal.Read.val_main_v63 (F := Ideal) x0 x1 x2 = Cert.ReferenceIdeal.Read.val_main_v63 (tail x0) x1 x2 := by
  unfold Cert.Reference31Ideal.Read.val_main_v63 Cert.ReferenceIdeal.Read.val_main_v63 Cert.Reference31Ideal.Read.val_main_v62 Cert.ReferenceIdeal.Read.val_main_v62
  rw [v61_eq, v8_eq]; rfl

theorem v47_eq : Cert.Reference31Ideal.Read.val_main_v47 (F := Ideal) x0 x1 x2 = Cert.ReferenceIdeal.Read.val_main_v47 (tail x0) x1 x2 := by
  unfold Cert.Reference31Ideal.Read.val_main_v47 Cert.ReferenceIdeal.Read.val_main_v47 Cert.Reference31Ideal.Read.val_main_v46 Cert.ReferenceIdeal.Read.val_main_v46
  rw [v36_eq]; rfl

theorem v71_eq : Cert.Reference31Ideal.Read.val_main_v71 (F := Ideal) x0 x1 x2 = Cert.ReferenceIdeal.Read.val_main_v71 (tail x0) x1 x2 := by
  unfold Cert.Reference31Ideal.Read.val_main_v71 Cert.ReferenceIdeal.Read.val_main_v71 Cert.Reference31Ideal.Read.val_main_v70 Cert.ReferenceIdeal.Read.val_main_v70 Cert.Reference31Ideal.Read.val_main_v69 Cert.ReferenceIdeal.Read.val_main_v69 Cert.Reference31Ideal.Read.val_main_v68 Cert.ReferenceIdeal.Read.val_main_v68 Cert.Reference31Ideal.Read.val_main_v67 Cert.ReferenceIdeal.Read.val_main_v67
  rw [v63_eq, v47_eq]; rfl

/-- The first result: the queries' gradient in the last 1024 columns, the array as it was in the others. -/
theorem v74_at (i : Fin 2048) (b : Fin 4) (l : Fin 256) :
    Read.val_main_v74 (F := Ideal) x0 x1 x2 x3 (ix2 i ⟨5120 + (b * 256 + l), by omega⟩)
      = ∑ j, dscoreQ (score (Q (tail x0) i b) (K x1 b)) (fun j => ∑ d, O x2 i b d * W x1 b j d) j * K x1 b j l := by
  rw [← Cert.ReferenceIdeal.Attn.v64_at, ← v64_eq]
  unfold Read.val_main_v74 Read.val_main_v73 Read.val_main_v66 Read.val_main_v65
  pointwise

theorem v74_old (i : Fin 2048) (k : Fin 5120) :
    Read.val_main_v74 (F := Ideal) x0 x1 x2 x3 (ix2 i ⟨k, by omega⟩) = x3 (ix2 i ⟨k, by omega⟩) := by
  unfold Read.val_main_v74 Read.val_main_v72
  pointwise

end Cert.Reference31Ideal.Attn
-- ==== Proof.Attn1.Arr.lean ====
/- The two arrays that layer 1's attention gradient leaves: its reference's two results. -/
module

public import proofs.«01_k».proof.Proof.Attn1.Point
public import proofs.«01_k».proof.Proof.Attn1.Ref

@[expose] public section

set_option maxRecDepth 16384

noncomputable section

namespace Cert.Kernel31Ideal.Attn

open Idealize.ShloMosaic Idealize.SL.Sem Cert.Attn Cert.Kernel31Ideal Cert.Kernel31Ideal.Gen
open Cert.ReferenceIdeal.Attn (Q K O W)
open Cert.KernelIdeal.Attn (bsc bdp bdq bdk bdv)

variable (m : (ℓ : Loc nD τ sig) → Buf (Elt Ideal) ℓ)

abbrev p0 (c : Dev nD) := m ((c.tc : Thread nD τ).loc main_arg0)
abbrev p1 (c : Dev nD) := m ((c.tc : Thread nD τ).loc main_arg1)
abbrev p2 (c : Dev nD) := m ((c.tc : Thread nD τ).loc main_arg2)
abbrev p3 (c : Dev nD) := m ((c.tc : Thread nD τ).loc main_arg3)

theorem lt1 (b : Fin 4) (l : Fin 256) : b.val * 256 + l.val < 1024 := by omega
theorem lt2 (b : Fin 4) (l : Fin 256) : b.val * 256 + l.val < 2048 := by omega
theorem lt3 (b : Fin 4) (l : Fin 256) : 1024 + (b.val * 256 + l.val) < 2048 := by omega

theorem idx : ∀ t : Fin cfg0.N, win0_0.index t = ![t.val, 5] ∧ win0_1.index t = ![0, 0] ∧ win0_2.index t = ![t.val, 2]
    ∧ win0_3.index t = ![t.val, 5] ∧ win0_4.index t = ![0, 0] :=
  (by decide +kernel : ∀ t : Fin grid0.N, _)

/-- Row `r` of the block of rows that point `t` reads. -/
def row (t : Fin cfg0.N) (r : Fin 512) : Fin 2048 := ⟨t.val * 512 + r.val, by have := t.isLt; have : cfg0.N = 4 := N_0; omega⟩

theorem blkQ (c : Dev nD) (t : Fin cfg0.N) (r : Fin 512) (b : Fin 4) (d : Fin 256) :
    iblk m c 0 t (ix2 r ⟨b * 256 + d, by omega⟩) = Q (tail (p0 m c)) (row t r) b d := by
  unfold Q tail row
  blk_ext [iblk, Gen.V, idx t]

theorem blkO (c : Dev nD) (t : Fin cfg0.N) (r : Fin 512) (b : Fin 4) (d : Fin 256) :
    iblk m c 2 t (ix2 r ⟨b * 256 + d, by omega⟩) = O (p2 m c) (row t r) b d := by
  unfold O p2 row
  blk_ext [iblk, Gen.V, idx t]

theorem blkK (c : Dev nD) (t : Fin cfg0.N) (b : Fin 4) (j d : Fin 256) :
    iblk m c 1 t (ix2 j ⟨b * 256 + d, by omega⟩) = K (p1 m c) b j d := by
  unfold K p1
  blk_ext [iblk, Gen.V, idx t]

theorem blkV (c : Dev nD) (t : Fin cfg0.N) (b : Fin 4) (j d : Fin 256) :
    iblk m c 1 t (ix2 j ⟨1024 + (b * 256 + d), by omega⟩) = W (p1 m c) b j d := by
  unfold W p1
  blk_ext [iblk, Gen.V, idx t]

theorem bsc_eq (c : Dev nD) (t : Fin cfg0.N) (r : Fin 512) (b : Fin 4) :
    bsc (iblk m c 0 t) (iblk m c 1 t) r b = score (Q (tail (p0 m c)) (row t r) b) (K (p1 m c) b) := by
  unfold bsc
  congr 1
  · funext d; exact blkQ m c t r b d
  · funext j d; exact blkK m c t b j d

theorem bdp_eq (c : Dev nD) (t : Fin cfg0.N) (r : Fin 512) (b : Fin 4) :
    bdp (iblk m c 1 t) (iblk m c 2 t) r b = fun j => ∑ d, O (p2 m c) (row t r) b d * W (p1 m c) b j d := by
  funext j
  unfold bdp
  exact Finset.sum_congr rfl fun d _ => congrArg₂ _ (blkO m c t r b d) (blkV m c t b j d)

/-- The gradient of one row's scores in head `b`. -/
abbrev ds (c : Dev nD) (i : Fin 2048) (b : Fin 4) : Fin 256 → EReal :=
  dscore (score (Q (tail (p0 m c)) i b) (K (p1 m c) b)) fun j => ∑ d, O (p2 m c) i b d * W (p1 m c) b j d

/-- One row's softmax in head `b`. -/
abbrev pr (c : Dev nD) (i : Fin 2048) (b : Fin 4) : Fin 256 → EReal := prob (score (Q (tail (p0 m c)) i b) (K (p1 m c) b))

theorem bdq_eq (c : Dev nD) (t : Fin cfg0.N) (r : Fin 512) (b : Fin 4) (l : Fin 256) :
    bdq (iblk m c 0 t) (iblk m c 1 t) (iblk m c 2 t) r b l = ∑ j, ds m c (row t r) b j * K (p1 m c) b j l := by
  unfold bdq
  rw [bsc_eq, bdp_eq]
  exact Finset.sum_congr rfl fun j _ => congrArg _ (blkK m c t b j l)

theorem bdk_eq (c : Dev nD) (t : Fin cfg0.N) (b : Fin 4) (j l : Fin 256) :
    bdk (iblk m c 0 t) (iblk m c 1 t) (iblk m c 2 t) b j l = ∑ r, ds m c (row t r) b j * Q (tail (p0 m c)) (row t r) b l := by
  unfold bdk
  refine Finset.sum_congr rfl fun r _ => ?_
  rw [bsc_eq, bdp_eq]
  exact congrArg _ (blkQ m c t r b l)

theorem bdv_eq (c : Dev nD) (t : Fin cfg0.N) (b : Fin 4) (j l : Fin 256) :
    bdv (iblk m c 0 t) (iblk m c 1 t) (iblk m c 2 t) b j l = ∑ r, pr m c (row t r) b j * O (p2 m c) (row t r) b l := by
  unfold bdv
  refine Finset.sum_congr rfl fun r _ => ?_
  rw [bsc_eq]
  exact congrArg _ (blkO m c t r b l)

/-- A sum over the points of sums over a point's rows is the sum over the rows. -/
theorem sum_rows (f : Fin 2048 → EReal) : ∑ t : Fin cfg0.N, ∑ r : Fin 512, f (row t r) = ∑ i, f i :=
  (Fin.sum_univ_tiles 4 512 rfl f).symm

/-- The keys' gradient after all points. -/
theorem last_k (c : Dev nD) (b : Fin 4) (j l : Fin 256) :
    (outsAt0 m c t0_3.val t0_3.isLt).2 (ix2 j ⟨b * 256 + l, by omega⟩) = ∑ i, ds m c i b j * Q (tail (p0 m c)) i b l := by
  have h := Pipeline.eq_sum_fin_of_reset_step_apply_last
    (fun n h => fun _ : Unit => (outsAt0 m c n h).2 (ix2 j ⟨b * 256 + l, by omega⟩)) 4 (fun _ => 0)
    (fun t _ => bdk (iblk m c 0 t) (iblk m c 1 t) (iblk m c 2 t) b j l)
    (fun t h _ => (first_k m c t h b j l).trans (zero_add _).symm) (fun t h _ => next_k m c t h b j l)
    (le_of_eq N_0) t0_3 rfl ()
  refine h.trans ((zero_add _).trans ?_)
  simp only [bdk_eq]
  exact sum_rows fun i => ds m c i b j * Q (tail (p0 m c)) i b l

/-- The values' gradient after all points. -/
theorem last_v (c : Dev nD) (b : Fin 4) (j l : Fin 256) :
    (outsAt0 m c t0_3.val t0_3.isLt).2 (ix2 j ⟨1024 + (b * 256 + l), by omega⟩) = ∑ i, pr m c i b j * O (p2 m c) i b l := by
  have h := Pipeline.eq_sum_fin_of_reset_step_apply_last
    (fun n h => fun _ : Unit => (outsAt0 m c n h).2 (ix2 j ⟨1024 + (b * 256 + l), by omega⟩)) 4 (fun _ => 0)
    (fun t _ => bdv (iblk m c 0 t) (iblk m c 1 t) (iblk m c 2 t) b j l)
    (fun t h _ => (first_v m c t h b j l).trans (zero_add _).symm) (fun t h _ => next_v m c t h b j l)
    (le_of_eq N_0) t0_3 rfl ()
  refine h.trans ((zero_add _).trans ?_)
  simp only [bdv_eq]
  exact sum_rows fun i => pr m c i b j * O (p2 m c) i b l

/-- The array of the projections' gradient: written in the queries' columns, as it was in the others. -/
theorem arr3 (c : Dev nD) (h : ∀ i b j, ∃ r : ℝ, score (Q (tail (p0 m c)) i b) (K (p1 m c) b) j = r) :
    (dats m 0 c).arrAt 3 cfg0.N = Cert.Reference31Ideal.Read.val_main_v74 (F := Ideal) (p0 m c) (p1 m c) (p2 m c) (p3 m c) := by
  have e : (dats m 0 c).arrAt 3 cfg0.N = fun i => if 5 * 1024 ≤ (i 1 : ℕ) then
      Cert.Reference31Ideal.Read.val_main_v74 (F := Ideal) (p0 m c) (p1 m c) (p2 m c) (p3 m c) i else Gen.V m c main_v0_0 i := by
    refine (dats m 0 c).arrAt_eq_of_coversWhere 3 _ (fun β => 5 ≤ β 1) (by decide +kernel) (fun t hf y => ?_)
      (fun j => by blk_simp [Pipeline.Window.cell_apply]; omega)
    blk_simp
    rw [after0_3]
    obtain ⟨r, l', rfl⟩ : ∃ (r : Fin 512) (l : Fin 1024), y = ix2 r l := ⟨y 0, y 1, eq_ix2 y⟩
    obtain ⟨b, l, rfl⟩ : ∃ (b : Fin 4) (l : Fin 256), l' = ⟨b * 256 + l, lt1 b l⟩ :=
      ⟨⟨l' / 256, by omega⟩, ⟨l' % 256, by omega⟩, Fin.ext (by dsimp only; omega)⟩
    rw [out3_at, bdq_eq]
    refine Eq.trans ?_ ((Cert.Reference31Ideal.Attn.v74_at (p0 m c) (p1 m c) (p2 m c) (p3 m c) (row t r) b l).symm.trans ?_)
    · simp only [dscoreQ_eq _ _ (h _ _)]
    · unfold row
      blk_ext [idx t]
  rw [e]
  funext i
  obtain ⟨r, k, rfl⟩ : ∃ (r : Fin 2048) (l : Fin 6144), i = ix2 r l := ⟨i 0, i 1, eq_ix2 i⟩
  by_cases hk : 5 * 1024 ≤ k.val
  · exact if_pos hk
  · refine (if_neg hk).trans (Eq.trans ?_ (Cert.Reference31Ideal.Attn.v74_old (p0 m c) (p1 m c) (p2 m c) (p3 m c) r ⟨k, by omega⟩).symm)
    entry_read
    rfl

/-- The array of the keys' and values' gradients. -/
theorem arr4 (c : Dev nD) (h : ∀ i b j, ∃ r : ℝ, score (Q (tail (p0 m c)) i b) (K (p1 m c) b) j = r) :
    (dats m 0 c).arrAt 4 cfg0.N = Cert.Reference31Ideal.Read.val_main_v71 (F := Ideal) (p0 m c) (p1 m c) (p2 m c) := by
  refine (dats m 0 c).arrAt_eq_of_after_last 4 t0_3 (by decide +kernel) _ fun j => ?_
  blk_simp
  rw [after0_4]
  obtain ⟨j, k, rfl⟩ : ∃ (r : Fin 256) (l : Fin 2048), j = ix2 r l := ⟨j 0, j 1, eq_ix2 j⟩
  by_cases hk : k.val < 1024
  · obtain ⟨b, l, rfl⟩ : ∃ (b : Fin 4) (l : Fin 256), k = ⟨b * 256 + l, lt2 b l⟩ :=
      ⟨⟨k / 256, by omega⟩, ⟨k % 256, by omega⟩, Fin.ext (by dsimp only; omega)⟩
    refine (last_k m c b j l).trans (Eq.trans ?_ ((congrFun (Cert.Reference31Ideal.Attn.v71_eq (p0 m c) (p1 m c) (p2 m c)) _).trans
      (Cert.ReferenceIdeal.Attn.v71_key (tail (p0 m c)) (p1 m c) (p2 m c) j b l)).symm)
    simp only [dscoreQ_eq _ _ (h _ _)]
  · obtain ⟨b, l, rfl⟩ : ∃ (b : Fin 4) (l : Fin 256), k = ⟨1024 + (b * 256 + l), lt3 b l⟩ :=
      ⟨⟨(k - 1024) / 256, by omega⟩, ⟨(k - 1024) % 256, by omega⟩, Fin.ext (by dsimp only; omega)⟩
    refine (last_v m c b j l).trans (Eq.trans ?_ ((congrFun (Cert.Reference31Ideal.Attn.v71_eq (p0 m c) (p1 m c) (p2 m c)) _).trans
      (Cert.ReferenceIdeal.Attn.v71_val (tail (p0 m c)) (p1 m c) (p2 m c) j b l)).symm)
    exact Finset.sum_congr rfl fun i _ => mul_comm _ _

end Cert.Kernel31Ideal.Attn
-- ==== Proof.Attn1.Claim.lean ====
/- Layer 1's attention gradient and its reference leave the same arrays. -/
module

public import proofs.«01_k».proof.Defs
public import proofs.«01_k».proof.Proof.Attn.Pre
public import proofs.«01_k».proof.Proof.Attn1.Arr
public import proofs.«01_k».proof.Pre_finite_q_and_k_layer1
public import proofs.«01_k».proof.Proof.Gen.Reference31Ideal.Run
public import Idealize.ShloMosaic.Lib.Quiescent
public import proofs.«01_k».proof.Proof.Gen.Kernel31Ideal
public import proofs.«01_k».proof.Proof.Gen.Reference31Ideal

@[expose] public section

set_option maxRecDepth 16384

noncomputable section

namespace Cert.Pre_finite_q_and_k_layer1

open Idealize.ShloMosaic Cert.Attn Cert.ReferenceIdeal.Attn

theorem facts : Facts where
  slices_S2048x6144_S2048x1024_0_5120 := by decide
  bcast_S_S2048x1024 := by decide
  slices_S256x2048_S256x1024_0_0 := by decide
  bitsLt_bf16_f32 := by decide
  bcast_S_S256x1024 := by decide
  reducesTo_S2048x1024_S_d0_1 := by decide
  h_S_ := by decide
  reducesTo_S256x1024_S_d0_1 := by decide

theorem fn_iff [Facts] (x0 : FVec Ideal S2048x6144 .f32) (x1 : FVec Ideal S256x2048 .bf16) (x2 : FVec Ideal S2048x3072 .bf16)
    (x3 : FVec Ideal S2048x6144 .bf16) (h : fn (F := Ideal) x0 x1 x2 x3 = fun _ => 1#1) :
    (∀ i b d, ∃ r : ℝ, Q (tail x0) i b d = r) ∧ ∀ b j d, ∃ r : ℝ, K x1 b j d = r := by
  have h0 := congrFun h (Shape.Idx.first Facts.h_S_)
  unfold fn at h0
  dsimp only at h0
  have h1 := and_bits _ _ h0
  constructor
  · intro i b d
    have h2 := reduce_andi _ _ _ _ _ h1.1 (ix2 i ⟨b * 256 + d, by omega⟩)
    pointwise at h2
    obtain ⟨r, hr⟩ := real_of_abs _ h2
    refine ⟨r, Eq.trans ?_ hr⟩
    unfold Q tail
    congr 1; idx_ext
  · intro b j d
    have h2 := reduce_andi _ _ _ _ _ h1.2 (ix2 j ⟨b * 256 + d, by omega⟩)
    pointwise at h2
    exact real_of_abs _ h2

end Cert.Pre_finite_q_and_k_layer1

namespace Cert.Attn

open Idealize.ShloMosaic Idealize.SL.Sem

attribute [local instance] Cert.Kernel31Ideal.Gen.facts Cert.Reference31Ideal.Gen.facts Cert.Pre_finite_q_and_k_layer1.facts

theorem quiescent_bwd1 : Cert.quiescent_Reference31Ideal := by
  intro m g _
  run_from Cert.Reference31Ideal.Value.run m g
  · exact fun c => ⟨trivial, trivial, trivial, trivial⟩
  · exact sem_eq_zero_of_no_sems (by decide) _

theorem bwd1 : Cert.algebraic_Kernel31Ideal_Reference31Ideal_pre_finite_q_and_k_layer1 := by
  pair_intro
  · run_from Cert.Kernel31Ideal.Gen.run_main m g
  · run_from Cert.Reference31Ideal.Value.run m' g'
    all_goals
      have hf := Cert.Pre_finite_q_and_k_layer1.fn_iff _ _ _ _ (hpre c)
      have hs := fun i b j => score_coe _ _ (hf.1 i b) (hf.2 b) j
      obtain ⟨e0, e1, e2, e3⟩ := hagree c
    · refine (Cert.Reference31Ideal.Read.val_main_v74_eq m' c).trans ?_
      rw [e0, e1, e2, e3]
      exact (Cert.Kernel31Ideal.Attn.arr3 m c hs).symm
    · refine (Cert.Reference31Ideal.Read.val_main_v71_eq m' c).trans ?_
      rw [e0, e1, e2]
      exact (Cert.Kernel31Ideal.Attn.arr4 m c hs).symm

end Cert.Attn

end
-- ==== Proof.Attn1.Fwd.lean ====
/- Layer 1's memory attention: its reference is layer 0's, of the projections without their first 1024 columns, and its body's
   operations are those of layer 0's. -/
module

public import proofs.«01_k».proof.Defs
public import proofs.«01_k».proof.Proof.Attn.Fwd
public import proofs.«01_k».proof.Proof.Attn1.Ref
public import proofs.«01_k».proof.Proof.Gen.Kernel32Ideal.Value
public import proofs.«01_k».proof.Proof.Gen.Kernel32Ideal
public import proofs.«01_k».proof.Proof.Gen.Reference32Ideal
public import proofs.«01_k».proof.Proof.Gen.Reference32Ideal.Run
public import proofs.«01_k».proof.Proof.Gen.Reference32Ideal.Read
public import Idealize.ShloMosaic.Lib.Pointwise
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Reference32Ideal.Attn

open Idealize.ShloMosaic Idealize.SL.Sem Cert.Attn Cert.Reference32Ideal Cert.Reference32Ideal.Gen
open Cert.Reference25Ideal.Attn (elem)

variable (x0 : (⟨S2048x6144, .f32⟩ : BufTy).Contents (Elt Ideal)) (x1 : (⟨S256x2048, .bf16⟩ : BufTy).Contents (Elt Ideal))
  (x2 : (⟨S2048x3072, .bf16⟩ : BufTy).Contents (Elt Ideal))

theorem v0_eq : Cert.Reference32Ideal.Read.val_main_v0 (F := Ideal) x0 = Cert.Reference25Ideal.Read.val_main_v0 (tail x0) := by
  funext i
  rw [Cert.Reference32Ideal.Read.val_main_v0_apply, Cert.Reference25Ideal.Read.val_main_v0_apply]
  unfold tail
  congr 1; idx_ext

theorem v6_eq : Cert.Reference32Ideal.Read.val_main_v6 (F := Ideal) x0 = Cert.Reference25Ideal.Read.val_main_v6 (tail x0) := by
  unfold Cert.Reference32Ideal.Read.val_main_v6 Cert.Reference25Ideal.Read.val_main_v6
  rw [v0_eq]

theorem v9_eq : Cert.Reference32Ideal.Read.val_main_v9 (F := Ideal) x0 x1 = Cert.Reference25Ideal.Read.val_main_v9 (tail x0) x1 := by
  unfold Cert.Reference32Ideal.Read.val_main_v9 Cert.Reference25Ideal.Read.val_main_v9 Cert.Reference32Ideal.Read.val_main_v7 Cert.Reference25Ideal.Read.val_main_v7
  rw [v6_eq]; rfl

theorem v12_eq : Cert.Reference32Ideal.Read.val_main_v12 (F := Ideal) x0 x1 = Cert.Reference25Ideal.Read.val_main_v12 (tail x0) x1 := by
  unfold Cert.Reference32Ideal.Read.val_main_v12 Cert.Reference25Ideal.Read.val_main_v12 Cert.Reference32Ideal.Read.val_main_v10 Cert.Reference25Ideal.Read.val_main_v10
  rw [v9_eq]; rfl

theorem v16_eq : Cert.Reference32Ideal.Read.val_main_v16 (F := Ideal) x0 x1 = Cert.Reference25Ideal.Read.val_main_v16 (tail x0) x1 := by
  unfold Cert.Reference32Ideal.Read.val_main_v16 Cert.Reference25Ideal.Read.val_main_v16 Cert.Reference32Ideal.Read.val_main_v15 Cert.Reference25Ideal.Read.val_main_v15 Cert.Reference32Ideal.Read.val_main_v14 Cert.Reference25Ideal.Read.val_main_v14 Cert.Reference32Ideal.Read.val_main_v13 Cert.Reference25Ideal.Read.val_main_v13
  rw [v9_eq, v12_eq]

theorem v20_eq : Cert.Reference32Ideal.Read.val_main_v20 (F := Ideal) x0 x1 = Cert.Reference25Ideal.Read.val_main_v20 (tail x0) x1 := by
  unfold Cert.Reference32Ideal.Read.val_main_v20 Cert.Reference25Ideal.Read.val_main_v20 Cert.Reference32Ideal.Read.val_main_v19 Cert.Reference25Ideal.Read.val_main_v19 Cert.Reference32Ideal.Read.val_main_v18 Cert.Reference25Ideal.Read.val_main_v18 Cert.Reference32Ideal.Read.val_main_v17 Cert.Reference25Ideal.Read.val_main_v17
  rw [v16_eq]; rfl

theorem v26_eq : Cert.Reference32Ideal.Read.val_main_v26 (F := Ideal) x0 x1 x2 = Cert.Reference25Ideal.Read.val_main_v26 (tail x0) x1 x2 := by
  unfold Cert.Reference32Ideal.Read.val_main_v26 Cert.Reference25Ideal.Read.val_main_v26 Cert.Reference32Ideal.Read.val_main_v25 Cert.Reference25Ideal.Read.val_main_v25 Cert.Reference32Ideal.Read.val_main_v23 Cert.Reference25Ideal.Read.val_main_v23 Cert.Reference32Ideal.Read.val_main_v22 Cert.Reference25Ideal.Read.val_main_v22 Cert.Reference32Ideal.Read.val_main_v21 Cert.Reference25Ideal.Read.val_main_v21
  rw [v20_eq]; rfl

/-- The result: the attention in the last 1024 columns, the array as it was in the others. -/
theorem v26_at (i : Fin 2048) (b : Fin 4) (l : Fin 256) :
    Read.val_main_v26 (F := Ideal) x0 x1 x2 (ix2 i ⟨2048 + (b * 256 + l), by omega⟩) = elem (tail x0) x1 i b l :=
  (congrFun (v26_eq x0 x1 x2) _).trans (Cert.Reference25Ideal.Attn.v26_at (tail x0) x1 x2 i b l)

theorem v26_old (i : Fin 2048) (k : Fin 2048) :
    Read.val_main_v26 (F := Ideal) x0 x1 x2 (ix2 i ⟨k, by omega⟩) = x2 (ix2 i ⟨k, by omega⟩) :=
  (congrFun (v26_eq x0 x1 x2) _).trans (Cert.Reference25Ideal.Attn.v26_old (tail x0) x1 x2 i k)

end Cert.Reference32Ideal.Attn

namespace Cert.Kernel32Ideal.Attn

open Idealize.ShloMosaic Idealize.SL.Sem Cert.Attn Cert.Kernel32Ideal Cert.Kernel32Ideal.Gen
open Cert.Kernel25Ideal.Attn (o_x)
open Cert.Reference25Ideal.Attn (Q K W elem)

/-! ## The heads store the operations of layer 0's first head -/

theorem o0 (q : Vec Ideal S512x256 .f32) (k w : Vec Ideal S256x256 .bf16) :
    k0_pay2 (F := Ideal) k w q = Cert.Kernel25Ideal.Gen.k0_pay2 k w q := rfl
theorem o1 (q : Vec Ideal S512x256 .f32) (k w : Vec Ideal S256x256 .bf16) :
    k0_pay5 (F := Ideal) w (k0_pay3 k q) (k0_pay4 k q) = Cert.Kernel25Ideal.Gen.k0_pay2 k w q := rfl
theorem o2 (q : Vec Ideal S512x256 .f32) (k w : Vec Ideal S256x256 .bf16) :
    k0_pay6 (F := Ideal) k w q = Cert.Kernel25Ideal.Gen.k0_pay2 k w q := rfl
theorem o3 (q : Vec Ideal S512x256 .f32) (k w : Vec Ideal S256x256 .bf16) :
    k0_pay1 (F := Ideal) w (k0_pay7 k q) (k0_pay8 k q) = Cert.Kernel25Ideal.Gen.k0_pay2 k w q := rfl

variable (m : (ℓ : Loc nD τ sig) → Buf (Elt Ideal) ℓ)

abbrev p0 (c : Dev nD) := m ((c.tc : Thread nD τ).loc main_arg0)
abbrev p1 (c : Dev nD) := m ((c.tc : Thread nD τ).loc main_arg1)
abbrev p2 (c : Dev nD) := m ((c.tc : Thread nD τ).loc main_arg2)

theorem idx : ∀ t : Fin cfg0.N, win0_0.index t = ![t.val, 5] ∧ win0_1.index t = ![0, 0] ∧ win0_2.index t = ![t.val, 2] :=
  (by decide +kernel : ∀ t : Fin grid0.N, _)

/-- Row `r` of the block of rows that point `t` reads. -/
def row (t : Fin cfg0.N) (r : Fin 512) : Fin 2048 := ⟨t.val * 512 + r.val, by have := t.isLt; have : cfg0.N = 4 := N_0; omega⟩

theorem blkQ (c : Dev nD) (t : Fin cfg0.N) (r : Fin 512) (b : Fin 4) (d : Fin 256) :
    iblk m c 0 t (ix2 r ⟨b * 256 + d, by omega⟩) = Q (tail (p0 m c)) (row t r) b d := by
  unfold Q tail row
  blk_ext [iblk, Gen.V, idx t]

theorem blkK (c : Dev nD) (t : Fin cfg0.N) (b : Fin 4) (j d : Fin 256) :
    iblk m c 1 t (ix2 j ⟨b * 256 + d, by omega⟩) = K (p1 m c) b j d := by
  unfold K
  blk_ext [iblk, Gen.V, idx t]

theorem blkW (c : Dev nD) (t : Fin cfg0.N) (b : Fin 4) (j d : Fin 256) :
    iblk m c 1 t (ix2 j ⟨1024 + (b * 256 + d), by omega⟩) = W (p1 m c) b j d := by
  unfold W
  blk_ext [iblk, Gen.V, idx t]

theorem out_at (c : Dev nD) (t : Fin cfg0.N) (r : Fin 512) (b : Fin 4) (l : Fin 256) :
    outsAt0 m c t (ix2 r ⟨b * 256 + l, by omega⟩) = elem (tail (p0 m c)) (p1 m c) (row t r) b l := by
  have e : elem (tail (p0 m c)) (p1 m c) (row t r) b l = ∑ j : Fin 256, prob (score (fun d => iblk m c 0 t (ix2 r ⟨b * 256 + d, by omega⟩))
      fun j d => iblk m c 1 t (ix2 j ⟨b * 256 + d, by omega⟩)) j * (iblk m c 1 t (ix2 j ⟨1024 + (b * 256 + l), by omega⟩) : EReal) := by
    simp only [blkQ, blkK, blkW]; rfl
  rw [e]
  unfold outsAt0
  frame_out
  canon_tiles x h
  · rw [o3]; exact o_x _ _ 3 _ _ rfl rfl _ _ _ r b l x h0 h1
  · rw [o2]; exact o_x _ _ 2 _ _ rfl rfl _ _ _ r b l x h0 h1
  · rw [o1]; exact o_x _ _ 1 _ _ rfl rfl _ _ _ r b l x h0 h1
  · rw [o0]; exact o_x _ _ 0 _ _ rfl rfl _ _ _ r b l x h0 (h1.trans (Nat.zero_add _).symm)

/-- The array that the call leaves: written in the attention's columns, as it was in the others. -/
theorem arr (c : Dev nD) : (dats m 0 c).arrAt 2 cfg0.N
    = Cert.Reference32Ideal.Read.val_main_v26 (F := Ideal) (p0 m c) (p1 m c) (p2 m c) := by
  have e : (dats m 0 c).arrAt 2 cfg0.N = fun i => if 2 * 1024 ≤ (i 1 : ℕ) then
      Cert.Reference32Ideal.Read.val_main_v26 (F := Ideal) (p0 m c) (p1 m c) (p2 m c) i else Gen.V m c main_v0 i := by
    refine (dats m 0 c).arrAt_eq_of_coversWhere 2 _ (fun β => 2 ≤ β 1) (by decide +kernel) (fun t hf y => ?_)
      (fun j => by blk_simp [Pipeline.Window.cell_apply]; omega)
    blk_simp
    rw [after0_2]
    obtain ⟨r, l', rfl⟩ : ∃ (r : Fin 512) (l : Fin 1024), y = ix2 r l := ⟨y 0, y 1, eq_ix2 y⟩
    obtain ⟨b, l, rfl⟩ : ∃ (b : Fin 4) (l : Fin 256), l' = ⟨b * 256 + l, by omega⟩ :=
      ⟨⟨l' / 256, by omega⟩, ⟨l' % 256, by omega⟩, Fin.ext (by dsimp only; omega)⟩
    refine (out_at m c t r b l).trans ((Cert.Reference32Ideal.Attn.v26_at (p0 m c) (p1 m c) (p2 m c) (row t r) b l).symm.trans ?_)
    unfold row
    blk_ext [idx t]
  rw [e]
  funext i
  obtain ⟨r, k, rfl⟩ : ∃ (r : Fin 2048) (l : Fin 3072), i = ix2 r l := ⟨i 0, i 1, eq_ix2 i⟩
  by_cases hk : 2 * 1024 ≤ k.val
  · exact if_pos hk
  · refine (if_neg hk).trans (Eq.trans ?_ (Cert.Reference32Ideal.Attn.v26_old (p0 m c) (p1 m c) (p2 m c) r ⟨k, by omega⟩).symm)
    entry_read
    rfl

end Cert.Kernel32Ideal.Attn

namespace Cert.Attn

open Idealize.ShloMosaic Idealize.SL.Sem

attribute [local instance] Cert.Kernel32Ideal.Gen.facts Cert.Reference32Ideal.Gen.facts

theorem quiescent_fwd1 : Cert.quiescent_Reference32Ideal := by
  intro m g _
  run_from Cert.Reference32Ideal.Value.run m g
  · exact fun c => ⟨trivial, trivial, trivial⟩
  · exact sem_eq_zero_of_no_sems (by decide) _

/-- The call and the reference's lines leave the same array. -/
theorem fwd1 : Cert.algebraic_Kernel32Ideal_Reference32Ideal := by
  pair_intro
  · run_from Cert.Kernel32Ideal.Value.run_blocks m g
  · refine θ_run_mono (Cert.Reference32Ideal.Value.run m' g') fun r hr c => ?_
    obtain ⟨h26, hk⟩ := hr c
    obtain ⟨e0, e1, e2⟩ := hagree c
    refine ⟨(h26.trans (Cert.Reference32Ideal.Read.val_main_v26_eq (F := Ideal) _ _ _)).trans ?_, hk⟩
    rw [e0, e1, e2]
    exact (Cert.Kernel32Ideal.Attn.arr m c).symm

end Cert.Attn

end
-- ==== Proof.Gmlp.BwdBody.lean ====
/- One group's stores in the gMLP gradient's body, at an index. -/
module

public import proofs.«01_k».proof.Proof.Gmlp.Fwd
public import proofs.«01_k».proof.Proof.Gen.Kernel33Ideal.Skeleton
public import Idealize.ShloMosaic.Lib.Pointwise

@[expose] public section

set_option maxRecDepth 16384

noncomputable section

namespace Cert.Kernel33Ideal.Gmlp

open Idealize.ShloMosaic Idealize.SL.Sem Cert.Norm Cert.Gmlp Cert.Kernel33Ideal Cert.Kernel33Ideal.Gen
open Cert.Kernel29Ideal.Gmlp (ld3_at pick)

theorem root : Named.named (F := Ideal) Cert.Kernel33Ideal.κ "inv_sqrt2" (φ := .f32) 0x3F3504F3#32 = (((Real.sqrt 2)⁻¹ : ℝ) : EReal) :=
  IdealRules.named_const.ideal_named_scalar _ _ _ _ rfl

/-- This kernel's form of the GELU. -/
theorem ge_phi (x : EReal) : x * (Ideal.ofBits .f32 0x3F000000#32
    * (Ideal.ofBits .f32 0x3F800000#32 + Ideal.erf (x * (((Real.sqrt 2)⁻¹ : ℝ) : EReal)))) = ge x := by
  rw [← ge_eq, mul_left_comm, mul_assoc]

theorem pay6_at (x : Vec Ideal S128x2048 .f32) (i : Fin 128) (j : Fin 2048) : k0_pay6 (F := Ideal) x (ix2 i j) = ge (x (ix2 i j)) := by
  rw [← ge_phi]
  unfold k0_pay6 k0_pay5
  rw [root]
  pointwise
  rfl

theorem pay9_at (x : Vec Ideal S128x2048 .f32) (i : Fin 128) (j : Fin 2048) : k0_pay9 (F := Ideal) x (ix2 i j) = ge (x (ix2 i j)) :=
  pay6_at x i j

theorem pay15_at (x : Vec Ideal S128x2048 .bf16) (i : Fin 128) (j : Fin 2048) : k0_pay15 (F := Ideal) x (ix2 i j) = x (ix2 i j) := by
  unfold k0_pay15
  pointwise

section

variable (r : FVec Ideal S128x2048 .f32) (g b : Vec Ideal S1x2048 .f32)

theorem pay11_at (i : Fin 128) (j : Fin 2048) : k0_pay11 (F := Ideal) r (ix2 i j) = centred (fun j => r (ix2 i j)) j := by
  unfold centred k0_pay11
  pointwise
  rfl

theorem pay12_at (i : Fin 128) : k0_pay12 (F := Ideal) r (ix2 i 0) = rinv width (centred fun j => r (ix2 i j)) := by
  unfold k0_pay12
  pointwise
  simp only [pay11_at]
  rfl

theorem pay13_at (i : Fin 128) (j : Fin 2048) : k0_pay13 (F := Ideal) r (ix2 i j)
    = centred (fun j => r (ix2 i j)) j * rinv width (centred fun j => r (ix2 i j)) := by
  rw [← pay11_at, ← pay12_at]
  unfold k0_pay13
  pointwise

theorem pay14_at (i : Fin 128) (j : Fin 2048) : k0_pay14 (F := Ideal) g r b (ix2 i j)
    = normed (fun j => r (ix2 i j)) (fun j => g (ix2 0 j)) (fun j => b (ix2 0 j)) j := by
  unfold normed
  rw [← pay13_at]
  unfold k0_pay14
  pointwise

end

theorem pay16_at (t s : Fin 128) : k0_pay16 (ix2 t s) = if s ≤ t then 1#1 else 0#1 := Cert.Kernel29Ideal.Gmlp.pay5_at t s

section

variable (o : ℕ) (ho : S128x2048.Slices ![0, o] S128x256) (u v d : FVec Ideal S128x2048 .f32)

/-- One group: the mixed rows' gradient, the normed rows' gradient, and the sums for the weights and the biases. -/
def gds : FVec Ideal S128x256 .f32 := mulf (extractStridedSlice S128x256 ![0, o] d ho) (extractStridedSlice S128x256 ![0, o] u ho)

def gdv (w : Vec Ideal S1x128x128 .f32) : FVec Ideal S128x256 .f32 :=
  shapeCast S128x256 (matmul dot_S128x128_S128x256_S128x256_0_0_1_1_n_n none
    (truncf .bf16 (select k0_pay16 (shapeCast S128x128 w shapeCasts_S1x128x128_S128x128) (broadcast S128x128 (Scalar.ofBits (F := Ideal) .f32 0x00000000#32))) bitsLt_bf16_f32)
    (truncf .bf16 (gds o ho u d) bitsLt_bf16_f32) (constant S128x256 .f32 0x00000000#32)) shapeCasts_S128x256_S128x256

def gdw (old : Vec Ideal S1x128x128 .f32) : FVec Ideal S1x128x128 .f32 :=
  shapeCast S1x128x128 (addf (shapeCast S128x128 old shapeCasts_S1x128x128_S128x128)
    (select k0_pay16 (matmul dot_S128x256_S128x256_S128x128_1_1_0_0_n_n none (truncf .bf16 (gds o ho u d) bitsLt_bf16_f32)
      (truncf .bf16 (extractStridedSlice S128x256 ![0, o] v ho) bitsLt_bf16_f32) (constant S128x128 .f32 0x00000000#32))
      (broadcast S128x128 (Scalar.ofBits (F := Ideal) .f32 0x00000000#32)))) shapeCasts_S128x128_S1x128x128

def gdb (old : Vec Ideal S1x128x1 .f32) : FVec Ideal S1x128x1 .f32 :=
  shapeCast S1x128x1 (addf (shapeCast S128x1 old shapeCasts_S1x128x1_S128x1)
    (shapeCast S128x1 (multiReduction .add [1] S128 (gds o ho u d) 0x00000000#32 reduces_S128x256_S128 (.inl rfl) rfl) shapeCasts_S128_S128x1)) shapeCasts_S128x1_S1x128x1

theorem gds_at (i : Fin 128) (l : Fin 256) (h : o + l < 2048) : gds o ho u d (ix2 i l) = d (ix2 i ⟨o + l, h⟩) * u (ix2 i ⟨o + l, h⟩) := by
  unfold gds
  pointwise

theorem gdv_at (w : Vec Ideal S1x128x128 .f32) (s : Fin 128) (l : Fin 256) : gdv o ho u d w (ix2 s l)
    = ∑ t : Fin 128, (if s ≤ t then w (ix3 0 t s) else 0) * gds o ho u d (ix2 t l) := by
  simp only [← pick_le, ← pay16_at]
  unfold gdv
  pointwise

theorem gdw_at (old : Vec Ideal S1x128x128 .f32) (t s : Fin 128) (h : ∀ l : Fin 256, o + l < 2048) : gdw o ho u v d old (ix3 0 t s)
    = old (ix3 0 t s) + if s ≤ t then ∑ l : Fin 256, gds o ho u d (ix2 t l) * v (ix2 s ⟨o + l, h l⟩) else 0 := by
  simp only [← pick_le, ← pay16_at]
  unfold gdw
  pointwise

theorem gdb_at (old : Vec Ideal S1x128x1 .f32) (t : Fin 128) : gdb o ho u d old (ix3 0 t 0)
    = old (ix3 0 t 0) + ∑ l : Fin 256, gds o ho u d (ix2 t l) := by
  unfold gdb
  pointwise

end

section

variable (u v : FVec Ideal S128x2048 .f32) (x : Vec Ideal S128x2048 .bf16) (w old : Vec Ideal S1x128x128 .f32) (b : Vec Ideal S1x128x1 .f32)

theorem v0 : k0_pay21 (F := Ideal) (k0_pay17 w) (k0_pay18 u x) = gdv 0 slices_S128x2048_o0_0_S128x256 u (k0_pay15 x) w := rfl
theorem v1 : k0_pay27 (F := Ideal) u (k0_pay15 x) (k0_pay24 k0_pay16 w) = gdv 256 slices_S128x2048_o0_256_S128x256 u (k0_pay15 x) w := rfl
theorem v2 : k0_pay34 (F := Ideal) u (k0_pay15 x) k0_pay16 w = gdv 512 slices_S128x2048_o0_512_S128x256 u (k0_pay15 x) w := rfl
theorem v3 : k0_pay43 (F := Ideal) (k0_pay40 k0_pay16 w) (k0_pay41 u (k0_pay15 x)) = gdv 768 slices_S128x2048_o0_768_S128x256 u (k0_pay15 x) w := rfl
theorem v4 : k0_pay51 (F := Ideal) u (k0_pay15 x) (k0_pay46 k0_pay16 w) = gdv 1024 slices_S128x2048_o0_1024_S128x256 u (k0_pay15 x) w := rfl
theorem v5 : k0_pay59 (F := Ideal) u (k0_pay15 x) k0_pay16 w = gdv 1280 slices_S128x2048_o0_1280_S128x256 u (k0_pay15 x) w := rfl
theorem v6 : k0_pay68 (F := Ideal) (k0_pay65 u (k0_pay15 x)) (k0_pay67 k0_pay16 w) = gdv 1536 slices_S128x2048_o0_1536_S128x256 u (k0_pay15 x) w := rfl
theorem v7 : k0_pay75 (F := Ideal) u (k0_pay15 x) (k0_pay71 k0_pay16 w) = gdv 1792 slices_S128x2048_o0_1792_S128x256 u (k0_pay15 x) w := rfl

theorem w0 : k0_pay22 (F := Ideal) v k0_pay16 (k0_pay18 u x) old = gdw 0 slices_S128x2048_o0_0_S128x256 u v (k0_pay15 x) old := rfl
theorem w1 : k0_pay28 (F := Ideal) u v (k0_pay15 x) k0_pay16 old = gdw 256 slices_S128x2048_o0_256_S128x256 u v (k0_pay15 x) old := rfl
theorem w2 : k0_pay38 (F := Ideal) k0_pay16 (k0_pay35 old) (k0_pay36 v) (k0_pay37 u (k0_pay15 x)) = gdw 512 slices_S128x2048_o0_512_S128x256 u v (k0_pay15 x) old := rfl
theorem w3 : k0_pay44 (F := Ideal) v k0_pay16 (k0_pay41 u (k0_pay15 x)) old = gdw 768 slices_S128x2048_o0_768_S128x256 u v (k0_pay15 x) old := rfl
theorem w4 : k0_pay52 (F := Ideal) u v (k0_pay15 x) k0_pay16 old = gdw 1024 slices_S128x2048_o0_1024_S128x256 u v (k0_pay15 x) old := rfl
theorem w5 : k0_pay62 (F := Ideal) k0_pay16 (k0_pay60 old) (k0_pay61 u v (k0_pay15 x)) = gdw 1280 slices_S128x2048_o0_1280_S128x256 u v (k0_pay15 x) old := rfl
theorem w6 : k0_pay69 (F := Ideal) v k0_pay16 (k0_pay65 u (k0_pay15 x)) old = gdw 1536 slices_S128x2048_o0_1536_S128x256 u v (k0_pay15 x) old := rfl
theorem w7 : k0_pay76 (F := Ideal) u v (k0_pay15 x) k0_pay16 old = gdw 1792 slices_S128x2048_o0_1792_S128x256 u v (k0_pay15 x) old := rfl

theorem b0 : k0_pay23 (F := Ideal) (k0_pay18 u x) b = gdb 0 slices_S128x2048_o0_0_S128x256 u (k0_pay15 x) b := rfl
theorem b1 : k0_pay30 (F := Ideal) (k0_pay25 u (k0_pay15 x)) (k0_pay29 b) = gdb 256 slices_S128x2048_o0_256_S128x256 u (k0_pay15 x) b := rfl
theorem b2 : k0_pay39 (F := Ideal) (k0_pay32 u (k0_pay15 x)) b = gdb 512 slices_S128x2048_o0_512_S128x256 u (k0_pay15 x) b := rfl
theorem b3 : k0_pay45 (F := Ideal) (k0_pay41 u (k0_pay15 x)) b = gdb 768 slices_S128x2048_o0_768_S128x256 u (k0_pay15 x) b := rfl
theorem b4 : k0_pay55 (F := Ideal) (k0_pay53 b) (k0_pay54 u (k0_pay15 x)) = gdb 1024 slices_S128x2048_o0_1024_S128x256 u (k0_pay15 x) b := rfl
theorem b5 : k0_pay63 (F := Ideal) (k0_pay57 u (k0_pay15 x)) b = gdb 1280 slices_S128x2048_o0_1280_S128x256 u (k0_pay15 x) b := rfl
theorem b6 : k0_pay70 (F := Ideal) (k0_pay65 u (k0_pay15 x)) b = gdb 1536 slices_S128x2048_o0_1536_S128x256 u (k0_pay15 x) b := rfl
theorem b7 : k0_pay78 (F := Ideal) (k0_pay77 u (k0_pay15 x) b) = gdb 1792 slices_S128x2048_o0_1792_S128x256 u (k0_pay15 x) b := rfl

end

/-- The two sums over a block's rows. -/
theorem pay79_at (xh dn : Vec Ideal S128x2048 .f32) (old : Vec Ideal S1x2048 .f32) (j : Fin 2048) :
    k0_pay79 (F := Ideal) xh dn old (ix2 0 j) = old (ix2 0 j) + ∑ s : Fin 128, dn (ix2 s j) * xh (ix2 s j) := by
  unfold k0_pay79
  pointwise

theorem pay80_at (dn : Vec Ideal S128x2048 .f32) (old : Vec Ideal S1x2048 .f32) (j : Fin 2048) :
    k0_pay80 (F := Ideal) dn old (ix2 0 j) = old (ix2 0 j) + ∑ s : Fin 128, dn (ix2 s j) := by
  unfold k0_pay80
  pointwise

/-! ## The blocks of one point -/

section

variable (x0 x1 : Vec Ideal S128x2048 .f32) (x2 : Vec Ideal S128x2048 .bf16) (x3 x4 : Vec Ideal S1x2048 .f32) (x5 : Vec Ideal S8x128x128 .f32)

abbrev col (g : Fin 8) (l : Fin 256) : Fin 2048 := ⟨g * 256 + l, by omega⟩

def bds (i : Fin 128) (j : Fin 2048) : EReal := x2 (ix2 i j) * ge (x0 (ix2 i j))

/-- One row of the second part's GELU. -/
def bv (i : Fin 128) : Fin 2048 → EReal := fun j => ge (x1 (ix2 i j))
def bxh (i : Fin 128) (j : Fin 2048) : EReal := centred (bv x1 i) j * rinv width (centred (bv x1 i))
def bnr (i : Fin 128) : Fin 2048 → EReal := normed (bv x1 i) (fun j => x3 (ix2 0 j)) (fun j => x4 (ix2 0 j))

def bdv (s : Fin 128) (g : Fin 8) (l : Fin 256) : EReal :=
  ∑ t : Fin 128, (if s ≤ t then x5 (ix3 g t s) else 0) * bds x0 x2 t (col g l)

def bdw (g : Fin 8) (t s : Fin 128) : EReal :=
  if s ≤ t then ∑ l : Fin 256, bds x0 x2 t (col g l) * bnr x1 x3 x4 s (col g l) else 0

def bdb (g : Fin 8) (t : Fin 128) : EReal := ∑ l : Fin 256, bds x0 x2 t (col g l)

def bdn (g : Fin 8) (l : Fin 256) : EReal := ∑ s : Fin 128, bdv x0 x2 x5 s g l
def bdg (g : Fin 8) (l : Fin 256) : EReal := ∑ s : Fin 128, bdv x0 x2 x5 s g l * bxh x1 s (col g l)

theorem gds_blk (g : Fin 8) (o : ℕ) (ho : o = g.val * 256) (hs) (i : Fin 128) (l : Fin 256) :
    gds o hs (k0_pay6 x0) (k0_pay15 x2) (ix2 i l) = bds x0 x2 i (col g l) := by
  subst ho
  rw [gds_at _ _ _ _ _ _ (by omega), pay6_at, pay15_at]
  rfl

theorem xh_blk (i : Fin 128) (j : Fin 2048) : k0_pay13 (F := Ideal) (k0_pay9 x1) (ix2 i j) = bxh x1 i j := by
  rw [pay13_at]
  unfold bxh bv
  simp only [pay9_at]

theorem nr_blk (i : Fin 128) (j : Fin 2048) : k0_pay14 (F := Ideal) x3 (k0_pay9 x1) x4 (ix2 i j) = bnr x1 x3 x4 i j := by
  rw [pay14_at]
  unfold bnr bv
  simp only [pay9_at]

/-- What one group's store of the normed rows' gradient leaves. -/
theorem dv_x (g' : Fin 8) (o : ℕ) (ho : o = g'.val * 256) (hs) (q : ℕ) (hq : q = g') (i1)
    (s : Fin 128) (g : Fin 8) (l : Fin 256) (x : S128x256.Idx) (h0 : s.val = (x 0).val) (h1 : g.val * 256 + l.val = o + (x 1).val) :
    gdv o hs (k0_pay6 x0) (k0_pay15 x2)
        (View.ld (S := S8x128x128) (e' := .f32) x5 (Rect.unit (s := S8x128x128) ![q, 0, 0] ![1, 128, 128] i1)) x
      = bdv x0 x2 x5 s g l := by
  obtain ⟨rfl, hl⟩ := pick ho (x 1).isLt h1
  obtain rfl : x = ix2 s l := by
    funext a
    match a with
    | ⟨0, _⟩ => exact Fin.ext h0.symm
    | ⟨1, _⟩ => exact Fin.ext hl.symm
  rw [gdv_at]
  unfold bdv
  have e5 : ∀ t : Fin 128, _ = x5 (ix3 g t s) := fun t => ld3_at x5 g q hq i1 t s
  simp only [e5, gds_blk x0 x2 g o ho]

/-- What one group's store of its weights' gradient leaves: the block before it and the point's share. -/
theorem dw_x (A : Vec Ideal S8x128x128 .f32) (g' : Fin 8) (o : ℕ) (ho : o = g'.val * 256) (hs) (q : ℕ) (hq : q = g') (i1)
    (g : Fin 8) (t s : Fin 128) (x : S1x128x128.Idx) (h0 : g.val = q + (x 0).val) (h1 : t.val = (x 1).val) (h2 : s.val = (x 2).val) :
    gdw o hs (k0_pay6 x0) (k0_pay14 x3 (k0_pay9 x1) x4) (k0_pay15 x2)
        (View.ld (S := S8x128x128) (e' := .f32) A (Rect.unit (s := S8x128x128) ![q, 0, 0] ![1, 128, 128] i1)) x
      = A (ix3 g t s) + bdw x0 x1 x2 x3 x4 g t s := by
  have hx : (x 0).val = 0 := Nat.lt_one_iff.mp (x 0).isLt
  obtain rfl : g = g' := Fin.ext (by omega)
  obtain rfl : x = ix3 0 t s := by
    funext a
    match a with
    | ⟨0, _⟩ => exact Fin.ext hx
    | ⟨1, _⟩ => exact Fin.ext h1.symm
    | ⟨2, _⟩ => exact Fin.ext h2.symm
  rw [gdw_at _ _ _ _ _ _ _ _ (fun l => by omega)]
  have e : _ = A (ix3 g t s) := ld3_at A g q hq i1 t s
  subst ho
  unfold bdw
  simp only [e, gds_blk x0 x2 g _ rfl, nr_blk]

/-- What one group's store of its biases' gradient leaves. -/
theorem db_x (A : Vec Ideal S8x128x1 .f32) (g' : Fin 8) (o : ℕ) (ho : o = g'.val * 256) (hs) (q : ℕ) (hq : q = g') (i1)
    (g : Fin 8) (t : Fin 128) (x : S1x128x1.Idx) (h0 : g.val = q + (x 0).val) (h1 : t.val = (x 1).val) :
    gdb o hs (k0_pay6 x0) (k0_pay15 x2)
        (View.ld (S := S8x128x1) (e' := .f32) A (Rect.unit (s := S8x128x1) ![q, 0, 0] ![1, 128, 1] i1)) x
      = A (ix3 g t 0) + bdb x0 x2 g t := by
  have hx : (x 0).val = 0 := Nat.lt_one_iff.mp (x 0).isLt
  have hz : (x 2).val = 0 := Nat.lt_one_iff.mp (x 2).isLt
  obtain rfl : g = g' := Fin.ext (by omega)
  obtain rfl : x = ix3 0 t 0 := by
    funext a
    match a with
    | ⟨0, _⟩ => exact Fin.ext hx
    | ⟨1, _⟩ => exact Fin.ext h1.symm
    | ⟨2, _⟩ => exact Fin.ext hz
  rw [gdb_at]
  have e : _ = A (ix3 g t 0) := ld3_at A g q hq i1 t 0
  unfold bdb
  simp only [e, gds_blk x0 x2 g o ho]

end

end Cert.Kernel33Ideal.Gmlp

end
-- ==== Proof.Gmlp.BwdPoint.lean ====
/- What one grid point of the gMLP gradient's kernel leaves in its four parameter blocks, at an index. -/
module

public import proofs.«01_k».proof.Proof.Attn.Point
public import proofs.«01_k».proof.Proof.Gmlp.BwdBody
public import proofs.«01_k».proof.Proof.Gen.Kernel33Ideal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel33Ideal.Gmlp

open Idealize.ShloMosaic Idealize.SL.Sem Cert.Norm Cert.Gmlp Cert.Kernel33Ideal Cert.Kernel33Ideal.Gen
open Cert.KernelIdeal.Attn (canon_init)

/-- The fills are zero. -/
theorem fill_w (g : Fin 8) (t s : Fin 128) (x : EReal) : k0_pay1 (F := Ideal) (ix3 g t s) + x = x := by
  have e : k0_pay1 (F := Ideal) (ix3 g t s) = 0 := by
    unfold k0_pay1
    pointwise
  exact (congrArg (· + x) e).trans (zero_add x)

theorem fill_b (g : Fin 8) (t : Fin 128) (x : EReal) : k0_pay2 (F := Ideal) (ix3 g t 0) + x = x := by
  have e : k0_pay2 (F := Ideal) (ix3 g t 0) = 0 := by
    unfold k0_pay2
    pointwise
  exact (congrArg (· + x) e).trans (zero_add x)

theorem fill_r (j : Fin 2048) (x : EReal) : k0_pay3 (F := Ideal) (ix2 0 j) + x = x := by
  have e : k0_pay3 (F := Ideal) (ix2 0 j) = 0 := by
    unfold k0_pay3
    pointwise
  exact (congrArg (· + x) e).trans (zero_add x)

/-- The scratch after the eight groups' stores. -/
def scr (x0 : Vec Ideal S128x2048 .f32) (x2 : Vec Ideal S128x2048 .bf16) (x5 : Vec Ideal S8x128x128 .f32) : List (View.Piece (Elt Ideal) S128x2048 .f32) :=
  [⟨Rect.unit (s := S128x2048) ![0, 1792] ![128, 256] inb_S128x2048_S128x256_0_1792, gdv 1792 slices_S128x2048_o0_1792_S128x256 (k0_pay6 x0) (k0_pay15 x2)
      (View.ld (S := S8x128x128) (e' := .f32) x5 (Rect.unit (s := S8x128x128) ![7, 0, 0] ![1, 128, 128] inb_S8x128x128_S1x128x128_7_0_0))⟩,
    ⟨Rect.unit (s := S128x2048) ![0, 1536] ![128, 256] inb_S128x2048_S128x256_0_1536, gdv 1536 slices_S128x2048_o0_1536_S128x256 (k0_pay6 x0) (k0_pay15 x2)
      (View.ld (S := S8x128x128) (e' := .f32) x5 (Rect.unit (s := S8x128x128) ![6, 0, 0] ![1, 128, 128] inb_S8x128x128_S1x128x128_6_0_0))⟩,
    ⟨Rect.unit (s := S128x2048) ![0, 1280] ![128, 256] inb_S128x2048_S128x256_0_1280, gdv 1280 slices_S128x2048_o0_1280_S128x256 (k0_pay6 x0) (k0_pay15 x2)
      (View.ld (S := S8x128x128) (e' := .f32) x5 (Rect.unit (s := S8x128x128) ![5, 0, 0] ![1, 128, 128] inb_S8x128x128_S1x128x128_5_0_0))⟩,
    ⟨Rect.unit (s := S128x2048) ![0, 1024] ![128, 256] inb_S128x2048_S128x256_0_1024, gdv 1024 slices_S128x2048_o0_1024_S128x256 (k0_pay6 x0) (k0_pay15 x2)
      (View.ld (S := S8x128x128) (e' := .f32) x5 (Rect.unit (s := S8x128x128) ![4, 0, 0] ![1, 128, 128] inb_S8x128x128_S1x128x128_4_0_0))⟩,
    ⟨Rect.unit (s := S128x2048) ![0, 768] ![128, 256] inb_S128x2048_S128x256_0_768, gdv 768 slices_S128x2048_o0_768_S128x256 (k0_pay6 x0) (k0_pay15 x2)
      (View.ld (S := S8x128x128) (e' := .f32) x5 (Rect.unit (s := S8x128x128) ![3, 0, 0] ![1, 128, 128] inb_S8x128x128_S1x128x128_3_0_0))⟩,
    ⟨Rect.unit (s := S128x2048) ![0, 512] ![128, 256] inb_S128x2048_S128x256_0_512, gdv 512 slices_S128x2048_o0_512_S128x256 (k0_pay6 x0) (k0_pay15 x2)
      (View.ld (S := S8x128x128) (e' := .f32) x5 (Rect.unit (s := S8x128x128) ![2, 0, 0] ![1, 128, 128] inb_S8x128x128_S1x128x128_2_0_0))⟩,
    ⟨Rect.unit (s := S128x2048) ![0, 256] ![128, 256] inb_S128x2048_S128x256_0_256, gdv 256 slices_S128x2048_o0_256_S128x256 (k0_pay6 x0) (k0_pay15 x2)
      (View.ld (S := S8x128x128) (e' := .f32) x5 (Rect.unit (s := S8x128x128) ![1, 0, 0] ![1, 128, 128] inb_S8x128x128_S1x128x128_1_0_0))⟩,
    ⟨Rect.unit (s := S128x2048) ![0, 0] ![128, 256] inb_S128x2048_S128x256_0_0, gdv 0 slices_S128x2048_o0_0_S128x256 (k0_pay6 x0) (k0_pay15 x2)
      (View.ld (S := S8x128x128) (e' := .f32) x5 (Rect.unit (s := S8x128x128) ![0, 0, 0] ![1, 128, 128] inb_S8x128x128_S1x128x128_0_0_0))⟩]

theorem scr_at (x0 : Vec Ideal S128x2048 .f32) (x2 : Vec Ideal S128x2048 .bf16) (x5 : Vec Ideal S8x128x128 .f32) (s : Fin 128) (g : Fin 8) (l : Fin 256) :
    (View.whole cc0_scratch0).readCov (scr x0 x2 x5) (Rect.unit (s := S128x2048) ![0, 0] ![128, 2048] inb_S128x2048_S128x2048_0_0).toLoadRect (ix2 s (col g l))
      = bdv x0 x2 x5 s g l := by
  rw [View.readCov_eq_canon']
  refine (congrArg (View.canon (scr x0 x2 x5)) (show _ = ix2 s (col g l) by idx_ext)).trans ?_
  unfold scr col
  canon_tiles x h
  · exact dv_x x0 x2 x5 7 _ rfl _ 7 rfl _ s g l x h0 h1
  · exact dv_x x0 x2 x5 6 _ rfl _ 6 rfl _ s g l x h0 h1
  · exact dv_x x0 x2 x5 5 _ rfl _ 5 rfl _ s g l x h0 h1
  · exact dv_x x0 x2 x5 4 _ rfl _ 4 rfl _ s g l x h0 h1
  · exact dv_x x0 x2 x5 3 _ rfl _ 3 rfl _ s g l x h0 h1
  · exact dv_x x0 x2 x5 2 _ rfl _ 2 rfl _ s g l x h0 h1
  · exact dv_x x0 x2 x5 1 _ rfl _ 1 rfl _ s g l x h0 h1
  · exact dv_x x0 x2 x5 0 _ rfl _ 0 rfl _ s g l x h0 (h1.trans (Nat.zero_add _).symm)

/-- The two sums over a block's rows, of the scratch. -/
theorem sum_g (x0 x1 : Vec Ideal S128x2048 .f32) (x2 : Vec Ideal S128x2048 .bf16) (x5 : Vec Ideal S8x128x128 .f32) (old : Vec Ideal S1x2048 .f32) (g : Fin 8) (l : Fin 256) :
    k0_pay79 (F := Ideal) (k0_pay13 (k0_pay9 x1)) ((View.whole cc0_scratch0).readCov (scr x0 x2 x5)
        (Rect.unit (s := S128x2048) ![0, 0] ![128, 2048] inb_S128x2048_S128x2048_0_0).toLoadRect) old (ix2 0 (col g l))
      = old (ix2 0 (col g l)) + bdg x0 x1 x2 x5 g l := by
  rw [pay79_at]
  unfold bdg
  refine congrArg _ (Finset.sum_congr rfl fun s _ => congrArg₂ _ (scr_at x0 x2 x5 s g l) (xh_blk x1 s _))

theorem sum_n (x0 : Vec Ideal S128x2048 .f32) (x2 : Vec Ideal S128x2048 .bf16) (x5 : Vec Ideal S8x128x128 .f32) (old : Vec Ideal S1x2048 .f32) (g : Fin 8) (l : Fin 256) :
    k0_pay80 (F := Ideal) ((View.whole cc0_scratch0).readCov (scr x0 x2 x5)
        (Rect.unit (s := S128x2048) ![0, 0] ![128, 2048] inb_S128x2048_S128x2048_0_0).toLoadRect) old (ix2 0 (col g l))
      = old (ix2 0 (col g l)) + bdn x0 x2 x5 g l := by
  rw [pay80_at]
  unfold bdn
  refine congrArg _ (Finset.sum_congr rfl fun s _ => scr_at x0 x2 x5 s g l)

variable (m : (ℓ : Loc nD τ sig) → Buf (Elt Ideal) ℓ)

/-- The weights' gradient after the first point, and after a later one. -/
theorem first_w (c : Dev nD) (p : Fin cfg0.N) (h : p.val % 16 = 0) (g : Fin 8) (t s : Fin 128) :
    (outsAt0 m c p.val p.isLt).2.1 (ix3 g t s) = bdw (X0_0 m c p) (X0_1 m c p) (X0_2 m c p) (iblk m c 3 p) (iblk m c 4 p) g t s := by
  rw [outsAt0_A m c p h]; frame_out
  simp (disch := decide) only [↓View.readCov_skip, ↓View.readCov_fill]
  refine (canon_init _ _ [_, _, _, _, _, _, _, _] (View.cover_of_tiled_head _ _ _ (by rfl) _)).trans ?_
  canon_tiles x h
  · rw [w7]; exact (dw_x _ _ _ _ _ _ 7 _ rfl _ 7 rfl _ g t s x h0 h1 h2).trans (fill_w _ _ _ _)
  · rw [w6]; exact (dw_x _ _ _ _ _ _ 6 _ rfl _ 6 rfl _ g t s x h0 h1 h2).trans (fill_w _ _ _ _)
  · rw [w5]; exact (dw_x _ _ _ _ _ _ 5 _ rfl _ 5 rfl _ g t s x h0 h1 h2).trans (fill_w _ _ _ _)
  · rw [w4]; exact (dw_x _ _ _ _ _ _ 4 _ rfl _ 4 rfl _ g t s x h0 h1 h2).trans (fill_w _ _ _ _)
  · rw [w3]; exact (dw_x _ _ _ _ _ _ 3 _ rfl _ 3 rfl _ g t s x h0 h1 h2).trans (fill_w _ _ _ _)
  · rw [w2]; exact (dw_x _ _ _ _ _ _ 2 _ rfl _ 2 rfl _ g t s x h0 h1 h2).trans (fill_w _ _ _ _)
  · rw [w1]; exact (dw_x _ _ _ _ _ _ 1 _ rfl _ 1 rfl _ g t s x h0 h1 h2).trans (fill_w _ _ _ _)
  · rw [w0]; exact (dw_x _ _ _ _ _ _ 0 _ rfl _ 0 rfl _ g t s x (h0.trans (Nat.zero_add _).symm) h1 h2).trans (fill_w _ _ _ _)

theorem next_w (c : Dev nD) (p : Fin cfg0.N) (h : ¬p.val % 16 = 0) (g : Fin 8) (t s : Fin 128) :
    (outsAt0 m c p.val p.isLt).2.1 (ix3 g t s)
      = (outsAt0 m c (p.val - 1) (Nat.lt_of_le_of_lt (Nat.sub_le _ _) p.isLt)).2.1 (ix3 g t s) + bdw (X0_0 m c p) (X0_1 m c p) (X0_2 m c p) (iblk m c 3 p) (iblk m c 4 p) g t s := by
  rw [outsAt0_B m c p h]; frame_out
  canon_tiles x h
  · rw [w7]; exact dw_x _ _ _ _ _ _ 7 _ rfl _ 7 rfl _ g t s x h0 h1 h2
  · rw [w6]; exact dw_x _ _ _ _ _ _ 6 _ rfl _ 6 rfl _ g t s x h0 h1 h2
  · rw [w5]; exact dw_x _ _ _ _ _ _ 5 _ rfl _ 5 rfl _ g t s x h0 h1 h2
  · rw [w4]; exact dw_x _ _ _ _ _ _ 4 _ rfl _ 4 rfl _ g t s x h0 h1 h2
  · rw [w3]; exact dw_x _ _ _ _ _ _ 3 _ rfl _ 3 rfl _ g t s x h0 h1 h2
  · rw [w2]; exact dw_x _ _ _ _ _ _ 2 _ rfl _ 2 rfl _ g t s x h0 h1 h2
  · rw [w1]; exact dw_x _ _ _ _ _ _ 1 _ rfl _ 1 rfl _ g t s x h0 h1 h2
  · rw [w0]; exact dw_x _ _ _ _ _ _ 0 _ rfl _ 0 rfl _ g t s x (h0.trans (Nat.zero_add _).symm) h1 h2

/-- The biases' gradient after the first point, and after a later one. -/
theorem first_b (c : Dev nD) (p : Fin cfg0.N) (h : p.val % 16 = 0) (g : Fin 8) (t : Fin 128) :
    (outsAt0 m c p.val p.isLt).2.2.1 (ix3 g t 0) = bdb (X0_0 m c p) (X0_2 m c p) g t := by
  rw [outsAt0_A m c p h]; frame_out
  simp (disch := decide) only [↓View.readCov_skip, ↓View.readCov_fill]
  refine (canon_init _ _ [_, _, _, _, _, _, _, _] (View.cover_of_tiled_head _ _ _ (by rfl) _)).trans ?_
  canon_tiles x h
  · rw [b7]; exact (db_x _ _ _ 7 _ rfl _ 7 rfl _ g t x h0 h1).trans (fill_b _ _ _)
  · rw [b6]; exact (db_x _ _ _ 6 _ rfl _ 6 rfl _ g t x h0 h1).trans (fill_b _ _ _)
  · rw [b5]; exact (db_x _ _ _ 5 _ rfl _ 5 rfl _ g t x h0 h1).trans (fill_b _ _ _)
  · rw [b4]; exact (db_x _ _ _ 4 _ rfl _ 4 rfl _ g t x h0 h1).trans (fill_b _ _ _)
  · rw [b3]; exact (db_x _ _ _ 3 _ rfl _ 3 rfl _ g t x h0 h1).trans (fill_b _ _ _)
  · rw [b2]; exact (db_x _ _ _ 2 _ rfl _ 2 rfl _ g t x h0 h1).trans (fill_b _ _ _)
  · rw [b1]; exact (db_x _ _ _ 1 _ rfl _ 1 rfl _ g t x h0 h1).trans (fill_b _ _ _)
  · rw [b0]; exact (db_x _ _ _ 0 _ rfl _ 0 rfl _ g t x (h0.trans (Nat.zero_add _).symm) h1).trans (fill_b _ _ _)

theorem next_b (c : Dev nD) (p : Fin cfg0.N) (h : ¬p.val % 16 = 0) (g : Fin 8) (t : Fin 128) :
    (outsAt0 m c p.val p.isLt).2.2.1 (ix3 g t 0)
      = (outsAt0 m c (p.val - 1) (Nat.lt_of_le_of_lt (Nat.sub_le _ _) p.isLt)).2.2.1 (ix3 g t 0) + bdb (X0_0 m c p) (X0_2 m c p) g t := by
  rw [outsAt0_B m c p h]; frame_out
  canon_tiles x h
  · rw [b7]; exact db_x _ _ _ 7 _ rfl _ 7 rfl _ g t x h0 h1
  · rw [b6]; exact db_x _ _ _ 6 _ rfl _ 6 rfl _ g t x h0 h1
  · rw [b5]; exact db_x _ _ _ 5 _ rfl _ 5 rfl _ g t x h0 h1
  · rw [b4]; exact db_x _ _ _ 4 _ rfl _ 4 rfl _ g t x h0 h1
  · rw [b3]; exact db_x _ _ _ 3 _ rfl _ 3 rfl _ g t x h0 h1
  · rw [b2]; exact db_x _ _ _ 2 _ rfl _ 2 rfl _ g t x h0 h1
  · rw [b1]; exact db_x _ _ _ 1 _ rfl _ 1 rfl _ g t x h0 h1
  · rw [b0]; exact db_x _ _ _ 0 _ rfl _ 0 rfl _ g t x (h0.trans (Nat.zero_add _).symm) h1

/-- The gain's gradient after the first point, and after a later one. -/
theorem first_g (c : Dev nD) (p : Fin cfg0.N) (h : p.val % 16 = 0) (g : Fin 8) (l : Fin 256) :
    (outsAt0 m c p.val p.isLt).2.2.2.1 (ix2 0 (col g l)) = bdg (X0_0 m c p) (X0_1 m c p) (X0_2 m c p) (iblk m c 5 p) g l := by
  rw [outsAt0_A m c p h]; frame_out
  exact (sum_g _ _ _ _ _ g l).trans (fill_r _ _)

theorem next_g (c : Dev nD) (p : Fin cfg0.N) (h : ¬p.val % 16 = 0) (g : Fin 8) (l : Fin 256) :
    (outsAt0 m c p.val p.isLt).2.2.2.1 (ix2 0 (col g l))
      = (outsAt0 m c (p.val - 1) (Nat.lt_of_le_of_lt (Nat.sub_le _ _) p.isLt)).2.2.2.1 (ix2 0 (col g l)) + bdg (X0_0 m c p) (X0_1 m c p) (X0_2 m c p) (iblk m c 5 p) g l := by
  rw [outsAt0_B m c p h]; frame_out
  exact sum_g _ _ _ _ _ g l

/-- The shift's gradient after the first point, and after a later one. -/
theorem first_n (c : Dev nD) (p : Fin cfg0.N) (h : p.val % 16 = 0) (g : Fin 8) (l : Fin 256) :
    (outsAt0 m c p.val p.isLt).2.2.2.2 (ix2 0 (col g l)) = bdn (X0_0 m c p) (X0_2 m c p) (iblk m c 5 p) g l := by
  rw [outsAt0_A m c p h]; frame_out
  exact (sum_n _ _ _ _ g l).trans (fill_r _ _)

theorem next_n (c : Dev nD) (p : Fin cfg0.N) (h : ¬p.val % 16 = 0) (g : Fin 8) (l : Fin 256) :
    (outsAt0 m c p.val p.isLt).2.2.2.2 (ix2 0 (col g l))
      = (outsAt0 m c (p.val - 1) (Nat.lt_of_le_of_lt (Nat.sub_le _ _) p.isLt)).2.2.2.2 (ix2 0 (col g l)) + bdn (X0_0 m c p) (X0_2 m c p) (iblk m c 5 p) g l := by
  rw [outsAt0_B m c p h]; frame_out
  exact sum_n _ _ _ _ g l

end Cert.Kernel33Ideal.Gmlp

end
-- ==== Proof.Gmlp.BwdRef.lean ====
/- The gMLP mixer's gradient with respect to its four parameters, from the reference's lines. -/
module

public import proofs.«01_k».proof.Proof.Gmlp.Fwd
public import proofs.«01_k».proof.Proof.Gen.Reference33Ideal
public import proofs.«01_k».proof.Proof.Gen.Reference33Ideal.Read
public import Idealize.ShloMosaic.Lib.Pointwise

@[expose] public section

set_option maxRecDepth 16384

noncomputable section

namespace Cert.Gmlp

open Idealize.ShloMosaic

/-- The host's sum along the first and the last of four axes. -/
theorem reduce03 {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (a : Fin n1) (b : Fin n2) :
    Ideal.hostReduceAdd h v init (ix2 a b) = init + ∑ c : Fin n0, ∑ l : Fin n3, v (ix4 c a b l) := by
  refine congrArg (init + ·) ((Finset.sum_filter_eq_sum_of_fiber _ (fun k : Fin n0 × Fin n3 => (ix4 k.1 a b k.2 : (⟨4, ![n0, n1, n2, n3]⟩ : Shape).Idx))
    (fun _ _ e => Prod.ext (congrFun e 0) (congrFun e 3)) (fun i => ⟨fun e => ⟨(i 0, i 3), ?_⟩, ?_⟩) v).trans ?_)
  · funext q; apply Fin.ext
    match q with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext q; apply Fin.ext
    match q with
    | ⟨0, _⟩ => rfl
    | ⟨1, _⟩ => rfl
  · simp only [Fintype.sum_prod_type]

end Cert.Gmlp

namespace Cert.Reference33Ideal.Gmlp

open Idealize.ShloMosaic Idealize.SL.Sem Cert.Norm Cert.Gmlp Cert.Reference33Ideal Cert.Reference33Ideal.Gen Cert.Reference33Ideal.Read
open Cert.Reference29Ideal.Gmlp (U R wt)

variable (x0 : (⟨S2048x5120, .f32⟩ : BufTy).Contents (Elt Ideal)) (x1 : (⟨S2048x3072, .bf16⟩ : BufTy).Contents (Elt Ideal))
  (x2 x3 : (⟨S1x2048, .f32⟩ : BufTy).Contents (Elt Ideal)) (x4 : (⟨S8x128x128, .f32⟩ : BufTy).Contents (Elt Ideal))

/-- A row and a column of the arrays: the block and the place in it. -/
abbrev row (c : Fin 16) (i : Fin 128) : Fin 2048 := ⟨c * 128 + i, by omega⟩
abbrev col (g : Fin 8) (l : Fin 256) : Fin 2048 := ⟨g * 256 + l, by omega⟩

/-- The gradient of the mixed rows. -/
def ds (i j : Fin 2048) : EReal := U x0 i j * x1 (ix2 i ⟨j, by omega⟩)

/-- The normed row, before and after its gain and its shift. -/
def xh (i j : Fin 2048) : EReal := centred (R x0 i) j * rinv width (centred (R x0 i))
def nr (i : Fin 2048) : Fin 2048 → EReal := normed (R x0 i) (fun j => x2 (ix2 0 j)) (fun j => x3 (ix2 0 j))

/-- The gradient of the normed rows. -/
def dv (c : Fin 16) (s : Fin 128) (g : Fin 8) (l : Fin 256) : EReal := ∑ t : Fin 128, ds x0 x1 (row c t) (col g l) * wt x4 g t s

theorem v10_at (i j : Fin 2048) : val_main_v10 (F := Ideal) x0 (ix2 i j) = U x0 i j :=
  Cert.Reference29Ideal.Gmlp.v10_at x0 i j

theorem v40_at (c : Fin 16) (s : Fin 128) (g : Fin 8) (l : Fin 256) : val_main_v40 (F := Ideal) x0 x2 x3 (ix4 c s g l) = nr x0 x2 x3 (row c s) (col g l) :=
  Cert.Reference29Ideal.Gmlp.v40_at x0 x2 x3 c s g l

theorem v35_at (i j : Fin 2048) : val_main_v35 (F := Ideal) x0 (ix2 i j) = xh x0 i j := by
  have e25 : val_main_v25 (F := Ideal) x0 (ix2 i j) = centred (R x0 i) j := Cert.Reference29Ideal.Gmlp.v25_at x0 i j
  have e33 : val_main_v33 (F := Ideal) x0 (ix2 i 0) = rinv width (centred (R x0 i)) := Cert.Reference29Ideal.Gmlp.v33_at x0 i
  unfold xh
  rw [← e25, ← e33]
  unfold val_main_v35 val_main_v34
  pointwise

theorem v451_at (g : Fin 8) (t s : Fin 128) : val_main_v45_1 (F := Ideal) (ix3 g t s) = if s ≤ t then 1#1 else 0#1 := by
  refine Eq.trans ?_ (Cert.Reference29Ideal.Gmlp.v42_at t s)
  unfold val_main_v45_1 val_main_v43
  pointwise
  rfl

theorem v450_at (g : Fin 8) (t s : Fin 128) : val_main_v45_0 (F := Ideal) x4 (ix3 g t s) = wt x4 g t s := by
  unfold wt
  rw [← pick_le, ← v451_at g]
  unfold val_main_v45_0 val_main_v44 val_main_cst_10
  pointwise

theorem v59_at (c : Fin 16) (t : Fin 128) (g : Fin 8) (l : Fin 256) :
    val_main_v59 (F := Ideal) x0 x1 (ix4 c t g l) = ds x0 x1 (row c t) (col g l) := by
  unfold ds
  rw [← v10_at]
  unfold val_main_v59 val_main_v58 val_main_v57 val_main_v56
  pointwise

theorem v67_at (g : Fin 8) (c : Fin 16) (l : Fin 256) (t : Fin 128) :
    val_main_v67 (F := Ideal) x0 x1 (ix4 g c l t) = ds x0 x1 (row c t) (col g l) := by
  rw [← v59_at]
  unfold val_main_v67
  pointwise

theorem v70_at (c : Fin 16) (s : Fin 128) (g : Fin 8) (l : Fin 256) :
    val_main_v70 (F := Ideal) x0 x1 x4 (ix4 c s g l) = dv x0 x1 x4 c s g l := by
  unfold dv
  simp only [← v67_at, ← v450_at]
  unfold val_main_v70 val_main_v69
  pointwise

theorem v72_at (c : Fin 16) (s : Fin 128) (g : Fin 8) (l : Fin 256) :
    val_main_v72 (F := Ideal) x0 x1 x4 (ix2 (row c s) (col g l)) = dv x0 x1 x4 c s g l := by
  rw [← v70_at]
  unfold val_main_v72
  pointwise
  exact congrArg (val_main_v70 (F := Ideal) x0 x1 x4) (by idx_ext <;> omega)

theorem v60_at (g : Fin 8) (t : Fin 128) : val_main_v60 (F := Ideal) x0 x1 (ix2 t g) = ∑ c : Fin 16, ∑ l : Fin 256, ds x0 x1 (row c t) (col g l) := by
  simp only [← v59_at]
  unfold val_main_v60 val_main_cst_11
  refine (reduce03 _ _ _ _ _).trans ?_
  pointwise

theorem v62_at (g : Fin 8) (t : Fin 128) : val_main_v62 (F := Ideal) x0 x1 (ix2 t g) = val_main_v60 (F := Ideal) x0 x1 (ix2 t g) := by
  unfold val_main_v62 val_main_cst_12
  refine (reduce03 _ _ _ _ _).trans ?_
  unfold val_main_v61
  pointwise
  exact (Fin.sum_univ_one _).trans (Fin.sum_univ_one _)

theorem v66_at (g : Fin 8) (t : Fin 128) : val_main_v66 (F := Ideal) x0 x1 (ix3 g t 0) = ∑ c : Fin 16, ∑ l : Fin 256, ds x0 x1 (row c t) (col g l) := by
  rw [← v60_at, ← v62_at]
  unfold val_main_v66 val_main_v65 val_main_v64 val_main_v63 val_main_cst_13
  pointwise
  exact Fin.sum_univ_one _

theorem v71_at (g : Fin 8) (t s : Fin 128) : val_main_v71 (F := Ideal) x0 x1 x2 x3 (ix3 g t s)
    = if s ≤ t then ∑ c : Fin 16, ∑ l : Fin 256, ds x0 x1 (row c t) (col g l) * nr x0 x2 x3 (row c s) (col g l) else 0 := by
  rw [← pick_le, ← v451_at g]
  simp only [← v67_at, ← v40_at]
  unfold val_main_v71 val_main_v68 val_main_call2_v0 val_main_call2_cst
  pointwise

/-- A sum over the rows is a sum over the blocks of sums over a block's rows. -/
theorem sum_rows (f : Fin 2048 → EReal) : ∑ i, f i = ∑ c : Fin 16, ∑ s : Fin 128, f (row c s) := Fin.sum_univ_tiles 16 128 rfl f

theorem v74_at (g : Fin 8) (l : Fin 256) : val_main_v74 (F := Ideal) x0 x1 x4 (ix2 0 (col g l)) = ∑ c : Fin 16, ∑ s : Fin 128, dv x0 x1 x4 c s g l := by
  simp only [← v72_at]
  refine Eq.trans ?_ (sum_rows fun i => val_main_v72 (F := Ideal) x0 x1 x4 (ix2 i (col g l)))
  unfold val_main_v74 val_main_v73 val_main_cst_14
  pointwise

theorem v77_at (g : Fin 8) (l : Fin 256) : val_main_v77 (F := Ideal) x0 x1 x4 (ix2 0 (col g l))
    = ∑ c : Fin 16, ∑ s : Fin 128, dv x0 x1 x4 c s g l * xh x0 (row c s) (col g l) := by
  simp only [← v72_at, ← v35_at]
  refine Eq.trans ?_ (sum_rows fun i => val_main_v72 (F := Ideal) x0 x1 x4 (ix2 i (col g l)) * val_main_v35 (F := Ideal) x0 (ix2 i (col g l)))
  unfold val_main_v77 val_main_v76 val_main_v75 val_main_cst_15
  pointwise
  exact Finset.sum_congr rfl fun i _ => mul_comm _ _

end Cert.Reference33Ideal.Gmlp

end
-- ==== Proof.Gmlp.Bwd.lean ====
/- The gMLP gradient's call and the reference's lines leave the same four parameters' gradients. -/
module

public import proofs.«01_k».proof.Defs
public import proofs.«01_k».proof.Proof.Gmlp.BwdPoint
public import proofs.«01_k».proof.Proof.Gmlp.BwdRef
public import proofs.«01_k».proof.Proof.Gen.Kernel33Ideal
public import proofs.«01_k».proof.Proof.Gen.Kernel33Ideal.Frame
public import proofs.«01_k».proof.Proof.Gen.Reference33Ideal
public import proofs.«01_k».proof.Proof.Gen.Reference33Ideal.Run
public import proofs.«01_k».proof.Proof.Gen.Reference33Ideal.Read
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Kernel33Ideal.Gmlp

open Idealize.ShloMosaic Idealize.SL.Sem Cert.Norm Cert.Gmlp Cert.Kernel33Ideal Cert.Kernel33Ideal.Gen

variable (m : (ℓ : Loc nD τ sig) → Buf (Elt Ideal) ℓ)

theorem idx : ∀ t : Fin cfg0.N, win0_0.index t = ![t.val, 0] ∧ win0_1.index t = ![t.val, 1] ∧ win0_2.index t = ![t.val, 0]
    ∧ win0_3.index t = ![0, 0] ∧ win0_4.index t = ![0, 0] ∧ win0_5.index t = ![0, 0, 0] ∧ win0_8.index t = ![0, 0, 0]
    ∧ win0_9.index t = ![0, 0, 0] ∧ win0_10.index t = ![0, 0] ∧ win0_11.index t = ![0, 0] :=
  (by decide +kernel : ∀ t : Fin grid0.N, _)

abbrev p0 (c : Dev nD) := m ((c.tc : Thread nD τ).loc main_arg0)
abbrev p1 (c : Dev nD) := m ((c.tc : Thread nD τ).loc main_arg1)
abbrev p2 (c : Dev nD) := m ((c.tc : Thread nD τ).loc main_arg2)
abbrev p3 (c : Dev nD) := m ((c.tc : Thread nD τ).loc main_arg3)
abbrev p4 (c : Dev nD) := m ((c.tc : Thread nD τ).loc main_arg4)

/-- The block of rows that a point reads. -/
def tile (t : Fin cfg0.N) : Fin 16 := ⟨t.val, by have := t.isLt; have : cfg0.N = 16 := N_0; omega⟩

open Cert.Reference29Ideal.Gmlp (U R wt)
open Cert.Reference33Ideal.Gmlp (row ds xh nr dv v66_at v71_at v74_at v77_at)

theorem blk0 (c : Dev nD) (t : Fin cfg0.N) (i : Fin 128) (j : Fin 2048) : X0_0 m c t (ix2 i j) = p0 m c (ix2 (row (tile t) i) ⟨j, by omega⟩) := by
  unfold X0_0 Pipeline.Window.fill
  rw [dif_pos (moved0_0 t _)]
  unfold row tile; blk_ext [iblk, Gen.V, idx t]

theorem blk1 (c : Dev nD) (t : Fin cfg0.N) (i : Fin 128) (j : Fin 2048) :
    X0_1 m c t (ix2 i j) = p0 m c (ix2 (row (tile t) i) ⟨2048 + j, by omega⟩) := by
  unfold X0_1 Pipeline.Window.fill
  rw [dif_pos (moved0_1 t _)]
  unfold row tile; blk_ext [iblk, Gen.V, idx t]

theorem blk2 (c : Dev nD) (t : Fin cfg0.N) (i : Fin 128) (j : Fin 2048) : X0_2 m c t (ix2 i j) = p1 m c (ix2 (row (tile t) i) ⟨j, by omega⟩) := by
  unfold X0_2 Pipeline.Window.fill
  rw [dif_pos (moved0_2 t _)]
  unfold row tile; blk_ext [iblk, Gen.V, idx t]

theorem blk3 (c : Dev nD) (t : Fin cfg0.N) (j : Fin 2048) : iblk m c 3 t (ix2 0 j) = p2 m c (ix2 0 j) := by
  blk_ext [iblk, Gen.V, idx t]

theorem blk4 (c : Dev nD) (t : Fin cfg0.N) (j : Fin 2048) : iblk m c 4 t (ix2 0 j) = p3 m c (ix2 0 j) := by
  blk_ext [iblk, Gen.V, idx t]

theorem blk5 (c : Dev nD) (t : Fin cfg0.N) (g : Fin 8) (i s : Fin 128) : iblk m c 5 t (ix3 g i s) = p4 m c (ix3 g i s) := by
  blk_ext [iblk, Gen.V, idx t]

theorem ds_blk (c : Dev nD) (t : Fin cfg0.N) (i : Fin 128) (j : Fin 2048) :
    bds (X0_0 m c t) (X0_2 m c t) i j = ds (p0 m c) (p1 m c) (row (tile t) i) j := by
  unfold bds ds U
  rw [blk0, blk2, mul_comm]

theorem bv_blk (c : Dev nD) (t : Fin cfg0.N) (i : Fin 128) : bv (X0_1 m c t) i = R (p0 m c) (row (tile t) i) := by
  funext j
  unfold bv R
  rw [blk1]

theorem bxh_blk (c : Dev nD) (t : Fin cfg0.N) (i : Fin 128) (j : Fin 2048) : bxh (X0_1 m c t) i j = xh (p0 m c) (row (tile t) i) j := by
  unfold bxh xh
  rw [bv_blk]

theorem bnr_blk (c : Dev nD) (t : Fin cfg0.N) (i : Fin 128) :
    bnr (X0_1 m c t) (iblk m c 3 t) (iblk m c 4 t) i = nr (p0 m c) (p2 m c) (p3 m c) (row (tile t) i) := by
  unfold bnr nr
  simp only [bv_blk, blk3, blk4]

theorem bdv_blk (c : Dev nD) (t : Fin cfg0.N) (s : Fin 128) (g : Fin 8) (l : Fin 256) :
    bdv (X0_0 m c t) (X0_2 m c t) (iblk m c 5 t) s g l = dv (p0 m c) (p1 m c) (p4 m c) (tile t) s g l := by
  unfold bdv dv wt
  simp only [ds_blk, blk5, mul_comm (ite _ _ _)]

/-- One point's share of each of the four gradients. -/
def tw (c : Dev nD) (g : Fin 8) (t s : Fin 128) (k : Fin 16) : EReal :=
  if s ≤ t then ∑ l : Fin 256, ds (p0 m c) (p1 m c) (row k t) (col g l) * nr (p0 m c) (p2 m c) (p3 m c) (row k s) (col g l) else 0

def tb (c : Dev nD) (g : Fin 8) (t : Fin 128) (k : Fin 16) : EReal := ∑ l : Fin 256, ds (p0 m c) (p1 m c) (row k t) (col g l)

def tg (c : Dev nD) (g : Fin 8) (l : Fin 256) (k : Fin 16) : EReal :=
  ∑ s : Fin 128, dv (p0 m c) (p1 m c) (p4 m c) k s g l * xh (p0 m c) (row k s) (col g l)

def tn (c : Dev nD) (g : Fin 8) (l : Fin 256) (k : Fin 16) : EReal := ∑ s : Fin 128, dv (p0 m c) (p1 m c) (p4 m c) k s g l

theorem dw_blk (c : Dev nD) (p : Fin cfg0.N) (g : Fin 8) (t s : Fin 128) :
    bdw (X0_0 m c p) (X0_1 m c p) (X0_2 m c p) (iblk m c 3 p) (iblk m c 4 p) g t s = tw m c g t s (tile p) := by
  unfold bdw tw
  simp only [ds_blk, bnr_blk]

theorem db_blk (c : Dev nD) (p : Fin cfg0.N) (g : Fin 8) (t : Fin 128) : bdb (X0_0 m c p) (X0_2 m c p) g t = tb m c g t (tile p) := by
  unfold bdb tb
  simp only [ds_blk]

theorem dg_blk (c : Dev nD) (p : Fin cfg0.N) (g : Fin 8) (l : Fin 256) :
    bdg (X0_0 m c p) (X0_1 m c p) (X0_2 m c p) (iblk m c 5 p) g l = tg m c g l (tile p) := by
  unfold bdg tg
  simp only [bdv_blk, bxh_blk]

theorem dn_blk (c : Dev nD) (p : Fin cfg0.N) (g : Fin 8) (l : Fin 256) :
    bdn (X0_0 m c p) (X0_2 m c p) (iblk m c 5 p) g l = tn m c g l (tile p) := by
  unfold bdn tn
  simp only [bdv_blk]

/-- A quantity that the first point sets to its share, and each later point adds its share to. -/
theorem total (f : (n : ℕ) → n < cfg0.N → EReal) (T : Fin 16 → EReal)
    (h0 : ∀ p : Fin cfg0.N, p.val % 16 = 0 → f p.val p.isLt = T (tile p))
    (h1 : ∀ p : Fin cfg0.N, ¬p.val % 16 = 0 → f p.val p.isLt = f (p.val - 1) (Nat.lt_of_le_of_lt (Nat.sub_le _ _) p.isLt) + T (tile p)) :
    f t0_15.val t0_15.isLt = ∑ k, T k := by
  have h := Pipeline.eq_sum_fin_of_reset_step_apply_last (fun n h => fun _ : Unit => f n h) 16 (fun _ => 0) (fun p _ => T (tile p))
    (fun p h _ => (h0 p h).trans (zero_add _).symm) (fun p h _ => h1 p h) (le_of_eq N_0) t0_15 rfl ()
  exact h.trans (zero_add _)

/-- The four gradients after all points. -/
theorem last_w (c : Dev nD) (g : Fin 8) (t s : Fin 128) : (outsAt0 m c t0_15.val t0_15.isLt).2.1 (ix3 g t s)
    = Cert.Reference33Ideal.Read.val_main_v71 (F := Ideal) (p0 m c) (p1 m c) (p2 m c) (p3 m c) (ix3 g t s) := by
  refine (total (fun n h => (outsAt0 m c n h).2.1 (ix3 g t s)) (tw m c g t s) (fun p h => (first_w m c p h g t s).trans (dw_blk m c p g t s))
    (fun p h => (next_w m c p h g t s).trans (congrArg _ (dw_blk m c p g t s)))).trans (Eq.trans ?_ (v71_at _ _ _ _ g t s).symm)
  unfold tw
  split
  · rfl
  · exact Finset.sum_const_zero

theorem last_b (c : Dev nD) (g : Fin 8) (t : Fin 128) : (outsAt0 m c t0_15.val t0_15.isLt).2.2.1 (ix3 g t 0)
    = Cert.Reference33Ideal.Read.val_main_v66 (F := Ideal) (p0 m c) (p1 m c) (ix3 g t 0) :=
  (total (fun n h => (outsAt0 m c n h).2.2.1 (ix3 g t 0)) (tb m c g t) (fun p h => (first_b m c p h g t).trans (db_blk m c p g t))
    (fun p h => (next_b m c p h g t).trans (congrArg _ (db_blk m c p g t)))).trans (v66_at _ _ g t).symm

theorem last_g (c : Dev nD) (g : Fin 8) (l : Fin 256) : (outsAt0 m c t0_15.val t0_15.isLt).2.2.2.1 (ix2 0 (col g l))
    = Cert.Reference33Ideal.Read.val_main_v77 (F := Ideal) (p0 m c) (p1 m c) (p4 m c) (ix2 0 (col g l)) :=
  (total (fun n h => (outsAt0 m c n h).2.2.2.1 (ix2 0 (col g l))) (tg m c g l) (fun p h => (first_g m c p h g l).trans (dg_blk m c p g l))
    (fun p h => (next_g m c p h g l).trans (congrArg _ (dg_blk m c p g l)))).trans (v77_at _ _ _ g l).symm

theorem last_n (c : Dev nD) (g : Fin 8) (l : Fin 256) : (outsAt0 m c t0_15.val t0_15.isLt).2.2.2.2 (ix2 0 (col g l))
    = Cert.Reference33Ideal.Read.val_main_v74 (F := Ideal) (p0 m c) (p1 m c) (p4 m c) (ix2 0 (col g l)) :=
  (total (fun n h => (outsAt0 m c n h).2.2.2.2 (ix2 0 (col g l))) (tn m c g l) (fun p h => (first_n m c p h g l).trans (dn_blk m c p g l))
    (fun p h => (next_n m c p h g l).trans (congrArg _ (dn_blk m c p g l)))).trans (v74_at _ _ _ g l).symm

theorem group (q : Fin 2048) : ∃ (g : Fin 8) (l : Fin 256), q = col g l :=
  ⟨⟨q.val / 256, by omega⟩, ⟨q.val % 256, Nat.mod_lt _ (by norm_num)⟩, Fin.ext (Nat.div_add_mod' _ _).symm⟩

/-- The arrays that the call leaves. -/
theorem arr8 (c : Dev nD) : (dats m 0 c).arrAt 8 cfg0.N
    = Cert.Reference33Ideal.Read.val_main_v71 (F := Ideal) (p0 m c) (p1 m c) (p2 m c) (p3 m c) := by
  refine (dats m 0 c).arrAt_eq_of_after_last 8 t0_15 (by decide +kernel) _ fun j => ?_
  obtain ⟨g, t, s, rfl⟩ : ∃ (g : Fin 8) (t s : Fin 128), j = ix3 g t s := ⟨j 0, j 1, j 2, eq_ix3 j⟩
  rw [after0_8]
  refine Eq.trans ?_ ((last_w m c g t s).trans ?_)
  · blk_ext []
  · blk_ext []

theorem arr9 (c : Dev nD) : (dats m 0 c).arrAt 9 cfg0.N
    = Cert.Reference33Ideal.Read.val_main_v66 (F := Ideal) (p0 m c) (p1 m c) := by
  refine (dats m 0 c).arrAt_eq_of_after_last 9 t0_15 (by decide +kernel) _ fun j => ?_
  obtain ⟨g, t, s, rfl⟩ : ∃ (g : Fin 8) (t : Fin 128) (s : Fin 1), j = ix3 g t s := ⟨j 0, j 1, j 2, eq_ix3 j⟩
  obtain rfl : s = 0 := Fin.fin_one_eq_zero s
  rw [after0_9]
  refine Eq.trans ?_ ((last_b m c g t).trans ?_)
  · blk_ext []
  · blk_ext []

theorem arr10 (c : Dev nD) : (dats m 0 c).arrAt 10 cfg0.N
    = Cert.Reference33Ideal.Read.val_main_v77 (F := Ideal) (p0 m c) (p1 m c) (p4 m c) := by
  refine (dats m 0 c).arrAt_eq_of_after_last 10 t0_15 (by decide +kernel) _ fun j => ?_
  blk_simp
  obtain ⟨i, q, rfl⟩ : ∃ (i : Fin 1) (q : Fin 2048), j = ix2 i q := ⟨j 0, j 1, eq_ix2 j⟩
  obtain rfl : i = 0 := Fin.fin_one_eq_zero i
  obtain ⟨g, l, rfl⟩ := group q
  rw [after0_10]
  exact last_g m c g l

theorem arr11 (c : Dev nD) : (dats m 0 c).arrAt 11 cfg0.N
    = Cert.Reference33Ideal.Read.val_main_v74 (F := Ideal) (p0 m c) (p1 m c) (p4 m c) := by
  refine (dats m 0 c).arrAt_eq_of_after_last 11 t0_15 (by decide +kernel) _ fun j => ?_
  blk_simp
  obtain ⟨i, q, rfl⟩ : ∃ (i : Fin 1) (q : Fin 2048), j = ix2 i q := ⟨j 0, j 1, eq_ix2 j⟩
  obtain rfl : i = 0 := Fin.fin_one_eq_zero i
  obtain ⟨g, l, rfl⟩ := group q
  rw [after0_11]
  exact last_n m c g l

end Cert.Kernel33Ideal.Gmlp

namespace Cert.Gmlp

open Idealize.ShloMosaic Idealize.SL.Sem

open Cert.Kernel33Ideal.Gmlp (p0 p1 p2 p3 p4 arr8 arr9 arr10 arr11)

attribute [local instance] Cert.Kernel33Ideal.Gen.facts Cert.Reference33Ideal.Gen.facts

/-- The named constant is the inverse of the root of two. -/
theorem preserves_bwd : Cert.preserves_Kernel33_Kernel33Ideal :=
  IdealRules.named_const.statement Cert.Kernel33Ideal.κ "inv_sqrt2" .f32 0x3F3504F3#32 (((Real.sqrt 2)⁻¹ : ℝ) : EReal) rfl

theorem quiescent_bwd : Cert.quiescent_Reference33Ideal := by
  intro m g _
  run_from Cert.Reference33Ideal.Value.run m g
  · exact fun c => ⟨trivial, trivial, trivial, trivial, trivial, trivial⟩
  · exact sem_eq_zero_of_no_sems (by decide) _

/-- The call and the reference's lines leave the same four arrays. -/
theorem bwd : Cert.algebraic_Kernel33Ideal_Reference33Ideal := by
  intro m g m' g' hpre hagree
  refine ⟨fun c => Cert.Reference33Ideal.Read.val_main_v77 (F := Ideal) (p0 m c) (p1 m c) (p4 m c),
    fun c => Cert.Reference33Ideal.Read.val_main_v74 (F := Ideal) (p0 m c) (p1 m c) (p4 m c),
    fun c => Cert.Reference33Ideal.Read.val_main_v71 (F := Ideal) (p0 m c) (p1 m c) (p2 m c) (p3 m c),
    fun c => Cert.Reference33Ideal.Read.val_main_v66 (F := Ideal) (p0 m c) (p1 m c), ?_, ?_⟩
  · refine θ_run_mono (θ_run_and (Cert.Kernel33Ideal.Gen.run_main m g) (Cert.Kernel33Ideal.Gen.unchanged m g)) fun r h c => ?_
    exact ⟨((h.1 c).1 10).trans (arr10 m c), ((h.1 c).1 11).trans (arr11 m c), ((h.1 c).1 8).trans (arr8 m c),
      ((h.1 c).1 9).trans (arr9 m c), h.2 c⟩
  · refine θ_run_mono (Cert.Reference33Ideal.Value.run m' g') fun r hr c => ?_
    obtain ⟨h77, h74, h71, h66, hk⟩ := hr c
    obtain ⟨e0, e1, e2, e3, e4, -⟩ := hagree c
    refine ⟨(h77.trans (Cert.Reference33Ideal.Read.val_main_v77_eq (F := Ideal) _ _)).trans ?_,
      (h74.trans (Cert.Reference33Ideal.Read.val_main_v74_eq (F := Ideal) _ _ _)).trans ?_,
      (h71.trans (Cert.Reference33Ideal.Read.val_main_v71_eq (F := Ideal) _ _)).trans ?_,
      (h66.trans (Cert.Reference33Ideal.Read.val_main_v66_eq (F := Ideal) _ _)).trans ?_, hk⟩
    · rw [e0, e1, e4]
    · rw [e0, e1, e4]
    · rw [e0, e1, e2, e3]
    · rw [e0, e1]

end Cert.Gmlp

end
-- ==== Proof.lean ====
module

public import proofs.«01_k».proof.Defs
public import proofs.«01_k».proof.Proof.Attn.Claim
public import proofs.«01_k».proof.Proof.Ffn.DownDx
public import proofs.«01_k».proof.Proof.Ffn.DownDw
public import proofs.«01_k».proof.Proof.Ffn.UpDw
public import proofs.«01_k».proof.Proof.Ffn.UpDx
public import proofs.«01_k».proof.Proof.Products.OutDx
public import proofs.«01_k».proof.Proof.Products.OutDw
public import proofs.«01_k».proof.Proof.Products.ProjADx
public import proofs.«01_k».proof.Proof.Products.ProjADw
public import proofs.«01_k».proof.Proof.Products.ProjBDx
public import proofs.«01_k».proof.Proof.Products.ProjBDw
public import proofs.«01_k».proof.Proof.Products.KvDw
public import proofs.«01_k».proof.Proof.Products.KvDx
public import proofs.«01_k».proof.Proof.Products.DtDw
public import proofs.«01_k».proof.Proof.Products.DtDx
public import proofs.«01_k».proof.Proof.Products.FfnUp
public import proofs.«01_k».proof.Proof.Products.FfnDown
public import proofs.«01_k».proof.Proof.Products.OutProj
public import proofs.«01_k».proof.Proof.Products.ProjA
public import proofs.«01_k».proof.Proof.Products.ProjB
public import proofs.«01_k».proof.Proof.Products.ProjDt
public import proofs.«01_k».proof.Proof.Products.Kv
public import proofs.«01_k».proof.Proof.Norm.RmsBwd
public import proofs.«01_k».proof.Proof.Norm.RmsFwd
public import proofs.«01_k».proof.Proof.Attn.Fwd
public import proofs.«01_k».proof.Proof.Norm.GateClaim
public import proofs.«01_k».proof.Proof.Norm.GateFwd
public import proofs.«01_k».proof.Proof.Conv.Fwd
public import proofs.«01_k».proof.Proof.Gmlp.Fwd
public import proofs.«01_k».proof.Proof.Norm.Loss
public import proofs.«01_k».proof.Proof.Attn1.Claim
public import proofs.«01_k».proof.Proof.Attn1.Fwd
public import proofs.«01_k».proof.Proof.Gmlp.Bwd
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Reference28Ideal
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Reference29Ideal
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Reference30Ideal
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Reference31Ideal
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Reference32Ideal
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Reference33Ideal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Pre_finite_q_and_k.facts, Cert.Pre_finite_gain_and_gradient.facts, Cert.Pre_finite_q_and_k_layer1.facts,
    fun m g _ => Cert.Kernel.Gen.frame m g,
    fun m g _ => Cert.KernelIdeal.Gen.frame m g,
    fun m g _ => Cert.KernelIdeal.Gen.frame m g,
    Cert.Attn.quiescent_ref,
    fun m g _ => Cert.Attn.quiescent_ref m g trivial,
    fun m g _ => Cert.Kernel2.Gen.frame m g,
    fun m g _ => Cert.Kernel2Ideal.Gen.frame m g,
    Cert.Ffn.quiescent_down_dx,
    fun m g _ => Cert.Kernel3.Gen.frame m g,
    fun m g _ => Cert.Kernel3Ideal.Gen.frame m g,
    Cert.Ffn.quiescent_down_dw,
    fun m g _ => Cert.Kernel4.Gen.frame m g,
    fun m g _ => Cert.Kernel4Ideal.Gen.frame m g,
    Cert.Ffn.quiescent_up_dw,
    fun m g _ => Cert.Kernel5.Gen.frame m g,
    fun m g _ => Cert.Kernel5Ideal.Gen.frame m g,
    Cert.Ffn.quiescent_up_dx,
    fun m g _ => Cert.Kernel6.Gen.frame m g,
    fun m g _ => Cert.Kernel6Ideal.Gen.frame m g,
    Cert.Products.quiescent_out_dx,
    fun m g _ => Cert.Kernel7.Gen.frame m g,
    fun m g _ => Cert.Kernel7Ideal.Gen.frame m g,
    Cert.Products.quiescent_out_dw,
    fun m g _ => Cert.Kernel8.Gen.frame m g,
    fun m g _ => Cert.Kernel8Ideal.Gen.frame m g,
    Cert.Products.quiescent_proj_a_dx,
    fun m g _ => Cert.Kernel9.Gen.frame m g,
    fun m g _ => Cert.Kernel9Ideal.Gen.frame m g,
    Cert.Products.quiescent_proj_a_dw,
    fun m g _ => Cert.Kernel10.Gen.frame m g,
    fun m g _ => Cert.Kernel10Ideal.Gen.frame m g,
    Cert.Products.quiescent_proj_b_dx,
    fun m g _ => Cert.Kernel11.Gen.frame m g,
    fun m g _ => Cert.Kernel11Ideal.Gen.frame m g,
    Cert.Products.quiescent_proj_b_dw,
    fun m g _ => Cert.Kernel12.Gen.frame m g,
    fun m g _ => Cert.Kernel12Ideal.Gen.frame m g,
    Cert.Products.quiescent_kv_dw,
    fun m g _ => Cert.Kernel13.Gen.frame m g,
    fun m g _ => Cert.Kernel13Ideal.Gen.frame m g,
    Cert.Products.quiescent_kv_dx,
    fun m g _ => Cert.Kernel14.Gen.frame m g,
    fun m g _ => Cert.Kernel14Ideal.Gen.frame m g,
    Cert.Products.quiescent_dt_dw,
    fun m g _ => Cert.Kernel15.Gen.frame m g,
    fun m g _ => Cert.Kernel15Ideal.Gen.frame m g,
    Cert.Products.quiescent_dt_dx,
    fun m g _ => Cert.Kernel16.Gen.frame m g,
    fun m g _ => Cert.Kernel16Ideal.Gen.frame m g,
    Cert.Products.quiescent_ffn_up,
    fun m g _ => Cert.Kernel17.Gen.frame m g,
    fun m g _ => Cert.Kernel17Ideal.Gen.frame m g,
    Cert.Products.quiescent_ffn_down,
    fun m g _ => Cert.Kernel18.Gen.frame m g,
    fun m g _ => Cert.Kernel18Ideal.Gen.frame m g,
    Cert.Products.quiescent_out_proj,
    fun m g _ => Cert.Kernel19.Gen.frame m g,
    fun m g _ => Cert.Kernel19Ideal.Gen.frame m g,
    Cert.Products.quiescent_proj_a,
    fun m g _ => Cert.Kernel20.Gen.frame m g,
    fun m g _ => Cert.Kernel20Ideal.Gen.frame m g,
    Cert.Products.quiescent_proj_b,
    fun m g _ => Cert.Kernel21.Gen.frame m g,
    fun m g _ => Cert.Kernel21Ideal.Gen.frame m g,
    Cert.Products.quiescent_proj_dt,
    fun m g _ => Cert.Kernel22.Gen.frame m g,
    fun m g _ => Cert.Kernel22Ideal.Gen.frame m g,
    Cert.Products.quiescent_kv,
    fun m g _ => Cert.Kernel23.Gen.frame m g,
    fun m g _ => Cert.Kernel23Ideal.Gen.frame m g,
    Cert.Norm.quiescent_rms_bwd,
    fun m g _ => Cert.Kernel24.Gen.frame m g,
    fun m g _ => Cert.Kernel24Ideal.Gen.frame m g,
    Cert.Norm.quiescent_rms_fwd,
    fun m g _ => Cert.Kernel25.Gen.frame m g,
    fun m g _ => Cert.Kernel25Ideal.Gen.frame m g,
    Cert.Attn.quiescent_fwd,
    fun m g _ => Cert.Kernel26.Gen.frame m g,
    fun m g _ => Cert.Kernel26Ideal.Gen.frame m g,
    fun m g _ => Cert.Kernel26Ideal.Gen.frame m g,
    Cert.Norm.quiescent_gate_bwd,
    fun m g _ => Cert.Norm.quiescent_gate_bwd m g trivial,
    fun m g _ => Cert.Kernel27.Gen.frame m g,
    fun m g _ => Cert.Kernel27Ideal.Gen.frame m g,
    Cert.Norm.quiescent_gate_fwd,
    fun m g _ => Cert.Kernel28.Gen.frame m g,
    fun m g _ => Cert.Kernel28Ideal.Gen.frame m g,
    Cert.Conv.quiescent_fwd,
    fun m g _ => Cert.Kernel29.Gen.frame m g,
    fun m g _ => Cert.Kernel29Ideal.Gen.frame m g,
    Cert.Gmlp.quiescent_fwd,
    fun m g _ => Cert.Kernel30.Gen.frame m g,
    fun m g _ => Cert.Kernel30Ideal.Gen.frame m g,
    Cert.Norm.quiescent_loss_head,
    fun m g _ => Cert.Kernel31.Gen.frame m g,
    fun m g _ => Cert.Kernel31Ideal.Gen.frame m g,
    fun m g _ => Cert.Kernel31Ideal.Gen.frame m g,
    Cert.Attn.quiescent_bwd1,
    fun m g _ => Cert.Attn.quiescent_bwd1 m g trivial,
    fun m g _ => Cert.Kernel32.Gen.frame m g,
    fun m g _ => Cert.Kernel32Ideal.Gen.frame m g,
    Cert.Attn.quiescent_fwd1,
    fun m g _ => Cert.Kernel33.Gen.frame m g,
    fun m g _ => Cert.Kernel33Ideal.Gen.frame m g,
    Cert.Gmlp.quiescent_bwd,
    trivial, Cert.Attn.algebraic,
    trivial, Cert.Ffn.down_dx,
    trivial, Cert.Ffn.down_dw,
    trivial, Cert.Ffn.up_dw,
    trivial, Cert.Ffn.up_dx,
    trivial, Cert.Products.out_dx,
    trivial, Cert.Products.out_dw,
    trivial, Cert.Products.proj_a_dx,
    trivial, Cert.Products.proj_a_dw,
    trivial, Cert.Products.proj_b_dx,
    trivial, Cert.Products.proj_b_dw,
    trivial, Cert.Products.kv_dw,
    trivial, Cert.Products.kv_dx,
    trivial, Cert.Products.dt_dw,
    trivial, Cert.Products.dt_dx,
    trivial, Cert.Products.ffn_up,
    trivial, Cert.Products.ffn_down,
    trivial, Cert.Products.out_proj,
    trivial, Cert.Products.proj_a,
    trivial, Cert.Products.proj_b,
    trivial, Cert.Products.proj_dt,
    trivial, Cert.Products.kv,
    trivial, Cert.Norm.rms_bwd,
    trivial, Cert.Norm.rms_fwd,
    trivial, Cert.Attn.fwd,
    trivial, Cert.Norm.gate_bwd,
    trivial, Cert.Norm.gate_fwd,
    trivial, Cert.Conv.fwd,
    Cert.Gmlp.preserves_fwd, Cert.Gmlp.fwd,
    trivial, Cert.Norm.loss_head,
    trivial, Cert.Attn.bwd1,
    trivial, Cert.Attn.fwd1,
    Cert.Gmlp.preserves_bwd, Cert.Gmlp.bwd⟩

end Cert.Proof

end
